-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_own_block [hPre_own_block : Cert.Pre_own_block.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_own_block.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_own_block.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_own_block [hPre_own_block : Cert.Pre_own_block.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_own_block.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_own_block.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_own_block [hKernel5Ideal : Cert.Kernel5Ideal.Facts] [hPre_own_block : Cert.Pre_own_block.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_own_block m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_own_block [hReference5Ideal : Cert.Reference5Ideal.Facts] [hPre_own_block : Cert.Pre_own_block.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_own_block m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_on_reached [hKernel2Ideal : Cert.Kernel2Ideal.Facts] [hReference2Ideal : Cert.Reference2Ideal.Facts] [hPre_tables : Cert.Pre_tables.Facts] [hOn_reached : Cert.On_reached.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![270848, 1024]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v2) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![270848, 1024]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v12) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "mask" .f32 0xF149F2CA#32 ⊥

def algebraic_Kernel5Ideal_Reference5Ideal_pre_own_block [hKernel5Ideal : Cert.Kernel5Ideal.Facts] [hReference5Ideal : Cert.Reference5Ideal.Facts] [hPre_own_block : Cert.Pre_own_block.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_own_block m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v44)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v153)) (v1 : (c : Dev Cert.Kernel6Ideal.nD) → Buf (Elt Ideal) ((c.tc : Thread Cert.Kernel6Ideal.nD Cert.Kernel6Ideal.τ).loc Cert.Kernel6Ideal.main_v160)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v153) = v0 c
          ∧ r.2.mem ((c.tc : Thread Cert.Kernel6Ideal.nD Cert.Kernel6Ideal.τ).loc Cert.Kernel6Ideal.main_v160) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_tables : Cert.Pre_tables.Facts) (hPre_own_block : Cert.Pre_own_block.Facts) (hOn_reached : Cert.On_reached.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_own_block (hKernel5Ideal := hKernel5Ideal) (hPre_own_block := hPre_own_block)
    ∧ quiescent_Reference5Ideal (hReference5Ideal := hReference5Ideal)
    ∧ quiescent_Reference5Ideal_pre_own_block (hReference5Ideal := hReference5Ideal) (hPre_own_block := hPre_own_block)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_reached (hKernel2Ideal := hKernel2Ideal) (hReference2Ideal := hReference2Ideal) (hPre_tables := hPre_tables) (hOn_reached := hOn_reached)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_own_block (hKernel5Ideal := hKernel5Ideal) (hReference5Ideal := hReference5Ideal) (hPre_own_block := hPre_own_block)
    ∧ preserves_Kernel6_Kernel6Ideal
    ∧ algebraic_Kernel6Ideal_Reference6Ideal (hKernel6Ideal := hKernel6Ideal) (hReference6Ideal := hReference6Ideal)
-- ==== On_reached.lean ====
abbrev S151 : Shape := ⟨1, ![151]⟩
abbrev S270848x1024 : Shape := ⟨2, ![270848, 1024]⟩
abbrev S8x1024x5632 : Shape := ⟨3, ![8, 1024, 5632]⟩
abbrev S8x2816x1024 : Shape := ⟨3, ![8, 2816, 1024]⟩
abbrev S529 : Shape := ⟨1, ![529]⟩
abbrev S151x1 : Shape := ⟨2, ![151, 1]⟩
abbrev S1x529 : Shape := ⟨2, ![1, 529]⟩
abbrev S151x529 : Shape := ⟨2, ![151, 529]⟩
abbrev S_ : Shape := ⟨0, ![]⟩
abbrev S529x1x1 : Shape := ⟨3, ![529, 1, 1]⟩
abbrev S529x512x1024 : Shape := ⟨3, ![529, 512, 1024]⟩

class Facts : Prop where
  bcast_S151_S151x1_0 : S151.BroadcastsInDim S151x1 (![0] : Fin 1 → Fin S151x1.rank)
  bcast_S529_S1x529_1 : S529.BroadcastsInDim S1x529 (![1] : Fin 1 → Fin S1x529.rank)
  bcast_S151x1_S151x529_0_1 : S151x1.BroadcastsInDim S151x529 (![0, 1] : Fin 2 → Fin S151x529.rank)
  bcast_S1x529_S151x529_0_1 : S1x529.BroadcastsInDim S151x529 (![0, 1] : Fin 2 → Fin S151x529.rank)
  reducesTo_S151x529_S529_d0 : S151x529.ReducesTo [0] S529
  h_S_ : 0 < S_.numel
  bcast_S529_S529x1x1_0 : S529.BroadcastsInDim S529x1x1 (![0] : Fin 1 → Fin S529x1x1.rank)
  bcast_S529x1x1_S529x512x1024_0_1_2 : S529x1x1.BroadcastsInDim S529x512x1024 (![0, 1, 2] : Fin 3 → Fin S529x512x1024.rank)
  shapeCasts_S529x512x1024_S270848x1024 : S529x512x1024.ShapeCasts S270848x1024

variable [Facts]

def fn {F : FTy → Type} [FloatOps F] (main_arg0 : IVec S151 32) (main_arg1 : IVec S151 32) (main_arg2 : IVec S151 32) (main_arg3 : FVec F S270848x1024 .bf16) (main_arg4 : FVec F S8x1024x5632 .f32) (main_arg5 : FVec F S8x2816x1024 .f32) : IVec S270848x1024 1 :=
  let main_v0 : IVec S529 32 := iotaInDim S529 32 0
  let main_v1 : IVec S151x1 32 := broadcastInDim S151x1 ![0] bcast_S151_S151x1_0 main_arg0
  let main_v2 : IVec S1x529 32 := broadcastInDim S1x529 ![1] bcast_S529_S1x529_1 main_v0
  let main_v3 : IVec S151x529 32 := broadcastInDim S151x529 ![0, 1] bcast_S151x1_S151x529_0_1 main_v1
  let main_v4 : IVec S151x529 32 := broadcastInDim S151x529 ![0, 1] bcast_S1x529_S151x529_0_1 main_v2
  let main_v5 : IVec S151x529 1 := cmpi .eq main_v3 main_v4
  let main_c : IVec S_ 1 := constantI S_ 1 0#1
  let main_v6 : IVec S529 1 := (fun x v => Host.reduce IntOp.ori x v reducesTo_S151x529_S529_d0 h_S_) main_v5 main_c
  let main_v7 : IVec S529x1x1 1 := broadcastInDim S529x1x1 ![0] bcast_S529_S529x1x1_0 main_v6
  let main_v8 : IVec S529x512x1024 1 := broadcastInDim S529x512x1024 ![0, 1, 2] bcast_S529x1x1_S529x512x1024_0_1_2 main_v7
  let main_v9 : IVec S270848x1024 1 := shapeCast S270848x1024 main_v8 shapeCasts_S529x512x1024_S270848x1024
  main_v9
-- ==== Pre_finite.lean ====
abbrev S8x8x4096x96 : Shape := ⟨4, ![8, 8, 4096, 96]⟩
abbrev S8x8x4096x64 : Shape := ⟨4, ![8, 8, 4096, 64]⟩
abbrev S_ : Shape := ⟨0, ![]⟩

class Facts : Prop where
  bcast_S_S8x8x4096x96 : S_.BroadcastsInDim S8x8x4096x96 (![] : Fin 0 → Fin S8x8x4096x96.rank)

variable [Facts]

def fn {F : FTy → Type} [FloatOps F] (main_arg0 : FVec F S8x8x4096x96 .f32) (main_arg1 : FVec F S8x8x4096x96 .f32) (main_arg2 : FVec F S8x8x4096x64 .f32) : IVec S8x8x4096x96 1 :=
  let main_v0 : FVec F S8x8x4096x96 .f32 := Host.absf main_arg0
  let main_cst : FVec F S_ .f32 := constant S_ .f32 0x7F800000#32
  let main_v1 : FVec F S8x8x4096x96 .f32 := broadcastInDim S8x8x4096x96 ![] bcast_S_S8x8x4096x96 main_cst
  let main_v2 : IVec S8x8x4096x96 1 := cmpf .olt main_v0 main_v1
  let main_v3 : FVec F S8x8x4096x96 .f32 := Host.absf main_arg1
  let main_cst_0 : FVec F S_ .f32 := constant S_ .f32 0x7F800000#32
  let main_v4 : FVec F S8x8x4096x96 .f32 := broadcastInDim S8x8x4096x96 ![] bcast_S_S8x8x4096x96 main_cst_0
  let main_v5 : IVec S8x8x4096x96 1 := cmpf .olt main_v3 main_v4
  let main_v6 : IVec S8x8x4096x96 1 := andi main_v2 main_v5
  main_v6
-- ==== Pre_own_block.lean ====
abbrev S8x8x4096x64 : Shape := ⟨4, ![8, 8, 4096, 64]⟩
abbrev S8x8x4096x16 : Shape := ⟨4, ![8, 8, 4096, 16]⟩
abbrev S_ : Shape := ⟨0, ![]⟩

class Facts : Prop where
  bcast_S_S8x8x4096x64 : S_.BroadcastsInDim S8x8x4096x64 (![] : Fin 0 → Fin S8x8x4096x64.rank)
  bcast_S_S8x8x4096x16 : S_.BroadcastsInDim S8x8x4096x16 (![] : Fin 0 → Fin S8x8x4096x16.rank)

variable [Facts]

def fn {F : FTy → Type} [FloatOps F] (main_arg0 : FVec F S8x8x4096x64 .f32) (main_arg1 : FVec F S8x8x4096x64 .f32) (main_arg2 : FVec F S8x8x4096x64 .f32) (main_arg3 : FVec F S8x8x4096x16 .f32) : IVec S8x8x4096x64 1 × IVec S8x8x4096x16 1 :=
  let main_v0 : IVec S8x8x4096x16 32 := iotaInDim S8x8x4096x16 32 2
  let main_v1 : IVec S8x8x4096x16 32 := iotaInDim S8x8x4096x16 32 3
  let main_v2 : FVec F S8x8x4096x64 .f32 := Host.absf main_arg0
  let main_cst : FVec F S_ .f32 := constant S_ .f32 0x7F800000#32
  let main_v3 : FVec F S8x8x4096x64 .f32 := broadcastInDim S8x8x4096x64 ![] bcast_S_S8x8x4096x64 main_cst
  let main_v4 : IVec S8x8x4096x64 1 := cmpf .olt main_v2 main_v3
  let main_v5 : FVec F S8x8x4096x64 .f32 := Host.absf main_arg1
  let main_cst_0 : FVec F S_ .f32 := constant S_ .f32 0x7F800000#32
  let main_v6 : FVec F S8x8x4096x64 .f32 := broadcastInDim S8x8x4096x64 ![] bcast_S_S8x8x4096x64 main_cst_0
  let main_v7 : IVec S8x8x4096x64 1 := cmpf .olt main_v5 main_v6
  let main_v8 : IVec S8x8x4096x64 1 := andi main_v4 main_v7
  let main_cst_1 : FVec F S_ .f32 := constant S_ .f32 0x7F800000#32
  let main_v9 : FVec F S8x8x4096x16 .f32 := broadcastInDim S8x8x4096x16 ![] bcast_S_S8x8x4096x16 main_cst_1
  let main_v10 : IVec S8x8x4096x16 1 := cmpf .olt main_arg3 main_v9
  let main_c : IVec S_ 32 := constantI S_ 32 8#32
  let main_v11 : IVec S8x8x4096x16 32 := broadcastInDim S8x8x4096x16 ![] bcast_S_S8x8x4096x16 main_c
  let main_v12 : IVec S8x8x4096x16 32 := Host.shrsi main_v0 main_v11
  let main_v13 : IVec S8x8x4096x16 1 := cmpi .ne main_v1 main_v12
  let main_cst_2 : FVec F S_ .f32 := constant S_ .f32 0xFF800000#32
  let main_v14 : FVec F S8x8x4096x16 .f32 := broadcastInDim S8x8x4096x16 ![] bcast_S_S8x8x4096x16 main_cst_2
  let main_v15 : IVec S8x8x4096x16 1 := cmpf .ogt main_arg3 main_v14
  let main_v16 : IVec S8x8x4096x16 1 := ori main_v13 main_v15
  let main_v17 : IVec S8x8x4096x16 1 := andi main_v10 main_v16
  (main_v8, main_v17)
-- ==== Pre_tables.lean ====
abbrev S151 : Shape := ⟨1, ![151]⟩
abbrev S270848x1024 : Shape := ⟨2, ![270848, 1024]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S151 : S_.BroadcastsInDim S151 (![] : Fin 0 → Fin S151.rank)

variable [Facts]

def fn_where {F : FTy → Type} [FloatOps F] (arg0 : IVec S151 1) (arg1 : IVec S151 1) (arg2 : IVec S151 1) : IVec S151 1 :=
  let v0 : IVec S151 1 := select arg0 arg1 arg2
  v0

def fn {F : FTy → Type} [FloatOps F] (main_arg0 : IVec S151 32) (main_arg1 : IVec S151 32) (main_arg2 : IVec S151 32) (main_arg3 : FVec F S270848x1024 .bf16) (main_arg4 : FVec F S8x1024x5632 .f32) (main_arg5 : FVec F S8x2816x1024 .f32) : IVec S151 1 :=
  let main_c : IVec S_ 32 := constantI S_ 32 66#32
  let main_v0 : IVec S151 32 := broadcastInDim S151 ![] bcast_S_S151 main_c
  let main_v1 : IVec S151 32 := muli main_arg1 main_v0
  let main_v2 : IVec S151 1 := cmpi .sge main_arg0 main_v1
  let main_c_0 : IVec S_ 32 := constantI S_ 32 66#32
  let main_v3 : IVec S151 32 := broadcastInDim S151 ![] bcast_S_S151 main_c_0
  let main_v4 : IVec S151 32 := addi main_v1 main_v3
  let main_v5 : IVec S151 1 := cmpi .slt main_arg0 main_v4
  let main_v6 : IVec S151 1 := andi main_v2 main_v5
  let main_c_1 : IVec S_ 32 := constantI S_ 32 0#32
  let main_v7 : IVec S151 32 := broadcastInDim S151 ![] bcast_S_S151 main_c_1
  let main_v8 : IVec S151 1 := cmpi .ne main_arg2 main_v7
  let main_c_2 : IVec S_ 32 := constantI S_ 32 528#32
  let main_v9 : IVec S151 32 := broadcastInDim S151 ![] bcast_S_S151 main_c_2
  let main_v10 : IVec S151 1 := cmpi .eq main_arg0 main_v9
  let main_v11 : IVec S151 1 := fn_where (F := F) main_v8 main_v6 main_v10
  let main_c_3 : IVec S_ 32 := constantI S_ 32 0#32
  let main_v12 : IVec S151 32 := broadcastInDim S151 ![] bcast_S_S151 main_c_3
  let main_v13 : IVec S151 1 := cmpi .sge main_arg1 main_v12
  let main_c_4 : IVec S_ 32 := constantI S_ 32 8#32
  let main_v14 : IVec S151 32 := broadcastInDim S151 ![] bcast_S_S151 main_c_4
  let main_v15 : IVec S151 1 := cmpi .slt main_arg1 main_v14
  let main_v16 : IVec S151 1 := andi main_v13 main_v15
  let main_v17 : IVec S151 1 := andi main_v16 main_v11
  main_v17
-- ==== Kernel.lean ====
abbrev S8x8x4096x96 : Shape := ⟨4, ![8, 8, 4096, 96]⟩
abbrev S8x8x4096x64 : Shape := ⟨4, ![8, 8, 4096, 64]⟩
abbrev S_ : Shape := ⟨0, ![]⟩
abbrev S8x8x4096x128 : Shape := ⟨4, ![8, 8, 4096, 128]⟩
abbrev S8x4096x8x128 : Shape := ⟨4, ![8, 4096, 8, 128]⟩
abbrev S8x4096x1024 : Shape := ⟨3, ![8, 4096, 1024]⟩
abbrev S8x4096x512 : Shape := ⟨3, ![8, 4096, 512]⟩
abbrev S1x1024x512 : Shape := ⟨3, ![1, 1024, 512]⟩
abbrev S1x4096x512 : Shape := ⟨3, ![1, 4096, 512]⟩
abbrev S1x1024x256 : Shape := ⟨3, ![1, 1024, 256]⟩
abbrev S4x1024x1 : Shape := ⟨3, ![4, 1024, 1]⟩
abbrev S4x1024x128 : Shape := ⟨3, ![4, 1024, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x1024x128 : Shape := ⟨3, ![1, 1024, 128]⟩
abbrev S1024x128 : Shape := ⟨2, ![1024, 128]⟩
abbrev S512x1024 : Shape := ⟨2, ![512, 1024]⟩
abbrev S1x1024x1 : Shape := ⟨3, ![1, 1024, 1]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 57
  | .vmem => 10
  | .smem => 0
  | _ => 0

abbrev bufTy : (tb : Table) → Fin (tcTables nBuf tb) → BufTy
  | .hbm, ⟨0, _⟩ => ⟨S8x8x4096x96, .f32⟩
  | .hbm, ⟨1, _⟩ => ⟨S8x8x4096x96, .f32⟩
  | .hbm, ⟨2, _⟩ => ⟨S8x8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8x4096x96, .f32⟩
  | .hbm, ⟨11, _⟩ => ⟨S8x8x4096x96, .f32⟩
  | .hbm, ⟨12, _⟩ => ⟨S_, .i32⟩
  | .hbm, ⟨13, _⟩ => ⟨S_, .f32⟩
  | .hbm, ⟨14, _⟩ => ⟨S8x8x4096x128, .f32⟩
  | .hbm, ⟨15, _⟩ => ⟨S8x4096x8x128, .f32⟩
  | .hbm, ⟨16, _⟩ => ⟨S8x4096x1024, .f32⟩
  | .hbm, ⟨17, _⟩ => ⟨S8x4096x1024, .bf16⟩
  | .hbm, ⟨18, _⟩ => ⟨S_, .i32⟩
  | .hbm, ⟨19, _⟩ => ⟨S_, .f32⟩
  | .hbm, ⟨20, _⟩ => ⟨S8x8x4096x128, .f32⟩
  | .hbm, ⟨21, _⟩ => ⟨S8x4096x8x128, .f32⟩
  | .hbm, ⟨22, _⟩ => ⟨S8x4096x1024, .f32⟩
  | .hbm, ⟨23, _⟩ => ⟨S8x4096x1024, .bf16⟩
  | .hbm, ⟨24, _⟩ => ⟨S_, .i32⟩
  | .hbm, ⟨25, _⟩ => ⟨S_, .f32⟩
  | .hbm, ⟨26, _⟩ => ⟨S8x8x4096x128, .f32⟩
  | .hbm, ⟨27, _⟩ => ⟨S_, .i32⟩
  | .hbm, ⟨28, _⟩ => ⟨S_, .f32⟩
  | .hbm, ⟨29, _⟩ => ⟨S8x8x4096x128, .f32⟩
  | .hbm, ⟨30, _⟩ => ⟨S8x8x4096x128, .i32⟩
  | .hbm, ⟨31, _⟩ => ⟨S_, .i32⟩
  | .hbm, ⟨32, _⟩ => ⟨S8x8x4096x128, .i32⟩
  | .hbm, ⟨33, _⟩ => ⟨S8x8x4096x128, .i32⟩
  | .hbm, ⟨34, _⟩ => ⟨S8x8x4096x128, .i32⟩
  | .hbm, ⟨35, _⟩ => ⟨S_, .i32⟩
  | .hbm, ⟨36, _⟩ => ⟨S8x8x4096x128, .i32⟩
  | .hbm, ⟨37, _⟩ => ⟨S8x8x4096x128, .i1⟩
  | .hbm, ⟨38, _⟩ => ⟨S8x8x4096x128, .f32⟩
  | .hbm, ⟨39, _⟩ => ⟨S_, .i32⟩
  | .hbm, ⟨40, _⟩ => ⟨S8x8x4096x128, .i32⟩
  | .hbm, ⟨41, _⟩ => ⟨S8x8x4096x128, .i1⟩
  | .hbm, ⟨42, _⟩ => ⟨S_, .i32⟩
  | .hbm, ⟨43, _⟩ => ⟨S_, .i32⟩
  | .hbm, ⟨44, _⟩ => ⟨S8x8x4096x128, .i32⟩
  | .hbm, ⟨45, _⟩ => ⟨S8x8x4096x128, .i32⟩
  | .hbm, ⟨46, _⟩ => ⟨S8x8x4096x128, .i32⟩
  | .hbm, ⟨47, _⟩ => ⟨S8x8x4096x128, .i32⟩
  | .hbm, ⟨48, _⟩ => ⟨S8x8x4096x128, .i1⟩
  | .hbm, ⟨49, _⟩ => ⟨S_, .f32⟩
  | .hbm, ⟨50, _⟩ => ⟨S_, .f32⟩
  | .hbm, ⟨51, _⟩ => ⟨S8x8x4096x128, .f32⟩
  | .hbm, ⟨52, _⟩ => ⟨S8x8x4096x128, .f32⟩
  | .hbm, ⟨53, _⟩ => ⟨S8x4096x8x128, .f32⟩
  | .hbm, ⟨54, _⟩ => ⟨S8x4096x1024, .f32⟩
  | .hbm, ⟨55, _⟩ => ⟨S8x4096x1024, .bf16⟩
  | .hbm, ⟨56, _⟩ => ⟨S8x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S4x1024x1, .f32⟩
  | .local _ .vmem, ⟨9, _⟩ => ⟨S4x1024x128, .f32⟩
  | _, _ => ⟨S8x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call2_v0 : Ref sig .tc := ⟨.hbm, 25, rfl⟩
abbrev main_v14 : Ref sig .tc := ⟨.hbm, 26, rfl⟩
abbrev main_c_4 : Ref sig .tc := ⟨.hbm, 27, rfl⟩
abbrev main_call3_v0 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call5_v0 : Ref sig .tc := ⟨.hbm, 44, rfl⟩
abbrev main_call5_v1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_call6_v0 : Ref sig .tc := ⟨.hbm, 50, rfl⟩
abbrev main_call6_v1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 3 → Nat :=
  let c0_2 : Index := 0#32
  let arg2 : BitVec 32 := BitVec.ofNat 32 (i 2).val
  let c1024_i32 : BitVec 32 := 1024#32
  let v0 : BitVec 32 := Scalar.muli arg2 c1024_i32
  let v1 : BitVec 32 := v0
  let v4 : Index := Scalar.indexCast v1
  let c0_3 : Index := 0#32
  ![0, v4.toNat, 0]
def k0_off2 (i : grid0.Coords) : Fin 3 → Nat :=
  let c0_17 : Index := 0#32
  let arg2 : BitVec 32 := BitVec.ofNat 32 (i 2).val
  let c1024_i32 : BitVec 32 := 1024#32
  let v0 : BitVec 32 := Scalar.muli arg2 c1024_i32
  let v1 : BitVec 32 := v0
  let v33 : Index := Scalar.indexCast v1
  let c0_18 : Index := 0#32
  ![0, v33.toNat, 0]
def k0_off3 (i : grid0.Coords) : Fin 3 → Nat :=
  let c0_33 : Index := 0#32
  let arg2 : BitVec 32 := BitVec.ofNat 32 (i 2).val
  let c1024_i32 : BitVec 32 := 1024#32
  let v0 : BitVec 32 := Scalar.muli arg2 c1024_i32
  let v1 : BitVec 32 := v0
  let v62 : Index := Scalar.indexCast v1
  let c128_34 : Index := 128#32
  ![0, v62.toNat, 128]
def k0_off4 (i : grid0.Coords) : Fin 3 → Nat :=
  let c0_50 : Index := 0#32
  let arg2 : BitVec 32 := BitVec.ofNat 32 (i 2).val
  let c1024_i32 : BitVec 32 := 1024#32
  let v0 : BitVec 32 := Scalar.muli arg2 c1024_i32
  let v1 : BitVec 32 := v0
  let v91 : Index := Scalar.indexCast v1
  let c128_51 : Index := 128#32
  ![0, v91.toNat, 128]
def k0_off5 (i : grid0.Coords) : Fin 3 → Nat :=
  let c0_67 : Index := 0#32
  let arg2 : BitVec 32 := BitVec.ofNat 32 (i 2).val
  let c1024_i32 : BitVec 32 := 1024#32
  let v0 : BitVec 32 := Scalar.muli arg2 c1024_i32
  let v1 : BitVec 32 := v0
  let v120 : Index := Scalar.indexCast v1
  let c256_68 : Index := 256#32
  ![0, v120.toNat, 256]
def k0_off6 (i : grid0.Coords) : Fin 3 → Nat :=
  let c0_84 : Index := 0#32
  let arg2 : BitVec 32 := BitVec.ofNat 32 (i 2).val
  let c1024_i32 : BitVec 32 := 1024#32
  let v0 : BitVec 32 := Scalar.muli arg2 c1024_i32
  let v1 : BitVec 32 := v0
  let v149 : Index := Scalar.indexCast v1
  let c256_85 : Index := 256#32
  ![0, v149.toNat, 256]
def k0_off7 (i : grid0.Coords) : Fin 3 → Nat :=
  let c0_101 : Index := 0#32
  let arg2 : BitVec 32 := BitVec.ofNat 32 (i 2).val
  let c1024_i32 : BitVec 32 := 1024#32
  let v0 : BitVec 32 := Scalar.muli arg2 c1024_i32
  let v1 : BitVec 32 := v0
  let v178 : Index := Scalar.indexCast v1
  let c384_102 : Index := 384#32
  ![0, v178.toNat, 384]
def k0_off8 (i : grid0.Coords) : Fin 3 → Nat :=
  let c0_118 : Index := 0#32
  let arg2 : BitVec 32 := BitVec.ofNat 32 (i 2).val
  let c1024_i32 : BitVec 32 := 1024#32
  let v0 : BitVec 32 := Scalar.muli arg2 c1024_i32
  let v1 : BitVec 32 := v0
  let v207 : Index := Scalar.indexCast v1
  let c384_119 : Index := 384#32
  ![0, v207.toNat, 384]
@[reducible] def k0_t1_loop (i : grid0.Coords) : Scf.Loop 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_162 : BitVec 32 := 1#32
  ⟨c0_i32_161, v270, c1_i32_162⟩
def k0_mult2 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_171 : BitVec 32 := 1024#32
  let v300 : BitVec 32 := Scalar.muli arg9 c1024_i32_171
  v300
def k0_off9 (i : grid0.Coords) (k0_t1 : Fin (k0_t1_loop i).trips) : Fin 3 → Nat :=
  let c0_175 : Index := 0#32
  let c0_i32_161 : BitVec 32 := 0#32
  let c1_i32_162 : BitVec 32 := 1#32
  let arg9 : BitVec 32 := Scf.iv c0_i32_161 c1_i32_162 k0_t1
  let c1024_i32_171 : BitVec 32 := 1024#32
  let v300 : BitVec 32 := Scalar.muli arg9 c1024_i32_171
  let v301 : BitVec 32 := v300
  let v304 : Index := Scalar.indexCast v301
  let c0_176 : Index := 0#32
  ![0, v304.toNat, 0]
def k0_mult3 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_182 : BitVec 32 := 1024#32
  let v324 : BitVec 32 := Scalar.muli arg9 c1024_i32_182
  v324
def k0_off10 (i : grid0.Coords) (k0_t1 : Fin (k0_t1_loop i).trips) : Fin 3 → Nat :=
  let c0_186 : Index := 0#32
  let c0_i32_161 : BitVec 32 := 0#32
  let c1_i32_162 : BitVec 32 := 1#32
  let arg9 : BitVec 32 := Scf.iv c0_i32_161 c1_i32_162 k0_t1
  let c1024_i32_182 : BitVec 32 := 1024#32
  let v324 : BitVec 32 := Scalar.muli arg9 c1024_i32_182
  let v325 : BitVec 32 := v324
  let v328 : Index := Scalar.indexCast v325
  let c128_187 : Index := 128#32
  ![0, v328.toNat, 128]
def k0_mult4 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_193 : BitVec 32 := 1024#32
  let v348 : BitVec 32 := Scalar.muli arg9 c1024_i32_193
  v348
def k0_off11 (i : grid0.Coords) (k0_t1 : Fin (k0_t1_loop i).trips) : Fin 3 → Nat :=
  let c0_197 : Index := 0#32
  let c0_i32_161 : BitVec 32 := 0#32
  let c1_i32_162 : BitVec 32 := 1#32
  let arg9 : BitVec 32 := Scf.iv c0_i32_161 c1_i32_162 k0_t1
  let c1024_i32_193 : BitVec 32 := 1024#32
  let v348 : BitVec 32 := Scalar.muli arg9 c1024_i32_193
  let v349 : BitVec 32 := v348
  let v352 : Index := Scalar.indexCast v349
  let c256_198 : Index := 256#32
  ![0, v352.toNat, 256]
def k0_mult5 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_204 : BitVec 32 := 1024#32
  let v372 : BitVec 32 := Scalar.muli arg9 c1024_i32_204
  v372
def k0_off12 (i : grid0.Coords) (k0_t1 : Fin (k0_t1_loop i).trips) : Fin 3 → Nat :=
  let c0_208 : Index := 0#32
  let c0_i32_161 : BitVec 32 := 0#32
  let c1_i32_162 : BitVec 32 := 1#32
  let arg9 : BitVec 32 := Scf.iv c0_i32_161 c1_i32_162 k0_t1
  let c1024_i32_204 : BitVec 32 := 1024#32
  let v372 : BitVec 32 := Scalar.muli arg9 c1024_i32_204
  let v373 : BitVec 32 := v372
  let v376 : Index := Scalar.indexCast v373
  let c384_209 : Index := 384#32
  ![0, v376.toNat, 384]
@[reducible] def k0_t2_loop (i : grid0.Coords) : Scf.Loop 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let v267 : BitVec 32 := Scalar.addi c0_i32_161 v266
  let c1_i32_163 : BitVec 32 := 1#32
  ⟨v270, v267, c1_i32_163⟩
def k0_mult6 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_171 : BitVec 32 := 1024#32
  let v300 : BitVec 32 := Scalar.muli arg9 c1024_i32_171
  v300
def k0_off13 (i : grid0.Coords) (k0_t2 : Fin (k0_t2_loop i).trips) : Fin 3 → Nat :=
  let c0_175 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_171 : BitVec 32 := 1024#32
  let v300 : BitVec 32 := Scalar.muli arg9 c1024_i32_171
  let v301 : BitVec 32 := v300
  let v304 : Index := Scalar.indexCast v301
  let c0_176 : Index := 0#32
  ![0, v304.toNat, 0]
def k0_mult7 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_182 : BitVec 32 := 1024#32
  let v324 : BitVec 32 := Scalar.muli arg9 c1024_i32_182
  v324
def k0_off14 (i : grid0.Coords) (k0_t2 : Fin (k0_t2_loop i).trips) : Fin 3 → Nat :=
  let c0_186 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_182 : BitVec 32 := 1024#32
  let v324 : BitVec 32 := Scalar.muli arg9 c1024_i32_182
  let v325 : BitVec 32 := v324
  let v328 : Index := Scalar.indexCast v325
  let c128_187 : Index := 128#32
  ![0, v328.toNat, 128]
def k0_mult8 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_193 : BitVec 32 := 1024#32
  let v348 : BitVec 32 := Scalar.muli arg9 c1024_i32_193
  v348
def k0_off15 (i : grid0.Coords) (k0_t2 : Fin (k0_t2_loop i).trips) : Fin 3 → Nat :=
  let c0_197 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_193 : BitVec 32 := 1024#32
  let v348 : BitVec 32 := Scalar.muli arg9 c1024_i32_193
  let v349 : BitVec 32 := v348
  let v352 : Index := Scalar.indexCast v349
  let c256_198 : Index := 256#32
  ![0, v352.toNat, 256]
def k0_mult9 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_204 : BitVec 32 := 1024#32
  let v372 : BitVec 32 := Scalar.muli arg9 c1024_i32_204
  v372
def k0_off16 (i : grid0.Coords) (k0_t2 : Fin (k0_t2_loop i).trips) : Fin 3 → Nat :=
  let c0_208 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_204 : BitVec 32 := 1024#32
  let v372 : BitVec 32 := Scalar.muli arg9 c1024_i32_204
  let v373 : BitVec 32 := v372
  let v376 : Index := Scalar.indexCast v373
  let c384_209 : Index := 384#32
  ![0, v376.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8x4096x96 : Shape := ⟨4, ![8, 8, 4096, 96]⟩
abbrev S8x8x4096x64 : Shape := ⟨4, ![8, 8, 4096, 64]⟩
abbrev S_ : Shape := ⟨0, ![]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x8x4096x96, .f32⟩
  | .hbm, ⟨1, _⟩ => ⟨S8x8x4096x96, .f32⟩
  | .hbm, ⟨2, _⟩ => ⟨S8x8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8x4096x4096, .f32⟩
  | .hbm, ⟨8, _⟩ => ⟨S8x8x4096x4096, .f32⟩
  | .hbm, ⟨9, _⟩ => ⟨S8x8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x8x4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096, .f32⟩
  | .hbm, ⟨23, _⟩ => ⟨S_, .f32⟩
  | .hbm, ⟨24, _⟩ => ⟨S8x8x4096, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x4096x64, .f32⟩
  | .hbm, ⟨36, _⟩ => ⟨S8x4096x8x64, .f32⟩
  | .hbm, ⟨37, _⟩ => ⟨S8x4096x512, .f32⟩
  | .hbm, ⟨38, _⟩ => ⟨S8x4096x512, .bf16⟩
  | _, _ => ⟨S8x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel2.lean ====
abbrev S151 : Shape := ⟨1, ![151]⟩
abbrev S270848x1024 : Shape := ⟨2, ![270848, 1024]⟩
abbrev S8x1024x5632 : Shape := ⟨3, ![8, 1024, 5632]⟩
abbrev S8x2816x1024 : Shape := ⟨3, ![8, 2816, 1024]⟩
abbrev S512x1024 : Shape := ⟨2, ![512, 1024]⟩
abbrev S1 : Shape := ⟨1, ![1]⟩
abbrev S1x1024x5632 : Shape := ⟨3, ![1, 1024, 5632]⟩
abbrev S1x2816x1024 : Shape := ⟨3, ![1, 2816, 1024]⟩
abbrev S512x2816 : Shape := ⟨2, ![512, 2816]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 6
  | .vmem => 9
  | .smem => 3
  | _ => 0

abbrev bufTy : (tb : Table) → Fin (tcTables nBuf tb) → BufTy
  | .hbm, ⟨0, _⟩ => ⟨S270848x1024, .bf16⟩
  | .hbm, ⟨1, _⟩ => ⟨S8x1024x5632, .f32⟩
  | .hbm, ⟨2, _⟩ => ⟨S8x2816x1024, .f32⟩
  | .hbm, ⟨3, _⟩ => ⟨S8x1024x5632, .bf16⟩
  | .hbm, ⟨4, _⟩ => ⟨S8x2816x1024, .bf16⟩
  | .hbm, ⟨5, _⟩ => ⟨S270848x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x5632, .bf16⟩
  | .local _ .vmem, ⟨3, _⟩ => ⟨S1x1024x5632, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .smem, ⟨0, _⟩ => ⟨S151, .i32⟩
  | .local _ .smem, ⟨1, _⟩ => ⟨S151, .i32⟩
  | .local _ .smem, ⟨2, _⟩ => ⟨S151, .i32⟩
  | _, _ => ⟨S270848x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![151], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S151.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S151.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S151) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S151.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S151) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S151.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S151 : Shape := ⟨1, ![151]⟩
abbrev S270848x1024 : Shape := ⟨2, ![270848, 1024]⟩
abbrev S8x1024x5632 : Shape := ⟨3, ![8, 1024, 5632]⟩
abbrev S8x2816x1024 : Shape := ⟨3, ![8, 2816, 1024]⟩
abbrev S270336x1024 : Shape := ⟨2, ![270336, 1024]⟩
abbrev S8x33792x1024 : Shape := ⟨3, ![8, 33792, 1024]⟩
abbrev S8x33792x5632 : Shape := ⟨3, ![8, 33792, 5632]⟩
abbrev S8x33792x2816 : Shape := ⟨3, ![8, 33792, 2816]⟩
abbrev S_ : Shape := ⟨0, ![]⟩
abbrev S512x1024 : Shape := ⟨2, ![512, 1024]⟩

abbrev nBuf : Space → Nat
  | .hbm => 28
  | .vmem => 0
  | .smem => 0
  | _ => 0

abbrev bufTy : (tb : Table) → Fin (tcTables nBuf tb) → BufTy
  | .hbm, ⟨0, _⟩ => ⟨S151, .i32⟩
  | .hbm, ⟨1, _⟩ => ⟨S151, .i32⟩
  | .hbm, ⟨2, _⟩ => ⟨S151, .i32⟩
  | .hbm, ⟨3, _⟩ => ⟨S270848x1024, .bf16⟩
  | .hbm, ⟨4, _⟩ => ⟨S8x1024x5632, .f32⟩
  | .hbm, ⟨5, _⟩ => ⟨S8x2816x1024, .f32⟩
  | .hbm, ⟨6, _⟩ => ⟨S270336x1024, .bf16⟩
  | .hbm, ⟨7, _⟩ => ⟨S270336x1024, .f32⟩
  | .hbm, ⟨8, _⟩ => ⟨S8x33792x1024, .f32⟩
  | .hbm, ⟨9, _⟩ => ⟨S8x33792x5632, .f32⟩
  | .hbm, ⟨10, _⟩ => ⟨S8x33792x2816, .f32⟩
  | .hbm, ⟨11, _⟩ => ⟨S8x33792x2816, .f32⟩
  | .hbm, ⟨12, _⟩ => ⟨S8x33792x2816, .f32⟩
  | .hbm, ⟨13, _⟩ => ⟨S8x33792x2816, .f32⟩
  | .hbm, ⟨14, _⟩ => ⟨S_, .f32⟩
  | .hbm, ⟨15, _⟩ => ⟨S8x33792x2816, .f32⟩
  | .hbm, ⟨16, _⟩ => ⟨S8x33792x2816, .f32⟩
  | .hbm, ⟨17, _⟩ => ⟨S_, .f32⟩
  | .hbm, ⟨18, _⟩ => ⟨S8x33792x2816, .f32⟩
  | .hbm, ⟨19, _⟩ => ⟨S8x33792x2816, .f32⟩
  | .hbm, ⟨20, _⟩ => ⟨S8x33792x2816, .f32⟩
  | .hbm, ⟨21, _⟩ => ⟨S8x33792x2816, .f32⟩
  | .hbm, ⟨22, _⟩ => ⟨S8x33792x1024, .f32⟩
  | .hbm, ⟨23, _⟩ => ⟨S270336x1024, .f32⟩
  | .hbm, ⟨24, _⟩ => ⟨S_, .f32⟩
  | .hbm, ⟨25, _⟩ => ⟨S512x1024, .f32⟩
  | .hbm, ⟨26, _⟩ => ⟨S270848x1024, .f32⟩
  | .hbm, ⟨27, _⟩ => ⟨S270848x1024, .bf16⟩
  | _, _ => ⟨S151, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x512 : Shape := ⟨3, ![8, 4096, 512]⟩
abbrev S1024 : Shape := ⟨1, ![1024]⟩
abbrev S1024x4256 : Shape := ⟨2, ![1024, 4256]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 18
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024, .f32⟩
  | .hbm, ⟨4, _⟩ => ⟨S1024x4256, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S32768x1024, .f32⟩
  | .hbm, ⟨15, _⟩ => ⟨S32768x512, .bf16⟩
  | .hbm, ⟨16, _⟩ => ⟨S32768x512, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x4096x1024 : Shape := ⟨3, ![8, 4096, 1024]⟩
abbrev S8x4096x512 : Shape := ⟨3, ![8, 4096, 512]⟩
abbrev S1024 : Shape := ⟨1, ![1024]⟩
abbrev S1024x4256 : Shape := ⟨2, ![1024, 4256]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4256 : Shape := ⟨3, ![8, 4096, 4256]⟩
abbrev S8x4096x2048 : Shape := ⟨3, ![8, 4096, 2048]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024, .f32⟩
  | .hbm, ⟨4, _⟩ => ⟨S1024x4256, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x4256, .f32⟩
  | .hbm, ⟨25, _⟩ => ⟨S8x4096x2048, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S8x4096x512, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x512, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel5.lean ====
abbrev S8x8x4096x64 : Shape := ⟨4, ![8, 8, 4096, 64]⟩
abbrev S8x8x4096x16 : Shape := ⟨4, ![8, 8, 4096, 16]⟩
abbrev S_ : Shape := ⟨0, ![]⟩
abbrev S8x8x4096x80 : Shape := ⟨4, ![8, 8, 4096, 80]⟩
abbrev S8x8x4096x128 : Shape := ⟨4, ![8, 8, 4096, 128]⟩
abbrev S8x4096x8x128 : Shape := ⟨4, ![8, 4096, 8, 128]⟩
abbrev S8x4096x1024 : Shape := ⟨3, ![8, 4096, 1024]⟩
abbrev S8x4096x512 : Shape := ⟨3, ![8, 4096, 512]⟩
abbrev S1x1024x512 : Shape := ⟨3, ![1, 1024, 512]⟩
abbrev S1x4096x512 : Shape := ⟨3, ![1, 4096, 512]⟩
abbrev S1x1024x256 : Shape := ⟨3, ![1, 1024, 256]⟩
abbrev S4x1024x1 : Shape := ⟨3, ![4, 1024, 1]⟩
abbrev S4x1024x128 : Shape := ⟨3, ![4, 1024, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x1024x128 : Shape := ⟨3, ![1, 1024, 128]⟩
abbrev S1024x128 : Shape := ⟨2, ![1024, 128]⟩
abbrev S512x1024 : Shape := ⟨2, ![512, 1024]⟩
abbrev S1x1024x1 : Shape := ⟨3, ![1, 1024, 1]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 75
  | .vmem => 10
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8x4096x16, .f32⟩
  | .hbm, ⟨14, _⟩ => ⟨S8x8x4096x16, .f32⟩
  | .hbm, ⟨15, _⟩ => ⟨S8x8x4096x64, .f32⟩
  | .hbm, ⟨16, _⟩ => ⟨S8x8x4096x64, .f32⟩
  | .hbm, ⟨17, _⟩ => ⟨S8x8x4096x80, .f32⟩
  | .hbm, ⟨18, _⟩ => ⟨S_, .i32⟩
  | .hbm, ⟨19, _⟩ => ⟨S_, .f32⟩
  | .hbm, ⟨20, _⟩ => ⟨S8x8x4096x128, .f32⟩
  | .hbm, ⟨21, _⟩ => ⟨S8x4096x8x128, .f32⟩
  | .hbm, ⟨22, _⟩ => ⟨S8x4096x1024, .f32⟩
  | .hbm, ⟨23, _⟩ => ⟨S8x4096x1024, .bf16⟩
  | .hbm, ⟨24, _⟩ => ⟨S_, .i32⟩
  | .hbm, ⟨25, _⟩ => ⟨S_, .f32⟩
  | .hbm, ⟨26, _⟩ => ⟨S8x8x4096x128, .f32⟩
  | .hbm, ⟨27, _⟩ => ⟨S8x8x4096x128, .i32⟩
  | .hbm, ⟨28, _⟩ => ⟨S_, .i32⟩
  | .hbm, ⟨29, _⟩ => ⟨S8x8x4096x128, .i32⟩
  | .hbm, ⟨30, _⟩ => ⟨S8x8x4096x128, .i32⟩
  | .hbm, ⟨31, _⟩ => ⟨S8x8x4096x128, .i32⟩
  | .hbm, ⟨32, _⟩ => ⟨S_, .i32⟩
  | .hbm, ⟨33, _⟩ => ⟨S8x8x4096x128, .i32⟩
  | .hbm, ⟨34, _⟩ => ⟨S8x8x4096x128, .i32⟩
  | .hbm, ⟨35, _⟩ => ⟨S8x8x4096x128, .i1⟩
  | .hbm, ⟨36, _⟩ => ⟨S_, .f32⟩
  | .hbm, ⟨37, _⟩ => ⟨S8x8x4096x128, .f32⟩
  | .hbm, ⟨38, _⟩ => ⟨S8x8x4096x128, .f32⟩
  | .hbm, ⟨39, _⟩ => ⟨S8x4096x8x128, .f32⟩
  | .hbm, ⟨40, _⟩ => ⟨S8x4096x1024, .f32⟩
  | .hbm, ⟨41, _⟩ => ⟨S8x4096x1024, .bf16⟩
  | .hbm, ⟨42, _⟩ => ⟨S_, .i32⟩
  | .hbm, ⟨43, _⟩ => ⟨S_, .f32⟩
  | .hbm, ⟨44, _⟩ => ⟨S8x8x4096x128, .f32⟩
  | .hbm, ⟨45, _⟩ => ⟨S_, .i32⟩
  | .hbm, ⟨46, _⟩ => ⟨S_, .f32⟩
  | .hbm, ⟨47, _⟩ => ⟨S8x8x4096x128, .f32⟩
  | .hbm, ⟨48, _⟩ => ⟨S8x8x4096x128, .i32⟩
  | .hbm, ⟨49, _⟩ => ⟨S_, .i32⟩
  | .hbm, ⟨50, _⟩ => ⟨S8x8x4096x128, .i32⟩
  | .hbm, ⟨51, _⟩ => ⟨S8x8x4096x128, .i32⟩
  | .hbm, ⟨52, _⟩ => ⟨S8x8x4096x128, .i32⟩
  | .hbm, ⟨53, _⟩ => ⟨S_, .i32⟩
  | .hbm, ⟨54, _⟩ => ⟨S8x8x4096x128, .i32⟩
  | .hbm, ⟨55, _⟩ => ⟨S8x8x4096x128, .i1⟩
  | .hbm, ⟨56, _⟩ => ⟨S8x8x4096x128, .f32⟩
  | .hbm, ⟨57, _⟩ => ⟨S_, .i32⟩
  | .hbm, ⟨58, _⟩ => ⟨S8x8x4096x128, .i32⟩
  | .hbm, ⟨59, _⟩ => ⟨S8x8x4096x128, .i1⟩
  | .hbm, ⟨60, _⟩ => ⟨S_, .i32⟩
  | .hbm, ⟨61, _⟩ => ⟨S_, .i32⟩
  | .hbm, ⟨62, _⟩ => ⟨S8x8x4096x128, .i32⟩
  | .hbm, ⟨63, _⟩ => ⟨S8x8x4096x128, .i32⟩
  | .hbm, ⟨64, _⟩ => ⟨S8x8x4096x128, .i32⟩
  | .hbm, ⟨65, _⟩ => ⟨S8x8x4096x128, .i32⟩
  | .hbm, ⟨66, _⟩ => ⟨S8x8x4096x128, .i1⟩
  | .hbm, ⟨67, _⟩ => ⟨S_, .f32⟩
  | .hbm, ⟨68, _⟩ => ⟨S_, .f32⟩
  | .hbm, ⟨69, _⟩ => ⟨S8x8x4096x128, .f32⟩
  | .hbm, ⟨70, _⟩ => ⟨S8x8x4096x128, .f32⟩
  | .hbm, ⟨71, _⟩ => ⟨S8x4096x8x128, .f32⟩
  | .hbm, ⟨72, _⟩ => ⟨S8x4096x1024, .f32⟩
  | .hbm, ⟨73, _⟩ => ⟨S8x4096x1024, .bf16⟩
  | .hbm, ⟨74, _⟩ => ⟨S8x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S4x1024x1, .f32⟩
  | .local _ .vmem, ⟨9, _⟩ => ⟨S4x1024x128, .f32⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call3_v0 : Ref sig .tc := ⟨.hbm, 43, rfl⟩
abbrev main_v26 : Ref sig .tc := ⟨.hbm, 44, rfl⟩
abbrev main_c_8 : Ref sig .tc := ⟨.hbm, 45, rfl⟩
abbrev main_call4_v0 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_11 : Ref sig .tc := ⟨.hbm, 57, rfl⟩
abbrev main_v35 : Ref sig .tc := ⟨.hbm, 58, rfl⟩
abbrev main_v36 : Ref sig .tc := ⟨.hbm, 59, rfl⟩
abbrev main_c_12 : Ref sig .tc := ⟨.hbm, 60, rfl⟩
abbrev main_c_13 : Ref sig .tc := ⟨.hbm, 61, rfl⟩
abbrev main_call6_v0 : Ref sig .tc := ⟨.hbm, 62, rfl⟩
abbrev main_call6_v1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_call7_v0 : Ref sig .tc := ⟨.hbm, 68, rfl⟩
abbrev main_call7_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 3 → Nat :=
  let c0_2 : Index := 0#32
  let arg2 : BitVec 32 := BitVec.ofNat 32 (i 2).val
  let c1024_i32 : BitVec 32 := 1024#32
  let v0 : BitVec 32 := Scalar.muli arg2 c1024_i32
  let v1 : BitVec 32 := v0
  let v4 : Index := Scalar.indexCast v1
  let c0_3 : Index := 0#32
  ![0, v4.toNat, 0]
def k0_off2 (i : grid0.Coords) : Fin 3 → Nat :=
  let c0_17 : Index := 0#32
  let arg2 : BitVec 32 := BitVec.ofNat 32 (i 2).val
  let c1024_i32 : BitVec 32 := 1024#32
  let v0 : BitVec 32 := Scalar.muli arg2 c1024_i32
  let v1 : BitVec 32 := v0
  let v33 : Index := Scalar.indexCast v1
  let c0_18 : Index := 0#32
  ![0, v33.toNat, 0]
def k0_off3 (i : grid0.Coords) : Fin 3 → Nat :=
  let c0_33 : Index := 0#32
  let arg2 : BitVec 32 := BitVec.ofNat 32 (i 2).val
  let c1024_i32 : BitVec 32 := 1024#32
  let v0 : BitVec 32 := Scalar.muli arg2 c1024_i32
  let v1 : BitVec 32 := v0
  let v62 : Index := Scalar.indexCast v1
  let c128_34 : Index := 128#32
  ![0, v62.toNat, 128]
def k0_off4 (i : grid0.Coords) : Fin 3 → Nat :=
  let c0_50 : Index := 0#32
  let arg2 : BitVec 32 := BitVec.ofNat 32 (i 2).val
  let c1024_i32 : BitVec 32 := 1024#32
  let v0 : BitVec 32 := Scalar.muli arg2 c1024_i32
  let v1 : BitVec 32 := v0
  let v91 : Index := Scalar.indexCast v1
  let c128_51 : Index := 128#32
  ![0, v91.toNat, 128]
def k0_off5 (i : grid0.Coords) : Fin 3 → Nat :=
  let c0_67 : Index := 0#32
  let arg2 : BitVec 32 := BitVec.ofNat 32 (i 2).val
  let c1024_i32 : BitVec 32 := 1024#32
  let v0 : BitVec 32 := Scalar.muli arg2 c1024_i32
  let v1 : BitVec 32 := v0
  let v120 : Index := Scalar.indexCast v1
  let c256_68 : Index := 256#32
  ![0, v120.toNat, 256]
def k0_off6 (i : grid0.Coords) : Fin 3 → Nat :=
  let c0_84 : Index := 0#32
  let arg2 : BitVec 32 := BitVec.ofNat 32 (i 2).val
  let c1024_i32 : BitVec 32 := 1024#32
  let v0 : BitVec 32 := Scalar.muli arg2 c1024_i32
  let v1 : BitVec 32 := v0
  let v149 : Index := Scalar.indexCast v1
  let c256_85 : Index := 256#32
  ![0, v149.toNat, 256]
def k0_off7 (i : grid0.Coords) : Fin 3 → Nat :=
  let c0_101 : Index := 0#32
  let arg2 : BitVec 32 := BitVec.ofNat 32 (i 2).val
  let c1024_i32 : BitVec 32 := 1024#32
  let v0 : BitVec 32 := Scalar.muli arg2 c1024_i32
  let v1 : BitVec 32 := v0
  let v178 : Index := Scalar.indexCast v1
  let c384_102 : Index := 384#32
  ![0, v178.toNat, 384]
def k0_off8 (i : grid0.Coords) : Fin 3 → Nat :=
  let c0_118 : Index := 0#32
  let arg2 : BitVec 32 := BitVec.ofNat 32 (i 2).val
  let c1024_i32 : BitVec 32 := 1024#32
  let v0 : BitVec 32 := Scalar.muli arg2 c1024_i32
  let v1 : BitVec 32 := v0
  let v207 : Index := Scalar.indexCast v1
  let c384_119 : Index := 384#32
  ![0, v207.toNat, 384]
@[reducible] def k0_t1_loop (i : grid0.Coords) : Scf.Loop 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_162 : BitVec 32 := 1#32
  ⟨c0_i32_161, v270, c1_i32_162⟩
def k0_mult2 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_171 : BitVec 32 := 1024#32
  let v300 : BitVec 32 := Scalar.muli arg9 c1024_i32_171
  v300
def k0_off9 (i : grid0.Coords) (k0_t1 : Fin (k0_t1_loop i).trips) : Fin 3 → Nat :=
  let c0_175 : Index := 0#32
  let c0_i32_161 : BitVec 32 := 0#32
  let c1_i32_162 : BitVec 32 := 1#32
  let arg9 : BitVec 32 := Scf.iv c0_i32_161 c1_i32_162 k0_t1
  let c1024_i32_171 : BitVec 32 := 1024#32
  let v300 : BitVec 32 := Scalar.muli arg9 c1024_i32_171
  let v301 : BitVec 32 := v300
  let v304 : Index := Scalar.indexCast v301
  let c0_176 : Index := 0#32
  ![0, v304.toNat, 0]
def k0_mult3 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_182 : BitVec 32 := 1024#32
  let v324 : BitVec 32 := Scalar.muli arg9 c1024_i32_182
  v324
def k0_off10 (i : grid0.Coords) (k0_t1 : Fin (k0_t1_loop i).trips) : Fin 3 → Nat :=
  let c0_186 : Index := 0#32
  let c0_i32_161 : BitVec 32 := 0#32
  let c1_i32_162 : BitVec 32 := 1#32
  let arg9 : BitVec 32 := Scf.iv c0_i32_161 c1_i32_162 k0_t1
  let c1024_i32_182 : BitVec 32 := 1024#32
  let v324 : BitVec 32 := Scalar.muli arg9 c1024_i32_182
  let v325 : BitVec 32 := v324
  let v328 : Index := Scalar.indexCast v325
  let c128_187 : Index := 128#32
  ![0, v328.toNat, 128]
def k0_mult4 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_193 : BitVec 32 := 1024#32
  let v348 : BitVec 32 := Scalar.muli arg9 c1024_i32_193
  v348
def k0_off11 (i : grid0.Coords) (k0_t1 : Fin (k0_t1_loop i).trips) : Fin 3 → Nat :=
  let c0_197 : Index := 0#32
  let c0_i32_161 : BitVec 32 := 0#32
  let c1_i32_162 : BitVec 32 := 1#32
  let arg9 : BitVec 32 := Scf.iv c0_i32_161 c1_i32_162 k0_t1
  let c1024_i32_193 : BitVec 32 := 1024#32
  let v348 : BitVec 32 := Scalar.muli arg9 c1024_i32_193
  let v349 : BitVec 32 := v348
  let v352 : Index := Scalar.indexCast v349
  let c256_198 : Index := 256#32
  ![0, v352.toNat, 256]
def k0_mult5 (i : grid0.Coords) (k0_t1 : Fin (k0_t1_loop i).trips) : BitVec 32 :=
  let c0_i32_161 : BitVec 32 := 0#32
  let c1_i32_162 : BitVec 32 := 1#32
  let arg9 : BitVec 32 := Scf.iv c0_i32_161 c1_i32_162 k0_t1
  let c1024_i32_204 : BitVec 32 := 1024#32
  let v372 : BitVec 32 := Scalar.muli arg9 c1024_i32_204
  v372
def k0_off12 (i : grid0.Coords) (k0_t1 : Fin (k0_t1_loop i).trips) : Fin 3 → Nat :=
  let c0_208 : Index := 0#32
  let c0_i32_161 : BitVec 32 := 0#32
  let c1_i32_162 : BitVec 32 := 1#32
  let arg9 : BitVec 32 := Scf.iv c0_i32_161 c1_i32_162 k0_t1
  let c1024_i32_204 : BitVec 32 := 1024#32
  let v372 : BitVec 32 := Scalar.muli arg9 c1024_i32_204
  let v373 : BitVec 32 := v372
  let v376 : Index := Scalar.indexCast v373
  let c384_209 : Index := 384#32
  ![0, v376.toNat, 384]
@[reducible] def k0_t2_loop (i : grid0.Coords) : Scf.Loop 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let v267 : BitVec 32 := Scalar.addi c0_i32_161 v266
  let c1_i32_163 : BitVec 32 := 1#32
  ⟨v270, v267, c1_i32_163⟩
def k0_mult6 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_171 : BitVec 32 := 1024#32
  let v300 : BitVec 32 := Scalar.muli arg9 c1024_i32_171
  v300
def k0_off13 (i : grid0.Coords) (k0_t2 : Fin (k0_t2_loop i).trips) : Fin 3 → Nat :=
  let c0_175 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_171 : BitVec 32 := 1024#32
  let v300 : BitVec 32 := Scalar.muli arg9 c1024_i32_171
  let v301 : BitVec 32 := v300
  let v304 : Index := Scalar.indexCast v301
  let c0_176 : Index := 0#32
  ![0, v304.toNat, 0]
def k0_mult7 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_182 : BitVec 32 := 1024#32
  let v324 : BitVec 32 := Scalar.muli arg9 c1024_i32_182
  v324
def k0_off14 (i : grid0.Coords) (k0_t2 : Fin (k0_t2_loop i).trips) : Fin 3 → Nat :=
  let c0_186 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_182 : BitVec 32 := 1024#32
  let v324 : BitVec 32 := Scalar.muli arg9 c1024_i32_182
  let v325 : BitVec 32 := v324
  let v328 : Index := Scalar.indexCast v325
  let c128_187 : Index := 128#32
  ![0, v328.toNat, 128]
def k0_mult8 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_193 : BitVec 32 := 1024#32
  let v348 : BitVec 32 := Scalar.muli arg9 c1024_i32_193
  v348
def k0_off15 (i : grid0.Coords) (k0_t2 : Fin (k0_t2_loop i).trips) : Fin 3 → Nat :=
  let c0_197 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_193 : BitVec 32 := 1024#32
  let v348 : BitVec 32 := Scalar.muli arg9 c1024_i32_193
  let v349 : BitVec 32 := v348
  let v352 : Index := Scalar.indexCast v349
  let c256_198 : Index := 256#32
  ![0, v352.toNat, 256]
def k0_mult9 (i : grid0.Coords) (k0_t2 : Fin (k0_t2_loop i).trips) : BitVec 32 :=
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_204 : BitVec 32 := 1024#32
  let v372 : BitVec 32 := Scalar.muli arg9 c1024_i32_204
  v372
def k0_off16 (i : grid0.Coords) (k0_t2 : Fin (k0_t2_loop i).trips) : Fin 3 → Nat :=
  let c0_208 : Index := 0#32
  let c0_i32_161 : BitVec 32 := 0#32
  let arg2 : BitVec 32 := BitVec.ofNat 32 (i 2).val
  let v266 : BitVec 32 := Scalar.subi arg2 c0_i32_161
  let c1_i32 : BitVec 32 := 1#32
  let v268 : BitVec 32 := Scalar.divsi v266 c1_i32
  let v269 : BitVec 32 := Scalar.muli v268 c1_i32
  let v270 : BitVec 32 := Scalar.addi c0_i32_161 v269
  let c1_i32_163 : BitVec 32 := 1#32
  let arg9 : BitVec 32 := Scf.iv v270 c1_i32_163 k0_t2
  let c1024_i32_204 : BitVec 32 := 1024#32
  let v372 : BitVec 32 := Scalar.muli arg9 c1024_i32_204
  let v373 : BitVec 32 := v372
  let v376 : Index := Scalar.indexCast v373
  let c384_209 : Index := 384#32
  ![0, v376.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S8x8x4096x64 : Shape := ⟨4, ![8, 8, 4096, 64]⟩
abbrev S8x8x4096x16 : Shape := ⟨4, ![8, 8, 4096, 16]⟩
abbrev S_ : Shape := ⟨0, ![]⟩
abbrev S8x8x4096x4096 : Shape := ⟨4, ![8, 8, 4096, 4096]⟩
abbrev S8x8x4096x16x256 : Shape := ⟨5, ![8, 8, 4096, 16, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8x4096x4096, .f32⟩
  | .hbm, ⟨9, _⟩ => ⟨S8x8x4096x4096, .f32⟩
  | .hbm, ⟨10, _⟩ => ⟨S8x8x4096x4096, .f32⟩
  | .hbm, ⟨11, _⟩ => ⟨S8x8x4096x16x256, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x8x4096x4096, .i1⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S8x8x4096, .f32⟩
  | .hbm, ⟨27, _⟩ => ⟨S_, .f32⟩
  | .hbm, ⟨28, _⟩ => ⟨S8x8x4096, .f32⟩
  | .hbm, ⟨29, _⟩ => ⟨S8x8x4096, .f32⟩
  | .hbm, ⟨30, _⟩ => ⟨S8x8x4096x1, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S8x8x4096x1, .f32⟩
  | .hbm, ⟨37, _⟩ => ⟨S8x8x4096x4096, .f32⟩
  | .hbm, ⟨38, _⟩ => ⟨S8x8x4096x4096, .f32⟩
  | .hbm, ⟨39, _⟩ => ⟨S8x8x4096x64, .f32⟩
  | .hbm, ⟨40, _⟩ => ⟨S8x4096x8x64, .f32⟩
  | .hbm, ⟨41, _⟩ => ⟨S8x4096x512, .f32⟩
  | .hbm, ⟨42, _⟩ => ⟨S8x4096x512, .bf16⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S1024x4256 : Shape := ⟨2, ![1024, 4256]⟩
abbrev S64 : Shape := ⟨1, ![64]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S256x256 : Shape := ⟨2, ![256, 256]⟩
abbrev S128x1024 : Shape := ⟨2, ![128, 1024]⟩
abbrev S128 : Shape := ⟨1, ![128]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x4x2x64 : Shape := ⟨4, ![1024, 4, 2, 64]⟩
abbrev S1024x4x64 : Shape := ⟨3, ![1024, 4, 64]⟩
abbrev S1024x4x1x64 : Shape := ⟨4, ![1024, 4, 1, 64]⟩
abbrev S1024x4x128 : Shape := ⟨3, ![1024, 4, 128]⟩
abbrev S1024x4x1x128 : Shape := ⟨4, ![1024, 4, 1, 128]⟩
abbrev S1024x4x2x128 : Shape := ⟨4, ![1024, 4, 2, 128]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1024x3840 : Shape := ⟨2, ![1024, 3840]⟩
abbrev S256x8x128 : Shape := ⟨3, ![256, 8, 128]⟩
abbrev S256x8x64 : Shape := ⟨3, ![256, 8, 64]⟩
abbrev S256x512 : Shape := ⟨2, ![256, 512]⟩
abbrev S256x4x2x64 : Shape := ⟨4, ![256, 4, 2, 64]⟩
abbrev S256x4x64 : Shape := ⟨3, ![256, 4, 64]⟩
abbrev S256x4x1x64 : Shape := ⟨4, ![256, 4, 1, 64]⟩
abbrev S256x4x128 : Shape := ⟨3, ![256, 4, 128]⟩
abbrev S256x4x1x128 : Shape := ⟨4, ![256, 4, 1, 128]⟩
abbrev S256x4x2x128 : Shape := ⟨4, ![256, 4, 2, 128]⟩
abbrev S256x2048 : Shape := ⟨2, ![256, 2048]⟩
abbrev S1x1024 : Shape := ⟨2, ![1, 1024]⟩
abbrev S384x8x96 : Shape := ⟨3, ![384, 8, 96]⟩
abbrev S384x8x128 : Shape := ⟨3, ![384, 8, 128]⟩
abbrev S384x1024 : Shape := ⟨2, ![384, 1024]⟩
abbrev S1x384 : Shape := ⟨2, ![1, 384]⟩
abbrev S1x256 : Shape := ⟨2, ![1, 256]⟩
abbrev S1x128 : Shape := ⟨2, ![1, 128]⟩
abbrev S8x128 : Shape := ⟨2, ![8, 128]⟩
abbrev S8 : Shape := ⟨1, ![8]⟩
abbrev S128x1 : Shape := ⟨2, ![128, 1]⟩
abbrev S4096 : Shape := ⟨1, ![4096]⟩
abbrev S4096x1 : Shape := ⟨2, ![4096, 1]⟩
abbrev S4096x128 : Shape := ⟨2, ![4096, 128]⟩
abbrev S1x4096x128 : Shape := ⟨3, ![1, 4096, 128]⟩
abbrev S3x4096x128 : Shape := ⟨3, ![3, 4096, 128]⟩
abbrev S16 : Shape := ⟨1, ![16]⟩
abbrev S1x512x1024 : Shape := ⟨3, ![1, 512, 1024]⟩
abbrev S3x512x128 : Shape := ⟨3, ![3, 512, 128]⟩
abbrev S16x1024 : Shape := ⟨2, ![16, 1024]⟩
abbrev S1x256x1024 : Shape := ⟨3, ![1, 256, 1024]⟩
abbrev S256x1 : Shape := ⟨2, ![256, 1]⟩
abbrev S256x3840 : Shape := ⟨2, ![256, 3840]⟩
abbrev S1x256x128 : Shape := ⟨3, ![1, 256, 128]⟩
abbrev S256x128 : Shape := ⟨2, ![256, 128]⟩
abbrev S16x128 : Shape := ⟨2, ![16, 128]⟩
abbrev S16x256 : Shape := ⟨2, ![16, 256]⟩
abbrev S1x16x256 : Shape := ⟨3, ![1, 16, 256]⟩
abbrev S8x16x256 : Shape := ⟨3, ![8, 16, 256]⟩
abbrev S8x1x256 : Shape := ⟨3, ![8, 1, 256]⟩
abbrev S128x256 : Shape := ⟨2, ![128, 256]⟩
abbrev S256x384 : Shape := ⟨2, ![256, 384]⟩
abbrev S8x4096x4x2x128 : Shape := ⟨5, ![8, 4096, 4, 2, 128]⟩
abbrev S8x4096x4x1x64 : Shape := ⟨5, ![8, 4096, 4, 1, 64]⟩
abbrev S8x4096x4x2x64 : Shape := ⟨5, ![8, 4096, 4, 2, 64]⟩
abbrev S8x4096x8x64 : Shape := ⟨4, ![8, 4096, 8, 64]⟩
abbrev S8x8x4096x64 : Shape := ⟨4, ![8, 8, 4096, 64]⟩

abbrev nBuf : Space → Nat
  | .hbm => 225
  | .vmem => 31
  | .smem => 0
  | _ => 0

abbrev hbmTy0_0 (i : Nat) : BufTy := match i % 128 with
  | 0 => ⟨S8x4096x1024, .f32⟩
  | 1 => ⟨S1024, .f32⟩
  | 2 => ⟨S1024x4256, .f32⟩
  | 3 => ⟨S64, .f32⟩
  | 4 => ⟨S64, .f32⟩
  | 5 => ⟨S384, .f32⟩
  | 6 => ⟨S384x768, .f32⟩
  | 7 => ⟨S256, .f32⟩
  | 8 => ⟨S256x1024, .f32⟩
  | 9 => ⟨S96, .f32⟩
  | 10 => ⟨S96, .f32⟩
  | 11 => ⟨S256x256, .bf16⟩
  | 12 => ⟨S128x1024, .bf16⟩
  | 13 => ⟨S128, .i32⟩
  | 14 => ⟨S128, .i1⟩
  | 15 => ⟨S128, .i1⟩
  | 16 => ⟨S128, .f32⟩
  | 17 => ⟨S128, .f32⟩
  | 18 => ⟨S128, .i32⟩
  | 19 => ⟨S128, .i1⟩
  | 20 => ⟨S128, .i1⟩
  | 21 => ⟨S128, .f32⟩
  | 22 => ⟨S128, .f32⟩
  | 23 => ⟨S1024x512, .f32⟩
  | 24 => ⟨S1024x8x64, .f32⟩
  | 25 => ⟨S_, .i32⟩
  | 26 => ⟨S_, .f32⟩
  | 27 => ⟨S1024x8x128, .f32⟩
  | 28 => ⟨S1024x1024, .f32⟩
  | 29 => ⟨S1024x512, .f32⟩
  | 30 => ⟨S1024x8x64, .f32⟩
  | 31 => ⟨S_, .i32⟩
  | 32 => ⟨S_, .f32⟩
  | 33 => ⟨S1024x8x128, .f32⟩
  | 34 => ⟨S1024x1024, .f32⟩
  | 35 => ⟨S1024x512, .f32⟩
  | 36 => ⟨S1024x4x2x64, .f32⟩
  | 37 => ⟨S_, .f32⟩
  | 38 => ⟨S1024x4x64, .f32⟩
  | 39 => ⟨S1024x4x1x64, .f32⟩
  | 40 => ⟨S1024x4x64, .f32⟩
  | 41 => ⟨S1024x4x128, .f32⟩
  | 42 => ⟨S1024x4x1x64, .f32⟩
  | 43 => ⟨S1024x4x64, .f32⟩
  | 44 => ⟨S1024x4x128, .f32⟩
  | 45 => ⟨S1024x4x1x128, .f32⟩
  | 46 => ⟨S1024x4x1x128, .f32⟩
  | 47 => ⟨S1024x4x2x128, .f32⟩
  | 48 => ⟨S1024x1024, .f32⟩
  | 49 => ⟨S1024x384, .f32⟩
  | 50 => ⟨S1024x256, .f32⟩
  | 51 => ⟨S1024x32, .f32⟩
  | 52 => ⟨S_, .i32⟩
  | 53 => ⟨S_, .f32⟩
  | 54 => ⟨S1024x128, .f32⟩
  | 55 => ⟨S1024x3840, .f32⟩
  | 56 => ⟨S256x8x128, .f32⟩
  | 57 => ⟨S256x8x64, .f32⟩
  | 58 => ⟨S256x512, .f32⟩
  | 59 => ⟨S256x8x64, .f32⟩
  | 60 => ⟨S_, .i32⟩
  | 61 => ⟨S_, .f32⟩
  | 62 => ⟨S256x8x128, .f32⟩
  | 63 => ⟨S256x1024, .f32⟩
  | 64 => ⟨S256x8x64, .f32⟩
  | 65 => ⟨S256x512, .f32⟩
  | 66 => ⟨S256x4x2x64, .f32⟩
  | 67 => ⟨S_, .f32⟩
  | 68 => ⟨S256x4x64, .f32⟩
  | 69 => ⟨S256x4x1x64, .f32⟩
  | 70 => ⟨S256x4x64, .f32⟩
  | 71 => ⟨S256x4x128, .f32⟩
  | 72 => ⟨S256x4x1x64, .f32⟩
  | 73 => ⟨S256x4x64, .f32⟩
  | 74 => ⟨S256x4x128, .f32⟩
  | 75 => ⟨S256x4x1x128, .f32⟩
  | 76 => ⟨S256x4x1x128, .f32⟩
  | 77 => ⟨S256x4x2x128, .f32⟩
  | 78 => ⟨S256x1024, .f32⟩
  | 79 => ⟨S256x2048, .f32⟩
  | 80 => ⟨S1x1024, .f32⟩
  | 81 => ⟨S1024x3840, .bf16⟩
  | 82 => ⟨S384x8x96, .f32⟩
  | 83 => ⟨S_, .i32⟩
  | 84 => ⟨S_, .f32⟩
  | 85 => ⟨S384x8x128, .f32⟩
  | 86 => ⟨S384x1024, .f32⟩
  | 87 => ⟨S384x1024, .bf16⟩
  | 88 => ⟨S256x2048, .bf16⟩
  | 89 => ⟨S1x384, .f32⟩
  | 90 => ⟨S1x256, .f32⟩
  | 91 => ⟨S_, .i32⟩
  | 92 => ⟨S_, .f32⟩
  | 93 => ⟨S128, .f32⟩
  | 94 => ⟨S1x128, .f32⟩
  | 95 => ⟨S8x128, .f32⟩
  | 96 => ⟨S1024, .f32⟩
  | 97 => ⟨S1x1024, .f32⟩
  | 98 => ⟨S_, .i32⟩
  | 99 => ⟨S_, .f32⟩
  | 100 => ⟨S128, .f32⟩
  | 101 => ⟨S1x128, .f32⟩
  | 102 => ⟨S8x128, .f32⟩
  | 103 => ⟨S1024, .f32⟩
  | 104 => ⟨S1x1024, .f32⟩
  | 105 => ⟨S_, .i32⟩
  | 106 => ⟨S_, .f32⟩
  | 107 => ⟨S128, .f32⟩
  | 108 => ⟨S1x128, .f32⟩
  | 109 => ⟨S8x128, .f32⟩
  | 110 => ⟨S1024, .f32⟩
  | 111 => ⟨S1x1024, .f32⟩
  | 112 => ⟨S_, .i32⟩
  | 113 => ⟨S_, .f32⟩
  | 114 => ⟨S128, .f32⟩
  | 115 => ⟨S1x128, .f32⟩
  | 116 => ⟨S8x128, .f32⟩
  | 117 => ⟨S1024, .f32⟩
  | 118 => ⟨S1x1024, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S8, .f32⟩
  | 127 => ⟨S_, .f32⟩
  | _ => ⟨S8x4096x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .i32⟩
  | 6 => ⟨S128, .i32⟩
  | 7 => ⟨S128, .i32⟩
  | 8 => ⟨S128, .i32⟩
  | 9 => ⟨S128x1, .i32⟩
  | 10 => ⟨S128, .f32⟩
  | 11 => ⟨S_, .f32⟩
  | 12 => ⟨S_, .f32⟩
  | 13 => ⟨S128, .f32⟩
  | 14 => ⟨S128, .f32⟩
  | 15 => ⟨S4096, .f32⟩
  | 16 => ⟨S4096x1, .f32⟩
  | 17 => ⟨S1x128, .f32⟩
  | 18 => ⟨S4096x128, .f32⟩
  | 19 => ⟨S4096x128, .f32⟩
  | 20 => ⟨S4096x128, .f32⟩
  | 21 => ⟨S4096x128, .f32⟩
  | 22 => ⟨S4096x128, .f32⟩
  | 23 => ⟨S1x128, .f32⟩
  | 24 => ⟨S4096x128, .f32⟩
  | 25 => ⟨S4096x128, .f32⟩
  | 26 => ⟨S4096x128, .f32⟩
  | 27 => ⟨S1x128, .f32⟩
  | 28 => ⟨S4096x128, .f32⟩
  | 29 => ⟨S4096x128, .f32⟩
  | 30 => ⟨S1x4096x128, .f32⟩
  | 31 => ⟨S1x4096x128, .f32⟩
  | 32 => ⟨S1x4096x128, .f32⟩
  | 33 => ⟨S3x4096x128, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .i32⟩
  | 49 => ⟨S128, .i32⟩
  | 50 => ⟨S128, .i32⟩
  | 51 => ⟨S128, .i32⟩
  | 52 => ⟨S128x1, .i32⟩
  | 53 => ⟨S128, .f32⟩
  | 54 => ⟨S_, .f32⟩
  | 55 => ⟨S_, .f32⟩
  | 56 => ⟨S128, .f32⟩
  | 57 => ⟨S128, .f32⟩
  | 58 => ⟨S4096, .f32⟩
  | 59 => ⟨S4096x1, .f32⟩
  | 60 => ⟨S1x128, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S1x128, .f32⟩
  | 67 => ⟨S4096x128, .f32⟩
  | 68 => ⟨S4096x128, .f32⟩
  | 69 => ⟨S4096x128, .f32⟩
  | 70 => ⟨S1x128, .f32⟩
  | 71 => ⟨S4096x128, .f32⟩
  | 72 => ⟨S4096x128, .f32⟩
  | 73 => ⟨S1x4096x128, .f32⟩
  | 74 => ⟨S1x4096x128, .f32⟩
  | 75 => ⟨S1x4096x128, .f32⟩
  | 76 => ⟨S3x4096x128, .f32⟩
  | 77 => ⟨S8x4096x1024, .bf16⟩
  | 78 => ⟨S8x4096x1024, .bf16⟩
  | 79 => ⟨S8x4096x1024, .bf16⟩
  | 80 => ⟨S8x4096x1024, .bf16⟩
  | 81 => ⟨S8x4096x1024, .bf16⟩
  | 82 => ⟨S8x4096x1024, .bf16⟩
  | 83 => ⟨S8x4096x4x2x128, .bf16⟩
  | 84 => ⟨S8x4096x4x1x64, .bf16⟩
  | 85 => ⟨S8x4096x4x1x64, .bf16⟩
  | 86 => ⟨S8x4096x4x2x64, .bf16⟩
  | 87 => ⟨S8x4096x8x64, .bf16⟩
  | 88 => ⟨S8x8x4096x64, .bf16⟩
  | 89 => ⟨S8x8x4096x64, .f32⟩
  | 90 => ⟨S8x4096x4x2x128, .bf16⟩
  | 91 => ⟨S8x4096x4x1x64, .bf16⟩
  | 92 => ⟨S8x4096x4x1x64, .bf16⟩
  | 93 => ⟨S8x4096x4x2x64, .bf16⟩
  | 94 => ⟨S8x4096x8x64, .bf16⟩
  | 95 => ⟨S8x8x4096x64, .bf16⟩
  | 96 => ⟨S8x8x4096x64, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3840, .bf16⟩
  | .local _ .vmem, ⟨4, _⟩ => ⟨S384x1024, .bf16⟩
  | .local _ .vmem, ⟨5, _⟩ => ⟨S256x2048, .bf16⟩
  | .local _ .vmem, ⟨6, _⟩ => ⟨S1x384, .f32⟩
  | .local _ .vmem, ⟨7, _⟩ => ⟨S1x256, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x256, .bf16⟩
  | .local _ .vmem, ⟨13, _⟩ => ⟨S128x1024, .bf16⟩
  | .local _ .vmem, ⟨14, _⟩ => ⟨S3x512x128, .f32⟩
  | .local _ .vmem, ⟨15, _⟩ => ⟨S3x512x128, .f32⟩
  | .local _ .vmem, ⟨16, _⟩ => ⟨S3x512x128, .f32⟩
  | .local _ .vmem, ⟨17, _⟩ => ⟨S3x512x128, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S16x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_c : Ref sig .tc := ⟨.hbm, 13, rfl⟩
abbrev main_c_1 : Ref sig .tc := ⟨.hbm, 14, rfl⟩
abbrev main_c_2 : Ref sig .tc := ⟨.hbm, 15, rfl⟩
abbrev main_cst_3 : Ref sig .tc := ⟨.hbm, 16, rfl⟩
abbrev main_cst_4 : Ref sig .tc := ⟨.hbm, 17, rfl⟩
abbrev main_c_5 : Ref sig .tc := ⟨.hbm, 18, rfl⟩
abbrev main_c_6 : Ref sig .tc := ⟨.hbm, 19, rfl⟩
abbrev main_c_7 : Ref sig .tc := ⟨.hbm, 20, rfl⟩
abbrev main_cst_8 : Ref sig .tc := ⟨.hbm, 21, rfl⟩
abbrev main_cst_9 : Ref sig .tc := ⟨.hbm, 22, rfl⟩
abbrev main_v0 : Ref sig .tc := ⟨.hbm, 23, rfl⟩
abbrev main_v1 : Ref sig .tc := ⟨.hbm, 24, rfl⟩
abbrev main_c_10 : Ref sig .tc := ⟨.hbm, 25, rfl⟩
abbrev main_call0_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_11 : Ref sig .tc := ⟨.hbm, 31, rfl⟩
abbrev main_call1_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_12 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_13 : Ref sig .tc := ⟨.hbm, 52, rfl⟩
abbrev main_call2_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_14 : Ref sig .tc := ⟨.hbm, 60, rfl⟩
abbrev main_call3_v0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_15 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_16 : Ref sig .tc := ⟨.hbm, 83, rfl⟩
abbrev main_call4_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_17 : Ref sig .tc := ⟨.hbm, 91, rfl⟩
abbrev main_call5_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_18 : Ref sig .tc := ⟨.hbm, 98, rfl⟩
abbrev main_call6_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_19 : Ref sig .tc := ⟨.hbm, 105, rfl⟩
abbrev main_call7_v0 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_20 : Ref sig .tc := ⟨.hbm, 112, rfl⟩
abbrev main_call8_v0 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_21 : Ref sig .tc := ⟨.hbm, 120, rfl⟩
abbrev main_v77 : Ref sig .tc := ⟨.hbm, 121, rfl⟩
abbrev main_v78 : Ref sig .tc := ⟨.hbm, 122, rfl⟩
abbrev main_cst_22 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_23 : Ref sig .tc := ⟨.hbm, 127, rfl⟩
abbrev main_v82 : Ref sig .tc := ⟨.hbm, 128, rfl⟩
abbrev main_v83 : Ref sig .tc := ⟨.hbm, 129, rfl⟩
abbrev main_cst_24 : Ref sig .tc := ⟨.hbm, 130, rfl⟩
abbrev main_v84 : Ref sig .tc := ⟨.hbm, 131, rfl⟩
abbrev main_v85 : Ref sig .tc := ⟨.hbm, 132, rfl⟩
abbrev main_c_25 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_26 : Ref sig .tc := ⟨.hbm, 139, rfl⟩
abbrev main_call9_v0 : Ref sig .tc := ⟨.hbm, 140, rfl⟩
abbrev main_call9_v1 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_27 : Ref sig .tc := ⟨.hbm, 163, rfl⟩
abbrev main_v112 : Ref sig .tc := ⟨.hbm, 164, rfl⟩
abbrev main_v113 : Ref sig .tc := ⟨.hbm, 165, rfl⟩
abbrev main_cst_28 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_29 : Ref sig .tc := ⟨.hbm, 170, rfl⟩
abbrev main_v117 : Ref sig .tc := ⟨.hbm, 171, rfl⟩
abbrev main_v118 : Ref sig .tc := ⟨.hbm, 172, rfl⟩
abbrev main_cst_30 : Ref sig .tc := ⟨.hbm, 173, rfl⟩
abbrev main_v119 : Ref sig .tc := ⟨.hbm, 174, rfl⟩
abbrev main_v120 : Ref sig .tc := ⟨.hbm, 175, rfl⟩
abbrev main_c_31 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_32 : Ref sig .tc := ⟨.hbm, 182, rfl⟩
abbrev main_call10_v0 : Ref sig .tc := ⟨.hbm, 183, rfl⟩
abbrev main_call10_v1 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146_0 : Ref sig .tc := ⟨.hbm, 205, rfl⟩
abbrev main_v146_1 : Ref sig .tc := ⟨.hbm, 206, rfl⟩
abbrev main_v146_2 : Ref sig .tc := ⟨.hbm, 207, rfl⟩
abbrev main_v146_3 : Ref sig .tc := ⟨.hbm, 208, rfl⟩
abbrev main_v146_4 : Ref sig .tc := ⟨.hbm, 209, rfl⟩
abbrev main_v146_5 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![8, 8], ![false, false]⟩

def k0_off1 (i : grid0.Coords) (c0_i32_10 : BitVec 32) : Fin 2 → Nat :=
  let arg1 : BitVec 32 := BitVec.ofNat 32 (i 1).val
  let c2_i32 : BitVec 32 := 2#32
  let v23 : BitVec 32 := Scalar.muli arg1 c2_i32
  let v24 : BitVec 32 := Scalar.addi v23 c0_i32_10
  let v918 : Index := Scalar.indexCast v24
  let c0_319 : Index := 0#32
  ![v918.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S3x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S3x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference6Ideal.lean ====
abbrev S8x4096x1024 : Shape := ⟨3, ![8, 4096, 1024]⟩
abbrev S1024 : Shape := ⟨1, ![1024]⟩
abbrev S1024x4256 : Shape := ⟨2, ![1024, 4256]⟩
abbrev S64 : Shape := ⟨1, ![64]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4256 : Shape := ⟨3, ![8, 4096, 4256]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x4096x256 : Shape := ⟨3, ![8, 4096, 256]⟩
abbrev S1x1x256 : Shape := ⟨3, ![1, 1, 256]⟩
abbrev S8x4096x8x128 : Shape := ⟨4, ![8, 4096, 8, 128]⟩
abbrev S8x8x4096x128 : Shape := ⟨4, ![8, 8, 4096, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4256, .f32⟩
  | .hbm, ⟨3, _⟩ => ⟨S64, .f32⟩
  | .hbm, ⟨4, _⟩ => ⟨S64, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S96, .f32⟩
  | .hbm, ⟨10, _⟩ => ⟨S96, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x4256, .f32⟩
  | .hbm, ⟨28, _⟩ => ⟨S8x4096x512, .f32⟩
  | .hbm, ⟨29, _⟩ => ⟨S8x4096x8x64, .f32⟩
  | .hbm, ⟨30, _⟩ => ⟨S8x8x4096x64, .f32⟩
  | .hbm, ⟨31, _⟩ => ⟨S8x4096x256, .f32⟩
  | .hbm, ⟨32, _⟩ => ⟨S8x4096x256, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x256, .f32⟩
  | .hbm, ⟨44, _⟩ => ⟨S8x4096x256, .f32⟩
  | .hbm, ⟨45, _⟩ => ⟨S1x1x256, .f32⟩
  | .hbm, ⟨46, _⟩ => ⟨S8x4096x256, .f32⟩
  | .hbm, ⟨47, _⟩ => ⟨S8x4096x256, .f32⟩
  | .hbm, ⟨48, _⟩ => ⟨S8x4096x1024, .f32⟩
  | .hbm, ⟨49, _⟩ => ⟨S8x4096x8x128, .f32⟩
  | .hbm, ⟨50, _⟩ => ⟨S8x8x4096x128, .f32⟩
  | .hbm, ⟨51, _⟩ => ⟨S8x8x4096x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Words.lean ====
/- The words of one grid point of the attention kernel, in one vocabulary: every head's payloads are the first head's,
   applied to that head's slot of 128 lanes (`tl`). -/
module

public import proofs.«01_k».proof.Proof.Gen.KernelIdeal.Frame
public import Idealize.ShloMosaic.Lib.Pointwise
public import Idealize.ShloMosaic.Lib.Pipeline.ValueKit.Tiles

@[expose] public section

noncomputable section

namespace Cert.Attn

open Cert.KernelIdeal Cert.KernelIdeal.Gen Idealize.ShloMosaic Idealize.ShloMosaic.TcCoe Idealize.ShloMosaic.Tactic

/-- The lane of the four heads' 512 that is lane `l` of head `hh`. -/
def lane (hh : Fin 4) (l : Fin 128) : Fin 512 := ⟨128 * hh.val + l.val, by omega⟩

/-- An array of `M` rows of 512 lanes at a row and a lane; 0 past the rows. -/
def atRow {M : ℕ} (X : (⟨3, ![1, M, 512]⟩ : Shape).Idx → EReal) (j : ℕ) (l : Fin 512) : EReal :=
  if h : j < M then X (Idealize.ShloMosaic.ix3 0 ⟨j, h⟩ l) else 0

/-- The tile of `n` rows from row `o` on, head `hh`'s slot of lanes. -/
def tl {M : ℕ} (n : ℕ) (X : (⟨3, ![1, M, 512]⟩ : Shape).Idx → EReal) (hh : Fin 4) (o : ℕ) : (⟨3, ![1, n, 128]⟩ : Shape).Idx → EReal :=
  fun y => atRow X (o + (y 1).val) (lane hh (y 2))

/-- A load of a tile reads it. -/
theorem ld_tl {M n : ℕ} (X : (⟨3, ![1, M, 512]⟩ : Shape).Idx → EReal) (off : Fin 3 → ℕ)
    (inb : ∀ a, off a + (![1, n, 128] : Fin 3 → ℕ) a ≤ (⟨3, ![1, M, 512]⟩ : Shape).size a) (hh : Fin 4) (o : ℕ)
    (h : off = ![0, o, 128 * hh.val]) :
    View.ld (Val := Elt Ideal) (e' := .bf16) X (Rect.unit (s := ⟨3, ![1, M, 512]⟩) off ![1, n, 128] inb) = tl n X hh o := by
  subst h
  funext y
  have h1 : (o + (y 1).val) < M := by
    have := inb 1
    have hy : (y 1).val < n := (y 1).isLt
    simp only [Matrix.cons_val_one, Matrix.cons_val_zero] at this
    omega
  unfold tl atRow
  rw [dif_pos h1]
  refine View.ld_unit_apply_of (Val := Elt Ideal) (e := .bf16) (S := ⟨3, ![1, M, 512]⟩) X _ _ inb y _ fun a => ?_
  fin_cases a
  · have hy : (y 0).val < 1 := (y 0).isLt
    show 0 = 0 + (y 0).val
    omega
  · rfl
  · rfl

/-! ## The offsets the kernel computes -/

/-- The row the diagonal tile starts at, with the lanes' offset. -/
theorem diag_off (i : grid0.Coords) (b : ℕ) :
    (![0, (Scalar.indexCast (Scalar.muli (BitVec.ofNat 32 (i 2).val) 1024#32)).toNat, b] : Fin 3 → ℕ) = ![0, 1024 * (i 2).val, b] :=
  congrArg (fun o => ![0, o, b])
    ((by decide : ∀ n : Fin 4, (Scalar.indexCast (Scalar.muli (BitVec.ofNat 32 n.val) 1024#32)).toNat = 1024 * n.val) (i 2))

/-- The loop over the tiles before the diagonal runs once for each of them. -/
theorem trips1_eq (i : grid0.Coords) : (k0_t1_loop i).trips = (i 2).val :=
  (by decide : ∀ n : Fin 4, Scf.trips 0#32 (Scalar.addi 0#32 (Scalar.muli (Scalar.divsi (Scalar.subi (BitVec.ofNat 32 n.val) 0#32) 1#32) 1#32)) 1#32 = n.val) (i 2)

/-- The remainder loop has nothing to do. -/
theorem trips2_eq (i : grid0.Coords) : (k0_t2_loop i).trips = 0 :=
  (by decide : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0) (i 2)

/-- The row a past tile starts at, as the kernel computes it. -/
theorem iv_eq (i : grid0.Coords) (k : Fin (k0_t1_loop i).trips) :
    (Scalar.indexCast (Scalar.muli (Scf.iv 0#32 1#32 k.val) 1024#32)).toNat = 1024 * k.val := by
  have hk : k.val < 4 := by
    have h1 := lt_of_lt_of_eq k.isLt (trips1_eq i)
    have h2 : (i 2).val < 4 := (i 2).isLt
    omega
  exact (by decide : ∀ n : Fin 4, (Scalar.indexCast (Scalar.muli (Scf.iv 0#32 1#32 n.val) 1024#32)).toNat = 1024 * n.val) ⟨k.val, hk⟩

theorem past_off (i : grid0.Coords) (k : Fin (k0_t1_loop i).trips) (b : ℕ) :
    (![0, (Scalar.indexCast (Scalar.muli (Scf.iv 0#32 1#32 k.val) 1024#32)).toNat, b] : Fin 3 → ℕ) = ![0, 1024 * k.val, b] := by
  rw [iv_eq]

/-! ## One trip of the loop over the past tiles -/

/-- ONE TRIP: each head's maximum and sum take the head's tile of keys and values. -/
theorem trip_eq (𝒱 : Variants) (c : Dev nD) (bd : Option 𝒱.V) (i : grid0.Coords) (a3) (h3) (a4) (h4) (a5) (h5) (a6) (h6) (a7) (h7) (a8) (h8)
    (w v239 v241 v245) (x0 : Vec Ideal S1x1024x512 .bf16) (x1 x2 : Vec Ideal S1x4096x512 .bf16) (k : Fin (k0_t1_loop i).trips) (st) :
    tripR_k0_t1 (F := Ideal) 𝒱 c bd i a3 h3 a4 h4 a5 h5 a6 h6 a7 h7 a8 h8 w v239 v241 v245 (h3.unread x0) (h4.unread x1) (h5.unread x2) k st
      = (k0_pay4 st.1 (tl 1024 x0 0 0) (tl 1024 x1 0 (1024 * k.val)),
         k0_pay5 st.1 st.2.1 (tl 1024 x0 0 0) (tl 1024 x1 0 (1024 * k.val)) (tl 1024 x2 0 (1024 * k.val)),
         k0_pay4 st.2.2.1 (tl 1024 x0 1 0) (tl 1024 x1 1 (1024 * k.val)),
         k0_pay5 st.2.2.1 st.2.2.2.1 (tl 1024 x0 1 0) (tl 1024 x1 1 (1024 * k.val)) (tl 1024 x2 1 (1024 * k.val)),
         k0_pay4 st.2.2.2.2.1 (tl 1024 x0 2 0) (tl 1024 x1 2 (1024 * k.val)),
         k0_pay5 st.2.2.2.2.1 st.2.2.2.2.2.1 (tl 1024 x0 2 0) (tl 1024 x1 2 (1024 * k.val)) (tl 1024 x2 2 (1024 * k.val)),
         k0_pay4 st.2.2.2.2.2.2.1 (tl 1024 x0 3 0) (tl 1024 x1 3 (1024 * k.val)),
         k0_pay5 st.2.2.2.2.2.2.1 st.2.2.2.2.2.2.2 (tl 1024 x0 3 0) (tl 1024 x1 3 (1024 * k.val)) (tl 1024 x2 3 (1024 * k.val))) := by
  unfold tripR_k0_t1 trip_k0_t1
  dsimp only
  sl_unfold_words
  simp only [View.readAt_eq_ld, h3.read_unread, h4.read_unread, h5.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl
]
  erw [ld_tl x1 _ _ 0 _ (past_off i k 0), ld_tl x1 _ _ 1 _ (past_off i k 128), ld_tl x1 _ _ 2 _ (past_off i k 256), ld_tl x1 _ _ 3 _ (past_off i k 384),
    ld_tl x2 _ _ 0 _ (past_off i k 0), ld_tl x2 _ _ 1 _ (past_off i k 128), ld_tl x2 _ _ 2 _ (past_off i k 256), ld_tl x2 _ _ 3 _ (past_off i k 384)]
  rfl

/-! ## The scratch: what the diagonal tile stores, read back -/

theorem piece_inb {L : ℕ} (h : Fin 4) (b : Fin 2) :
    ∀ a, (![h.val, 512 * b.val, 0] : Fin 3 → ℕ) a + (![1, 512, L] : Fin 3 → ℕ) a ≤ (⟨3, ![4, 1024, L]⟩ : Shape).size a := by
  intro a
  fin_cases a
  · show h.val + 1 ≤ 4; omega
  · show 512 * b.val + 512 ≤ 1024; omega
  · show 0 + L ≤ L; omega

/-- A store of half `b` of head `h`'s rows. -/
def piece {L : ℕ} (w : Fin 4 → Fin 2 → (⟨3, ![1, 512, L]⟩ : Shape).Idx → EReal) (h : Fin 4) (b : Fin 2) :
    View.Piece (Elt Ideal) ⟨3, ![4, 1024, L]⟩ .f32 :=
  ⟨Rect.unit (s := ⟨3, ![4, 1024, L]⟩) ![h.val, 512 * b.val, 0] ![1, 512, L] (piece_inb h b), w h b⟩

/-- The stores of the diagonal tile: both halves of the four heads' rows, last first. -/
def pieces {L : ℕ} (w : Fin 4 → Fin 2 → (⟨3, ![1, 512, L]⟩ : Shape).Idx → EReal) : List (View.Piece (Elt Ideal) ⟨3, ![4, 1024, L]⟩ .f32) :=
  [piece w 3 1, piece w 3 0, piece w 2 1, piece w 2 0, piece w 1 1, piece w 1 0, piece w 0 1, piece w 0 0]

theorem mem_pieces {L : ℕ} (w : Fin 4 → Fin 2 → (⟨3, ![1, 512, L]⟩ : Shape).Idx → EReal) (h : Fin 4) (b : Fin 2) :
    piece w h b ∈ pieces w := by
  fin_cases h <;> fin_cases b <;> simp [pieces]

theorem of_mem_pieces {L : ℕ} (w : Fin 4 → Fin 2 → (⟨3, ![1, 512, L]⟩ : Shape).Idx → EReal) (p) (hp : p ∈ pieces w) :
    ∃ h b, p = piece w h b := by
  simp only [pieces, List.mem_cons, List.not_mem_nil, or_false] at hp
  rcases hp with h | h | h | h | h | h | h | h <;> exact ⟨_, _, h⟩

/-- The half a row lies in, and its place there. -/
def half (r : Fin 1024) : Fin 2 := ⟨r.val / 512, by omega⟩
def inHalf (r : Fin 1024) : Fin 512 := ⟨r.val % 512, by omega⟩

/-- Head `hh`'s row `r` holds what its half's store put there. -/
theorem canon_pieces {L : ℕ} (w : Fin 4 → Fin 2 → (⟨3, ![1, 512, L]⟩ : Shape).Idx → EReal) (hh : Fin 4) (r : Fin 1024) (l : Fin L) :
    View.canon (pieces w) (Idealize.ShloMosaic.ix3 hh r l) = w hh (half r) (Idealize.ShloMosaic.ix3 0 (inHalf r) l) := by
  have hemb : (piece w hh (half r)).1.emb (Idealize.ShloMosaic.ix3 0 (inHalf r) l) = Idealize.ShloMosaic.ix3 hh r l := by
    funext a
    refine Fin.ext ?_
    fin_cases a
    · show hh.val + 1 * 0 = hh.val; omega
    · show 512 * (r.val / 512) + 1 * (r.val % 512) = r.val; omega
    · show 0 + 1 * l.val = l.val; omega
  refine View.canon_eq_of_allAt _ _ _ ⟨_, mem_pieces w hh (half r), ?_⟩ ?_
  · rw [← hemb]; exact (piece w hh (half r)).1.idx_mem _
  · intro p hp x hx
    obtain ⟨h, b, rfl⟩ := of_mem_pieces w p hp
    have e : ∀ a, ((piece w h b).1.emb x a).val = (Idealize.ShloMosaic.ix3 hh r l a).val := fun a => by rw [hx]
    have x0 : (x 0).val < 1 := (x 0).isLt
    have x1 : (x 1).val < 512 := (x 1).isLt
    have e0 : h.val + 1 * (x 0).val = hh.val := e 0
    have e1 : 512 * b.val + 1 * (x 1).val = r.val := e 1
    have e2 : 0 + 1 * (x 2).val = l.val := e 2
    obtain rfl : h = hh := Fin.ext (by omega)
    obtain rfl : b = half r := Fin.ext (by show b.val = r.val / 512; omega)
    show w h (half r) x = _
    congr 1
    funext a
    refine Fin.ext ?_
    fin_cases a
    · show (x 0).val = 0; omega
    · show (x 1).val = r.val % 512; omega
    · show (x 2).val = l.val; omega

/-- The maxima the diagonal tile stores. -/
def diagM (x0 : Vec Ideal S1x1024x512 .bf16) (x1 : Vec Ideal S1x4096x512 .bf16) (d : ℕ) (hh : Fin 4) : Fin 2 → (⟨3, ![1, 512, 1]⟩ : Shape).Idx → EReal
  | 0 => k0_pay29 (F := Ideal) (tl 512 x0 hh 0) (tl 512 x1 hh d)
  | 1 => k0_pay34 (F := Ideal) (k0_pay31 (F := Ideal) (tl 512 x0 hh 512)) (tl 1024 x1 hh d)

/-- The sums the diagonal tile stores. -/
def diagA (x0 : Vec Ideal S1x1024x512 .bf16) (x1 x2 : Vec Ideal S1x4096x512 .bf16) (d : ℕ) (hh : Fin 4) : Fin 2 → (⟨3, ![1, 512, 128]⟩ : Shape).Idx → EReal
  | 0 => k0_pay30 (F := Ideal) (tl 512 x0 hh 0) (tl 512 x1 hh d) (tl 512 x2 hh d)
  | 1 => k0_pay35 (F := Ideal) (k0_pay31 (F := Ideal) (tl 512 x0 hh 512)) (tl 1024 x1 hh d) (tl 1024 x2 hh d)

theorem storedM_eq (c : Dev nD) (i : grid0.Coords) (a3) (h3 : a3.IsWhole) (a4) (h4 : a4.IsWhole)
    (x0 : Vec Ideal S1x1024x512 .bf16) (x1 : Vec Ideal S1x4096x512 .bf16) :
    kernelRun0_A.sl.HS0_8 (F := Ideal) c i a3 h3 a4 h4 x0 x1 = pieces (diagM x0 x1 (1024 * (i 2).val)) := by
  sl_unfold_words
  simp only [View.readAt_eq_ld, h3.read_unread, h4.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl,
    ld_tl x0 ![0, 512, 0] _ 0 512 rfl, ld_tl x0 ![0, 512, 128] _ 1 512 rfl, ld_tl x0 ![0, 512, 256] _ 2 512 rfl, ld_tl x0 ![0, 512, 384] _ 3 512 rfl]
  erw [ld_tl (n := 512) x1 _ _ 0 _ (diag_off i 0), ld_tl (n := 512) x1 _ _ 1 _ (diag_off i 128), ld_tl (n := 512) x1 _ _ 2 _ (diag_off i 256), ld_tl (n := 512) x1 _ _ 3 _ (diag_off i 384),
    ld_tl (n := 1024) x1 _ _ 0 _ (diag_off i 0), ld_tl (n := 1024) x1 _ _ 1 _ (diag_off i 128), ld_tl (n := 1024) x1 _ _ 2 _ (diag_off i 256), ld_tl (n := 1024) x1 _ _ 3 _ (diag_off i 384)]
  rfl

theorem storedA_eq (c : Dev nD) (i : grid0.Coords) (a3) (h3 : a3.IsWhole) (a4) (h4 : a4.IsWhole) (a5) (h5 : a5.IsWhole)
    (x0 : Vec Ideal S1x1024x512 .bf16) (x1 x2 : Vec Ideal S1x4096x512 .bf16) :
    kernelRun0_A.sl.HS1_8 (F := Ideal) c i a3 h3 a4 h4 a5 h5 x0 x1 x2 = pieces (diagA x0 x1 x2 (1024 * (i 2).val)) := by
  sl_unfold_words
  simp only [View.readAt_eq_ld, h3.read_unread, h4.read_unread, h5.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl,
    ld_tl x0 ![0, 512, 0] _ 0 512 rfl, ld_tl x0 ![0, 512, 128] _ 1 512 rfl, ld_tl x0 ![0, 512, 256] _ 2 512 rfl, ld_tl x0 ![0, 512, 384] _ 3 512 rfl]
  erw [ld_tl (n := 512) x1 _ _ 0 _ (diag_off i 0), ld_tl (n := 512) x1 _ _ 1 _ (diag_off i 128), ld_tl (n := 512) x1 _ _ 2 _ (diag_off i 256), ld_tl (n := 512) x1 _ _ 3 _ (diag_off i 384),
    ld_tl (n := 1024) x1 _ _ 0 _ (diag_off i 0), ld_tl (n := 1024) x1 _ _ 1 _ (diag_off i 128), ld_tl (n := 1024) x1 _ _ 2 _ (diag_off i 256), ld_tl (n := 1024) x1 _ _ 3 _ (diag_off i 384),
    ld_tl (n := 512) x2 _ _ 0 _ (diag_off i 0), ld_tl (n := 512) x2 _ _ 1 _ (diag_off i 128), ld_tl (n := 512) x2 _ _ 2 _ (diag_off i 256), ld_tl (n := 512) x2 _ _ 3 _ (diag_off i 384),
    ld_tl (n := 1024) x2 _ _ 0 _ (diag_off i 0), ld_tl (n := 1024) x2 _ _ 1 _ (diag_off i 128), ld_tl (n := 1024) x2 _ _ 2 _ (diag_off i 256), ld_tl (n := 1024) x2 _ _ 3 _ (diag_off i 384)]
  rfl

/-! ## The whole body -/

/-- The state the loop carries: each head's maximum and sum. -/
abbrev St : Type := FVec Ideal S1024x1 .f32 × FVec Ideal S1024x128 .f32 × FVec Ideal S1024x1 .f32 × FVec Ideal S1024x128 .f32
  × FVec Ideal S1024x1 .f32 × FVec Ideal S1024x128 .f32 × FVec Ideal S1024x1 .f32 × FVec Ideal S1024x128 .f32

/-- Head `hh`'s rows of the stored words. -/
def rows {L : ℕ} (w : Fin 4 → Fin 2 → (⟨3, ![1, 512, L]⟩ : Shape).Idx → EReal) (hh : Fin 4) : Vec Ideal ⟨3, ![1, 1024, L]⟩ .f32 :=
  fun y => View.canon (pieces w) (Idealize.ShloMosaic.ix3 hh (y 1) (y 2))

/-- A head's maximum and sum, before past tile `n`: the diagonal tile's, read back, then one tile after another. -/
def headSt (x0 : Vec Ideal S1x1024x512 .bf16) (x1 x2 : Vec Ideal S1x4096x512 .bf16) (d : ℕ) (hh : Fin 4) :
    ℕ → FVec Ideal S1024x1 .f32 × FVec Ideal S1024x128 .f32
  | 0 => (k0_pay65 (F := Ideal) (rows (diagM x0 x1 d) hh),
      k0_pay66 (F := Ideal) (rows (diagA x0 x1 x2 d) hh))
  | n + 1 => (k0_pay4 (headSt x0 x1 x2 d hh n).1 (tl 1024 x0 hh 0) (tl 1024 x1 hh (1024 * n)),
      k0_pay5 (headSt x0 x1 x2 d hh n).1 (headSt x0 x1 x2 d hh n).2 (tl 1024 x0 hh 0) (tl 1024 x1 hh (1024 * n)) (tl 1024 x2 hh (1024 * n)))

/-- The four heads' states, as the loop carries them. -/
def tup (s : Fin 4 → FVec Ideal S1024x1 .f32 × FVec Ideal S1024x128 .f32) : St :=
  ((s 0).1, (s 0).2, (s 1).1, (s 1).2, (s 2).1, (s 2).2, (s 3).1, (s 3).2)

/-- The loop's carried value before trip `n` is the four heads' states. -/
theorem st_eq (𝒱 : Variants) (c : Dev nD) (bd : Option 𝒱.V) (i : grid0.Coords) (a3) (h3) (a4) (h4) (a5) (h5) (a6) (h6) (a7) (h7) (a8) (h8)
    (w v239 v241 v245) (x0 : Vec Ideal S1x1024x512 .bf16) (x1 x2 : Vec Ideal S1x4096x512 .bf16) (n : ℕ) (hn : n ≤ (k0_t1_loop i).trips)
    (init) (hi : init = tup fun hh => headSt x0 x1 x2 (1024 * (i 2).val) hh 0) :
    st_k0_t1 (F := Ideal) 𝒱 c bd i a3 h3 a4 h4 a5 h5 a6 h6 a7 h7 a8 h8 w v239 v241 v245 (h3.unread x0) (h4.unread x1) (h5.unread x2) init n
      = tup fun hh => headSt x0 x1 x2 (1024 * (i 2).val) hh n := by
  induction n with
  | zero => rw [st_k0_t1_zero, hi]
  | succ n ih =>
    rw [st_k0_t1_succ 𝒱 c bd i a3 h3 a4 h4 a5 h5 a6 h6 a7 h7 a8 h8 w v239 v241 v245 _ _ _ init ⟨n, hn⟩, trip_eq, ih (Nat.le_of_succ_le hn)]
    rfl

end Cert.Attn

end
-- ==== Proof.Softmax.lean ====
/- The mathematics of the attention call, free of any program: a softmax over a set of keys, carried tile by tile as a
   running maximum and a running weighted sum, equals the softmax taken at once. Scores are extended reals: a masked
   score is ⊥ and has weight zero. -/
module

public import Idealize.ShloMosaic.PureOps.Ideal

@[expose] public section

noncomputable section

namespace Cert.Attn

open Idealize.ShloMosaic

/-- A nonnegative finite factor goes into a sum of extended reals. -/
theorem mul_sum_of_nonneg {ι : Type} (T : Finset ι) (f : ι → EReal) (c : EReal) (h0 : 0 ≤ c) (ht : c ≠ ⊤) :
    c * ∑ j ∈ T, f j = ∑ j ∈ T, c * f j := by
  classical
  induction T using Finset.induction_on with
  | empty => simp
  | insert a T ha ih =>
    rw [Finset.sum_insert ha, Finset.sum_insert ha, EReal.left_distrib_of_nonneg_of_ne_top h0 ht, ih]

/-- The weight of a score `s` against a maximum `m`, in base two. -/
def wt (s m : EReal) : EReal := Ideal.exp2 (s - m)

theorem wt_bot (m : EReal) : wt ⊥ m = 0 := by
  simp [wt]

theorem wt_coe (s m : ℝ) : wt (s : EReal) (m : EReal) = ((Real.rpow 2 (s - m) : ℝ) : EReal) := by
  simp only [wt, ← EReal.coe_sub, Ideal.exp2_coe]

/-- A weight against a number is a nonnegative number, for a score that is not ⊤. -/
theorem wt_real (s : EReal) (m : ℝ) (hs : s ≠ ⊤) : ∃ x : ℝ, 0 ≤ x ∧ wt s (m : EReal) = (x : EReal) := by
  induction s with
  | bot => exact ⟨0, le_rfl, by simp [wt_bot]⟩
  | coe s => exact ⟨_, (Real.rpow_pos_of_pos two_pos _).le, wt_coe s m⟩
  | top => exact absurd rfl hs

/-- Changing the maximum rescales the weight. -/
theorem wt_rescale (s : EReal) (m m' : ℝ) (hs : s ≠ ⊤) :
    wt (m : EReal) (m' : EReal) * wt s (m : EReal) = wt s (m' : EReal) := by
  induction s with
  | bot => simp [wt_bot]
  | coe s =>
    rw [wt_coe, wt_coe, wt_coe, ← EReal.coe_mul]
    congr 1
    show (2 : ℝ) ^ (m - m') * (2 : ℝ) ^ (s - m) = (2 : ℝ) ^ (s - m')
    rw [← Real.rpow_add two_pos]; congr 1; ring
  | top => exact absurd rfl hs

/-- The running maximum of the scores over the keys seen. -/
def top (s : ℕ → EReal) (T : Finset ℕ) : EReal := T.sup s

/-- The running sum of the values over the keys seen, each weighted against the running maximum. -/
def acc (s : ℕ → EReal) (w : ℕ → EReal) (T : Finset ℕ) : EReal := ∑ j ∈ T, wt (s j) (top s T) * w j

/-- The running maximum is a number once a key with a finite score is seen. -/
theorem top_real (s : ℕ → EReal) (T : Finset ℕ) (hs : ∀ j, s j ≠ ⊤) (hT : ∃ j ∈ T, s j ≠ ⊥) :
    ∃ m : ℝ, top s T = (m : EReal) := by
  have h1 : top s T ≠ ⊤ := by
    have : top s T < ⊤ := (Finset.sup_lt_iff (by simp)).2 fun j _ => lt_top_iff_ne_top.2 (hs j)
    exact this.ne
  have h2 : top s T ≠ ⊥ := by
    obtain ⟨j, hj, hb⟩ := hT
    intro h
    exact hb (le_bot_iff.1 (h ▸ Finset.le_sup (f := s) hj))
  exact ⟨(top s T).toReal, (EReal.coe_toReal h1 h2).symm⟩

theorem top_union (s : ℕ → EReal) (T U : Finset ℕ) : top s (T ∪ U) = max (top s T) (top s U) :=
  Finset.sup_union

/-- ONE STEP of the running sum: rescale what is held by the change of the maximum, add the new tile. -/
theorem acc_union (s w : ℕ → EReal) (T U : Finset ℕ) (hs : ∀ j, s j ≠ ⊤) (hT : ∃ j ∈ T, s j ≠ ⊥) (hd : Disjoint T U) :
    wt (top s T) (max (top s T) (top s U)) * acc s w T + ∑ j ∈ U, wt (s j) (max (top s T) (top s U)) * w j
      = acc s w (T ∪ U) := by
  obtain ⟨m, hm⟩ := top_real s T hs hT
  obtain ⟨m', hm'⟩ := top_real s (T ∪ U) hs (by obtain ⟨j, hj, h⟩ := hT; exact ⟨j, Finset.mem_union_left _ hj, h⟩)
  rw [← top_union, acc, acc, Finset.sum_union hd, hm, hm']
  congr 1
  obtain ⟨x, hx, he⟩ := wt_real (m : EReal) m' (EReal.coe_ne_top m)
  rw [mul_sum_of_nonneg _ _ _ (by rw [he]; exact_mod_cast hx) (by rw [he]; exact EReal.coe_ne_top x)]
  exact Finset.sum_congr rfl fun j _ => by rw [← mul_assoc, wt_rescale _ _ _ (hs j)]

/-- Keys whose score is ⊥ change neither the maximum … -/
theorem top_of_subset (s : ℕ → EReal) (T U : Finset ℕ) (h : T ⊆ U) (hb : ∀ j ∈ U, j ∉ T → s j = ⊥) : top s T = top s U := by
  refine le_antisymm (Finset.sup_mono h) (Finset.sup_le fun j hj => ?_)
  by_cases hT : j ∈ T
  · exact Finset.le_sup (f := s) hT
  · rw [hb j hj hT]; exact bot_le

/-- … nor the sum. -/
theorem acc_of_subset (s w : ℕ → EReal) (T U : Finset ℕ) (h : T ⊆ U) (hb : ∀ j ∈ U, j ∉ T → s j = ⊥) : acc s w T = acc s w U := by
  rw [acc, acc, top_of_subset s T U h hb]
  exact Finset.sum_subset h fun j hj hT => by rw [hb j hj hT, wt_bot, zero_mul]

/-- The softmax-weighted sum of the values `w` over the keys `T`, each weight divided by the sum of the weights. -/
def soft (s w : ℕ → EReal) (T : Finset ℕ) : EReal :=
  ∑ j ∈ T, Ideal.div (wt (s j) (top s T)) (∑ k ∈ T, wt (s k) (top s T)) * w j

/-- The sum of the weights is a positive number. -/
theorem sum_wt_pos (s : ℕ → EReal) (T : Finset ℕ) (hs : ∀ j, s j ≠ ⊤) (hT : ∃ j ∈ T, s j ≠ ⊥) :
    ∃ L : ℝ, 0 < L ∧ ∑ k ∈ T, wt (s k) (top s T) = (L : EReal) := by
  obtain ⟨m, hm⟩ := top_real s T hs hT
  choose x hx he using fun j => wt_real (s j) m (hs j)
  refine ⟨∑ k ∈ T, x k, ?_, by rw [hm]; simp only [he]; exact (map_sum (⟨⟨Real.toEReal, rfl⟩, EReal.coe_add⟩ : ℝ →+ EReal) x T).symm⟩
  obtain ⟨j, hj, hb⟩ := hT
  refine Finset.sum_pos' (fun k _ => hx k) ⟨j, hj, ?_⟩
  have h := he j
  obtain ⟨r, hr⟩ : ∃ r : ℝ, s j = (r : EReal) := ⟨(s j).toReal, (EReal.coe_toReal (hs j) hb).symm⟩
  rw [hr, wt_coe] at h
  rw [← EReal.coe_injective h]
  exact Real.rpow_pos_of_pos two_pos _

/-- Dividing the weighted sum by the sum of the weights (the sum held in the lane of ones) is the softmax-weighted sum. -/
theorem div_acc (s w one : ℕ → EReal) (T : Finset ℕ) (hs : ∀ j, s j ≠ ⊤) (hT : ∃ j ∈ T, s j ≠ ⊥) (h1 : ∀ j ∈ T, one j = 1) :
    Ideal.div (acc s w T) (acc s one T) = soft s w T := by
  obtain ⟨L, hL, he⟩ := sum_wt_pos s T hs hT
  have h : acc s one T = (L : EReal) := by
    rw [← he, acc]; exact Finset.sum_congr rfl fun j hj => by rw [h1 j hj, mul_one]
  rw [h, soft, he, Ideal.div_coe hL.ne', mul_comm, acc, mul_sum_of_nonneg _ _ _ (by exact_mod_cast (one_div_pos.2 hL).le) (EReal.coe_ne_top _)]
  refine Finset.sum_congr rfl fun j _ => ?_
  rw [Ideal.div_coe hL.ne', ← mul_assoc, mul_comm (((1 / L : ℝ) : EReal))]

/-! ## The base: a softmax in base e of scores `log 2 · s` is the softmax in base two of the scores `s` -/

/-- The weight of base e of a score scaled by log 2 is the weight of base two. -/
theorem exp_scaled (s : EReal) (m : ℝ) (hs : s ≠ ⊤) :
    Ideal.exp ((Real.log 2 : ℝ) * s - (Real.log 2 : ℝ) * (m : EReal)) = wt s (m : EReal) := by
  have hl : 0 < Real.log 2 := Real.log_pos one_lt_two
  induction s with
  | bot => rw [EReal.coe_mul_bot_of_pos hl, wt_bot]; simp [← EReal.coe_mul]
  | coe s =>
    rw [wt_coe, ← EReal.coe_mul, ← EReal.coe_mul, ← EReal.coe_sub, Ideal.exp_coe]
    congr 1
    show _ = (2 : ℝ) ^ (s - m)
    rw [Real.rpow_def_of_pos two_pos]; congr 1; ring
  | top => exact absurd rfl hs

/-- The maximum of scaled scores is the scaled maximum. -/
theorem sup_scaled (s : ℕ → EReal) (T : Finset ℕ) :
    (T.sup fun j => ((Real.log 2 : ℝ) : EReal) * s j) = ((Real.log 2 : ℝ) : EReal) * top s T := by
  have hl : 0 < Real.log 2 := Real.log_pos one_lt_two
  have hmono : Monotone fun x : EReal => ((Real.log 2 : ℝ) : EReal) * x := fun a b h =>
    mul_le_mul_of_nonneg_left h (by exact_mod_cast hl.le)
  exact (Finset.comp_sup_eq_sup_comp_of_is_total (fun x : EReal => ((Real.log 2 : ℝ) : EReal) * x) hmono
    (EReal.coe_mul_bot_of_pos hl)).symm

/-! ## Tiles of keys -/

/-- A sum over the keys of a tile, by the key's place in it. -/
theorem sum_tile (n a : ℕ) (f : ℕ → EReal) : ∑ x : Fin n, f (a + x) = ∑ j ∈ Finset.Ico a (a + n), f j := by
  rw [Finset.sum_Ico_eq_sum_range, Nat.add_sub_cancel_left, ← Fin.sum_univ_eq_sum_range (fun x => f (a + x))]

/-- A maximum over the keys of a tile, by the key's place in it. -/
theorem sup_tile (n a : ℕ) (f : ℕ → EReal) : (Finset.univ.sup fun x : Fin n => f (a + x)) = top f (Finset.Ico a (a + n)) := by
  refine le_antisymm (Finset.sup_le fun x _ => Finset.le_sup (f := f) (Finset.mem_Ico.2 ⟨by omega, by omega⟩))
    (Finset.sup_le fun j hj => ?_)
  obtain ⟨h1, h2⟩ := Finset.mem_Ico.1 hj
  have := Finset.le_sup (f := fun x : Fin n => f (a + x)) (Finset.mem_univ (⟨j - a, by omega⟩ : Fin n))
  simpa [Nat.add_sub_cancel' h1] using this

/-- The word of −∞ is ⊥, so a fold of maxima from it is the supremum. -/
theorem fold_max_eq_sup {ι : Type} [Fintype ι] (f : ι → EReal) :
    Finset.fold max (⊥ : EReal) f Finset.univ = Finset.univ.sup f := rfl

end Cert.Attn

end
-- ==== Proof.Point.lean ====
/- The payloads of the attention kernel, at a row and a lane. -/
module

public import proofs.«01_k».proof.Proof.Words
public import proofs.«01_k».proof.Proof.Softmax

@[expose] public section

noncomputable section

namespace Cert.Attn

open Cert.KernelIdeal Cert.KernelIdeal.Gen Idealize.ShloMosaic Idealize.ShloMosaic.TcCoe Idealize.ShloMosaic.Tactic

/-- The word a maximum starts from is −∞. -/
theorem low_bot : Ideal.ofBits .f32 4286578688#32 = ⊥ := by
  simp [Ideal.ofBits, Ideal.ieee]

/-- The mask's named constant is −∞. -/
theorem mask_bot : (Named.named κ "mask" 4048155338#32 : Ideal .f32) = ⊥ :=
  IdealRules.named_const.ideal_named_scalar _ _ _ _ rfl

/-- The mask keeps a column up to the row, shifted by `o`. -/
theorem sel_le (x r o : ℕ) (hx : x < 2048) (hr : r < 2048) (ho : o < 2048) (a b : EReal) :
    Scalar.select (IntOp.cmpi .sle (BitVec.ofNat 32 x) (IntOp.addi (BitVec.ofNat 32 r) (BitVec.ofNat 32 o))) a b = if x ≤ r + o then a else b := by
  have e : IntOp.addi (BitVec.ofNat 32 r) (BitVec.ofNat 32 o) = BitVec.ofNat 32 (r + o) := by
    simp [IntOp.addi, BitVec.ofNat_add]
  rw [e, WordCmp.cmpi_sle_ofNat (by norm_num; omega) (by norm_num; omega)]
  by_cases h : x ≤ r + o <;> simp [h, Scalar.select]

/-- A dot product of two rows. -/
def dot {n m : ℕ} (q : (⟨3, ![1, n, 128]⟩ : Shape).Idx → EReal) (k : (⟨3, ![1, m, 128]⟩ : Shape).Idx → EReal) (r : Fin n) (x : Fin m) : EReal :=
  ∑ l : Fin 128, q (Idealize.ShloMosaic.ix3 0 r l) * k (Idealize.ShloMosaic.ix3 0 x l)

theorem pay4_at (m : FVec Ideal S1024x1 .f32) (q k : Vec Ideal S1x1024x128 .bf16) (r : Fin 1024) :
    k0_pay4 m q k (Idealize.ShloMosaic.ix2 r 0) = max (m (Idealize.ShloMosaic.ix2 r 0)) (Finset.univ.sup fun x : Fin 1024 => dot q k r x) := by
  unfold_payloads
  pointwise [dot_S1024x128_S1024x128_S1024x1024_1_1_0_0_n_n]
  rw [low_bot, fold_max_eq_sup]
  rfl

theorem pay5_at (m : FVec Ideal S1024x1 .f32) (a : FVec Ideal S1024x128 .f32) (q k v : Vec Ideal S1x1024x128 .bf16) (r : Fin 1024) (l : Fin 128) :
    k0_pay5 m a q k v (Idealize.ShloMosaic.ix2 r l)
      = wt (m (Idealize.ShloMosaic.ix2 r 0)) (max (m (Idealize.ShloMosaic.ix2 r 0)) (Finset.univ.sup fun x : Fin 1024 => dot q k r x)) * a (Idealize.ShloMosaic.ix2 r l)
        + ∑ x : Fin 1024, wt (dot q k r x) (max (m (Idealize.ShloMosaic.ix2 r 0)) (Finset.univ.sup fun x : Fin 1024 => dot q k r x)) * v (Idealize.ShloMosaic.ix3 0 x l) := by
  unfold_payloads
  pointwise [dot_S1024x128_S1024x128_S1024x1024_1_1_0_0_n_n, dot_S1024x1024_S1024x128_S1024x128_1_0_0_1_n_n]
  rw [low_bot, fold_max_eq_sup]
  rfl

theorem pay29_at (q k : Vec Ideal S1x512x128 .bf16) (r : Fin 512) :
    k0_pay29 q k (Idealize.ShloMosaic.ix3 0 r 0) = Finset.univ.sup fun x : Fin 512 => if x.val ≤ r.val then dot q k r x else ⊥ := by
  unfold_payloads
  pointwise [dot_S512x128_S512x128_S512x512_1_1_0_0_n_n]
  rw [low_bot, fold_max_eq_sup]
  simp only [mask_bot]
  exact congrArg _ (funext fun x => sel_le x r 0 (by omega) (by omega) (by omega) _ _)

theorem pay30_at (q k v : Vec Ideal S1x512x128 .bf16) (r : Fin 512) (l : Fin 128) :
    k0_pay30 q k v (Idealize.ShloMosaic.ix3 0 r l)
      = ∑ x : Fin 512, wt (if x.val ≤ r.val then dot q k r x else ⊥) (Finset.univ.sup fun x : Fin 512 => if x.val ≤ r.val then dot q k r x else ⊥)
          * v (Idealize.ShloMosaic.ix3 0 x l) := by
  unfold_payloads
  pointwise [dot_S512x128_S512x128_S512x512_1_1_0_0_n_n, dot_S512x512_S512x128_S512x128_1_0_0_1_n_n]
  rw [low_bot, fold_max_eq_sup]
  simp only [mask_bot]
  have e : ∀ x : Fin 512, Scalar.select (IntOp.cmpi .sle (BitVec.ofNat 32 x.val) (IntOp.addi (BitVec.ofNat 32 r.val) 0#32)) (dot q k r x) ⊥
      = if x.val ≤ r.val then dot q k r x else ⊥ := fun x => sel_le x r 0 (by omega) (by omega) (by omega) (dot q k r x) ⊥
  simp only [← e]
  rfl

theorem pay34_at (q : Vec Ideal S1x512x128 .bf16) (k : Vec Ideal S1x1024x128 .bf16) (r : Fin 512) :
    k0_pay34 (k0_pay31 q) k (Idealize.ShloMosaic.ix3 0 r 0) = Finset.univ.sup fun x : Fin 1024 => if x.val ≤ r.val + 512 then dot q k r x else ⊥ := by
  unfold_payloads
  pointwise [dot_S512x128_S1024x128_S512x1024_1_1_0_0_n_n]
  rw [low_bot, fold_max_eq_sup]
  simp only [mask_bot]
  exact congrArg _ (funext fun x => sel_le x r 512 (by omega) (by omega) (by omega) _ _)

theorem pay35_at (q : Vec Ideal S1x512x128 .bf16) (k v : Vec Ideal S1x1024x128 .bf16) (r : Fin 512) (l : Fin 128) :
    k0_pay35 (k0_pay31 q) k v (Idealize.ShloMosaic.ix3 0 r l)
      = ∑ x : Fin 1024, wt (if x.val ≤ r.val + 512 then dot q k r x else ⊥) (Finset.univ.sup fun x : Fin 1024 => if x.val ≤ r.val + 512 then dot q k r x else ⊥)
          * v (Idealize.ShloMosaic.ix3 0 x l) := by
  unfold_payloads
  pointwise [dot_S512x128_S1024x128_S512x1024_1_1_0_0_n_n, dot_S512x1024_S1024x128_S512x128_1_0_0_1_n_n]
  rw [low_bot, fold_max_eq_sup]
  simp only [mask_bot]
  have e := fun x : Fin 1024 => sel_le x r 512 (by omega) (by omega) (by omega) (dot q k r x) ⊥
  simp only [← e]
  rfl

theorem pay65_at (q : Vec Ideal S1x1024x1 .f32) (r : Fin 1024) :
    k0_pay65 q (Idealize.ShloMosaic.ix2 r 0) = q (Idealize.ShloMosaic.ix3 0 r 0) := by
  unfold_payloads
  pointwise
  rw [low_bot, fold_max_eq_sup]
  refine le_antisymm (Finset.sup_le fun _ _ => le_rfl) (Finset.le_sup (f := fun _ : Fin 128 => q (Idealize.ShloMosaic.ix3 0 r 0)) (Finset.mem_univ 0))

theorem pay66_at (q : Vec Ideal S1x1024x128 .f32) (r : Fin 1024) (l : Fin 128) :
    k0_pay66 q (Idealize.ShloMosaic.ix2 r l) = q (Idealize.ShloMosaic.ix3 0 r l) := by
  unfold_payloads
  pointwise

theorem pay80_at (q : FVec Ideal S1024x128 .f32) (r : Fin 1024) (l : Fin 128) :
    k0_pay80 q (Idealize.ShloMosaic.ix2 r l) = Ideal.div (q (Idealize.ShloMosaic.ix2 r l)) (q (Idealize.ShloMosaic.ix2 r 64)) := by
  unfold_payloads
  pointwise

theorem pay81_at (q : FVec Ideal S1024x128 .f32) (r : Fin 1024) (l : Fin 128) :
    k0_pay81 q (Idealize.ShloMosaic.ix2 r l) = Ideal.div (q (Idealize.ShloMosaic.ix2 r l)) (q (Idealize.ShloMosaic.ix2 r 0)) := by
  unfold_payloads
  pointwise

theorem pay82_at (q : FVec Ideal S1024x128 .f32) (r : Fin 1024) (l : Fin 128) :
    k0_pay82 q (Idealize.ShloMosaic.ix2 r l) = Ideal.div (q (Idealize.ShloMosaic.ix2 r l)) (q (Idealize.ShloMosaic.ix2 r 64)) := by
  unfold_payloads
  pointwise

/-- The first pair of heads, each in its half of the lanes. -/
theorem pay1_at (a b : FVec Ideal S1024x128 .f32) (r : Fin 1024) (l : Fin 128) :
    k0_pay1 a b (Idealize.ShloMosaic.ix3 0 r l) = if l.val < 64 then a (Idealize.ShloMosaic.ix2 r l) else b (Idealize.ShloMosaic.ix2 r l) := by
  unfold_payloads
  pointwise
  rw [WordCmp.cmpi_slt_ofNat (by norm_num; omega) (by norm_num)]
  by_cases h : l.val < 64 <;> simp [h, Scalar.select]

/-- The second pair of heads: the odd head's divisor is broadcast before the division. -/
theorem pay2_at (a b : FVec Ideal S1024x128 .f32) (r : Fin 1024) (l : Fin 128) :
    k0_pay2 b a (k0_pay83 b) (Idealize.ShloMosaic.ix3 0 r l)
      = if l.val < 64 then a (Idealize.ShloMosaic.ix2 r l) else Ideal.div (b (Idealize.ShloMosaic.ix2 r l)) (b (Idealize.ShloMosaic.ix2 r 0)) := by
  unfold_payloads
  pointwise
  rw [WordCmp.cmpi_slt_ofNat (by norm_num; omega) (by norm_num)]
  by_cases h : l.val < 64 <;> simp [h, Scalar.select]

end Cert.Attn

end
-- ==== Proof.Out.lean ====
/- What one grid point of the attention kernel writes, in the vocabulary of Words.lean. -/
module

public import proofs.«01_k».proof.Proof.Words

@[expose] public section

noncomputable section

namespace Cert.Attn

open Cert.KernelIdeal Cert.KernelIdeal.Gen Idealize.ShloMosaic Idealize.ShloMosaic.TcCoe Idealize.ShloMosaic.Tactic

/-- Head `hh`'s rows of the stored maxima (or sums), loaded. -/
theorem load_head {L : ℕ} (v : View sig .tc .vmem ⟨3, ![4, 1024, L]⟩ .f32) (w : Fin 4 → Fin 2 → (⟨3, ![1, 512, L]⟩ : Shape).Idx → EReal)
    (hh : Fin 4) (off : Fin 3 → ℕ) (h : off = ![hh.val, 0, 0])
    (inb : ∀ a, off a + (![1, 1024, L] : Fin 3 → ℕ) a ≤ (⟨3, ![4, 1024, L]⟩ : Shape).size a) :
    v.readCov (pieces w) (Rect.unit (s := ⟨3, ![4, 1024, L]⟩) off ![1, 1024, L] inb).toLoadRect
      = rows w hh := by
  subst h
  rw [View.readCov_eq_canon']
  funext y
  congr 1
  funext a
  refine Fin.ext ?_
  have y0 : (y 0).val < 1 := (y 0).isLt
  fin_cases a
  · show hh.val + 1 * (y 0).val = hh.val; omega
  · show 0 + 1 * (y 1).val = (y 1).val; omega
  · show 0 + 1 * (y 2).val = (y 2).val; omega

/-! The four heads read their maxima and sums back by the same operations. -/
theorem max68 (v : Vec Ideal S1x1024x1 .f32) : k0_pay68 (k0_pay67 v) = k0_pay65 v := rfl
theorem max70 (v : Vec Ideal S1x1024x1 .f32) : k0_pay70 v = k0_pay65 v := rfl
theorem max72 (v : Vec Ideal S1x1024x1 .f32) : k0_pay72 v = k0_pay65 v := rfl
theorem sum69 (v : Vec Ideal S1x1024x128 .f32) : k0_pay69 v = k0_pay66 v := rfl
theorem sum71 (v : Vec Ideal S1x1024x128 .f32) : k0_pay71 v = k0_pay66 v := rfl
theorem sum73 (v : Vec Ideal S1x1024x128 .f32) : k0_pay73 v = k0_pay66 v := rfl

/-- THE BLOCK a grid point writes: two pairs of heads, each head's sum divided by its lane of ones. -/
theorem out_eq (c : Dev nD) (i : grid0.Coords) (a3) (h3 : a3.IsWhole) (a4) (h4 : a4.IsWhole) (a5) (h5 : a5.IsWhole)
    (a6) (h6 : a6.IsWhole) (a7) (h7 : a7.IsWhole) (a8) (h8 : a8.IsWhole)
    (x0 : Vec Ideal S1x1024x512 .bf16) (x1 x2 : Vec Ideal S1x4096x512 .bf16) :
    out0_A_3 (F := Ideal) c i a3 h3 a4 h4 a5 h5 a6 h6 a7 h7 a8 h8 x0 x1 x2
      = View.canon [⟨Rect.unit (s := S1x1024x256) ![0, 0, 128] S1x1024x128.size inb_S1x1024x256_S1x1024x128_0_0_128,
            k0_pay2 (headSt x0 x1 x2 (1024 * (i 2).val) 3 (i 2).val).2 (k0_pay82 (headSt x0 x1 x2 (1024 * (i 2).val) 2 (i 2).val).2)
              (k0_pay83 (headSt x0 x1 x2 (1024 * (i 2).val) 3 (i 2).val).2)⟩,
          ⟨Rect.unit (s := S1x1024x256) ![0, 0, 0] S1x1024x128.size inb_S1x1024x256_S1x1024x128_0_0_0,
            k0_pay1 (k0_pay80 (headSt x0 x1 x2 (1024 * (i 2).val) 0 (i 2).val).2) (k0_pay81 (headSt x0 x1 x2 (1024 * (i 2).val) 1 (i 2).val).2)⟩] := by
  have hinit : (kernelRun0_A.sl.r_7 (F := Ideal) c i a3 h3 a4 h4 a7 x0 x1,
      kernelRun0_A.sl.r_8 (F := Ideal) c i a3 h3 a4 h4 a5 h5 a8 x0 x1 x2,
      k0_pay68 (kernelRun0_A.sl.r_9 (F := Ideal) c i a3 h3 a4 h4 a7 x0 x1),
      k0_pay69 (kernelRun0_A.sl.v248 (F := Ideal) c i a3 h3 a4 h4 a5 h5 a8 x0 x1 x2),
      k0_pay70 (kernelRun0_A.sl.v250 (F := Ideal) c i a3 h3 a4 h4 a7 x0 x1),
      k0_pay71 (kernelRun0_A.sl.v256 (F := Ideal) c i a3 h3 a4 h4 a5 h5 a8 x0 x1 x2),
      k0_pay72 (kernelRun0_A.sl.v258 (F := Ideal) c i a3 h3 a4 h4 a7 x0 x1),
      k0_pay73 (kernelRun0_A.sl.v264 (F := Ideal) c i a3 h3 a4 h4 a5 h5 a8 x0 x1 x2))
      = tup fun hh => headSt x0 x1 x2 (1024 * (i 2).val) hh 0 := by
    have ev234 : kernelRun0_A.sl.v234 (F := Ideal) c i a3 h3 a4 h4 a7 x0 x1 = rows (diagM x0 x1 (1024 * (i 2).val)) 0 := by
      unfold kernelRun0_A.sl.v234; rw [storedM_eq]; exact load_head (L := 1) a7.view _ 0 _ rfl _
    have ev242 : kernelRun0_A.sl.v242 (F := Ideal) c i a3 h3 a4 h4 a7 x0 x1 = rows (diagM x0 x1 (1024 * (i 2).val)) 1 := by
      unfold kernelRun0_A.sl.v242; rw [storedM_eq]; exact load_head (L := 1) a7.view _ 1 _ rfl _
    have ev250 : kernelRun0_A.sl.v250 (F := Ideal) c i a3 h3 a4 h4 a7 x0 x1 = rows (diagM x0 x1 (1024 * (i 2).val)) 2 := by
      unfold kernelRun0_A.sl.v250; rw [storedM_eq]; exact load_head (L := 1) a7.view _ 2 _ rfl _
    have ev258 : kernelRun0_A.sl.v258 (F := Ideal) c i a3 h3 a4 h4 a7 x0 x1 = rows (diagM x0 x1 (1024 * (i 2).val)) 3 := by
      unfold kernelRun0_A.sl.v258; rw [storedM_eq]; exact load_head (L := 1) a7.view _ 3 _ rfl _
    have ev240 : kernelRun0_A.sl.v240 (F := Ideal) c i a3 h3 a4 h4 a5 h5 a8 x0 x1 x2 = rows (diagA x0 x1 x2 (1024 * (i 2).val)) 0 := by
      unfold kernelRun0_A.sl.v240; rw [storedA_eq]; exact load_head (L := 128) a8.view _ 0 _ rfl _
    have ev248 : kernelRun0_A.sl.v248 (F := Ideal) c i a3 h3 a4 h4 a5 h5 a8 x0 x1 x2 = rows (diagA x0 x1 x2 (1024 * (i 2).val)) 1 := by
      unfold kernelRun0_A.sl.v248; rw [storedA_eq]; exact load_head (L := 128) a8.view _ 1 _ rfl _
    have ev256 : kernelRun0_A.sl.v256 (F := Ideal) c i a3 h3 a4 h4 a5 h5 a8 x0 x1 x2 = rows (diagA x0 x1 x2 (1024 * (i 2).val)) 2 := by
      unfold kernelRun0_A.sl.v256; rw [storedA_eq]; exact load_head (L := 128) a8.view _ 2 _ rfl _
    have ev264 : kernelRun0_A.sl.v264 (F := Ideal) c i a3 h3 a4 h4 a5 h5 a8 x0 x1 x2 = rows (diagA x0 x1 x2 (1024 * (i 2).val)) 3 := by
      unfold kernelRun0_A.sl.v264; rw [storedA_eq]; exact load_head (L := 128) a8.view _ 3 _ rfl _
    unfold kernelRun0_A.sl.r_7 kernelRun0_A.sl.r_8 kernelRun0_A.sl.r_9
    rw [ev234, ev242, ev250, ev258, ev240, ev248, ev256, ev264]
    refine Prod.ext ?_ (Prod.ext ?_ (Prod.ext ?_ (Prod.ext ?_ (Prod.ext ?_ (Prod.ext ?_ (Prod.ext ?_ ?_))))))
    · simp only [tup, headSt]
    · simp only [tup, headSt]
    · simp only [tup, headSt]; exact max68 _
    · simp only [tup, headSt]; exact sum69 _
    · simp only [tup, headSt]; exact max70 _
    · simp only [tup, headSt]; exact sum71 _
    · simp only [tup, headSt]; exact max72 _
    · simp only [tup, headSt]; exact sum73 _
  have ht2 : Scf.trips (k0_t2_loop i).lb (k0_t2_loop i).ub (k0_t2_loop i).st = 0 := trips2_eq i
  have ht1 : Scf.trips (k0_t1_loop i).lb (k0_t1_loop i).ub (k0_t1_loop i).st = (i 2).val := trips1_eq i
  unfold out0_A_3
  rw [View.read_writes_eq_canon _ _ _ (fun y => cover0_A_3 (y := y) ..)]
  unfold kernelRun0_A
  dsimp only
  unfold kernelRun0_A.sl.r_10 kernelRun0_A.sl.r_11 kernelRun0_A.sl.r_12 kernelRun0_A.sl.r_13 kernelRun0_A.sl.r_14
  rw [hinit]
  simp only [ht2, ht1, st_k0_t2_zero]
  simp only [st_eq Variants.none c none i a3 h3 a4 h4 a5 h5 a6 h6 a7 h7 a8 h8 _ _ _ _ x0 x1 x2 (i 2).val (le_of_eq (trips1_eq i).symm) _ rfl]
  rfl

end Cert.Attn

end
-- ==== Proof.Online.lean ====
/- The kernel's running maximum and running sum are the softmax of a row's scores, one tile after another. -/
module

public import proofs.«01_k».proof.Proof.Point
public import proofs.«01_k».proof.Proof.Out

@[expose] public section

noncomputable section

namespace Cert.Attn

open Cert.KernelIdeal Cert.KernelIdeal.Gen Idealize.ShloMosaic Idealize.ShloMosaic.TcCoe Idealize.ShloMosaic.Tactic

/-- Row `r` of head `hh`'s queries against key `j`. -/
def raw (x0 : Vec Ideal S1x1024x512 .bf16) (x1 : Vec Ideal S1x4096x512 .bf16) (hh : Fin 4) (r j : ℕ) : EReal :=
  ∑ l : Fin 128, atRow x0 r (lane hh l) * atRow x1 j (lane hh l)

/-- The score of key `j` for row `r` of the block starting at `d`: keys after the row are masked. -/
def score (x0 : Vec Ideal S1x1024x512 .bf16) (x1 : Vec Ideal S1x4096x512 .bf16) (d : ℕ) (hh : Fin 4) (r j : ℕ) : EReal :=
  if j ≤ d + r then raw x0 x1 hh r j else ⊥

/-- Lane `l` of head `hh`'s value of key `j`. -/
def vals (x2 : Vec Ideal S1x4096x512 .bf16) (hh : Fin 4) (l : Fin 128) (j : ℕ) : EReal := atRow x2 j (lane hh l)

section
variable (x0 : Vec Ideal S1x1024x512 .bf16) (x1 x2 : Vec Ideal S1x4096x512 .bf16) (d : ℕ) (hh : Fin 4)

theorem score_masked (r j : ℕ) (h : d + r < j) : score x0 x1 d hh r j = ⊥ := if_neg (by omega)

theorem score_ne_top (ht : ∀ r j, raw x0 x1 hh r j ≠ ⊤) (r j : ℕ) : score x0 x1 d hh r j ≠ ⊤ := by
  unfold score
  split
  · exact ht r j
  · exact bot_ne_top

/-- A row's own key is not masked. -/
theorem score_own (ho : ∀ r < 1024, raw x0 x1 hh r (d + r) ≠ ⊥) (r : Fin 1024) : score x0 x1 d hh r (d + r) ≠ ⊥ := by
  unfold score
  rw [if_pos le_rfl]
  exact ho r r.isLt

/-- A tile's dot products are the scores before the mask. -/
theorem dot_tl (n m o a : ℕ) (r : Fin n) (x : Fin m) : dot (tl n x0 hh o) (tl m x1 hh a) r x = raw x0 x1 hh (o + r) (a + x) := rfl

/-- The diagonal tile's first half: the columns up to the row. -/
theorem diag_lo (r : Fin 512) (x : Fin 512) :
    (if x.val ≤ r.val then dot (tl 512 x0 hh 0) (tl 512 x1 hh d) r x else ⊥) = score x0 x1 d hh r (d + x) := by
  rw [dot_tl, Nat.zero_add, score]
  by_cases h : x.val ≤ r.val
  · rw [if_pos h, if_pos (by omega)]
  · rw [if_neg h, if_neg (by omega)]

/-- The diagonal tile's second half. -/
theorem diag_hi (r : Fin 512) (x : Fin 1024) :
    (if x.val ≤ r.val + 512 then dot (tl 512 x0 hh 512) (tl 1024 x1 hh d) r x else ⊥) = score x0 x1 d hh (512 + r) (d + x) := by
  rw [dot_tl, score]
  by_cases h : x.val ≤ r.val + 512
  · rw [if_pos h, if_pos (by omega)]
  · rw [if_neg h, if_neg (by omega)]

/-- The maxima the diagonal tile leaves. -/
theorem rowsM_at (r : Fin 1024) :
    rows (diagM x0 x1 d) hh (Idealize.ShloMosaic.ix3 0 r 0) = top (score x0 x1 d hh r) (Finset.Ico d (d + 1024)) := by
  refine (canon_pieces (L := 1) (diagM x0 x1 d) hh r 0).trans ?_
  by_cases h : r.val < 512
  · have hb : half r = 0 := Fin.ext (by show r.val / 512 = 0; omega)
    have hr : (inHalf r).val = r.val := by show r.val % 512 = r.val; omega
    rw [hb]
    refine (pay29_at _ _ _).trans ?_
    simp only [diag_lo]
    simp only [hr]
    rw [sup_tile]
    exact top_of_subset _ _ _ (Finset.Ico_subset_Ico_right (by omega)) fun j hj hn => score_masked _ _ _ _ _ _ (by
      simp only [Finset.mem_Ico] at hj hn; omega)
  · have hb : half r = 1 := Fin.ext (by show r.val / 512 = 1; omega)
    have hr : 512 + (inHalf r).val = r.val := by show 512 + r.val % 512 = r.val; omega
    rw [hb]
    refine (pay34_at _ _ _).trans ?_
    simp only [diag_hi]
    simp only [hr]
    exact sup_tile _ _ _

/-- The sums the diagonal tile leaves. -/
theorem rowsA_at (r : Fin 1024) (l : Fin 128) :
    rows (diagA x0 x1 x2 d) hh (Idealize.ShloMosaic.ix3 0 r l) = acc (score x0 x1 d hh r) (vals x2 hh l) (Finset.Ico d (d + 1024)) := by
  refine (canon_pieces (L := 128) (diagA x0 x1 x2 d) hh r l).trans ?_
  by_cases h : r.val < 512
  · have hb : half r = 0 := Fin.ext (by show r.val / 512 = 0; omega)
    have hr : (inHalf r).val = r.val := by show r.val % 512 = r.val; omega
    rw [hb]
    refine (pay30_at _ _ _ _ _).trans ?_
    simp only [diag_lo]
    simp only [hr]
    rw [sup_tile]
    rw [← acc_of_subset _ _ (Finset.Ico d (d + 512)) _ (Finset.Ico_subset_Ico_right (by omega)) fun j hj hn => score_masked _ _ _ _ _ _ (by
      simp only [Finset.mem_Ico] at hj hn; omega)]
    exact sum_tile 512 d fun j => wt (score x0 x1 d hh r j) (top (score x0 x1 d hh r) (Finset.Ico d (d + 512))) * vals x2 hh l j
  · have hb : half r = 1 := Fin.ext (by show r.val / 512 = 1; omega)
    have hr : 512 + (inHalf r).val = r.val := by show 512 + r.val % 512 = r.val; omega
    rw [hb]
    refine (pay35_at _ _ _ _ _).trans ?_
    simp only [diag_hi]
    simp only [hr]
    rw [sup_tile]
    exact sum_tile 1024 d fun j => wt (score x0 x1 d hh r j) (top (score x0 x1 d hh r) (Finset.Ico d (d + 1024))) * vals x2 hh l j

/-- The keys seen before past tile `n`: the diagonal tile's, and those of the tiles before. -/
def seen (d n : ℕ) : Finset ℕ := Finset.Ico d (d + 1024) ∪ Finset.range (1024 * n)

theorem seen_succ (n : ℕ) : seen d (n + 1) = seen d n ∪ Finset.Ico (1024 * n) (1024 * n + 1024) := by
  ext j
  simp only [seen, Finset.mem_union, Finset.mem_Ico, Finset.mem_range]
  omega

/-- THE INVARIANT: before past tile `n`, a head's state is the maximum and the weighted sum over the keys seen. -/
theorem headSt_at (ht : ∀ r j, raw x0 x1 hh r j ≠ ⊤) (ho : ∀ r < 1024, raw x0 x1 hh r (d + r) ≠ ⊥) (n : ℕ) (hn : 1024 * n ≤ d) (r : Fin 1024) :
    (headSt x0 x1 x2 d hh n).1 (Idealize.ShloMosaic.ix2 r 0) = top (score x0 x1 d hh r) (seen d n)
      ∧ ∀ l, (headSt x0 x1 x2 d hh n).2 (Idealize.ShloMosaic.ix2 r l) = acc (score x0 x1 d hh r) (vals x2 hh l) (seen d n) := by
  induction n with
  | zero =>
    have e : seen d 0 = Finset.Ico d (d + 1024) := by simp [seen]
    rw [e]
    rw [headSt]
    refine ⟨?_, fun l => ?_⟩
    · dsimp only
      rw [pay65_at]
      exact rowsM_at x0 x1 d hh r
    · dsimp only
      rw [pay66_at]
      exact rowsA_at x0 x1 x2 d hh r l
  | succ n ih =>
    obtain ⟨hm, ha⟩ := ih (by omega)
    have hd : Disjoint (seen d n) (Finset.Ico (1024 * n) (1024 * n + 1024)) := by
      rw [Finset.disjoint_left]
      intro j
      simp only [seen, Finset.mem_union, Finset.mem_Ico, Finset.mem_range]
      omega
    have hs : ∀ x : Fin 1024, dot (tl 1024 x0 hh 0) (tl 1024 x1 hh (1024 * n)) r x = score x0 x1 d hh r (1024 * n + x) := fun x => by
      rw [dot_tl, Nat.zero_add, score, if_pos (by omega)]
    have hu : (Finset.univ.sup fun x : Fin 1024 => dot (tl 1024 x0 hh 0) (tl 1024 x1 hh (1024 * n)) r x)
        = top (score x0 x1 d hh r) (Finset.Ico (1024 * n) (1024 * n + 1024)) := by
      simp only [hs]; exact sup_tile _ _ _
    rw [seen_succ]
    refine ⟨?_, fun l => ?_⟩
    · refine (pay4_at _ _ _ r).trans ?_
      rw [hm, hu, top_union]
    · refine (pay5_at _ _ _ _ _ r l).trans ?_
      rw [hm, ha, hu]
      simp only [hs]
      rw [← acc_union _ _ _ _ (score_ne_top x0 x1 d hh ht r) ⟨d + r, by simp [seen], score_own x0 x1 d hh ho r⟩ hd]
      congr 1
      exact sum_tile 1024 (1024 * n) fun j => wt (score x0 x1 d hh r j) (max (top (score x0 x1 d hh r) (seen d n)) (top (score x0 x1 d hh r) (Finset.Ico (1024 * n) (1024 * n + 1024)))) * vals x2 hh l j

/-- After the last past tile, the sum divided by its lane of ones is the softmax over every key. -/
theorem head_soft (ht : ∀ r j, raw x0 x1 hh r j ≠ ⊤) (ho : ∀ r < 1024, raw x0 x1 hh r (d + r) ≠ ⊥) (n : ℕ) (hn : d = 1024 * n) (h4 : n < 4) (o : Fin 128)
    (h1 : ∀ j < 4096, vals x2 hh o j = 1) (r : Fin 1024) (l : Fin 128) :
    Ideal.div ((headSt x0 x1 x2 d hh n).2 (Idealize.ShloMosaic.ix2 r l)) ((headSt x0 x1 x2 d hh n).2 (Idealize.ShloMosaic.ix2 r o))
      = soft (score x0 x1 d hh r) (vals x2 hh l) (Finset.range 4096) := by
  have ha := (headSt_at x0 x1 x2 d hh ht ho n (by omega) r).2
  have hsub : seen d n ⊆ Finset.range 4096 := fun j => by
    simp only [seen, Finset.mem_union, Finset.mem_Ico, Finset.mem_range]; omega
  have hb : ∀ j ∈ Finset.range 4096, j ∉ seen d n → score x0 x1 d hh r j = ⊥ := fun j hj hn' => score_masked _ _ _ _ _ _ (by
    simp only [seen, Finset.mem_union, Finset.mem_Ico, Finset.mem_range] at hj hn'; omega)
  rw [ha, ha, acc_of_subset _ _ _ _ hsub hb, acc_of_subset _ _ _ _ hsub hb]
  exact div_acc _ _ _ _ (score_ne_top x0 x1 d hh ht r) ⟨d + r, by simp; omega, score_own x0 x1 d hh ho r⟩
    fun j hj => h1 j (Finset.mem_range.1 hj)

end

/-- The head a lane of the output block belongs to, and the lane of that head's slot it is. -/
def headOf (cc : Fin 256) : Fin 4 := ⟨cc.val / 64, by omega⟩
def slotLane (cc : Fin 256) : Fin 128 := ⟨cc.val % 128, by omega⟩
/-- The lane of ones of a head's slot. -/
def oneLane (hh : Fin 4) : Fin 128 := ⟨if hh.val % 2 = 0 then 64 else 0, by split <;> omega⟩

/-- A block of two pairs of heads, each head's sum divided by its lane of ones. -/
def pairsBlock (x0 : Vec Ideal S1x1024x512 .bf16) (x1 x2 : Vec Ideal S1x4096x512 .bf16) (d n : ℕ) : Vec Ideal S1x1024x256 .bf16 :=
  View.canon [⟨Rect.unit (s := S1x1024x256) ![0, 0, 128] S1x1024x128.size inb_S1x1024x256_S1x1024x128_0_0_128,
      k0_pay2 (headSt x0 x1 x2 d 3 n).2 (k0_pay82 (headSt x0 x1 x2 d 2 n).2) (k0_pay83 (headSt x0 x1 x2 d 3 n).2)⟩,
    ⟨Rect.unit (s := S1x1024x256) ![0, 0, 0] S1x1024x128.size inb_S1x1024x256_S1x1024x128_0_0_0,
      k0_pay1 (k0_pay80 (headSt x0 x1 x2 d 0 n).2) (k0_pay81 (headSt x0 x1 x2 d 1 n).2)⟩]

/-- THE BLOCK a grid point writes, at a row and a lane: the softmax over every key of the row's scores, applied to the values. -/
theorem block_at (x0 : Vec Ideal S1x1024x512 .bf16) (x1 x2 : Vec Ideal S1x4096x512 .bf16) (n : ℕ) (hi : n < 4)
    (ht : ∀ hh r j, raw x0 x1 hh r j ≠ ⊤) (ho : ∀ hh, ∀ r < 1024, raw x0 x1 hh r (1024 * n + r) ≠ ⊥)
    (h1 : ∀ hh, ∀ j < 4096, vals x2 hh (oneLane hh) j = 1) (r : Fin 1024) (cc : Fin 256) :
    pairsBlock x0 x1 x2 (1024 * n) n (Idealize.ShloMosaic.ix3 0 r cc)
      = soft (score x0 x1 (1024 * n) (headOf cc) r) (vals x2 (headOf cc) (slotLane cc)) (Finset.range 4096) := by
  have hs : ∀ (hh : Fin 4) (o l : Fin 128), oneLane hh = o → _ := fun hh o l ho' =>
    head_soft x0 x1 x2 (1024 * n) hh (ht hh) (ho hh) n rfl hi o (ho' ▸ h1 hh) r l
  unfold pairsBlock
  by_cases h : cc.val < 128
  · have hn : Idealize.ShloMosaic.ix3 0 r cc ∉ (Rect.unit (s := S1x1024x256) ![0, 0, 128] S1x1024x128.size inb_S1x1024x256_S1x1024x128_0_0_128).set := by
      rw [Rect.mem_set_unit]
      intro hx
      have e : 128 ≤ cc.val := (hx 2).1
      omega
    refine (View.canon_cons_of_not_mem (Val := Elt Ideal) (s := S1x1024x256) (e := .bf16) ⟨Rect.unit (s := S1x1024x256) ![0, 0, 128] S1x1024x128.size inb_S1x1024x256_S1x1024x128_0_0_128, _⟩ _ hn).trans ?_
    have e : (Rect.unit (s := S1x1024x256) ![0, 0, 0] S1x1024x128.size inb_S1x1024x256_S1x1024x128_0_0_0).emb
        (Idealize.ShloMosaic.ix3 0 r ⟨cc.val, h⟩) = Idealize.ShloMosaic.ix3 0 r cc := by
      funext a
      refine Fin.ext ?_
      fin_cases a
      · rfl
      · show 0 + 1 * r.val = r.val; omega
      · show 0 + 1 * cc.val = cc.val; omega
    rw [← e]
    refine (View.canon_cons_emb (Val := Elt Ideal) (s := S1x1024x256) (e := .bf16) _ _ _ _).trans ?_
    have el : slotLane cc = ⟨cc.val, h⟩ := Fin.ext (Nat.mod_eq_of_lt h)
    rw [el]
    refine (pay1_at _ _ r ⟨cc.val, h⟩).trans ?_
    by_cases h' : cc.val < 64
    · have eh : headOf cc = 0 := Fin.ext (by show cc.val / 64 = 0; omega)
      rw [if_pos h', eh]
      exact (pay80_at _ r _).trans (hs 0 64 _ (by decide))
    · have eh : headOf cc = 1 := Fin.ext (by show cc.val / 64 = 1; omega)
      rw [if_neg h', eh]
      exact (pay81_at _ r _).trans (hs 1 0 _ (by decide))
  · have hc : cc.val - 128 < 128 := by omega
    have e : (Rect.unit (s := S1x1024x256) ![0, 0, 128] S1x1024x128.size inb_S1x1024x256_S1x1024x128_0_0_128).emb
        (Idealize.ShloMosaic.ix3 0 r ⟨cc.val - 128, hc⟩) = Idealize.ShloMosaic.ix3 0 r cc := by
      funext a
      refine Fin.ext ?_
      fin_cases a
      · rfl
      · show 0 + 1 * r.val = r.val; omega
      · show 128 + 1 * (cc.val - 128) = cc.val; omega
    rw [← e]
    refine (View.canon_cons_emb _ _ _ _).trans ?_
    have el : slotLane cc = ⟨cc.val - 128, hc⟩ := Fin.ext (by show cc.val % 128 = cc.val - 128; omega)
    rw [el]
    refine (pay2_at _ _ r ⟨cc.val - 128, hc⟩).trans ?_
    by_cases h' : cc.val - 128 < 64
    · have eh : headOf cc = 2 := Fin.ext (by show cc.val / 64 = 2; omega)
      rw [if_pos h', eh]
      exact (pay82_at _ r _).trans (hs 2 64 _ (by decide))
    · have eh : headOf cc = 3 := Fin.ext (by show cc.val / 64 = 3; omega)
      rw [if_neg h', eh]
      exact hs 3 0 _ (by decide)

/-- The attention call's block, at a row and a lane. -/
theorem out_at (c : Dev nD) (i : grid0.Coords) (a3) (h3 : a3.IsWhole) (a4) (h4 : a4.IsWhole) (a5) (h5 : a5.IsWhole)
    (a6) (h6 : a6.IsWhole) (a7) (h7 : a7.IsWhole) (a8) (h8 : a8.IsWhole)
    (x0 : Vec Ideal S1x1024x512 .bf16) (x1 x2 : Vec Ideal S1x4096x512 .bf16)
    (hf : ∀ hh r j, ∃ x : ℝ, raw x0 x1 hh r j = x) (h1 : ∀ hh, ∀ j < 4096, vals x2 hh (oneLane hh) j = 1) (r : Fin 1024) (cc : Fin 256) :
    out0_A_3 (F := Ideal) c i a3 h3 a4 h4 a5 h5 a6 h6 a7 h7 a8 h8 x0 x1 x2 (Idealize.ShloMosaic.ix3 0 r cc)
      = soft (score x0 x1 (1024 * (i 2).val) (headOf cc) r) (vals x2 (headOf cc) (slotLane cc)) (Finset.range 4096) :=
  (congrFun (out_eq c i a3 h3 a4 h4 a5 h5 a6 h6 a7 h7 a8 h8 x0 x1 x2) _).trans
    (block_at x0 x1 x2 (i 2).val (i 2).isLt
      (fun hh r j => by obtain ⟨x, hx⟩ := hf hh r j; rw [hx]; exact EReal.coe_ne_top x)
      (fun hh r _ => by obtain ⟨x, hx⟩ := hf hh r (1024 * (i 2).val + r); rw [hx]; exact EReal.coe_ne_bot x) h1 r cc)

end Cert.Attn

end
-- ==== Proof.Host.lean ====
/- What the host computes before the attention call, at an index: the scaled queries, the keys and the values in slots of 128 lanes. -/
module

public import proofs.«01_k».proof.Proof.Gen.KernelIdeal.Frame
public import Idealize.ShloMosaic.Lib.KernelVsHost
public import Idealize.ShloMosaic.Lib.StableHlo.Run
public import Idealize.ShloMosaic.Lib.Pointwise

@[expose] public section

noncomputable section

namespace Cert.Attn

open Cert.KernelIdeal Cert.KernelIdeal.Gen Idealize.ShloMosaic Idealize.ShloMosaic.TcCoe Idealize.SL.Sem

/-- The padding word: zero. -/
def zeroS : FVec Ideal S_ .f32 := sitofp .f32 (constantI S_ 32 0#32)

/-- Queries or keys, padded from 96 to 128 lanes. -/
def padded (x : FVec Ideal S8x8x4096x96 .f32) : FVec Ideal S8x8x4096x128 .f32 :=
  pad S8x8x4096x128 ![0, 0, 0, 0] ![0, 0, 0, 32] ![0, 0, 0, 0] x zeroS pads_S8x8x4096x96_S8x8x4096x128_000_000_000_0320 h_S_

/-- An even head's values: lanes 0 to 63. -/
def evenV (x : FVec Ideal S8x8x4096x64 .f32) : FVec Ideal S8x8x4096x128 .f32 :=
  pad S8x8x4096x128 ![0, 0, 0, 0] ![0, 0, 0, 64] ![0, 0, 0, 0] x zeroS pads_S8x8x4096x64_S8x8x4096x128_000_000_000_0640 h_S_

/-- An odd head's values: lanes 64 to 127. -/
def oddV (x : FVec Ideal S8x8x4096x64 .f32) : FVec Ideal S8x8x4096x128 .f32 :=
  pad S8x8x4096x128 ![0, 0, 0, 64] ![0, 0, 0, 0] ![0, 0, 0, 0] x zeroS pads_S8x8x4096x64_S8x8x4096x128_000_000_000_6400 h_S_

/-- The heads' slots side by side. -/
def slotsOf (X : FVec Ideal S8x8x4096x128 .f32) : FVec Ideal S8x4096x1024 .bf16 :=
  truncf .bf16 (shapeCast S8x4096x1024 (transpose S8x4096x8x128 [0, 2, 1, 3] X transposes_S8x8x4096x128_S8x4096x8x128_0_2_1_3) shapeCasts_S8x4096x8x128_S8x4096x1024) bitsLt_bf16_f32

/-- The scaled queries. -/
def scaledQ (q : FVec Ideal S8x8x4096x96 .f32) : FVec Ideal S8x8x4096x96 .f32 :=
  mulf q (broadcastInDim S8x8x4096x96 ![] bcast_S_S8x8x4096x96
    (Host.divf (constant S_ .f32 0x3F800000#32) (mulf (Host.log (constant S_ .f32 0x40000000#32)) (Host.sqrt (constant S_ .f32 0x42C00000#32)))))

/-- Whether a head is odd, as a word. -/
def parity : IVec S8x8x4096x128 32 :=
  andi (iotaInDim S8x8x4096x128 32 1) (broadcastInDim S8x8x4096x128 ![] bcast_S_S8x8x4096x128 (constantI S_ 32 1#32))
def isEven : IVec S8x8x4096x128 1 := cmpi .eq parity (broadcastInDim S8x8x4096x128 ![] bcast_S_S8x8x4096x128 (constantI S_ 32 0#32))

/-- The values' slots, with the lane of ones. -/
def slotV (v : FVec Ideal S8x8x4096x64 .f32) : FVec Ideal S8x8x4096x128 .f32 :=
  select (cmpi .eq (iotaInDim S8x8x4096x128 32 3)
      (select isEven (broadcastInDim S8x8x4096x128 ![] bcast_S_S8x8x4096x128 (constantI S_ 32 64#32)) (broadcastInDim S8x8x4096x128 ![] bcast_S_S8x8x4096x128 (constantI S_ 32 0#32))))
    (broadcastInDim S8x8x4096x128 ![] bcast_S_S8x8x4096x128 (constant S_ .f32 0x3F800000#32))
    (select isEven (evenV v) (oddV v))

section
variable (m : (ℓ : Loc nD τ sig) → Buf (Elt Ideal) ℓ) (c : Dev nD)

theorem V_q : V m c main_v9 = slotsOf (padded (scaledQ (m ((c : Thread nD τ).loc main_arg0)))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

theorem V_k : V m c main_v13 = slotsOf (padded (m ((c : Thread nD τ).loc main_arg1))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

theorem V_v : V m c main_v31 = slotsOf (slotV (m ((c : Thread nD τ).loc main_arg2))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

end

/-! ## At an index -/

/-- Lane `l` of head `h`'s slot. -/
def glane (h : Fin 8) (l : Fin 128) : Fin 1024 := ⟨128 * h.val + l.val, by omega⟩

theorem slotsOf_at (X : FVec Ideal S8x8x4096x128 .f32) (b h : Fin 8) (s : Fin 4096) (l : Fin 128) :
    slotsOf X (Idealize.ShloMosaic.ix3 b s (glane h l)) = X (Idealize.ShloMosaic.ix4 b h s l) := by
  unfold slotsOf
  show shapeCast S8x4096x1024 (transpose S8x4096x8x128 [0, 2, 1, 3] X transposes_S8x8x4096x128_S8x4096x8x128_0_2_1_3) shapeCasts_S8x4096x8x128_S8x4096x1024 _ = _
  rw [shapeCast_apply _ shapeCasts_S8x4096x8x128_S8x4096x1024 (Idealize.ShloMosaic.ix3 b s (glane h l)) (Idealize.ShloMosaic.ix4 b s h l) (by
    rewrite [Shape.rowMajor_val_four, Shape.rowMajor_val_three]
    show ((b.val * 4096 + s.val) * 8 + h.val) * 128 + l.val = (b.val * 4096 + s.val) * 1024 + (128 * h.val + l.val)
    omega)]
  exact transpose_apply [0, 2, 1, 3] X transposes_S8x8x4096x128_S8x4096x8x128_0_2_1_3 _ (Idealize.ShloMosaic.ix4 b h s l) (fun a => match a with
    | ⟨0, _⟩ => rfl
    | ⟨1, _⟩ => rfl
    | ⟨2, _⟩ => rfl
    | ⟨3, _⟩ => rfl)

theorem zeroS_at (i : S_.Idx) : zeroS i = 0 := by
  unfold zeroS
  show (((0#32 : BitVec 32).toInt : ℝ) : EReal) = 0
  simp

theorem padded_at (x : FVec Ideal S8x8x4096x96 .f32) (b h : Fin 8) (s : Fin 4096) (l : Fin 128) :
    padded x (Idealize.ShloMosaic.ix4 b h s l) = if hl : l.val < 96 then x (Idealize.ShloMosaic.ix4 b h s ⟨l.val, hl⟩) else 0 := by
  unfold padded
  by_cases hl : l.val < 96
  · rw [dif_pos hl]
    exact pad_apply_of_inside _ _ _ x _ _ _ _ (Idealize.ShloMosaic.ix4 b h s ⟨l.val, hl⟩) (fun a => match a with
      | ⟨0, _⟩ => by show b.val = 0 + b.val * 1; omega
      | ⟨1, _⟩ => by show h.val = 0 + h.val * 1; omega
      | ⟨2, _⟩ => by show s.val = 0 + s.val * 1; omega
      | ⟨3, _⟩ => by show l.val = 0 + l.val * 1; omega)
  · rw [dif_neg hl]
    refine (pad_apply_of_not_inside _ _ _ x _ _ _ _ 3 ?_).trans (zeroS_at _)
    rintro ⟨-, -, h3⟩
    have h3' : (l.val - 0) / 1 < 96 := h3
    omega

theorem evenV_at (x : FVec Ideal S8x8x4096x64 .f32) (b h : Fin 8) (s : Fin 4096) (l : Fin 64) :
    evenV x (Idealize.ShloMosaic.ix4 b h s ⟨l.val, by omega⟩) = x (Idealize.ShloMosaic.ix4 b h s l) := by
  unfold evenV
  exact pad_apply_of_inside _ _ _ x _ _ _ _ (Idealize.ShloMosaic.ix4 b h s l) (fun a => match a with
      | ⟨0, _⟩ => by show b.val = 0 + b.val * 1; omega
      | ⟨1, _⟩ => by show h.val = 0 + h.val * 1; omega
      | ⟨2, _⟩ => by show s.val = 0 + s.val * 1; omega
      | ⟨3, _⟩ => by show l.val = 0 + l.val * 1; omega)

theorem oddV_at (x : FVec Ideal S8x8x4096x64 .f32) (b h : Fin 8) (s : Fin 4096) (l : Fin 64) :
    oddV x (Idealize.ShloMosaic.ix4 b h s ⟨64 + l.val, by omega⟩) = x (Idealize.ShloMosaic.ix4 b h s l) := by
  unfold oddV
  exact pad_apply_of_inside _ _ _ x _ _ _ _ (Idealize.ShloMosaic.ix4 b h s l) (fun a => match a with
      | ⟨0, _⟩ => by show b.val = 0 + b.val * 1; omega
      | ⟨1, _⟩ => by show h.val = 0 + h.val * 1; omega
      | ⟨2, _⟩ => by show s.val = 0 + s.val * 1; omega
      | ⟨3, _⟩ => by show 64 + l.val = 64 + l.val * 1; omega)

theorem isEven_at (b h : Fin 8) (s : Fin 4096) (l : Fin 128) :
    isEven (Idealize.ShloMosaic.ix4 b h s l) = if h.val % 2 = 0 then 1#1 else 0#1 := by
  show IntOp.cmpi .eq (IntOp.andi (BitVec.ofNat 32 h.val) 1#32) 0#32 = _
  exact (by decide : ∀ h : Fin 8, IntOp.cmpi .eq (IntOp.andi (BitVec.ofNat 32 h.val) 1#32) 0#32 = if h.val % 2 = 0 then 1#1 else 0#1) h

/-- The lane of ones, globally. -/
theorem slotV_at (v : FVec Ideal S8x8x4096x64 .f32) (b h : Fin 8) (s : Fin 4096) (l : Fin 128) :
    slotV v (Idealize.ShloMosaic.ix4 b h s l) = if l.val = (if h.val % 2 = 0 then 64 else 0) then 1
      else if h.val % 2 = 0 then evenV v (Idealize.ShloMosaic.ix4 b h s l) else oddV v (Idealize.ShloMosaic.ix4 b h s l) := by
  show Scalar.select (IntOp.cmpi .eq (BitVec.ofNat 32 l.val) (Scalar.select (isEven (Idealize.ShloMosaic.ix4 b h s l)) 64#32 0#32)) (Ideal.ofBits .f32 0x3F800000#32)
    (Scalar.select (isEven (Idealize.ShloMosaic.ix4 b h s l)) (evenV v (Idealize.ShloMosaic.ix4 b h s l)) (oddV v (Idealize.ShloMosaic.ix4 b h s l))) = _
  rw [isEven_at, Ideal.ofBits_one_f32]
  have e : ∀ l : Fin 128, IntOp.cmpi .eq (BitVec.ofNat 32 l.val) 64#32 = (if l.val = 64 then 1#1 else 0#1) := by decide
  have o : ∀ l : Fin 128, IntOp.cmpi .eq (BitVec.ofNat 32 l.val) 0#32 = (if l.val = 0 then 1#1 else 0#1) := by decide
  by_cases hh : h.val % 2 = 0
  · simp only [hh, if_true]
    show Scalar.select (IntOp.cmpi .eq (BitVec.ofNat 32 l.val) 64#32) _ _ = _
    rw [e]
    by_cases h1 : l.val = 64
    · rw [if_pos h1, if_pos h1]; rfl
    · rw [if_neg h1, if_neg h1]; rfl
  · simp only [hh, if_false]
    show Scalar.select (IntOp.cmpi .eq (BitVec.ofNat 32 l.val) 0#32) _ _ = _
    rw [o]
    by_cases h1 : l.val = 0
    · rw [if_pos h1, if_pos h1]; rfl
    · rw [if_neg h1, if_neg h1]; rfl

/-- The factor on the queries: one over the logarithm of two and the root of 96. -/
def qFactor : ℝ := 1 / (Real.log 2 * Real.sqrt 96)

theorem scaledQ_at (q : FVec Ideal S8x8x4096x96 .f32) (i : S8x8x4096x96.Idx) : scaledQ q i = q i * (qFactor : EReal) := by
  show q i * Ideal.div (Ideal.ofBits .f32 0x3F800000#32) (Ideal.log (Ideal.ofBits .f32 0x40000000#32) * Ideal.sqrt (Ideal.ofBits .f32 0x42C00000#32)) = _
  have h2 : Ideal.ofBits .f32 0x40000000#32 = ((2 : ℝ) : EReal) := by
    simp [Ideal.ofBits, Ideal.ieee, -EReal.coe_mul]; norm_num
  have h96 : Ideal.ofBits .f32 0x42C00000#32 = ((96 : ℝ) : EReal) := by
    simp [Ideal.ofBits, Ideal.ieee, -EReal.coe_mul]; norm_num
  have hl : 0 < Real.log 2 := Real.log_pos one_lt_two
  have hs : 0 < Real.sqrt 96 := Real.sqrt_pos.2 (by norm_num)
  rw [h2, h96, Ideal.ofBits_one_f32, Ideal.log_coe, Ideal.sqrt_coe, if_neg (by norm_num), if_neg (by norm_num), ← EReal.coe_mul,
    Ideal.div_coe (mul_pos hl hs).ne', one_mul]
  rfl

end Cert.Attn

end
-- ==== Proof.Array.lean ====
/- The attention call's result array, at an index, from the queries, keys and values. -/
module

public import proofs.«01_k».proof.Proof.Online
public import proofs.«01_k».proof.Proof.Host
public import proofs.«01_k».proof.Proof.Gen.KernelIdeal.Value

@[expose] public section

noncomputable section

namespace Cert.Attn

open Cert.KernelIdeal Cert.KernelIdeal.Gen Idealize.ShloMosaic Idealize.ShloMosaic.TcCoe Idealize.SL.Sem

/-- Which block each window holds at a grid point: the batch, the query tile and the pair of pairs of heads. -/
theorem idx_facts : ∀ t : Fin cfg0.N,
    (win0_0.index t (0 : Fin 3) = t.val / 8 ∧ win0_0.index t (1 : Fin 3) = t.val % 4 ∧ win0_0.index t (2 : Fin 3) = t.val / 4 % 2)
    ∧ (win0_1.index t (0 : Fin 3) = t.val / 8 ∧ win0_1.index t (1 : Fin 3) = 0 ∧ win0_1.index t (2 : Fin 3) = t.val / 4 % 2)
    ∧ (win0_2.index t (0 : Fin 3) = t.val / 8 ∧ win0_2.index t (1 : Fin 3) = 0 ∧ win0_2.index t (2 : Fin 3) = t.val / 4 % 2)
    ∧ (win0_3.index t (0 : Fin 3) = t.val / 8 ∧ win0_3.index t (1 : Fin 3) = t.val % 4 ∧ win0_3.index t (2 : Fin 3) = t.val / 4 % 2)
    ∧ (grid0.coords t (2 : Fin 3)).val = t.val % 4 :=
  (by decide +kernel : ∀ t : Fin grid0.N, _)

/-- The grid point of a batch, a half of the heads and a query tile. -/
def point (b : Fin 8) (p : Fin 2) (i : Fin 4) : Fin cfg0.N := ⟨b.val * 8 + p.val * 4 + i.val, by
  show _ < grid0.N
  rw [N_0]; omega⟩

/-- Head `hh` of half `p`. -/
def head (p : Fin 2) (hh : Fin 4) : Fin 8 := ⟨4 * p.val + hh.val, by omega⟩
/-- Row `r` of query tile `i`. -/
def tileRow (i : Fin 4) (r : Fin 1024) : Fin 4096 := ⟨1024 * i.val + r.val, by omega⟩

variable (m : (ℓ : Loc nD τ sig) → Buf (Elt Ideal) ℓ) (c : Dev nD) (b : Fin 8) (p : Fin 2) (i : Fin 4)

theorem emb0 (r : Fin 1024) (hh : Fin 4) (l : Fin 128) :
    ((cfg0.win 0).blk (point b p i)).view.emb (Idealize.ShloMosaic.ix3 (0 : Fin 1) r (lane hh l)) = Idealize.ShloMosaic.ix3 b (tileRow i r) (glane (head p hh) l) := by
  obtain ⟨⟨e0, e1, e2⟩, _⟩ := idx_facts (point b p i)
  have hv : (point b p i).val = b.val * 8 + p.val * 4 + i.val := rfl
  funext a; apply Fin.ext
  match a with
  | ⟨0, _⟩ => show win0_0.index (point b p i) (0 : Fin 3) * 1 + 1 * 0 = b.val; omega
  | ⟨1, _⟩ => show win0_0.index (point b p i) (1 : Fin 3) * 1024 + 1 * r.val = 1024 * i.val + r.val; omega
  | ⟨2, _⟩ => show win0_0.index (point b p i) (2 : Fin 3) * 512 + 1 * (128 * hh.val + l.val) = 128 * (4 * p.val + hh.val) + l.val; omega

theorem emb1 (j : Fin 4096) (hh : Fin 4) (l : Fin 128) :
    ((cfg0.win 1).blk (point b p i)).view.emb (Idealize.ShloMosaic.ix3 (0 : Fin 1) j (lane hh l)) = Idealize.ShloMosaic.ix3 b j (glane (head p hh) l) := by
  obtain ⟨_, ⟨e0, e1, e2⟩, _⟩ := idx_facts (point b p i)
  have hv : (point b p i).val = b.val * 8 + p.val * 4 + i.val := rfl
  funext a; apply Fin.ext
  match a with
  | ⟨0, _⟩ => show win0_1.index (point b p i) (0 : Fin 3) * 1 + 1 * 0 = b.val; omega
  | ⟨1, _⟩ => show win0_1.index (point b p i) (1 : Fin 3) * 4096 + 1 * j.val = j.val; omega
  | ⟨2, _⟩ => show win0_1.index (point b p i) (2 : Fin 3) * 512 + 1 * (128 * hh.val + l.val) = 128 * (4 * p.val + hh.val) + l.val; omega

theorem emb2 (j : Fin 4096) (hh : Fin 4) (l : Fin 128) :
    ((cfg0.win 2).blk (point b p i)).view.emb (Idealize.ShloMosaic.ix3 (0 : Fin 1) j (lane hh l)) = Idealize.ShloMosaic.ix3 b j (glane (head p hh) l) := by
  obtain ⟨_, _, ⟨e0, e1, e2⟩, _⟩ := idx_facts (point b p i)
  have hv : (point b p i).val = b.val * 8 + p.val * 4 + i.val := rfl
  funext a; apply Fin.ext
  match a with
  | ⟨0, _⟩ => show win0_2.index (point b p i) (0 : Fin 3) * 1 + 1 * 0 = b.val; omega
  | ⟨1, _⟩ => show win0_2.index (point b p i) (1 : Fin 3) * 4096 + 1 * j.val = j.val; omega
  | ⟨2, _⟩ => show win0_2.index (point b p i) (2 : Fin 3) * 512 + 1 * (128 * hh.val + l.val) = 128 * (4 * p.val + hh.val) + l.val; omega

/-- The result's column `cc` of half `p`. -/
def column (p : Fin 2) (cc : Fin 256) : Fin 512 := ⟨256 * p.val + cc.val, by omega⟩

theorem emb3 (r : Fin 1024) (cc : Fin 256) :
    ((cfg0.win 3).blk (point b p i)).view.emb (Idealize.ShloMosaic.ix3 (0 : Fin 1) r cc) = Idealize.ShloMosaic.ix3 b (tileRow i r) (column p cc) := by
  obtain ⟨_, _, _, ⟨e0, e1, e2⟩, _⟩ := idx_facts (point b p i)
  have hv : (point b p i).val = b.val * 8 + p.val * 4 + i.val := rfl
  funext a; apply Fin.ext
  match a with
  | ⟨0, _⟩ => show win0_3.index (point b p i) (0 : Fin 3) * 1 + 1 * 0 = b.val; omega
  | ⟨1, _⟩ => show win0_3.index (point b p i) (1 : Fin 3) * 1024 + 1 * r.val = 1024 * i.val + r.val; omega
  | ⟨2, _⟩ => show win0_3.index (point b p i) (2 : Fin 3) * 256 + 1 * cc.val = 256 * p.val + cc.val; omega

/-- The queries, keys and values that a device holds. -/
abbrev qs : FVec Ideal S8x8x4096x96 .f32 := m ((c : Thread nD τ).loc main_arg0)
abbrev ks : FVec Ideal S8x8x4096x96 .f32 := m ((c : Thread nD τ).loc main_arg1)
abbrev vs : FVec Ideal S8x8x4096x64 .f32 := m ((c : Thread nD τ).loc main_arg2)

/-- A point's block is its array read at the block's places. -/
theorem iblk0_emb (t : Fin cfg0.N) (y : S1x1024x512.Idx) (z : S8x4096x1024.Idx) (h : ((cfg0.win 0).blk t).view.emb y = z) :
    iblk m c 0 t y = V m c main_v9 z := by
  unfold iblk
  rw [View.read_apply, h]
  exact cast_eq _ _

theorem iblk1_emb (t : Fin cfg0.N) (y : S1x4096x512.Idx) (z : S8x4096x1024.Idx) (h : ((cfg0.win 1).blk t).view.emb y = z) :
    iblk m c 1 t y = V m c main_v13 z := by
  unfold iblk
  rw [View.read_apply, h]
  exact cast_eq _ _

theorem iblk2_emb (t : Fin cfg0.N) (y : S1x4096x512.Idx) (z : S8x4096x1024.Idx) (h : ((cfg0.win 2).blk t).view.emb y = z) :
    iblk m c 2 t y = V m c main_v31 z := by
  unfold iblk
  rw [View.read_apply, h]
  exact cast_eq _ _

/-- A point's block of queries, at a row and a lane. -/
theorem iblk0_at (r : Fin 1024) (hh : Fin 4) (l : Fin 128) :
    (iblk m c 0 (point b p i) (Idealize.ShloMosaic.ix3 (0 : Fin 1) r (lane hh l)) : EReal)
      = if hl : l.val < 96 then qs m c (Idealize.ShloMosaic.ix4 b (head p hh) (tileRow i r) ⟨l.val, hl⟩) * (qFactor : EReal) else 0 := by
  refine (iblk0_emb m c _ _ _ (emb0 ..)).trans ?_
  rw [V_q, slotsOf_at, padded_at]
  simp only [scaledQ_at]

theorem iblk1_at (j : Fin 4096) (hh : Fin 4) (l : Fin 128) :
    (iblk m c 1 (point b p i) (Idealize.ShloMosaic.ix3 (0 : Fin 1) j (lane hh l)) : EReal)
      = if hl : l.val < 96 then ks m c (Idealize.ShloMosaic.ix4 b (head p hh) j ⟨l.val, hl⟩) else 0 := by
  refine (iblk1_emb m c _ _ _ (emb1 ..)).trans ?_
  rw [V_k, slotsOf_at, padded_at]

theorem iblk2_at (j : Fin 4096) (hh : Fin 4) (l : Fin 128) :
    (iblk m c 2 (point b p i) (Idealize.ShloMosaic.ix3 (0 : Fin 1) j (lane hh l)) : EReal) = slotV (vs m c) (Idealize.ShloMosaic.ix4 b (head p hh) j l) := by
  refine (iblk2_emb m c _ _ _ (emb2 ..)).trans ?_
  rw [V_v, slotsOf_at]

/-- A query row against a key row, the queries scaled to powers of two. -/
def dotQK (q k : S8x8x4096x96.Idx → EReal) (b h : Fin 8) (s j : Fin 4096) : EReal :=
  ∑ l : Fin 96, (q (Idealize.ShloMosaic.ix4 b h s l) * (qFactor : EReal)) * k (Idealize.ShloMosaic.ix4 b h j l)

/-- A sum over 128 lanes of terms that are zero past lane 96. -/
theorem sum_lanes (f : Fin 96 → EReal) : (∑ l : Fin 128, if hl : l.val < 96 then f ⟨l.val, hl⟩ else 0) = ∑ l : Fin 96, f l := by
  rw [show (128 : ℕ) = 96 + 32 from rfl, Fin.sum_univ_add]
  rw [Finset.sum_congr rfl (fun (l : Fin 96) _ => (dif_pos (show (Fin.castAdd 32 l).val < 96 from l.isLt) : _ = f l)),
    Finset.sum_eq_zero (s := (Finset.univ : Finset (Fin 32))) (fun l _ => dif_neg (show ¬ (Fin.natAdd 96 l).val < 96 from Nat.not_lt.2 (Nat.le_add_right _ _))), add_zero]

/-- The block's products are the argument arrays' products. -/
theorem raw_eq (hh : Fin 4) (r : Fin 1024) (j : Fin 4096) :
    raw (iblk m c 0 (point b p i)) (iblk m c 1 (point b p i)) hh r.val j.val = dotQK (qs m c) (ks m c) b (head p hh) (tileRow i r) j := by
  unfold raw dotQK
  rw [← sum_lanes]
  refine Finset.sum_congr rfl fun l _ => ?_
  unfold atRow
  rw [dif_pos r.isLt, dif_pos j.isLt]
  refine (congrArg₂ (fun x y : EReal => x * y) (iblk0_at m c b p i r hh l) (iblk1_at m c b p i j hh l)).trans ?_
  by_cases hl : l.val < 96
  · simp only [dif_pos hl]
  · simp only [dif_neg hl]
    exact mul_zero (0 : EReal)

/-- A product over finite rows is a real number. -/
theorem dotQK_real (q k : S8x8x4096x96.Idx → EReal) (hq : ∀ i, ∃ x : ℝ, q i = x) (hk : ∀ i, ∃ x : ℝ, k i = x) (b h : Fin 8) (s j : Fin 4096) :
    ∃ x : ℝ, dotQK q k b h s j = x := by
  choose fq hfq using hq
  choose fk hfk using hk
  refine ⟨∑ l : Fin 96, (fq (Idealize.ShloMosaic.ix4 b h s l) * qFactor) * fk (Idealize.ShloMosaic.ix4 b h j l), ?_⟩
  unfold dotQK
  refine Eq.trans ?_ (map_sum (⟨⟨Real.toEReal, rfl⟩, EReal.coe_add⟩ : ℝ →+ EReal) _ Finset.univ).symm
  refine Finset.sum_congr rfl fun l _ => ?_
  rw [hfq, hfk, ← EReal.coe_mul, ← EReal.coe_mul]
  rfl

/-- The score of key `j` for query row `s`, in powers of two: keys after the row are masked. -/
def rowScore (q k : S8x8x4096x96.Idx → EReal) (b h : Fin 8) (s : Fin 4096) (j : ℕ) : EReal :=
  if j ≤ s.val then (if hj : j < 4096 then dotQK q k b h s ⟨j, hj⟩ else 0) else ⊥

/-- Component `d` of key `j`'s value. -/
def keyVal (v : S8x8x4096x64.Idx → EReal) (b h : Fin 8) (d : Fin 64) (j : ℕ) : EReal :=
  if hj : j < 4096 then v (Idealize.ShloMosaic.ix4 b h ⟨j, hj⟩ d) else 0

/-- The soft sum depends only on the scores and weights of its keys. -/
theorem soft_congr {s s' w w' : ℕ → EReal} {T : Finset ℕ} (hs : ∀ j ∈ T, s j = s' j) (hw : ∀ j ∈ T, w j = w' j) : soft s w T = soft s' w' T := by
  have ht : top s T = top s' T := Finset.sup_congr rfl hs
  unfold soft
  rw [ht]
  have hd : (∑ k ∈ T, wt (s k) (top s' T)) = ∑ k ∈ T, wt (s' k) (top s' T) := Finset.sum_congr rfl fun k hk => by rw [hs k hk]
  rw [hd]
  exact Finset.sum_congr rfl fun j hj => by rw [hs j hj, hw j hj]

/-- The lane of ones is one. -/
theorem vals_one (hh : Fin 4) (j : ℕ) (hj : j < 4096) : vals (iblk m c 2 (point b p i)) hh (oneLane hh) j = 1 := by
  unfold vals atRow
  rw [dif_pos hj]
  refine (iblk2_at m c b p i ⟨j, hj⟩ hh (oneLane hh)).trans ?_
  rw [slotV_at, if_pos]
  have : (head p hh).val % 2 = hh.val % 2 := by show (4 * p.val + hh.val) % 2 = _; omega
  rw [this]
  rfl

/-- The lanes that the kernel keeps are the values. -/
theorem vals_eq (cc : Fin 256) (j : ℕ) (hj : j < 4096) :
    vals (iblk m c 2 (point b p i)) (headOf cc) (slotLane cc) j = keyVal (vs m c) b (head p (headOf cc)) ⟨cc.val % 64, by omega⟩ j := by
  unfold vals atRow keyVal
  rw [dif_pos hj, dif_pos hj]
  refine (iblk2_at m c b p i ⟨j, hj⟩ (headOf cc) (slotLane cc)).trans ?_
  have hpar : (head p (headOf cc)).val % 2 = cc.val / 64 % 2 := by show (4 * p.val + cc.val / 64) % 2 = _; omega
  have hsl : (slotLane cc).val = cc.val % 128 := rfl
  rw [slotV_at, hpar, hsl]
  by_cases h : cc.val / 64 % 2 = 0
  · rw [if_pos h, if_neg (by omega), if_pos h]
    have e : slotLane cc = ⟨(⟨cc.val % 64, by omega⟩ : Fin 64).val, by omega⟩ := Fin.ext (by show cc.val % 128 = cc.val % 64; omega)
    rw [e]
    exact evenV_at _ _ _ _ _
  · rw [if_neg h, if_neg (by omega), if_neg h]
    have e : slotLane cc = ⟨64 + (⟨cc.val % 64, by omega⟩ : Fin 64).val, by show 64 + cc.val % 64 < 128; omega⟩ := Fin.ext (by show cc.val % 128 = 64 + cc.val % 64; omega)
    rw [e]
    exact oddV_at _ _ _ _ _

/-- Rows and keys past the block are zero, so every product is a real number. -/
theorem raw_real (hq : ∀ i, ∃ x : ℝ, qs m c i = x) (hk : ∀ i, ∃ x : ℝ, ks m c i = x) (hh : Fin 4) (r j : ℕ) :
    ∃ x : ℝ, raw (iblk m c 0 (point b p i)) (iblk m c 1 (point b p i)) hh r j = x := by
  by_cases hr : r < 1024
  · by_cases hj : j < 4096
    · rw [raw_eq m c b p i hh ⟨r, hr⟩ ⟨j, hj⟩]
      exact dotQK_real _ _ hq hk _ _ _ _
    · exact ⟨0, Finset.sum_eq_zero fun l _ => by unfold atRow; rw [dif_neg hj, mul_zero]⟩
  · exact ⟨0, Finset.sum_eq_zero fun l _ => by unfold atRow; rw [dif_neg hr, zero_mul]⟩

/-- THE RESULT ARRAY AFTER THE RUN, in a point's block. -/
theorem final_block (hq : ∀ i, ∃ x : ℝ, qs m c i = x) (hk : ∀ i, ∃ x : ℝ, ks m c i = x) (r : Fin 1024) (cc : Fin 256) :
    (dats m 0 c).arrAt 3 cfg0.N (Idealize.ShloMosaic.ix3 b (tileRow i r) (column p cc))
      = soft (rowScore (qs m c) (ks m c) b (head p (headOf cc)) (tileRow i r)) (keyVal (vs m c) b (head p (headOf cc)) ⟨cc.val % 64, by omega⟩) (Finset.range 4096) := by
  have h := congrFun (Cert.KernelIdeal.Value.blocks3 m c (point b p i) (flush0_3 _)) (Idealize.ShloMosaic.ix3 (0 : Fin 1) r cc)
  rw [Cert.KernelIdeal.Value.flushed3_A, View.read_apply, emb3] at h
  refine (cast_eq _ _).symm.trans (h.trans ?_)
  refine (out_at c (grid0.coords (point b p i)) _ _ _ _ _ _ _ _ _ _ _ _ _ _ _ (raw_real m c b p i hq hk) (vals_one m c b p i) r cc).trans ?_
  obtain ⟨_, _, _, _, e⟩ := idx_facts (point b p i)
  have hv : (point b p i).val = b.val * 8 + p.val * 4 + i.val := rfl
  have hi : (grid0.coords (point b p i) (2 : Fin 3)).val = i.val := by omega
  refine soft_congr (fun j hj => ?_) (fun j hj => vals_eq m c b p i cc j (Finset.mem_range.1 hj))
  unfold score rowScore
  rw [hi, dif_pos (Finset.mem_range.1 hj), raw_eq m c b p i (headOf cc) r ⟨j, Finset.mem_range.1 hj⟩]
  rfl

/-- THE RESULT ARRAY AFTER THE RUN, at a batch, a row and a column: column `64 h + d` is component `d` of head `h`. -/
theorem final_at (hq : ∀ i, ∃ x : ℝ, qs m c i = x) (hk : ∀ i, ∃ x : ℝ, ks m c i = x) (s : Fin 4096) (x : Fin 512) :
    (dats m 0 c).arrAt 3 cfg0.N (Idealize.ShloMosaic.ix3 b s x)
      = soft (rowScore (qs m c) (ks m c) b ⟨x.val / 64, by omega⟩ s) (keyVal (vs m c) b ⟨x.val / 64, by omega⟩ ⟨x.val % 64, by omega⟩) (Finset.range 4096) := by
  have h := final_block m c b ⟨x.val / 256, by omega⟩ ⟨s.val / 1024, by omega⟩ hq hk ⟨s.val % 1024, by omega⟩ ⟨x.val % 256, by omega⟩
  have e1 : tileRow ⟨s.val / 1024, by omega⟩ ⟨s.val % 1024, by omega⟩ = s := Fin.ext (by show 1024 * (s.val / 1024) + s.val % 1024 = s.val; omega)
  have e2 : column ⟨x.val / 256, by omega⟩ ⟨x.val % 256, by omega⟩ = x := Fin.ext (by show 256 * (x.val / 256) + x.val % 256 = x.val; omega)
  have e3 : head ⟨x.val / 256, by omega⟩ (headOf ⟨x.val % 256, by omega⟩) = ⟨x.val / 64, by omega⟩ :=
    Fin.ext (by show 4 * (x.val / 256) + x.val % 256 / 64 = x.val / 64; omega)
  have e4 : (⟨(⟨x.val % 256, by omega⟩ : Fin 256).val % 64, by omega⟩ : Fin 64) = ⟨x.val % 64, by omega⟩ := Fin.ext (by show x.val % 256 % 64 = x.val % 64; omega)
  rw [e1, e2, e3, e4] at h
  exact h

end Cert.Attn
-- ==== Proof.Ref.lean ====
/- The reference's result, at an index: the softmax of a row's scores, the scores in powers of two. -/
module

public import proofs.«01_k».proof.Proof.Array
public import proofs.«01_k».proof.Proof.Gen.ReferenceIdeal.Read

@[expose] public section

noncomputable section

namespace Cert.Attn

open Cert.ReferenceIdeal Cert.ReferenceIdeal.Gen Cert.ReferenceIdeal.Read Idealize.ShloMosaic Idealize.ShloMosaic.TcCoe Idealize.SL.Sem

/-- One over the square root of the keys' width, as a number. -/
def refScale : ℝ := 1 / Real.sqrt 96

theorem refScale_at (i : S_.Idx) : val_main_v1 (F := Ideal) i = (refScale : EReal) := by
  show Ideal.div (Ideal.ofBits .f32 0x3F800000#32) (Ideal.sqrt (Ideal.ofBits .f32 0x42C00000#32)) = _
  have h96 : Ideal.ofBits .f32 0x42C00000#32 = ((96 : ℝ) : EReal) := by
    simp [Ideal.ofBits, Ideal.ieee, -EReal.coe_mul]; norm_num
  have hne : Real.sqrt 96 ≠ 0 := (Real.sqrt_pos.2 (by norm_num)).ne'
  rw [Ideal.ofBits_one_f32, h96, Ideal.sqrt_coe, if_neg (by norm_num), Ideal.div_coe hne, one_mul]
  rfl

/-- The reference's scale is the kernel's times the logarithm of two. -/
theorem refScale_eq : refScale = Real.log 2 * qFactor := by
  unfold refScale qFactor
  have hl : Real.log 2 ≠ 0 := (Real.log_pos one_lt_two).ne'
  have hne : Real.sqrt 96 ≠ 0 := (Real.sqrt_pos.2 (by norm_num)).ne'
  field_simp

variable (q k : S8x8x4096x96.Idx → EReal) (v : S8x8x4096x64.Idx → EReal)

/-- The reference's score of a key is the logarithm of two times the kernel's. -/
theorem refScore_at (hq : ∀ i, ∃ x : ℝ, q i = x) (hk : ∀ i, ∃ x : ℝ, k i = x) (b h : Fin 8) (s j : Fin 4096) :
    val_main_v11 (F := Ideal) q k (Idealize.ShloMosaic.ix4 b h s j) = ((Real.log 2 : ℝ) : EReal) * rowScore q k b h s j.val := by
  have hm : val_main_call0_v1 (F := Ideal) (Idealize.ShloMosaic.ix4 b h s j) = if j.val ≤ s.val then 1#1 else 0#1 := by
    rw [val_main_call0_v1_apply, val_main_v10_apply, val_main_v8_apply, val_main_v9_apply, val_main_v6_apply, val_main_v7_apply,
      val_main_v5_apply, val_main_v5_apply]
    show IntOp.cmpi .sle (BitVec.ofNat 32 j.val) (BitVec.ofNat 32 s.val) = _
    rw [WordCmp.cmpi_sle_ofNat (by omega) (by omega)]
    by_cases hj : j.val ≤ s.val <;> simp [hj]
  rw [val_main_v11_apply, hm, rowScore]
  by_cases hj : j.val ≤ s.val
  · rw [if_pos hj, if_pos hj, dif_pos j.isLt]
    refine Eq.trans (b := val_main_v4 (F := Ideal) q k (Idealize.ShloMosaic.ix4 b h s j)) rfl ?_
    rw [val_main_v4_apply, val_main_v2_apply, val_main_v3_apply, refScale_at]
    choose fq hfq using hq
    choose fk hfk using hk
    have e : (∑ x : Fin 96, q (lidx_main_v2 (Idealize.ShloMosaic.ix4 b h s j) x) * k (ridx_main_v2 (Idealize.ShloMosaic.ix4 b h s j) x))
        = ((∑ x : Fin 96, fq (Idealize.ShloMosaic.ix4 b h s x) * fk (Idealize.ShloMosaic.ix4 b h j x) : ℝ) : EReal) := by
      refine Eq.trans ?_ (map_sum (⟨⟨Real.toEReal, rfl⟩, EReal.coe_add⟩ : ℝ →+ EReal) _ Finset.univ).symm
      refine Finset.sum_congr rfl fun l _ => ?_
      rw [hfq, hfk, ← EReal.coe_mul]
      have e1 : lidx_main_v2 (Idealize.ShloMosaic.ix4 b h s j) l = Idealize.ShloMosaic.ix4 b h s l := by
        funext a; apply Fin.ext
        match a with | ⟨0, _⟩ => rfl | ⟨1, _⟩ => rfl | ⟨2, _⟩ => rfl | ⟨3, _⟩ => rfl
      have e2 : ridx_main_v2 (Idealize.ShloMosaic.ix4 b h s j) l = Idealize.ShloMosaic.ix4 b h j l := by
        funext a; apply Fin.ext
        match a with | ⟨0, _⟩ => rfl | ⟨1, _⟩ => rfl | ⟨2, _⟩ => rfl | ⟨3, _⟩ => rfl
      rw [e1, e2]
      rfl
    have e' : dotQK q k b h s j
        = ((∑ x : Fin 96, (fq (Idealize.ShloMosaic.ix4 b h s x) * qFactor) * fk (Idealize.ShloMosaic.ix4 b h j x) : ℝ) : EReal) := by
      refine Eq.trans ?_ (map_sum (⟨⟨Real.toEReal, rfl⟩, EReal.coe_add⟩ : ℝ →+ EReal) _ Finset.univ).symm
      refine Finset.sum_congr rfl fun l _ => ?_
      rw [hfq, hfk, ← EReal.coe_mul, ← EReal.coe_mul]
      rfl
    rw [e, show dotQK q k b h s ⟨j.val, j.isLt⟩ = _ from e']
    show ((_ : ℝ) : EReal) * ((_ : ℝ) : EReal) = _
    rw [← EReal.coe_mul, ← EReal.coe_mul, refScale_eq, Finset.sum_mul, Finset.mul_sum]
    refine congrArg _ (Finset.sum_congr rfl fun l _ => ?_)
    ring
  · rw [if_neg hj, if_neg hj]
    refine Eq.trans (b := val_main_call0_v2 (F := Ideal) (Idealize.ShloMosaic.ix4 b h s j)) rfl ?_
    rw [val_main_call0_v2_apply, val_main_call0_v0_apply, val_main_cst_1_apply, EReal.coe_mul_bot_of_pos (Real.log_pos one_lt_two)]
    exact low_bot

/-- The row's maximum in the reference is the logarithm of two times the kernel's. -/
theorem refTop_at (hq : ∀ i, ∃ x : ℝ, q i = x) (hk : ∀ i, ∃ x : ℝ, k i = x) (b h : Fin 8) (s : Fin 4096) :
    val_main_v14 (F := Ideal) q k (Idealize.ShloMosaic.ix3 b h s)
      = ((Real.log 2 : ℝ) : EReal) * top (rowScore q k b h s) (Finset.range 4096) := by
  have h12 : val_main_v12 (F := Ideal) q k (Idealize.ShloMosaic.ix3 b h s)
      = ((Real.log 2 : ℝ) : EReal) * top (rowScore q k b h s) (Finset.range 4096) := by
    unfold val_main_v12
    rw [Host.reduce_eq_fold_single FloatOps.maximumf _ _ _ (by decide : S8x8x4096x4096.Reduces [3] S8x8x4096)]
    have hb : val_main_cst_2 (F := Ideal) (Shape.Idx.first h_S_) = (⊥ : EReal) := low_bot
    rw [hb]
    have e := sup_tile 4096 0 (fun j => ((Real.log 2 : ℝ) : EReal) * rowScore q k b h s j)
    refine Eq.trans ?_ (e.trans ?_)
    · refine (congrArg (fun f => Finset.fold max (⊥ : EReal) f (Finset.univ : Finset (Fin 4096))) (funext fun (j : Fin 4096) => ?_)).trans (fold_max_eq_sup _)
      rw [Nat.zero_add]
      refine Eq.trans ?_ (refScore_at q k hq hk b h s j)
      refine congrArg (val_main_v11 (F := Ideal) q k) ?_
      funext a; apply Fin.ext
      match a with | ⟨0, _⟩ => rfl | ⟨1, _⟩ => rfl | ⟨2, _⟩ => rfl | ⟨3, _⟩ => rfl
    · rw [Nat.zero_add, ← Finset.range_eq_Ico]
      exact sup_scaled (rowScore q k b h s) (Finset.range 4096)
  rw [val_main_v14_apply, h12, val_main_v13_apply]
  show max (val_main_cst_3 (F := Ideal) _) _ = _
  rw [show val_main_cst_3 (F := Ideal) (idx_main_v13 (Idealize.ShloMosaic.ix3 b h s)) = (⊥ : EReal) from low_bot]
  exact max_bot_left _

theorem rowScore_ne_top (hq : ∀ i, ∃ x : ℝ, q i = x) (hk : ∀ i, ∃ x : ℝ, k i = x) (b h : Fin 8) (s : Fin 4096) (j : ℕ) :
    rowScore q k b h s j ≠ ⊤ := by
  unfold rowScore
  split
  · split
    · rename_i hj
      obtain ⟨x, hx⟩ := dotQK_real q k hq hk b h s ⟨j, hj⟩
      rw [hx]; exact EReal.coe_ne_top x
    · exact EReal.zero_ne_top
  · exact bot_ne_top

theorem rowScore_seen (hq : ∀ i, ∃ x : ℝ, q i = x) (hk : ∀ i, ∃ x : ℝ, k i = x) (b h : Fin 8) (s : Fin 4096) :
    ∃ j ∈ Finset.range 4096, rowScore q k b h s j ≠ ⊥ := by
  refine ⟨s.val, Finset.mem_range.2 s.isLt, ?_⟩
  unfold rowScore
  rw [if_pos le_rfl, dif_pos s.isLt]
  obtain ⟨x, hx⟩ := dotQK_real q k hq hk b h s ⟨s.val, s.isLt⟩
  rw [hx]; exact EReal.coe_ne_bot x

/-- A key's weight in the reference is its weight in powers of two. -/
theorem refWt_at (hq : ∀ i, ∃ x : ℝ, q i = x) (hk : ∀ i, ∃ x : ℝ, k i = x) (b h : Fin 8) (s j : Fin 4096) :
    val_main_v18 (F := Ideal) q k (Idealize.ShloMosaic.ix4 b h s j)
      = wt (rowScore q k b h s j.val) (top (rowScore q k b h s) (Finset.range 4096)) := by
  obtain ⟨m, hm⟩ := top_real (rowScore q k b h s) (Finset.range 4096) (rowScore_ne_top q k hq hk b h s) (rowScore_seen q k hq hk b h s)
  rw [val_main_v18_apply, val_main_v17_apply, val_main_v16_apply, val_main_v15_apply, refScore_at q k hq hk]
  have e : idx_main_v15 (idx_main_v16 (Idealize.ShloMosaic.ix4 b h s j)) = Idealize.ShloMosaic.ix3 b h s := by
    funext a; apply Fin.ext
    match a with | ⟨0, _⟩ => rfl | ⟨1, _⟩ => rfl | ⟨2, _⟩ => rfl
  rw [e, refTop_at q k hq hk, hm]
  exact exp_scaled _ m (rowScore_ne_top q k hq hk b h s j.val)

/-- THE REFERENCE AT AN INDEX. -/
theorem ref_at (hq : ∀ i, ∃ x : ℝ, q i = x) (hk : ∀ i, ∃ x : ℝ, k i = x) (b : Fin 8) (s : Fin 4096) (x : Fin 512) :
    val_main_v26 (F := Ideal) q k v (Idealize.ShloMosaic.ix3 b s x)
      = soft (rowScore q k b ⟨x.val / 64, by omega⟩ s) (keyVal v b ⟨x.val / 64, by omega⟩ ⟨x.val % 64, by omega⟩) (Finset.range 4096) := by
  rw [val_main_v26_apply, val_main_v25_apply, val_main_v24_apply]
  show val_main_v23 (F := Ideal) q k v _ = _
  have e : idx_main_v24 (idx_main_v25 (Idealize.ShloMosaic.ix3 b s x)) = Idealize.ShloMosaic.ix4 b (⟨x.val / 64, by omega⟩ : Fin 8) s (⟨x.val % 64, by omega⟩ : Fin 64) := by
    funext a; apply Fin.ext
    match a with
    | ⟨0, _⟩ => show ((b.val * 4096 + s.val) * 512 + x.val) / 2097152 = b.val; omega
    | ⟨1, _⟩ => show ((b.val * 4096 + s.val) * 512 + x.val) / 64 % 8 = x.val / 64; omega
    | ⟨2, _⟩ => show ((b.val * 4096 + s.val) * 512 + x.val) / 512 % 4096 = s.val; omega
    | ⟨3, _⟩ => show ((b.val * 4096 + s.val) * 512 + x.val) % 64 = x.val % 64; omega
  rw [e, val_main_v23_apply]
  generalize (⟨x.val / 64, by omega⟩ : Fin 8) = h
  generalize (⟨x.val % 64, by omega⟩ : Fin 64) = d
  unfold soft
  have hsum : val_main_v19 (F := Ideal) q k (Idealize.ShloMosaic.ix3 b h s)
      = ∑ j ∈ Finset.range 4096, wt (rowScore q k b h s j) (top (rowScore q k b h s) (Finset.range 4096)) := by
    rw [val_main_v19_apply, show val_main_cst_4 (F := Ideal) (Shape.Idx.first h_S_) = (0 : EReal) from Ideal.ofBits_zero_f32, zero_add,
      ← Fin.sum_univ_eq_sum_range (fun j => wt (rowScore q k b h s j) (top (rowScore q k b h s) (Finset.range 4096)))]
    refine Finset.sum_congr rfl fun j _ => ?_
    have e : idx_main_v19 (Idealize.ShloMosaic.ix3 b h s) j = Idealize.ShloMosaic.ix4 b h s j := by
      funext a; apply Fin.ext
      match a with | ⟨0, _⟩ => rfl | ⟨1, _⟩ => rfl | ⟨2, _⟩ => rfl | ⟨3, _⟩ => rfl
    rw [e, refWt_at q k hq hk]
  rw [← hsum, ← Fin.sum_univ_eq_sum_range (fun j => Ideal.div (wt (rowScore q k b h s j) (top (rowScore q k b h s) (Finset.range 4096)))
    (val_main_v19 (F := Ideal) q k (Idealize.ShloMosaic.ix3 b h s)) * keyVal v b h d j)]
  refine Finset.sum_congr rfl fun j _ => ?_
  have e1 : lidx_main_v23 (Idealize.ShloMosaic.ix4 b h s d) j = Idealize.ShloMosaic.ix4 b h s j := by
    funext a; apply Fin.ext
    match a with | ⟨0, _⟩ => rfl | ⟨1, _⟩ => rfl | ⟨2, _⟩ => rfl | ⟨3, _⟩ => rfl
  have e2 : ridx_main_v23 (Idealize.ShloMosaic.ix4 b h s d) j = Idealize.ShloMosaic.ix4 b h j d := by
    funext a; apply Fin.ext
    match a with | ⟨0, _⟩ => rfl | ⟨1, _⟩ => rfl | ⟨2, _⟩ => rfl | ⟨3, _⟩ => rfl
  have e3 : idx_main_v20 (idx_main_v21 (Idealize.ShloMosaic.ix4 b h s j)) = Idealize.ShloMosaic.ix3 b h s := by
    funext a; apply Fin.ext
    match a with | ⟨0, _⟩ => rfl | ⟨1, _⟩ => rfl | ⟨2, _⟩ => rfl
  rw [e1, e2, val_main_v22_apply, val_main_v21_apply, val_main_v20_apply, e3, refWt_at q k hq hk]
  unfold keyVal
  rw [dif_pos j.isLt]
  rfl

end Cert.Attn
-- ==== Proof.Algebraic.lean ====
/- The kernel's result is the reference's, from finite queries and keys. -/
module

public import proofs.«01_k».proof.Defs
public import proofs.«01_k».proof.Proof.Ref
public import proofs.«01_k».proof.Proof.Gen.Pre_finite

@[expose] public section

noncomputable section

namespace Cert.Attn

open Idealize.ShloMosaic Idealize.ShloMosaic.TcCoe Idealize.SL.Sem

/-- A number whose absolute value is below infinity is a real number. -/
theorem real_of_abs_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => exact absurd h (by simp [Ideal.cmp])
  | coe r => exact ⟨r, rfl⟩
  | top => exact absurd h (by simp [Ideal.cmp])

/-- The precondition says that every entry of the queries and of the keys is a real number. -/
theorem finite_entries (q k : FVec Ideal Cert.Pre_finite.S8x8x4096x96 .f32) (v : FVec Ideal Cert.Pre_finite.S8x8x4096x64 .f32)
    (h : Cert.Pre_finite.fn (F := Ideal) q k v = fun _ => 1#1) : (∀ i, ∃ x : ℝ, q i = x) ∧ (∀ i, ∃ x : ℝ, k i = x) := by
  have both : ∀ i, Ideal.cmp .olt (max (q i) (-q i)) (Ideal.ofBits .f32 0x7F800000#32) &&& Ideal.cmp .olt (max (k i) (-k i)) (Ideal.ofBits .f32 0x7F800000#32) = 1#1 :=
    fun i => congrFun h i
  have split : ∀ a b : BitVec 1, a &&& b = 1#1 → a = 1#1 ∧ b = 1#1 := by decide
  exact ⟨fun i => real_of_abs_lt (q i) (split _ _ (both i)).1, fun i => real_of_abs_lt (k i) (split _ _ (both i)).2⟩

/-- THE KERNEL'S RESULT ARRAY IS THE REFERENCE'S. -/
theorem result_eq (m : (ℓ : Loc KernelIdeal.nD KernelIdeal.τ KernelIdeal.sig) → Buf (Elt Ideal) ℓ) (c : Dev KernelIdeal.nD)
    (hq : ∀ i, ∃ x : ℝ, qs m c i = x) (hk : ∀ i, ∃ x : ℝ, ks m c i = x) :
    ReferenceIdeal.Read.val_main_v26 (F := Ideal) (qs m c) (ks m c) (vs m c) = (KernelIdeal.Gen.dats m 0 c).arrAt 3 KernelIdeal.cfg0.N := by
  funext i
  obtain ⟨b, s, x, rfl⟩ : ∃ (b : Fin 8) (s : Fin 4096) (x : Fin 512), i = Idealize.ShloMosaic.ix3 b s x := by
    refine ⟨i 0, i 1, i 2, funext fun a => Fin.ext ?_⟩
    match a with | ⟨0, _⟩ => rfl | ⟨1, _⟩ => rfl | ⟨2, _⟩ => rfl
  exact (ref_at _ _ _ hq hk b s x).trans (final_at m c b hq hk s x).symm

/-- The claim of values: from the same finite arguments the kernel and the reference end with equal results. -/
theorem algebraic : Cert.algebraic_KernelIdeal_ReferenceIdeal_pre_finite := by
  intro m g m' g' hp hagree
  refine ⟨fun c => (KernelIdeal.Gen.dats m 0 c).arrAt 3 KernelIdeal.cfg0.N, KernelIdeal.Value.run_blocks m g, ?_⟩
  refine (θ_run ReferenceIdeal.defs _ _).mono (fun r h c => ⟨(h c).1.trans ?_, (h c).2⟩) (ReferenceIdeal.Value.run m' g')
  rw [ReferenceIdeal.Read.val_main_v26_eq, (hagree c).1, (hagree c).2.1, (hagree c).2.2]
  obtain ⟨hq, hk⟩ := finite_entries _ _ _ (hp c)
  exact result_eq m c hq hk

/-- The reference's frame: its run read at the arguments; it declares no semaphore. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run ReferenceIdeal.defs _ _).mono (fun r h => ⟨fun c => (h c).2, sem_eq_zero_of_no_sems (by decide) r.2⟩) (ReferenceIdeal.Value.run m g)

end Cert.Attn
-- ==== Proof.ExpertsKit.lean ====
/-
  The experts' pallas_call: what its frame is stated over.

  The call reads three prefetched tables, its output is stored under a condition on a word of the third, and two host
  casts of the weights come before it.  This module holds the contents of the buffers when the region starts, the
  tables, the windows' blocks, and how a finished run gives back the argument arrays.  Everything is over any values
  `F`, so that one run serves the compiled program and the idealized one, whose text is the same.
-/
module

public import proofs.«01_k».proof.Proof.Gen.Kernel2Ideal.Launch
public import proofs.«01_k».proof.Proof.Gen.Kernel2Ideal.Skeleton
public import proofs.«01_k».proof.Proof.Gen.Kernel2Ideal
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S151 .i32 := Memref.whole main_arg0
abbrev htbM0_0 : tbM0_0.IsWhole := Memref.isWhole_whole _
abbrev tbM0_1 : Memref sig .tc .smem S151 .i32 := Memref.whole main_arg1
abbrev htbM0_1 : tbM0_1.IsWhole := Memref.isWhole_whole _
abbrev tbM0_2 : Memref sig .tc .smem S151 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- One staging buffer of output window 3, through which its contents are stated (`View.read_writes_of_cover`: the
    choice does not matter). -/
abbrev VO0_3 : View sig .tc .vmem S512x1024 .bf16 := (Memref.whole cc0_stg3_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x5632 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S512x2816 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The word of the third table the body reads at a point, to decide whether the tile holds tokens, -/
abbrev word1 (c : Dev nD) (i : grid0.Coords) (x : TbBuf0 (F := F) c tbM0_2) : BitVec 32 :=
  View.readAt (Elt F) tbM0_2.view (Rect.unit (s := S151) (k0_off1 i) S1.size (k0_off1_inb i)).toLoadRect x (Shape.Idx.first (numel1_S1.symm ▸ Nat.one_pos))

/-- and the one it reads to decide whether to clear the output. -/
abbrev word2 (c : Dev nD) (i : grid0.Coords) (x : TbBuf0 (F := F) c tbM0_2) : BitVec 32 :=
  View.readAt (Elt F) tbM0_2.view (Rect.unit (s := S151) (k0_off2 i) S1.size (k0_off2_inb i)).toLoadRect x (Shape.Idx.first (numel1_S1.symm ▸ Nat.one_pos))

/-- The kernel body at point `t`, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

end Cert.Experts

end
-- ==== Proof.ExpertsLive.lean ====
/-
  The experts' body at a grid point whose tile holds tokens: the eleven stripes of the hidden layer into the scratch,
  the last matrix product into the output block.
-/
module

public import proofs.«01_k».proof.Proof.ExpertsKit

@[expose] public section

-- membership in a rectangle of production extents (`View.cover_of_tiled`): the elaborator's structural look
-- recurses once per coordinate of the long axes
set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave when the first condition holds and the second does not: the pieces written into the output
    block and into the scratch, with the body's triple. -/
noncomputable def liveRun (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : k0_cond1 (word1 c i xt2) = 1#1) (h2 : ¬ k0_cond2 (word2 c i xt2) = 1#1) :
    Σ' (L3 : List (View.Piece (Elt F) S512x1024 .bf16)), { LT0 : List (View.Piece (Elt F) S512x2816 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LT0) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    isplitl [HT1]; · iexact HT1
    iexact HT2

end Cert.Experts

end
-- ==== Proof.ExpertsSpare.lean ====
/- The experts' body at a grid point whose tile is empty: the output block is cleared. -/
module

public import proofs.«01_k».proof.Proof.ExpertsLive

@[expose] public section

-- membership in a rectangle of production extents (`View.cover_of_tiled`): the elaborator's structural look
-- recurses once per coordinate of the long axes
set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave when the second condition holds and the first does not: the pieces written into the output
    block, with the body's triple. -/
noncomputable def spareRun (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : ¬ k0_cond1 (word1 c i xt2) = 1#1) (h2 : k0_cond2 (word2 c i xt2) = 1#1) :
    { L3 : List (View.Piece (Elt F) S512x1024 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ d, owns (c : Thread nD τ) arg8 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HT0, HT1, HT2, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; iexists _; isplitr
      swap; · iexact HS0
      ipureintro; rfl
    isplitl [HT0]; · iexact HT0
    isplitl [HT1]; · iexact HT1
    iexact HT2

end Cert.Experts

end
-- ==== Proof.ExpertsFrame.lean ====
/-
  The frame of the experts' pallas_call: the two runs of the body put together, the proof data of the pipeline, its body
  obligation at every point, the launch, and the claim that arguments end unchanged.
-/
module

public import proofs.«01_k».proof.Proof.ExpertsSpare
public import Idealize.ShloMosaic.Lib.Claim

@[expose] public section

-- membership in a rectangle of production extents (`View.cover_of_tiled`): the elaborator's structural look
-- recurses once per coordinate of the long axes
set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- One word decides both conditions: it is not zero, or it is. -/
theorem not_cond2 (w : BitVec 32) (h : k0_cond1 w = 1#1) : ¬ k0_cond2 w = 1#1 := by
  revert h
  unfold k0_cond1 k0_cond2
  by_cases hw : w = 0#32
  · subst hw; decide
  · have e : (w == 0#32) = false := by simpa using hw
    simp [Scalar.cmpi, Scalar.extui, IntOp.cmpi, bne, e]

theorem cond2_of (w : BitVec 32) (h : ¬ k0_cond1 w = 1#1) : k0_cond2 w = 1#1 := by
  revert h
  unfold k0_cond1 k0_cond2
  by_cases hw : w = 0#32
  · subst hw; decide
  · have e : (w == 0#32) = false := by simpa using hw
    simp [Scalar.cmpi, Scalar.extui, IntOp.cmpi, bne, e]

/-- The one store covers the output block. -/
theorem cover_live (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : k0_cond1 (word1 c i xt2) = 1#1) (h2 : ¬ k0_cond2 (word2 c i xt2) = 1#1) (y : S512x1024.Idx) :
    ∃ pc ∈ (liveRun c i arg4 harg4 arg5 harg5 arg6 harg6 arg7 harg7 arg8 harg8 x0 x1 x2 xt0 xt1 xt2 h1 h2).1, y ∈ pc.1.set :=
  View.cover_of_tiledL (liveRun c i arg4 harg4 arg5 harg5 arg6 harg6 arg7 harg7 arg8 harg8 x0 x1 x2 xt0 xt1 xt2 h1 h2).1 S512x1024.size (by sl_kernel_rfl) y

/-- What the run leaves in the output block. -/
def out_live (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : k0_cond1 (word1 c i xt2) = 1#1) (h2 : ¬ k0_cond2 (word2 c i xt2) = 1#1) : Vec F S512x1024 .bf16 :=
  VO0_3.read (Elt F) (VO0_3.writes (Elt F) VO0_3.junk (liveRun c i arg4 harg4 arg5 harg5 arg6 harg6 arg7 harg7 arg8 harg8 x0 x1 x2 xt0 xt1 xt2 h1 h2).1)

/-- The one store covers the output block. -/
theorem cover_spare (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : ¬ k0_cond1 (word1 c i xt2) = 1#1) (h2 : k0_cond2 (word2 c i xt2) = 1#1) (y : S512x1024.Idx) :
    ∃ pc ∈ (spareRun c i arg4 harg4 arg5 harg5 arg6 harg6 arg7 harg7 arg8 harg8 x0 x1 x2 xt0 xt1 xt2 h1 h2).1, y ∈ pc.1.set :=
  View.cover_of_tiledL (spareRun c i arg4 harg4 arg5 harg5 arg6 harg6 arg7 harg7 arg8 harg8 x0 x1 x2 xt0 xt1 xt2 h1 h2).1 S512x1024.size (by sl_kernel_rfl) y

/-- What the run leaves in the output block. -/
def out_spare (c : Dev nD) (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec F S512x1024 .bf16) (x1 : Vec F S1x1024x5632 .bf16) (x2 : Vec F S1x2816x1024 .bf16) (xt0 : TbBuf0 (F := F) c tbM0_0) (xt1 : TbBuf0 (F := F) c tbM0_1) (xt2 : TbBuf0 (F := F) c tbM0_2)
    (h1 : ¬ k0_cond1 (word1 c i xt2) = 1#1) (h2 : k0_cond2 (word2 c i xt2) = 1#1) : Vec F S512x1024 .bf16 :=
  VO0_3.read (Elt F) (VO0_3.writes (Elt F) VO0_3.junk (spareRun c i arg4 harg4 arg5 harg5 arg6 harg6 arg7 harg7 arg8 harg8 x0 x1 x2 xt0 xt1 xt2 h1 h2).1)

/-! ## What the output block holds after each point -/

/-- The output block after the body at point `t`: of the run its word names. -/
def outsAt0 (hO : Ok m) (c : Dev nD) (t : Fin (cfgM m hO).N) : Vec F S512x1024 .bf16 :=
  if h : k0_cond1 (word1 c (grid0.coords t) (tbl m 2)) = 1#1 then
    out_live c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) (tbl m 2) h (not_cond2 _ h)
  else
    out_spare c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) (tbl m 2) h (cond2_of _ h)

/-- No point leaves the output block as it was: one of the two conditions holds. -/
theorem idle_false (hO : Ok m) (t : Fin (cfgM m hO).N) : (cfgM m hO).idle 3 ((cfgM m hO).grid.coords t) = false := by
  have e : ∀ w : BitVec 32, (!(k0_cond1 w == 1#1) && !(k0_cond2 w == 1#1)) = false := fun w => by
    by_cases h : k0_cond1 w = 1#1
    · simp [h]
    · simp [cond2_of w h]
  exact e _

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at any point: the inputs' blocks are in place, so the run the point's word names applies. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  unfold outsAt0
  by_cases hw : k0_cond1 (word1 c (grid0.coords t) (tbl m 2)) = 1#1
  · rw [dif_pos hw]
    unfold out_live
    iintro ⟨⟨⟨HS0, Hg⟩, ⟨HT0, HT1, HT2⟩⟩, Ho, ⟨%d0, H0⟩, ⟨%d1, H1⟩, ⟨%d2, H2⟩, ⟨%d3, H3⟩⟩
    iapply ((liveRun c (grid0.coords t) _ _ _ _ _ _ _ _ _ _ (iblk m hO c 0 t) (iblk m hO c 1 t) (iblk m hO c 2 t) (tbl m 0) (tbl m 1) (tbl m 2) hw (not_cond2 _ hw)).2.2 Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    iintro ⟨H0, H1, H2, ⟨%e3, H3⟩, ⟨%fT0, HS0⟩, HT0, HT1, HT2⟩
    isplitl [HS0 Hg HT0 HT1 HT2]
    · isplitl [HS0 Hg]
      · isplitl [HS0]
        · iexists _; unfold owns; iexists _; isplitr
          swap; · iexact HS0
          ipureintro; rfl
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_live c _ _ _ _ _ _ _ _ _ _ _ _ _ _ _ _ _ _ _)
  · rw [dif_neg hw]
    unfold out_spare
    iintro ⟨⟨⟨HS0, Hg⟩, ⟨HT0, HT1, HT2⟩⟩, Ho, ⟨%d0, H0⟩, ⟨%d1, H1⟩, ⟨%d2, H2⟩, ⟨%d3, H3⟩⟩
    iapply ((spareRun c (grid0.coords t) _ _ _ _ _ _ _ _ _ _ (iblk m hO c 0 t) (iblk m hO c 1 t) (iblk m hO c 2 t) (tbl m 0) (tbl m 1) (tbl m 2) hw (cond2_of _ hw)).2 Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    isplitl [HT2]; · iexact HT2
    iintro ⟨H0, H1, H2, ⟨%e3, H3⟩, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_spare c _ _ _ _ _ _ _ _ _ _ _ _ _ _ _ _ _ _ _)

/-- The body table's row at point `t`'s slots is the body as `bodyAt` spells it. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have key : ∀ (b : Bool) (A B : sProp 𝕄), b = false → B ⊢ (match b with | true => A | false => B) := by
    rintro _ A B rfl; exact .rfl
  unfold bodyPost
  exact sep_mono .rfl (sep_mono .rfl (sep_mono .rfl (sep_mono .rfl (sep_mono .rfl (key _ _ _ (idle_false m hO t))))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`; here for every contents of the PREFETCHED TABLES, UNDER `Gen.Ok m` (the pipeline's side condition of
    them), which Proof.lean proves from the precondition: `⟨…, fun m ρ h => Cert.Kernel2Ideal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Experts

end
-- ==== Proof.ExpertsTables.lean ====
/-
  The experts' tables: what the precondition says of a step's three words, and that under it every block the windows
  name lies inside its array.
-/
module

public import proofs.«01_k».proof.Proof.ExpertsFrame
public import proofs.«01_k».proof.Pre_tables
public import proofs.«01_k».proof.Proof.Gen.Pre_tables
public import Idealize.ShloMosaic.Lib.Affine

@[expose] public section

noncomputable section

namespace Cert.Experts

open Cert.Kernel2Ideal Cert.Kernel2Ideal.Gen
open Idealize.ShloMosaic Idealize.ShloMosaic.TcCoe Idealize.SL.Sem

variable {F : FTy → Type} [FloatOps F]

/-- A step's place in a table. -/
def pt (i : grid0.Coords) : S151.Idx := fun a => ⟨(i 0).val, by obtain rfl : a = 0 := Subsingleton.elim _ _; exact (i 0).isLt⟩

/-- What the precondition says of a step's words: the tile's block, its expert, whether it holds tokens.  The expert is
    one of eight; a tile that holds tokens names a block among its expert's 66, another names the spare block, 528. -/
def Good (tb te tv : BitVec 32) : Prop :=
  te.toNat < 8 ∧ ((tv ≠ 0#32 ∧ 66 * te.toNat ≤ tb.toNat ∧ tb.toNat < 66 * te.toNat + 66) ∨ (tv = 0#32 ∧ tb.toNat = 528))

/-- The precondition, read at a step. -/
theorem good_of_fn (a0 a1 a2 : IVec S151 32) (a3 : FVec F S270848x1024 .bf16) (a4 : FVec F S8x1024x5632 .f32) (a5 : FVec F S8x2816x1024 .f32) (x : S151.Idx)
    (h : Pre_tables.fn (F := F) a0 a1 a2 a3 a4 a5 x = 1#1) : Good (a0 x) (a1 x) (a2 x) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have sel (p q r : Bool) : Scalar.select (BitVec.ofBool p) (BitVec.ofBool q) (BitVec.ofBool r) = BitVec.ofBool (if p then q else r) := by
    cases p <;> rfl
  generalize e0 : a0 x = w0
  generalize e1 : a1 x = w1
  generalize e2 : a2 x = w2
  simp only [Pre_tables.fn, Pre_tables.fn_where, andi, cmpi, muli, addi, select, broadcastInDim, constantI, IntOp.cmpi,
    andi_ofBool, sel, ofBool_eq_one, Bool.and_eq_true, e0, e1, e2, IntOp.muli, IntOp.addi] at h
  obtain ⟨⟨h1, h2⟩, h3⟩ := h
  have t8 : w1.toNat < 8 := by
    simp only [BitVec.sle, BitVec.slt, decide_eq_true_eq, BitVec.toInt, BitVec.toNat_ofNat] at h1 h2; omega
  refine ⟨t8, ?_⟩
  by_cases hw : w2 = 0#32
  · subst hw
    right
    refine ⟨rfl, ?_⟩
    have : w0 = 528#32 := by simpa using h3
    rw [this]; rfl
  · left
    refine ⟨hw, ?_⟩
    have hn : (w2 != 0#32) = true := by simpa using hw
    rw [hn] at h3
    simp only [if_true, Bool.and_eq_true] at h3
    obtain ⟨h4, h5⟩ := h3
    have m1 : (w1 * 66#32).toNat = w1.toNat * 66 := by
      rw [BitVec.toNat_mul, BitVec.toNat_ofNat, Nat.mod_eq_of_lt]; omega
    have m2 : (w1 * 66#32 + 66#32).toNat = w1.toNat * 66 + 66 := by
      rw [BitVec.toNat_add, m1, BitVec.toNat_ofNat, Nat.mod_eq_of_lt]; omega
    simp only [BitVec.sle, BitVec.slt, decide_eq_true_eq, BitVec.toInt, m1, m2] at h4 h5
    have := w0.isLt
    constructor <;> split at h4 <;> split at h4 <;> split at h5 <;> omega

variable (m : (ℓ : Loc nD τ sig) → Buf (Elt F) ℓ)

/-- The block's number, the expert's number and the word that says whether the tile holds tokens, at a step. -/
abbrev tbW (i : grid0.Coords) : BitVec 32 := m (((0 : Dev nD) : Thread nD τ).loc main_arg0) (pt i)
abbrev teW (i : grid0.Coords) : BitVec 32 := m (((0 : Dev nD) : Thread nD τ).loc main_arg1) (pt i)
abbrev tvW (i : grid0.Coords) : BitVec 32 := m (((0 : Dev nD) : Thread nD τ).loc main_arg2) (pt i)

/-- The place in a table a step's load names. -/
theorem off1_val (i : grid0.Coords) : k0_off1 i 0 = (i 0).val := by
  have h : (i 0).val < 151 := (i 0).isLt
  show (BitVec.ofNat 32 (i 0).val).toNat = _
  rw [BitVec.toNat_ofNat, Nat.mod_eq_of_lt]; omega

theorem off1_emb (i : grid0.Coords) (h : ∀ a, k0_off1 i a + S1.size a ≤ S151.size a) (y : S1.Idx) :
    (Rect.unit (s := S151) (k0_off1 i) S1.size h).emb y = pt i := by
  funext a
  obtain rfl : a = 0 := Subsingleton.elim _ _
  apply Fin.ext
  have hy : (y 0).val < 1 := (y 0).isLt
  show k0_off1 i 0 + 1 * (y 0).val = (i 0).val
  rw [off1_val]; omega

theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0

/-- The block each window takes at a step. -/
theorem ix_xs (i : grid0.Coords) : cc0_transform_0 k0_off1_inb numel1_S1 (tbl m) i = ![(tbW m i).toNat, 0] := by
  have e : (tbl m).at 0 (Rect.unit (s := S151) (k0_off1 i) S1.size (k0_off1_inb i)) numel1_S1 = tbW m i := by
    show tbl m 0 _ = _
    rw [tbl0]; exact congrArg _ (off1_emb i _ _)
  unfold cc0_transform_0
  exact congrArg (fun w : BitVec 32 => ![w.toNat, 0]) e
theorem ix_wgu (i : grid0.Coords) : cc0_transform_1 k0_off1_inb numel1_S1 (tbl m) i = ![(teW m i).toNat, 0, 0] := by
  have e : (tbl m).at 1 (Rect.unit (s := S151) (k0_off1 i) S1.size (k0_off1_inb i)) numel1_S1 = teW m i := by
    show tbl m 1 _ = _
    rw [tbl1]; exact congrArg _ (off1_emb i _ _)
  unfold cc0_transform_1
  exact congrArg (fun w : BitVec 32 => ![w.toNat, 0, 0]) e
theorem ix_wdown (i : grid0.Coords) : cc0_transform_2 k0_off1_inb numel1_S1 (tbl m) i = ![(teW m i).toNat, 0, 0] := ix_wgu m i
theorem ix_out (i : grid0.Coords) : cc0_transform_3 k0_off1_inb numel1_S1 (tbl m) i = ![(tbW m i).toNat, 0] := ix_xs m i

/-- The word the body reads is the step's. -/
theorem word1_eq (c : Dev nD) (i : grid0.Coords) : word1 c i (tbl m 2) = tvW m i := by
  show tbl m 2 _ = _
  rw [tbl2]; exact congrArg _ (off1_emb i _ _)

/-- Every step's words are as the precondition says. -/
def AllGood : Prop := ∀ i : grid0.Coords, Good (tbW m i) (teW m i) (tvW m i)

/-- Under the precondition every block the windows name lies inside its array. -/
theorem ok_of_good (h : AllGood m) : Ok m := by
  have b0 (i : grid0.Coords) : ∀ a, ((![(tbW m i).toNat, 0] : Fin 2 → Nat) a + 1) * S512x1024.size a ≤ S270848x1024.size a := by
    obtain ⟨h8, h⟩ := h i
    have : (tbW m i).toNat ≤ 528 := by rcases h with ⟨_, _, _⟩ | ⟨_, _⟩ <;> omega
    intro a
    match a with
    | ⟨0, _⟩ => show ((tbW m i).toNat + 1) * 512 ≤ 270848; omega
    | ⟨1, _⟩ => show (0 + 1) * 1024 ≤ 1024; omega
  have b1 (i : grid0.Coords) : ∀ a, ((![(teW m i).toNat, 0, 0] : Fin 3 → Nat) a + 1) * S1x1024x5632.size a ≤ S8x1024x5632.size a := by
    obtain ⟨h8, -⟩ := h i
    intro a
    match a with
    | ⟨0, _⟩ => show ((teW m i).toNat + 1) * 1 ≤ 8; omega
    | ⟨1, _⟩ => show (0 + 1) * 1024 ≤ 1024; omega
    | ⟨2, _⟩ => show (0 + 1) * 5632 ≤ 5632; omega
  have b2 (i : grid0.Coords) : ∀ a, ((![(teW m i).toNat, 0, 0] : Fin 3 → Nat) a + 1) * S1x2816x1024.size a ≤ S8x2816x1024.size a := by
    obtain ⟨h8, -⟩ := h i
    intro a
    match a with
    | ⟨0, _⟩ => show ((teW m i).toNat + 1) * 1 ≤ 8; omega
    | ⟨1, _⟩ => show (0 + 1) * 2816 ≤ 2816; omega
    | ⟨2, _⟩ => show (0 + 1) * 1024 ≤ 1024; omega
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [ix_xs]; exact b0 i
  · rw [ix_wgu]; exact b1 i
  · rw [ix_wdown]; exact b2 i
  · rw [ix_out]; exact b0 i

/-- The precondition of all three tables, read step by step. -/
theorem allGood_of (h : ∀ c : Dev nD, Pre_tables.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) : AllGood m := fun i =>
  good_of_fn _ _ _ _ _ _ (pt i) (congrFun (h 0) (pt i))

end Cert.Experts

end
-- ==== Proof.ExpertsPoint.lean ====
/-
  What one step of the experts' kernel writes, at a row and a column: the gated products of a row of the tile, stored
  256 columns at a time, and their product with the second weights.
-/
module

public import proofs.«01_k».proof.Proof.ExpertsTables
public import Idealize.ShloMosaic.Lib.WholeRead
public import proofs.«01_k».proof.Proof.Words
public import Idealize.ShloMosaic.Lib.Pipeline.Value

@[expose] public section

noncomputable section

namespace Cert.Experts

open Cert.Kernel2Ideal Cert.Kernel2Ideal.Gen
open Idealize.ShloMosaic Idealize.ShloMosaic.TcCoe Idealize.ShloMosaic.Tactic

/-- The gate: a number times one over one plus the exponential of its negative, as the kernel computes it. -/
def gate (x : EReal) : EReal := x * Ideal.div 1 (1 + Ideal.exp (0 - x))

theorem pay4_at (x : Vec Ideal S512x1024 .bf16) (g u : Vec Ideal S1x1024x256 .bf16) (r : Fin 512) (k : Fin 256) :
    k0_pay4 (F := Ideal) x g u (Idealize.ShloMosaic.ix2 r k)
      = gate (∑ d : Fin 1024, x (Idealize.ShloMosaic.ix2 r d) * g (Idealize.ShloMosaic.ix3 0 d k))
        * ∑ d : Fin 1024, x (Idealize.ShloMosaic.ix2 r d) * u (Idealize.ShloMosaic.ix3 0 d k) := by
  unfold_payloads
  pointwise [dot_S512x1024_S1024x256_S512x256_1_0_0_1_n_n]
  unfold gate
  simp only [Ideal.ofBits_one_f32, Ideal.ofBits_zero_f32]

theorem pay2_at (a : Vec Ideal S512x2816 .bf16) (w : Vec Ideal S1x2816x1024 .bf16) (r : Fin 512) (k : Fin 1024) :
    k0_pay2 (F := Ideal) a w (Idealize.ShloMosaic.ix2 r k)
      = ∑ f : Fin 2816, a (Idealize.ShloMosaic.ix2 r f) * w (Idealize.ShloMosaic.ix3 0 f k) := by
  unfold_payloads
  pointwise [dot_S512x2816_S2816x1024_S512x1024_1_0_0_1_n_n]

theorem pay3_at (y : S512x1024.Idx) : k0_pay3 (F := Ideal) y = 0 := by
  show Ideal.ofBits .bf16 0#16 = 0
  simp [Ideal.ofBits, Ideal.ieee]

/-- The gated product at a row of the tile and a column of the hidden layer. -/
def act (x : S512x1024.Idx → EReal) (w : S1x1024x5632.Idx → EReal) (r : Fin 512) (f : Fin 2816) : EReal :=
  gate (∑ d : Fin 1024, x (Idealize.ShloMosaic.ix2 r d) * w (Idealize.ShloMosaic.ix3 0 d ⟨f.val, by omega⟩))
    * ∑ d : Fin 1024, x (Idealize.ShloMosaic.ix2 r d) * w (Idealize.ShloMosaic.ix3 0 d ⟨2816 + f.val, by omega⟩)

/-- What the scratch holds. -/
def hidden (x : S512x1024.Idx → EReal) (w : S1x1024x5632.Idx → EReal) : S512x2816.Idx → EReal := fun y => act x w (y 0) (y 1)

variable (arg4 : Memref sig .tc .vmem S512x1024 .bf16) (harg4 : arg4.IsWhole) (arg5 : Memref sig .tc .vmem S1x1024x5632 .bf16) (harg5 : arg5.IsWhole)
  (arg6 : Memref sig .tc .vmem S1x2816x1024 .bf16) (harg6 : arg6.IsWhole) (x0 : Vec Ideal S512x1024 .bf16) (x1 : Vec Ideal S1x1024x5632 .bf16) (x2 : Vec Ideal S1x2816x1024 .bf16)

/-- The tile's rows, loaded. -/
theorem load_x (inb : ∀ a, (![0, 0] : Fin 2 → ℕ) a + S512x1024.size a ≤ S512x1024.size a) :
    View.readAt (Elt Ideal) arg4.view (Rect.unit (s := S512x1024) ![0, 0] S512x1024.size inb).toLoadRect (harg4.unread x0) = x0 := by
  funext y
  refine (harg4.readAt_unread x0 _ y).trans (congrArg x0 ?_)
  funext a; apply Fin.ext
  match a with
  | ⟨0, _⟩ => show 0 + 1 * (y 0).val = (y 0).val; omega
  | ⟨1, _⟩ => show 0 + 1 * (y 1).val = (y 1).val; omega

/-- The second weights, loaded. -/
theorem load_w (inb : ∀ a, (![0, 0, 0] : Fin 3 → ℕ) a + S1x2816x1024.size a ≤ S1x2816x1024.size a) :
    View.readAt (Elt Ideal) arg6.view (Rect.unit (s := S1x2816x1024) ![0, 0, 0] S1x2816x1024.size inb).toLoadRect (harg6.unread x2) = x2 := by
  funext y
  refine (harg6.readAt_unread x2 _ y).trans (congrArg x2 ?_)
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- 256 columns of the first weights, loaded. -/
theorem load_cols (o : ℕ) (inb : ∀ a, (![0, 0, o] : Fin 3 → ℕ) a + S1x1024x256.size a ≤ S1x1024x5632.size a) (d : Fin 1024) (k : Fin 256) (h : o + k.val < 5632) :
    View.readAt (Elt Ideal) arg5.view (Rect.unit (s := S1x1024x5632) ![0, 0, o] S1x1024x256.size inb).toLoadRect (harg5.unread x1) (Idealize.ShloMosaic.ix3 0 d k)
      = x1 (Idealize.ShloMosaic.ix3 0 d ⟨o + k.val, h⟩) := by
  refine (harg5.readAt_unread x1 _ _).trans (congrArg x1 ?_)
  funext a; apply Fin.ext
  match a with
  | ⟨0, _⟩ => rfl
  | ⟨1, _⟩ => show 0 + 1 * d.val = d.val; omega
  | ⟨2, _⟩ => show o + 1 * k.val = o + k.val; omega

/-- 256 columns of the gated products, as they are stored. -/
theorem piece_at (o o' : ℕ) (ho : o' = 2816 + o) (inbx : ∀ a, (![0, 0] : Fin 2 → ℕ) a + S512x1024.size a ≤ S512x1024.size a)
    (inbg : ∀ a, (![0, 0, o] : Fin 3 → ℕ) a + S1x1024x256.size a ≤ S1x1024x5632.size a)
    (inbu : ∀ a, (![0, 0, o'] : Fin 3 → ℕ) a + S1x1024x256.size a ≤ S1x1024x5632.size a)
    (inb : ∀ a, (![0, o] : Fin 2 → ℕ) a + S512x256.size a ≤ S512x2816.size a) (y : S512x256.Idx) :
    k0_pay4 (F := Ideal) (View.readAt (Elt Ideal) arg4.view (Rect.unit (s := S512x1024) ![0, 0] S512x1024.size inbx).toLoadRect (harg4.unread x0))
        (View.readAt (Elt Ideal) arg5.view (Rect.unit (s := S1x1024x5632) ![0, 0, o] S1x1024x256.size inbg).toLoadRect (harg5.unread x1))
        (View.readAt (Elt Ideal) arg5.view (Rect.unit (s := S1x1024x5632) ![0, 0, o'] S1x1024x256.size inbu).toLoadRect (harg5.unread x1)) y
      = hidden x0 x1 ((Rect.unit (s := S512x2816) ![0, o] S512x256.size inb).emb y) := by
  subst ho
  have h1 : o + 256 ≤ 2816 := inb 1
  obtain ⟨r, k, rfl⟩ : ∃ (r : Fin 512) (k : Fin 256), y = Idealize.ShloMosaic.ix2 r k := ⟨y 0, y 1, by
    funext a; match a with | ⟨0, _⟩ => rfl | ⟨1, _⟩ => rfl⟩
  have e : (Rect.unit (s := S512x2816) ![0, o] S512x256.size inb).emb (Idealize.ShloMosaic.ix2 r k) = (Idealize.ShloMosaic.ix2 r ⟨o + k.val, by omega⟩ : S512x2816.Idx) := by
    funext a; apply Fin.ext
    match a with
    | ⟨0, _⟩ => show 0 + 1 * r.val = r.val; omega
    | ⟨1, _⟩ => show o + 1 * k.val = o + k.val; omega
  rw [e, load_x, pay4_at]
  have eg : ∀ d : Fin 1024, _ = _ := fun d => load_cols arg5 harg5 x1 o inbg d k (by omega)
  have eu : ∀ d : Fin 1024, _ = _ := fun d => load_cols arg5 harg5 x1 (2816 + o) inbu d k (by omega)
  simp only [eg, eu]
  show _ = act x0 x1 r ⟨o + k.val, _⟩
  unfold act
  simp only [Nat.add_assoc]

/-- The scratch, filled by eleven stores, read whole. -/
theorem scratch_eq (c : Dev nD) (arg8 : Memref sig .tc .vmem S512x2816 .bf16) :
    liveRun.sl.v220 (F := Ideal) c arg4 harg4 arg5 harg5 arg8 x0 x1 = hidden x0 x1 := by
  unfold liveRun.sl.v220
  rw [View.readCov_eq_canon']
  funext y
  have hy : (Rect.unit (s := S512x2816) ![0, 0] ![512, 2816] inb_S512x2816_S512x2816_0_0).toLoadRect.idx y = y := by
    funext a; apply Fin.ext
    match a with
    | ⟨0, _⟩ => show 0 + 1 * (y 0).val = (y 0).val; omega
    | ⟨1, _⟩ => show 0 + 1 * (y 1).val = (y 1).val; omega
  refine Eq.trans (congrArg _ hy) ?_
  refine View.canon_apply_of_pieces (S := S512x2816) (hidden x0 x1) (liveRun.sl.HS0_11 (F := Ideal) c arg4 harg4 arg5 harg5 x0 x1) ?_ y ?_
  · unfold liveRun.sl.HS0_11
    refine List.forall_mem_cons.2 ⟨fun x => piece_at arg4 harg4 arg5 harg5 x0 x1 2560 5376 rfl inb_S512x1024_S512x1024_0_0 inb_S1x1024x5632_S1x1024x256_0_0_2560 inb_S1x1024x5632_S1x1024x256_0_0_5376 inb_S512x2816_S512x256_0_2560 x, ?_⟩
    refine List.forall_mem_cons.2 ⟨fun x => piece_at arg4 harg4 arg5 harg5 x0 x1 2304 5120 rfl inb_S512x1024_S512x1024_0_0 inb_S1x1024x5632_S1x1024x256_0_0_2304 inb_S1x1024x5632_S1x1024x256_0_0_5120 inb_S512x2816_S512x256_0_2304 x, ?_⟩
    refine List.forall_mem_cons.2 ⟨fun x => piece_at arg4 harg4 arg5 harg5 x0 x1 2048 4864 rfl inb_S512x1024_S512x1024_0_0 inb_S1x1024x5632_S1x1024x256_0_0_2048 inb_S1x1024x5632_S1x1024x256_0_0_4864 inb_S512x2816_S512x256_0_2048 x, ?_⟩
    refine List.forall_mem_cons.2 ⟨fun x => piece_at arg4 harg4 arg5 harg5 x0 x1 1792 4608 rfl inb_S512x1024_S512x1024_0_0 inb_S1x1024x5632_S1x1024x256_0_0_1792 inb_S1x1024x5632_S1x1024x256_0_0_4608 inb_S512x2816_S512x256_0_1792 x, ?_⟩
    refine List.forall_mem_cons.2 ⟨fun x => piece_at arg4 harg4 arg5 harg5 x0 x1 1536 4352 rfl inb_S512x1024_S512x1024_0_0 inb_S1x1024x5632_S1x1024x256_0_0_1536 inb_S1x1024x5632_S1x1024x256_0_0_4352 inb_S512x2816_S512x256_0_1536 x, ?_⟩
    refine List.forall_mem_cons.2 ⟨fun x => piece_at arg4 harg4 arg5 harg5 x0 x1 1280 4096 rfl inb_S512x1024_S512x1024_0_0 inb_S1x1024x5632_S1x1024x256_0_0_1280 inb_S1x1024x5632_S1x1024x256_0_0_4096 inb_S512x2816_S512x256_0_1280 x, ?_⟩
    refine List.forall_mem_cons.2 ⟨fun x => piece_at arg4 harg4 arg5 harg5 x0 x1 1024 3840 rfl inb_S512x1024_S512x1024_0_0 inb_S1x1024x5632_S1x1024x256_0_0_1024 inb_S1x1024x5632_S1x1024x256_0_0_3840 inb_S512x2816_S512x256_0_1024 x, ?_⟩
    refine List.forall_mem_cons.2 ⟨fun x => piece_at arg4 harg4 arg5 harg5 x0 x1 768 3584 rfl inb_S512x1024_S512x1024_0_0 inb_S1x1024x5632_S1x1024x256_0_0_768 inb_S1x1024x5632_S1x1024x256_0_0_3584 inb_S512x2816_S512x256_0_768 x, ?_⟩
    refine List.forall_mem_cons.2 ⟨fun x => piece_at arg4 harg4 arg5 harg5 x0 x1 512 3328 rfl inb_S512x1024_S512x1024_0_0 inb_S1x1024x5632_S1x1024x256_0_0_512 inb_S1x1024x5632_S1x1024x256_0_0_3328 inb_S512x2816_S512x256_0_512 x, ?_⟩
    refine List.forall_mem_cons.2 ⟨fun x => piece_at arg4 harg4 arg5 harg5 x0 x1 256 3072 rfl inb_S512x1024_S512x1024_0_0 inb_S1x1024x5632_S1x1024x256_0_0_256 inb_S1x1024x5632_S1x1024x256_0_0_3072 inb_S512x2816_S512x256_0_256 x, ?_⟩
    refine List.forall_mem_cons.2 ⟨fun x => piece_at arg4 harg4 arg5 harg5 x0 x1 0 2816 rfl inb_S512x1024_S512x1024_0_0 inb_S1x1024x5632_S1x1024x256_0_0_0 inb_S1x1024x5632_S1x1024x256_0_0_2816 inb_S512x2816_S512x256_0_0 x, ?_⟩
    intro p hp
    exact absurd hp (List.not_mem_nil)
  · exact View.cover_of_tiledL (liveRun.sl.HS0_11 (F := Ideal) c arg4 harg4 arg5 harg5 x0 x1) S512x256.size (by sl_kernel_rfl) y

end Cert.Experts

end
-- ==== Proof.ExpertsArray.lean ====
/-
  The experts' result array, at an index: the row that a step names holds its expert's gated layer of it.
-/
module

public import proofs.«01_k».proof.Proof.ExpertsPoint

@[expose] public section

set_option maxRecDepth 16384

noncomputable section

namespace Cert.Experts

open Cert.Kernel2Ideal Cert.Kernel2Ideal.Gen
open Idealize.ShloMosaic Idealize.ShloMosaic.TcCoe Idealize.ShloMosaic.Tactic Idealize.SL.Sem

/-- A row's gated product in expert `e`, at a column of the hidden layer. -/
def rowAct (xs : S270848x1024.Idx → EReal) (wg : S8x1024x5632.Idx → EReal) (e : Fin 8) (r : Fin 270848) (f : Fin 2816) : EReal :=
  gate (∑ d : Fin 1024, xs (Idealize.ShloMosaic.ix2 r d) * wg (Idealize.ShloMosaic.ix3 e d ⟨f.val, by omega⟩))
    * ∑ d : Fin 1024, xs (Idealize.ShloMosaic.ix2 r d) * wg (Idealize.ShloMosaic.ix3 e d ⟨2816 + f.val, by omega⟩)

/-- The experts' layer of the sorted rows: 33792 rows belong to each expert, the 512 after them are spare. -/
def moe (xs : S270848x1024.Idx → EReal) (wg : S8x1024x5632.Idx → EReal) (wd : S8x2816x1024.Idx → EReal) (r : Fin 270848) (k : Fin 1024) : EReal :=
  if h : r.val < 270336 then
    ∑ f : Fin 2816, rowAct xs wg ⟨r.val / 33792, by omega⟩ r f * wd (Idealize.ShloMosaic.ix3 ⟨r.val / 33792, by omega⟩ f k)
  else 0

variable (m : (ℓ : Loc nD τ sig) → Buf (Elt Ideal) ℓ) (c : Dev nD)

/-- The sorted rows and the weights that a device holds. -/
abbrev xsA : FVec Ideal S270848x1024 .bf16 := m ((c : Thread nD τ).loc main_arg3)
abbrev wguA : FVec Ideal S8x1024x5632 .f32 := m ((c : Thread nD τ).loc main_arg4)
abbrev wdnA : FVec Ideal S8x2816x1024 .f32 := m ((c : Thread nD τ).loc main_arg5)

/-- The first weights as the region finds them. -/
theorem V_wgu : V m c main_v0 = wguA m c := by
  simp only [V, hostOps0, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

/-- The second weights as the region finds them. -/
theorem V_wdn : V m c main_v1 = wdnA m c := by
  simp only [V, hostOps0, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

section blocks

variable (hO : Ok m) (t : Fin (cfgM m hO).N)

theorem emb0 (r : Fin 512) (d : Fin 1024) (h : (tbW m (grid0.coords t)).toNat * 512 + r.val < 270848) :
    (((cfgM m hO).win 0).blk t).view.emb (Idealize.ShloMosaic.ix2 r d) = Idealize.ShloMosaic.ix2 ⟨(tbW m (grid0.coords t)).toNat * 512 + r.val, h⟩ d := by
  have e := ix_xs m (grid0.coords t)
  have e0 := congrFun e 0
  have e1 := congrFun e 1
  funext a; apply Fin.ext
  match a with
  | ⟨0, _⟩ =>
    show cc0_transform_0 k0_off1_inb numel1_S1 (tbl m) (grid0.coords t) (0 : Fin 2) * 512 + 1 * r.val = (tbW m (grid0.coords t)).toNat * 512 + r.val
    rw [e0]; show (tbW m (grid0.coords t)).toNat * 512 + 1 * r.val = _; omega
  | ⟨1, _⟩ =>
    show cc0_transform_0 k0_off1_inb numel1_S1 (tbl m) (grid0.coords t) (1 : Fin 2) * 1024 + 1 * d.val = d.val
    rw [e1]; show 0 * 1024 + 1 * d.val = _; omega

theorem emb1 (d : Fin 1024) (f : Fin 5632) (h : (teW m (grid0.coords t)).toNat < 8) :
    (((cfgM m hO).win 1).blk t).view.emb (Idealize.ShloMosaic.ix3 0 d f) = Idealize.ShloMosaic.ix3 ⟨(teW m (grid0.coords t)).toNat, h⟩ d f := by
  have e := ix_wgu m (grid0.coords t)
  funext a; apply Fin.ext
  match a with
  | ⟨0, _⟩ =>
    show cc0_transform_1 k0_off1_inb numel1_S1 (tbl m) (grid0.coords t) (0 : Fin 3) * 1 + 1 * 0 = (teW m (grid0.coords t)).toNat
    rw [congrFun e 0]; show (teW m (grid0.coords t)).toNat * 1 + 1 * 0 = _; omega
  | ⟨1, _⟩ =>
    show cc0_transform_1 k0_off1_inb numel1_S1 (tbl m) (grid0.coords t) (1 : Fin 3) * 1024 + 1 * d.val = d.val
    rw [congrFun e 1]; show 0 * 1024 + 1 * d.val = _; omega
  | ⟨2, _⟩ =>
    show cc0_transform_1 k0_off1_inb numel1_S1 (tbl m) (grid0.coords t) (2 : Fin 3) * 5632 + 1 * f.val = f.val
    rw [congrFun e 2]; show 0 * 5632 + 1 * f.val = _; omega

theorem emb2 (f : Fin 2816) (k : Fin 1024) (h : (teW m (grid0.coords t)).toNat < 8) :
    (((cfgM m hO).win 2).blk t).view.emb (Idealize.ShloMosaic.ix3 0 f k) = Idealize.ShloMosaic.ix3 ⟨(teW m (grid0.coords t)).toNat, h⟩ f k := by
  have e := ix_wdown m (grid0.coords t)
  funext a; apply Fin.ext
  match a with
  | ⟨0, _⟩ =>
    show cc0_transform_2 k0_off1_inb numel1_S1 (tbl m) (grid0.coords t) (0 : Fin 3) * 1 + 1 * 0 = (teW m (grid0.coords t)).toNat
    rw [congrFun e 0]; show (teW m (grid0.coords t)).toNat * 1 + 1 * 0 = _; omega
  | ⟨1, _⟩ =>
    show cc0_transform_2 k0_off1_inb numel1_S1 (tbl m) (grid0.coords t) (1 : Fin 3) * 2816 + 1 * f.val = f.val
    rw [congrFun e 1]; show 0 * 2816 + 1 * f.val = _; omega
  | ⟨2, _⟩ =>
    show cc0_transform_2 k0_off1_inb numel1_S1 (tbl m) (grid0.coords t) (2 : Fin 3) * 1024 + 1 * k.val = k.val
    rw [congrFun e 2]; show 0 * 1024 + 1 * k.val = _; omega

theorem emb3 (r : Fin 512) (d : Fin 1024) (h : (tbW m (grid0.coords t)).toNat * 512 + r.val < 270848) :
    (((cfgM m hO).win 3).blk t).view.emb (Idealize.ShloMosaic.ix2 r d) = Idealize.ShloMosaic.ix2 ⟨(tbW m (grid0.coords t)).toNat * 512 + r.val, h⟩ d := emb0 m hO t r d h

/-- A step's rows are their array read at the block's places. -/
theorem iblk0_emb (y : S512x1024.Idx) (z : S270848x1024.Idx) (h : (((cfgM m hO).win 0).blk t).view.emb y = z) :
    iblk m hO c 0 t y = V m c main_arg3 z := by
  subst h
  unfold iblk
  exact (View.read_apply (Val := Elt Ideal) _ _).trans (cast_eq _ _)

/-- A step's first weights are their array read at the block's places. -/
theorem iblk1_emb (y : S1x1024x5632.Idx) (z : S8x1024x5632.Idx) (h : (((cfgM m hO).win 1).blk t).view.emb y = z) :
    iblk m hO c 1 t y = V m c main_v0 z := by
  subst h
  unfold iblk
  exact (View.read_apply (Val := Elt Ideal) _ _).trans (cast_eq _ _)

/-- A step's second weights are their array read at the block's places. -/
theorem iblk2_emb (y : S1x2816x1024.Idx) (z : S8x2816x1024.Idx) (h : (((cfgM m hO).win 2).blk t).view.emb y = z) :
    iblk m hO c 2 t y = V m c main_v1 z := by
  subst h
  unfold iblk
  exact (View.read_apply (Val := Elt Ideal) _ _).trans (cast_eq _ _)

/-- A step's tile of rows. -/
theorem iblk0_at (r : Fin 512) (d : Fin 1024) (h : (tbW m (grid0.coords t)).toNat * 512 + r.val < 270848) :
    (iblk m hO c 0 t (Idealize.ShloMosaic.ix2 r d) : EReal) = xsA m c (Idealize.ShloMosaic.ix2 ⟨(tbW m (grid0.coords t)).toNat * 512 + r.val, h⟩ d) := by
  have e : (iblk m hO c 0 t (Idealize.ShloMosaic.ix2 r d) : EReal) = V m c main_arg3 (Idealize.ShloMosaic.ix2 ⟨(tbW m (grid0.coords t)).toNat * 512 + r.val, h⟩ d) :=
    iblk0_emb m c hO t _ _ (emb0 m hO t r d h)
  rw [e, V_main_arg3]

/-- A step's first weights: its expert's. -/
theorem iblk1_at (d : Fin 1024) (f : Fin 5632) (h : (teW m (grid0.coords t)).toNat < 8) :
    (iblk m hO c 1 t (Idealize.ShloMosaic.ix3 0 d f) : EReal) = wguA m c (Idealize.ShloMosaic.ix3 ⟨(teW m (grid0.coords t)).toNat, h⟩ d f) := by
  have e : (iblk m hO c 1 t (Idealize.ShloMosaic.ix3 0 d f) : EReal) = V m c main_v0 (Idealize.ShloMosaic.ix3 ⟨(teW m (grid0.coords t)).toNat, h⟩ d f) :=
    iblk1_emb m c hO t _ _ (emb1 m hO t d f h)
  rw [e, V_wgu]

/-- A step's second weights: its expert's. -/
theorem iblk2_at (f : Fin 2816) (k : Fin 1024) (h : (teW m (grid0.coords t)).toNat < 8) :
    (iblk m hO c 2 t (Idealize.ShloMosaic.ix3 0 f k) : EReal) = wdnA m c (Idealize.ShloMosaic.ix3 ⟨(teW m (grid0.coords t)).toNat, h⟩ f k) := by
  have e : (iblk m hO c 2 t (Idealize.ShloMosaic.ix3 0 f k) : EReal) = V m c main_v1 (Idealize.ShloMosaic.ix3 ⟨(teW m (grid0.coords t)).toNat, h⟩ f k) :=
    iblk2_emb m c hO t _ _ (emb2 m hO t f k h)
  rw [e, V_wdn]

end blocks

/-- What a step that holds tokens leaves in the output block. -/
theorem live_at (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec Ideal S512x1024 .bf16) (x1 : Vec Ideal S1x1024x5632 .bf16) (x2 : Vec Ideal S1x2816x1024 .bf16) (xt0 : TbBuf0 (F := Ideal) c tbM0_0) (xt1 : TbBuf0 (F := Ideal) c tbM0_1) (xt2 : TbBuf0 (F := Ideal) c tbM0_2)
    (h1 : k0_cond1 (word1 c i xt2) = 1#1) (h2 : ¬ k0_cond2 (word2 c i xt2) = 1#1) (r : Fin 512) (k : Fin 1024) :
    (out_live c i arg4 harg4 arg5 harg5 arg6 harg6 arg7 harg7 arg8 harg8 x0 x1 x2 xt0 xt1 xt2 h1 h2 (Idealize.ShloMosaic.ix2 r k) : EReal)
      = ∑ f : Fin 2816, act x0 x1 r f * x2 (Idealize.ShloMosaic.ix3 0 f k) := by
  have e : out_live c i arg4 harg4 arg5 harg5 arg6 harg6 arg7 harg7 arg8 harg8 x0 x1 x2 xt0 xt1 xt2 h1 h2
      = k0_pay2 (F := Ideal) (liveRun.sl.v220 (F := Ideal) c arg4 harg4 arg5 harg5 arg8 x0 x1)
          (View.readAt (Elt Ideal) arg6.view (Rect.unit (s := S1x2816x1024) ![0, 0, 0] S1x2816x1024.size inb_S1x2816x1024_S1x2816x1024_0_0_0).toLoadRect (harg6.unread x2)) := by
    unfold out_live
    rw [View.read_writes_eq_canon _ _ _ (cover_live c i arg4 harg4 arg5 harg5 arg6 harg6 arg7 harg7 arg8 harg8 x0 x1 x2 xt0 xt1 xt2 h1 h2)]
    exact View.canon_unit_zero (by decide) _ _
  rw [e, scratch_eq, load_w, pay2_at]
  rfl

/-- What a step without tokens leaves in the output block: zeros. -/
theorem spare_at (i : grid0.Coords) (arg4 : Memref sig .tc .vmem S512x1024 .bf16) (harg4 : arg4.IsWhole) (arg5 : Memref sig .tc .vmem S1x1024x5632 .bf16) (harg5 : arg5.IsWhole) (arg6 : Memref sig .tc .vmem S1x2816x1024 .bf16) (harg6 : arg6.IsWhole) (arg7 : Memref sig .tc .vmem S512x1024 .bf16) (harg7 : arg7.IsWhole) (arg8 : Memref sig .tc .vmem S512x2816 .bf16) (harg8 : arg8.IsWhole)
    (x0 : Vec Ideal S512x1024 .bf16) (x1 : Vec Ideal S1x1024x5632 .bf16) (x2 : Vec Ideal S1x2816x1024 .bf16) (xt0 : TbBuf0 (F := Ideal) c tbM0_0) (xt1 : TbBuf0 (F := Ideal) c tbM0_1) (xt2 : TbBuf0 (F := Ideal) c tbM0_2)
    (h1 : ¬ k0_cond1 (word1 c i xt2) = 1#1) (h2 : k0_cond2 (word2 c i xt2) = 1#1) (r : Fin 512) (k : Fin 1024) :
    (out_spare c i arg4 harg4 arg5 harg5 arg6 harg6 arg7 harg7 arg8 harg8 x0 x1 x2 xt0 xt1 xt2 h1 h2 (Idealize.ShloMosaic.ix2 r k) : EReal) = 0 := by
  have e : out_spare c i arg4 harg4 arg5 harg5 arg6 harg6 arg7 harg7 arg8 harg8 x0 x1 x2 xt0 xt1 xt2 h1 h2 = k0_pay3 (F := Ideal) := by
    unfold out_spare
    rw [View.read_writes_eq_canon _ _ _ (cover_spare c i arg4 harg4 arg5 harg5 arg6 harg6 arg7 harg7 arg8 harg8 x0 x1 x2 xt0 xt1 xt2 h1 h2)]
    exact View.canon_unit_zero (by decide) _ _
  rw [e, pay3_at]

/-- A word that is not zero says that the tile holds tokens. -/
theorem cond1_iff (w : BitVec 32) : k0_cond1 w = 1#1 ↔ w ≠ 0#32 := by
  unfold k0_cond1
  by_cases hw : w = 0#32
  · subst hw; decide
  · have e : (w == 0#32) = false := by simpa using hw
    simp [Scalar.cmpi, Scalar.extui, IntOp.cmpi, bne, e, hw]

/-- WHAT A STEP LEAVES IN THE OUTPUT BLOCK: the experts' layer of the block's rows. -/
theorem outsAt_at (hO : Ok m) (hg : AllGood m) (t : Fin (cfgM m hO).N) (r : Fin 512) (k : Fin 1024) (h : (tbW m (grid0.coords t)).toNat * 512 + r.val < 270848) :
    (outsAt0 m hO c t (Idealize.ShloMosaic.ix2 r k) : EReal) = moe (xsA m c) (wguA m c) (wdnA m c) ⟨(tbW m (grid0.coords t)).toNat * 512 + r.val, h⟩ k := by
  obtain ⟨he, hw⟩ := hg (grid0.coords t)
  have hword : word1 c (grid0.coords t) (tbl m 2) = tvW m (grid0.coords t) := word1_eq m c (grid0.coords t)
  unfold outsAt0
  by_cases hc : k0_cond1 (word1 c (grid0.coords t) (tbl m 2)) = 1#1
  · rw [dif_pos hc]
    refine (live_at ..).trans ?_
    have hne := (cond1_iff _).1 hc
    rw [hword] at hne
    rcases hw with ⟨-, hlo, hhi⟩ | ⟨hz, -⟩
    · unfold moe
      have hrow : (tbW m (grid0.coords t)).toNat * 512 + r.val < 270336 := by omega
      have hexp : ((tbW m (grid0.coords t)).toNat * 512 + r.val) / 33792 = (teW m (grid0.coords t)).toNat := by omega
      rw [dif_pos hrow]
      have ee : (⟨((tbW m (grid0.coords t)).toNat * 512 + r.val) / 33792, by omega⟩ : Fin 8) = ⟨(teW m (grid0.coords t)).toNat, he⟩ := Fin.ext hexp
      rw [ee]
      refine Finset.sum_congr rfl fun f _ => ?_
      rw [iblk2_at m c hO t f k he]
      unfold act rowAct
      simp only [iblk0_at m c hO t _ _ h, iblk1_at m c hO t _ _ he]
    · exact absurd hz hne
  · rw [dif_neg hc]
    refine (spare_at ..).trans ?_
    have hz : tvW m (grid0.coords t) = 0#32 := by
      by_contra hne
      exact hc ((cond1_iff _).2 (by rw [hword]; exact hne))
    rcases hw with ⟨hne, -⟩ | ⟨-, hb⟩
    · exact absurd hz hne
    · unfold moe
      rw [dif_neg (by show ¬ (tbW m (grid0.coords t)).toNat * 512 + r.val < 270336; omega)]

end Cert.Experts

end
-- ==== Proof.ExpertsFinal.lean ====
/-
  The experts' result array after the run: every row of a block that some step names holds its expert's layer.
-/
module

public import proofs.«01_k».proof.Proof.ExpertsArray

@[expose] public section

set_option maxRecDepth 16384

noncomputable section

namespace Cert.Experts

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The grid has one axis. -/
theorem coords_val : ∀ t : Fin grid0.N, (grid0.coords t 0).val = t.val := by decide +kernel

/-- Of the steps that name a block, the last run of equal names ends with a write-back. -/
theorem exists_flush (hO : Ok m) : ∀ (n : ℕ) (t : Fin (cfgM m hO).N), (cfgM m hO).N - t.val = n →
    ∃ t' : Fin (cfgM m hO).N, ((cfgM m hO).win 3).flush t' = true ∧ (tbW m (grid0.coords t')).toNat = (tbW m (grid0.coords t)).toNat
  | 0, t, h => absurd t.isLt (by omega)
  | n + 1, t, h => by
    by_cases hf : ((cfgM m hO).win 3).flush t = true
    · exact ⟨t, hf, rfl⟩
    · have hlast : t.val + 1 ≠ (cfgM m hO).N := fun e => hf (by
        unfold Pipeline.Window.flush
        rw [show ((cfgM m hO).win 3).isOut = true from rfl, decide_eq_true (show t.val + 1 = (cfgM m hO).grid.N from e)]
        rfl)
      have hlt : t.val + 1 < (cfgM m hO).N := by have := t.isLt; omega
      have hix : ((cfgM m hO).win 3).index ⟨t.val + 1, hlt⟩ = ((cfgM m hO).win 3).index t := by
        by_contra hne
        refine hf ?_
        unfold Pipeline.Window.flush
        rw [show ((cfgM m hO).win 3).isOut = true from rfl, decide_eq_true (show ∃ h : t.val + 1 < (cfgM m hO).grid.N, ((cfgM m hO).win 3).index ⟨t.val + 1, h⟩ ≠ ((cfgM m hO).win 3).index t from ⟨hlt, hne⟩)]
        simp
      obtain ⟨t', hf', e'⟩ := exists_flush hO n ⟨t.val + 1, hlt⟩ (by show (cfgM m hO).N - (t.val + 1) = n; omega)
      refine ⟨t', hf', e'.trans ?_⟩
      have a1 := ix_out m (grid0.coords ⟨t.val + 1, hlt⟩)
      have a2 := ix_out m (grid0.coords t)
      have hix' : cc0_transform_3 k0_off1_inb numel1_S1 (tbl m) (grid0.coords ⟨t.val + 1, hlt⟩) = cc0_transform_3 k0_off1_inb numel1_S1 (tbl m) (grid0.coords t) := hix
      rw [a1, a2] at hix'
      exact congrFun hix' 0

/-- The whole array that the write-backs agree with. -/
def whole : S270848x1024.Idx → EReal := fun i => moe (xsA m c) (wguA m c) (wdnA m c) (i 0) (i 1)

theorem row_lt (hg : AllGood m) (i : grid0.Coords) (r : Fin 512) : (tbW m i).toNat * 512 + r.val < 270848 := by
  obtain ⟨he, hw⟩ := hg i
  rcases hw with ⟨-, -, h⟩ | ⟨-, h⟩ <;> omega

/-- An index of a tile is a row and a column. -/
theorem tile_ix2 (y : S512x1024.Idx) : ∃ (r : Fin 512) (k : Fin 1024), y = Idealize.ShloMosaic.ix2 r k := ⟨y 0, y 1, by
  funext a; match a with | ⟨0, _⟩ => rfl | ⟨1, _⟩ => rfl⟩

/-- What a step writes back is its block of that array. -/
theorem flushed_at (hO : Ok m) (hg : AllGood m) (t : Fin (cfgM m hO).N) :
    (dats m hO 0 c).flushed 3 t = (((cfgM m hO).win 3).blk t).view.read (Elt Ideal) (whole m c) := by
  have e : (dats m hO 0 c).flushed 3 t = ((cfgM m hO).win 3).cut (grid0.coords t) (outsAt0 m hO c t) := by
    show ((cfgM m hO).win 3).cut (grid0.coords t) ((dats m hO 0 c).after 3 t) = _
    rw [after0_3]
  rw [e]
  funext y
  obtain ⟨r, k, hy⟩ := tile_ix2 y
  subst hy
  refine Eq.trans (b := (outsAt0 m hO c t (Idealize.ShloMosaic.ix2 r k) : EReal)) rfl ?_
  refine (outsAt_at m c hO hg t r k (row_lt m hg _ r)).trans ?_
  refine Eq.trans ?_ ((View.read_apply (Val := Elt Ideal) _ _).trans (cast_eq _ _)).symm
  refine Eq.trans ?_ (congrArg (whole m c) (emb3 m hO t r k (row_lt m hg _ r))).symm
  rfl

/-- THE RESULT ARRAY AFTER THE RUN, at a row of a block that a step names. -/
theorem final_at (hO : Ok m) (hg : AllGood m) (t : Fin (cfgM m hO).N) (r : Fin 512) (k : Fin 1024) :
    (dats m hO 0 c).arrAt 3 (cfgM m hO).N (Idealize.ShloMosaic.ix2 ⟨(tbW m (grid0.coords t)).toNat * 512 + r.val, row_lt m hg _ r⟩ k : S270848x1024.Idx)
      = moe (xsA m c) (wguA m c) (wdnA m c) ⟨(tbW m (grid0.coords t)).toNat * 512 + r.val, row_lt m hg _ r⟩ k := by
  obtain ⟨t', hf, e⟩ := exists_flush m hO _ t rfl
  have hmem := (((cfgM m hO).win 3).blk t').view.emb_mem_set (Idealize.ShloMosaic.ix2 r k : S512x1024.Idx)
  rw [emb3 m hO t' r k (row_lt m hg _ r)] at hmem
  have ee : (⟨(tbW m (grid0.coords t)).toNat * 512 + r.val, row_lt m hg _ r⟩ : Fin 270848) = ⟨(tbW m (grid0.coords t')).toNat * 512 + r.val, row_lt m hg _ r⟩ :=
    Fin.ext (by show (tbW m (grid0.coords t)).toNat * 512 + r.val = (tbW m (grid0.coords t')).toNat * 512 + r.val; omega)
  rw [ee]
  exact (dats m hO 0 c).arrAt_apply_of_mem 3 (whole m c) (fun t _ => flushed_at m c hO hg t) (cfgM m hO).N t' _ t'.isLt hf hmem

end Cert.Experts

end
-- ==== Proof.ExpertsRef.lean ====
/-
  The reference of the experts, at an index, and the mask that says which rows some step names.
-/
module

public import proofs.«01_k».proof.Proof.ExpertsFinal
public import proofs.«01_k».proof.Proof.Gen.Reference2Ideal.Read
public import proofs.«01_k».proof.On_reached
public import proofs.«01_k».proof.Proof.Gen.On_reached

@[expose] public section

set_option maxRecDepth 16384

noncomputable section

namespace Cert.Experts

open Idealize.ShloMosaic Idealize.ShloMosaic.TcCoe Idealize.SL.Sem

section reference

open Cert.Reference2Ideal Cert.Reference2Ideal.Gen Cert.Reference2Ideal.Read

variable (x3 : FVec Ideal S270848x1024 .bf16) (x4 : FVec Ideal S8x1024x5632 .f32) (x5 : FVec Ideal S8x2816x1024 .f32)

/-- A row's first product in its expert. -/
theorem ref_first (e : Fin 8) (q : Fin 33792) (f : Fin 5632) :
    val_main_v3 (F := Ideal) x3 x4 (Idealize.ShloMosaic.ix3 e q f)
      = ∑ d : Fin 1024, (x3 (Idealize.ShloMosaic.ix2 ⟨e.val * 33792 + q.val, by omega⟩ d) : EReal) * x4 (Idealize.ShloMosaic.ix3 e d f) := by
  rw [val_main_v3_apply]
  refine Finset.sum_congr rfl fun d _ => ?_
  rw [val_main_v2_apply, val_main_v1_apply, val_main_v0_apply]
  refine congrArg₂ (fun a b : EReal => a * b) (congrArg x3 ?_) (congrArg x4 ?_)
  · funext a; apply Fin.ext
    match a with
    | ⟨0, _⟩ => show ((e.val * 33792 + q.val) * 1024 + d.val) / 1024 = e.val * 33792 + q.val; omega
    | ⟨1, _⟩ => show ((e.val * 33792 + q.val) * 1024 + d.val) % 1024 = d.val; omega
  · funext a; apply Fin.ext
    match a with
    | ⟨0, _⟩ => rfl
    | ⟨1, _⟩ => rfl
    | ⟨2, _⟩ => rfl

/-- A row's gated product in its expert. -/
theorem ref_act (e : Fin 8) (q : Fin 33792) (f : Fin 2816) :
    val_main_v7 (F := Ideal) x3 x4 (Idealize.ShloMosaic.ix3 e q f) = rowAct x3 x4 e ⟨e.val * 33792 + q.val, by omega⟩ f := by
  have i4 : idx_main_v4 (Idealize.ShloMosaic.ix3 e q f) = Idealize.ShloMosaic.ix3 e q ⟨f.val, by omega⟩ := by
    funext a; apply Fin.ext
    match a with | ⟨0, _⟩ => rfl | ⟨1, _⟩ => rfl | ⟨2, _⟩ => rfl
  have i5 : idx_main_v5 (Idealize.ShloMosaic.ix3 e q f) = Idealize.ShloMosaic.ix3 e q ⟨2816 + f.val, by omega⟩ := by
    funext a; apply Fin.ext
    match a with | ⟨0, _⟩ => rfl | ⟨1, _⟩ => rfl | ⟨2, _⟩ => rfl
  rw [val_main_v7_apply, val_main_v6_apply, val_main_call0_v5_apply, val_main_call0_v4_apply, val_main_call0_cst_0_apply, val_main_call0_v3_apply,
    val_main_call0_v2_apply, val_main_call0_cst_apply, val_main_call0_v1_apply, val_main_call0_v0_apply, val_main_v4_apply, val_main_v5_apply, i4, i5,
    ref_first, ref_first]
  unfold rowAct
  generalize (∑ d : Fin 1024, (x3 (Idealize.ShloMosaic.ix2 ⟨e.val * 33792 + q.val, by omega⟩ d) : EReal) * x4 (Idealize.ShloMosaic.ix3 e d ⟨f.val, by omega⟩)) = g
  generalize (∑ d : Fin 1024, (x3 (Idealize.ShloMosaic.ix2 ⟨e.val * 33792 + q.val, by omega⟩ d) : EReal) * x4 (Idealize.ShloMosaic.ix3 e d ⟨2816 + f.val, by omega⟩)) = u
  show g * Ideal.div (Ideal.ofBits .f32 0x3F800000#32) (Ideal.ofBits .f32 0x3F800000#32 + Ideal.exp (-g)) * u = gate g * u
  unfold gate
  rw [Ideal.ofBits_one_f32, zero_sub]

/-- THE REFERENCE, at a row and a column. -/
theorem ref_moe (r : Fin 270848) (k : Fin 1024) :
    val_main_v12 (F := Ideal) x3 x4 x5 (Idealize.ShloMosaic.ix2 r k) = moe x3 x4 x5 r k := by
  rw [val_main_v12_apply]
  show val_main_v11 (F := Ideal) x3 x4 x5 (Idealize.ShloMosaic.ix2 r k) = _
  unfold val_main_v11 moe
  by_cases h : r.val < 270336
  · rw [dif_pos h]
    refine (concatenate_pair_apply_left (s₁ := S270336x1024) (s₂ := S512x1024) (t := S270848x1024) 0 _ _ _ (Idealize.ShloMosaic.ix2 r k) rfl (Idealize.ShloMosaic.ix2 ⟨r.val, h⟩ k : S270336x1024.Idx) (fun b => by
      match b with | ⟨0, _⟩ => rfl | ⟨1, _⟩ => rfl)).trans ?_
    rw [val_main_v9_apply]
    have hk := k.isLt
    have i9 : idx_main_v9 (Idealize.ShloMosaic.ix2 ⟨r.val, h⟩ k : S270336x1024.Idx) = Idealize.ShloMosaic.ix3 ⟨r.val / 33792, by omega⟩ ⟨r.val % 33792, by omega⟩ k := by
      funext a; apply Fin.ext
      match a with
      | ⟨0, _⟩ => show (r.val * 1024 + k.val) / 34603008 = r.val / 33792; omega
      | ⟨1, _⟩ => show (r.val * 1024 + k.val) / 1024 % 33792 = r.val % 33792; omega
      | ⟨2, _⟩ => show (r.val * 1024 + k.val) % 1024 = k.val; omega
    rw [i9, val_main_v8_apply]
    refine Finset.sum_congr rfl fun f _ => ?_
    have el : lidx_main_v8 (Idealize.ShloMosaic.ix3 ⟨r.val / 33792, by omega⟩ ⟨r.val % 33792, by omega⟩ k) f = Idealize.ShloMosaic.ix3 ⟨r.val / 33792, by omega⟩ ⟨r.val % 33792, by omega⟩ f := by
      funext a; apply Fin.ext
      match a with | ⟨0, _⟩ => rfl | ⟨1, _⟩ => rfl | ⟨2, _⟩ => rfl
    have er : ridx_main_v8 (Idealize.ShloMosaic.ix3 ⟨r.val / 33792, by omega⟩ ⟨r.val % 33792, by omega⟩ k) f = Idealize.ShloMosaic.ix3 ⟨r.val / 33792, by omega⟩ f k := by
      funext a; apply Fin.ext
      match a with | ⟨0, _⟩ => rfl | ⟨1, _⟩ => rfl | ⟨2, _⟩ => rfl
    rw [el, er, ref_act]
    have e0 : (⟨r.val / 33792 * 33792 + r.val % 33792, by omega⟩ : Fin 270848) = r := Fin.ext (by show r.val / 33792 * 33792 + r.val % 33792 = r.val; omega)
    exact congrArg (fun z => rowAct x3 x4 ⟨r.val / 33792, by omega⟩ z f * x5 (Idealize.ShloMosaic.ix3 ⟨r.val / 33792, by omega⟩ f k)) e0
  · rw [dif_neg h]
    have hr := r.isLt
    refine (concatenate_pair_apply_right (s₁ := S270336x1024) (s₂ := S512x1024) (t := S270848x1024) 0 _ _ _ (Idealize.ShloMosaic.ix2 r k) rfl rfl (Idealize.ShloMosaic.ix2 ⟨r.val - 270336, by omega⟩ k : S512x1024.Idx) (fun b hb => by
      match b with | ⟨0, _⟩ => exact absurd rfl hb | ⟨1, _⟩ => rfl) (by show r.val - 270336 + 270336 = r.val; omega)).trans ?_
    rw [val_main_v10_apply, val_main_cst_apply]
    exact Ideal.ofBits_zero_f32

end reference

section mask

open Cert.On_reached Cert.On_reached.Gen

/-- A disjunction of bits that holds has a bit that holds. -/
theorem exists_of_fold {ι : Type} (T : Finset ι) (f : ι → BitVec 1) (h : T.fold IntOp.ori (0#1 : BitVec 1) f = 1#1) : ∃ k ∈ T, f k = 1#1 := by
  classical
  induction T using Finset.induction with
  | empty => rw [Finset.fold_empty] at h; exact absurd h (by decide)
  | insert a T ha ih =>
    rw [Finset.fold_insert ha] at h
    have key : ∀ p q : BitVec 1, IntOp.ori p q = 1#1 → p = 1#1 ∨ q = 1#1 := by decide
    rcases key _ _ h with h | h
    · exact ⟨a, Finset.mem_insert_self _ _, h⟩
    · obtain ⟨k, hk, e⟩ := ih h
      exact ⟨k, Finset.mem_insert_of_mem hk, e⟩

/-- THE MASK: a row it selects lies in a block that some step names. -/
theorem named_of_reached (a0 a1 a2 : IVec S151 32) (a3 : FVec Ideal S270848x1024 .bf16) (a4 : FVec Ideal S8x1024x5632 .f32) (a5 : FVec Ideal S8x2816x1024 .f32)
    (r : Fin 270848) (k : Fin 1024) (h : Cert.On_reached.fn (F := Ideal) a0 a1 a2 a3 a4 a5 (Idealize.ShloMosaic.ix2 r k) = 1#1) :
    ∃ j : Fin 151, (a0 (Idealize.ShloMosaic.ix1 j)).toNat = r.val / 512 := by
  unfold Cert.On_reached.fn at h
  have hb : r.val / 512 < 529 := by omega
  have e1 := shapeCast_apply (broadcastInDim S529x512x1024 ![0, 1, 2] Facts.bcast_S529x1x1_S529x512x1024_0_1_2 (broadcastInDim S529x1x1 ![0] Facts.bcast_S529_S529x1x1_0
    (Host.reduce IntOp.ori (cmpi .eq (broadcastInDim S151x529 ![0, 1] Facts.bcast_S151x1_S151x529_0_1 (broadcastInDim S151x1 ![0] Facts.bcast_S151_S151x1_0 a0))
      (broadcastInDim S151x529 ![0, 1] Facts.bcast_S1x529_S151x529_0_1 (broadcastInDim S1x529 ![1] Facts.bcast_S529_S1x529_1 (iotaInDim S529 32 0))))
      (constantI S_ 1 0#1) Facts.reducesTo_S151x529_S529_d0 Facts.h_S_))) Facts.shapeCasts_S529x512x1024_S270848x1024 (Idealize.ShloMosaic.ix2 r k)
    (Idealize.ShloMosaic.ix3 ⟨r.val / 512, hb⟩ ⟨r.val % 512, by omega⟩ k) (by
      rw [Shape.rowMajor_val_two, Shape.rowMajor_val_three]
      show (r.val / 512 * 512 + r.val % 512) * 1024 + k.val = r.val * 1024 + k.val
      omega)
  have h2 := e1.symm.trans h
  rw [broadcastInDim_apply _ _ _ _ (Idealize.ShloMosaic.ix3 ⟨r.val / 512, hb⟩ 0 0 : S529x1x1.Idx) (fun a => by
      match a with | ⟨0, _⟩ => rfl | ⟨1, _⟩ => rfl | ⟨2, _⟩ => rfl),
    broadcastInDim_apply _ _ _ _ (Idealize.ShloMosaic.ix1 ⟨r.val / 512, hb⟩ : S529.Idx) (fun a => by match a with | ⟨0, _⟩ => rfl),
    Host.reduce_eq_fold_single IntOp.ori _ _ _ (by decide : S151x529.Reduces [0] S529)] at h2
  obtain ⟨j, -, hj⟩ := exists_of_fold _ _ h2
  have ej : (by decide : S151x529.Reduces [0] S529).lift (Idealize.ShloMosaic.ix1 ⟨r.val / 512, hb⟩ : S529.Idx) j = (Idealize.ShloMosaic.ix2 j ⟨r.val / 512, hb⟩ : S151x529.Idx) := by
    funext a; apply Fin.ext
    match a with | ⟨0, _⟩ => rfl | ⟨1, _⟩ => rfl
  rw [Function.comp_apply, ej] at hj
  have hc : IntOp.cmpi .eq (broadcastInDim S151x529 ![0, 1] Facts.bcast_S151x1_S151x529_0_1 (broadcastInDim S151x1 ![0] Facts.bcast_S151_S151x1_0 a0) (Idealize.ShloMosaic.ix2 j ⟨r.val / 512, hb⟩))
      (broadcastInDim S151x529 ![0, 1] Facts.bcast_S1x529_S151x529_0_1 (broadcastInDim S1x529 ![1] Facts.bcast_S529_S1x529_1 (iotaInDim S529 32 0)) (Idealize.ShloMosaic.ix2 j ⟨r.val / 512, hb⟩)) = 1#1 := hj
  rw [broadcastInDim_apply _ _ _ _ (Idealize.ShloMosaic.ix2 j 0 : S151x1.Idx) (fun a => by match a with | ⟨0, _⟩ => rfl | ⟨1, _⟩ => rfl),
    broadcastInDim_apply _ _ _ _ (Idealize.ShloMosaic.ix1 j : S151.Idx) (fun a => by match a with | ⟨0, _⟩ => rfl),
    broadcastInDim_apply _ _ _ _ (Idealize.ShloMosaic.ix2 0 ⟨r.val / 512, hb⟩ : S1x529.Idx) (fun a => by match a with | ⟨0, _⟩ => rfl | ⟨1, _⟩ => rfl),
    broadcastInDim_apply _ _ _ _ (Idealize.ShloMosaic.ix1 ⟨r.val / 512, hb⟩ : S529.Idx) (fun a => by match a with | ⟨0, _⟩ => rfl)] at hc
  have hq : IntOp.cmpi .eq (a0 (Idealize.ShloMosaic.ix1 j)) (BitVec.ofNat 32 (r.val / 512)) = 1#1 := hc
  have ofBool_eq_one (p : Bool) : (BitVec.ofBool p = 1#1) → p = true := by cases p <;> decide
  have he : a0 (Idealize.ShloMosaic.ix1 j) = BitVec.ofNat 32 (r.val / 512) := by simpa using ofBool_eq_one _ hq
  refine ⟨j, ?_⟩
  rw [he, BitVec.toNat_ofNat, Nat.mod_eq_of_lt]
  omega

end mask

end Cert.Experts

end
-- ==== Proof.ExpertsAlgebraic.lean ====
/-
  The experts' claims: the frames of the kernel and of its reference, and the values of the rows that a step names.
-/
module

public import proofs.«01_k».proof.Defs
public import proofs.«01_k».proof.Proof.ExpertsRef
public import proofs.«01_k».proof.Proof.Gen.Reference2Ideal.Run
public import proofs.«01_k».proof.Proof.Gen.Kernel2

@[expose] public section

set_option maxRecDepth 16384

noncomputable section

namespace Cert.Experts

open Idealize.ShloMosaic Idealize.ShloMosaic.TcCoe Idealize.SL.Sem

/-- The idealized kernel's frame, under the precondition of the tables. -/
theorem frame_ideal : Cert.quiescent_Kernel2Ideal := fun m ρ h => frame m ρ (ok_of_good m (allGood_of m h))

/-- The compiled kernel's body is the idealized one's: the same text. -/
theorem body_same : @Kernel2.cc0_moe_experts Bits _ _ = @Kernel2Ideal.cc0_moe_experts Bits _ _ := rfl

/-- The table of the compiled kernel's one label is the idealized one's. -/
theorem table_same : @Kernel2.defs₀ Bits _ _ = @Kernel2Ideal.defs₀ Bits _ _ := by
  unfold Kernel2.defs₀ Kernel2Ideal.defs₀
  refine congrArg (Defs.onTc (nD := Kernel2Ideal.nD) (τ := Kernel2Ideal.τ) (sig := Kernel2Ideal.sig) (Λ := Kernel2Ideal.Λ₀)) ?_
  funext l x
  match l, x with
  | ⟨0, _⟩, (t, s) => rfl

/-- The whole body table likewise, -/
theorem defs_same : @Kernel2.defs Bits _ _ = @Kernel2Ideal.defs Bits _ _ := congrArg (Pipeline.defs (Kernel2Ideal.pcfgs (F := Bits))) table_same

/-- and the program. -/
theorem main_same : @Kernel2.main Bits _ _ = @Kernel2Ideal.main Bits _ _ := rfl

/-- The compiled kernel's frame: the same text, so the same run. -/
theorem frame_kernel : Cert.quiescent_Kernel2 := fun m ρ h => by
  have key := frame (F := Bits) m ρ (ok_of_good m (allGood_of m h))
  rw [← defs_same, ← main_same] at key
  exact key

/-- The reference's frame: its run read at the arguments; it declares no semaphore. -/
theorem frame_reference : Cert.quiescent_Reference2Ideal := fun m g _ =>
  (θ_run Cert.Reference2Ideal.defs _ _).mono (fun r h => ⟨fun c => (h c).2, sem_eq_zero_of_no_sems (by decide) r.2⟩) (Cert.Reference2Ideal.Value.run m g)

theorem frame_reference_pre : Cert.quiescent_Reference2Ideal_pre_tables := fun m g _ => frame_reference m g trivial

/-- After the run the result array holds the experts' layer wherever the mask is set. -/
theorem kernel_at (m : (ℓ : Loc Kernel2Ideal.nD Kernel2Ideal.τ Kernel2Ideal.sig) → Buf (Elt Ideal) ℓ) (c : Dev Kernel2Ideal.nD) (hg : AllGood m)
    (i : (⟨2, ![270848, 1024]⟩ : Shape).Idx)
    (hi : Cert.On_reached.fn (F := Ideal) (m ((c.tc : Thread Kernel2Ideal.nD Kernel2Ideal.τ).loc Kernel2Ideal.main_arg0)) (m ((c.tc : Thread Kernel2Ideal.nD Kernel2Ideal.τ).loc Kernel2Ideal.main_arg1))
      (m ((c.tc : Thread Kernel2Ideal.nD Kernel2Ideal.τ).loc Kernel2Ideal.main_arg2)) (m ((c.tc : Thread Kernel2Ideal.nD Kernel2Ideal.τ).loc Kernel2Ideal.main_arg3))
      (m ((c.tc : Thread Kernel2Ideal.nD Kernel2Ideal.τ).loc Kernel2Ideal.main_arg4)) (m ((c.tc : Thread Kernel2Ideal.nD Kernel2Ideal.τ).loc Kernel2Ideal.main_arg5)) i = 1#1) :
    (dats m (ok_of_good m hg) 0 c).arrAt 3 (cfgM m (ok_of_good m hg)).N i = whole m c i := by
  obtain ⟨r, k, rfl⟩ : ∃ (r : Fin 270848) (k : Fin 1024), i = Idealize.ShloMosaic.ix2 r k := ⟨i 0, i 1, by
    funext a; match a with | ⟨0, _⟩ => rfl | ⟨1, _⟩ => rfl⟩
  obtain ⟨j, hj⟩ := named_of_reached _ _ _ _ _ _ r k hi
  obtain rfl : c = 0 := Subsingleton.elim _ _
  have hN : (cfgM m (ok_of_good m hg)).N = 151 := by show Kernel2Ideal.grid0.N = 151; decide
  let t : Fin (cfgM m (ok_of_good m hg)).N := ⟨j.val, by rw [hN]; exact j.isLt⟩
  have hp : pt (Kernel2Ideal.grid0.coords t) = Idealize.ShloMosaic.ix1 j := by
    funext a; apply Fin.ext
    match a with | ⟨0, _⟩ => exact coords_val t
  have hb : (tbW m (Kernel2Ideal.grid0.coords t)).toNat = r.val / 512 := by
    refine Eq.trans ?_ hj
    exact congrArg (fun p => (m (((0 : Dev Kernel2Ideal.nD) : Thread Kernel2Ideal.nD Kernel2Ideal.τ).loc Kernel2Ideal.main_arg0) p : BitVec 32).toNat) hp
  have h := final_at m 0 (ok_of_good m hg) hg t ⟨r.val % 512, by omega⟩ k
  have er : (⟨(tbW m (Kernel2Ideal.grid0.coords t)).toNat * 512 + (⟨r.val % 512, by omega⟩ : Fin 512).val, row_lt m hg _ _⟩ : Fin 270848) = r :=
    Fin.ext (by show (tbW m (Kernel2Ideal.grid0.coords t)).toNat * 512 + r.val % 512 = r.val; omega)
  rw [er] at h
  exact h

/-- THE CLAIM OF VALUES: from the same arguments the kernel and the reference end with equal rows wherever a step names
    the row's block. -/
theorem algebraic : Cert.algebraic_Kernel2Ideal_Reference2Ideal_on_reached := by
  intro m g m' g' hp hagree
  have hg : AllGood m := allGood_of m hp
  refine ⟨fun c => whole m c, ?_, ?_⟩
  · refine (θ_run Kernel2Ideal.defs _ _).mono (fun r h c => ⟨fun i hi => ?_, h.2 c⟩)
      (θ_run_and (run_main m g (ok_of_good m hg)) (unchanged m g (ok_of_good m hg)))
    exact (congrFun ((h.1 c).1 3) i).trans (kernel_at m c hg i hi)
  · refine (θ_run Reference2Ideal.defs _ _).mono (fun r h c => ⟨fun i _ => ?_, (h c).2⟩) (Reference2Ideal.Value.run m' g')
    refine (congrFun (h c).1 i).trans ?_
    rw [Reference2Ideal.Read.val_main_v12_eq, (hagree c).2.2.2.1, (hagree c).2.2.2.2.1, (hagree c).2.2.2.2.2]
    obtain ⟨r, k, rfl⟩ : ∃ (r : Fin 270848) (k : Fin 1024), i = Idealize.ShloMosaic.ix2 r k := ⟨i 0, i 1, by
      funext a; match a with | ⟨0, _⟩ => rfl | ⟨1, _⟩ => rfl⟩
    exact ref_moe _ _ _ r k

end Cert.Experts

end
-- ==== Proof.Dense.lean ====
/-
  The row operations that the merge and the dense feed-forward part share, as functions of one row.
-/
module

public import Idealize.ShloMosaic.Lib.Pointwise
public import Idealize.ShloMosaic.Lib.ValueIdx
public import Idealize.ShloMosaic.PureOps.Ideal.Laws

@[expose] public section

noncomputable section

namespace Cert.Dense

open Idealize.ShloMosaic

/-- The factor of a row: one over the root of the mean of its squares plus the layer's epsilon. -/
def scaleOf (x : Fin 1024 → EReal) : EReal :=
  Ideal.rsqrt (Ideal.div (∑ e : Fin 1024, x e * x e) (Ideal.ofBits .f32 0x44800000#32) + Ideal.ofBits .f32 0x358637BD#32)

/-- A row divided by the root of the mean of its squares, times the gains. -/
def rowNorm (x g : Fin 1024 → EReal) (d : Fin 1024) : EReal := x d * scaleOf x * g d

/-- The logistic function, as one over one plus the exponential of the negative. -/
def logistic (z : EReal) : EReal := Ideal.div 1 (1 + Ideal.exp (0 - z))

/-- A number times its logistic function. -/
def silu (z : EReal) : EReal := z * logistic z

/-- The normalised row against a column of weights. -/
def normDot {n : ℕ} (x g : Fin 1024 → EReal) (w : Fin 1024 → Fin n → EReal) (j : Fin n) : EReal := ∑ d : Fin 1024, rowNorm x g d * w d j

/-- A row of the gated merge: two branches' rows, each projected and times its gate, added, projected, and added to the row. -/
def mergeRow (x : Fin 1024 → EReal) (ya yb : Fin 512 → EReal) (g : Fin 1024 → EReal) (wg : Fin 1024 → Fin 2048 → EReal)
    (wa wb : Fin 512 → Fin 1024 → EReal) (wo : Fin 1024 → Fin 1024 → EReal) (k : Fin 1024) : EReal :=
  x k + ∑ d : Fin 1024, (logistic (normDot x g wg ⟨d.val, by omega⟩) * (∑ e : Fin 512, ya e * wa e d)
    + logistic (normDot x g wg ⟨1024 + d.val, by omega⟩) * ∑ e : Fin 512, yb e * wb e d) * wo d k

/-- A row of the gated feed-forward part, added to the row. -/
def ffnRow (x g : Fin 1024 → EReal) (w : Fin 1024 → Fin 5632 → EReal) (v : Fin 2816 → Fin 1024 → EReal) (k : Fin 1024) : EReal :=
  x k + ∑ f : Fin 2816, silu (normDot x g w ⟨f.val, by omega⟩) * normDot x g w ⟨2816 + f.val, by omega⟩ * v f k

end Cert.Dense

end
-- ==== Proof.FfnPoint.lean ====
/-
  What one step of the dense feed-forward part writes, at a row and a column: the gated products of a normalised row of
  the tile, stored 256 columns at a time, their product with the second weights, and the row.
-/
module

public import proofs.«01_k».proof.Proof.Dense
public import proofs.«01_k».proof.Proof.Gen.Kernel3Ideal.Value
public import Idealize.ShloMosaic.Lib.Pipeline.ValueKit.Tiles
public import Idealize.ShloMosaic.Lib.WholeRead
public import Idealize.ShloMosaic.Lib.Pipeline.Value

@[expose] public section

noncomputable section

namespace Cert.Ffn

open Cert.Dense
open Cert.Kernel3Ideal Cert.Kernel3Ideal.Gen
open Idealize.ShloMosaic Idealize.ShloMosaic.TcCoe Idealize.ShloMosaic.Tactic

/-- A row of an array of two axes. -/
abbrev rowOf {M N : ℕ} (X : (⟨2, ![M, N]⟩ : Shape).Idx → EReal) (r : Fin M) : Fin N → EReal := fun e => X (Idealize.ShloMosaic.ix2 r e)

/-- The tile's rows, normalised. -/
theorem pay3_at (x : Vec Ideal S512x1024 .f32) (g : Vec Ideal S1x1024 .f32) (r : Fin 512) (d : Fin 1024) :
    k0_pay3 (F := Ideal) x g (Idealize.ShloMosaic.ix2 r d) = rowNorm (rowOf x r) (rowOf g 0) d := by
  unfold_payloads
  pointwise
  rfl

/-- 256 columns of the gated products. -/
theorem pay7_at (x : FVec Ideal S512x1024 .bf16) (g u : Vec Ideal S1024x256 .bf16) (r : Fin 512) (k : Fin 256) :
    k0_pay7 (F := Ideal) x g u (Idealize.ShloMosaic.ix2 r k)
      = silu (∑ d : Fin 1024, x (Idealize.ShloMosaic.ix2 r d) * g (Idealize.ShloMosaic.ix2 d k)) * ∑ d : Fin 1024, x (Idealize.ShloMosaic.ix2 r d) * u (Idealize.ShloMosaic.ix2 d k) := by
  unfold_payloads
  pointwise [dot_S512x1024_S1024x256_S512x256_1_0_0_1_n_n]
  rfl

/-- The row and the second product. -/
theorem pay2_at (x : Vec Ideal S512x1024 .f32) (a : Vec Ideal S512x2816 .bf16) (w : Vec Ideal S2816x1024 .bf16) (r : Fin 512) (k : Fin 1024) :
    k0_pay2 (F := Ideal) x a w (Idealize.ShloMosaic.ix2 r k)
      = x (Idealize.ShloMosaic.ix2 r k) + ∑ f : Fin 2816, a (Idealize.ShloMosaic.ix2 r f) * w (Idealize.ShloMosaic.ix2 f k) := by
  unfold_payloads
  pointwise [dot_S512x2816_S2816x1024_S512x1024_1_0_0_1_n_n]

/-- What the scratch holds: the gated product at a row of the tile and a column of the hidden layer. -/
def hidden (x : S512x1024.Idx → EReal) (g : S1x1024.Idx → EReal) (w : S1024x5632.Idx → EReal) : S512x2816.Idx → EReal := fun y =>
  silu (normDot (rowOf x (y 0)) (rowOf g 0) (fun d => rowOf w d) ⟨(y 1).val, by have h : (y 1).val < 2816 := (y 1).isLt; omega⟩)
    * normDot (rowOf x (y 0)) (rowOf g 0) (fun d => rowOf w d) ⟨2816 + (y 1).val, by have h : (y 1).val < 2816 := (y 1).isLt; omega⟩

variable (arg1 : Memref sig .tc .vmem S512x1024 .f32) (harg1 : arg1.IsWhole) (arg2 : Memref sig .tc .vmem S1x1024 .f32) (harg2 : arg2.IsWhole)
  (arg3 : Memref sig .tc .vmem S1024x5632 .bf16) (harg3 : arg3.IsWhole) (arg4 : Memref sig .tc .vmem S2816x1024 .bf16) (harg4 : arg4.IsWhole)
  (x0 : Vec Ideal S512x1024 .f32) (x1 : Vec Ideal S1x1024 .f32) (x2 : Vec Ideal S1024x5632 .bf16) (x3 : Vec Ideal S2816x1024 .bf16)

/-- The tile's rows, loaded. -/
theorem load_x (inb : ∀ a, (![0, 0] : Fin 2 → ℕ) a + S512x1024.size a ≤ S512x1024.size a) :
    View.readAt (Elt Ideal) arg1.view (Rect.unit (s := S512x1024) ![0, 0] S512x1024.size inb).toLoadRect (harg1.unread x0) = x0 := by
  funext y
  refine (harg1.readAt_unread x0 _ y).trans (congrArg x0 ?_)
  funext a; apply Fin.ext
  match a with
  | ⟨0, _⟩ => show 0 + 1 * (y 0).val = (y 0).val; omega
  | ⟨1, _⟩ => show 0 + 1 * (y 1).val = (y 1).val; omega

/-- The gains, loaded. -/
theorem load_g (inb : ∀ a, (![0, 0] : Fin 2 → ℕ) a + S1x1024.size a ≤ S1x1024.size a) :
    View.readAt (Elt Ideal) arg2.view (Rect.unit (s := S1x1024) ![0, 0] S1x1024.size inb).toLoadRect (harg2.unread x1) = x1 := by
  funext y
  refine (harg2.readAt_unread x1 _ y).trans (congrArg x1 ?_)
  funext a; apply Fin.ext
  match a with
  | ⟨0, _⟩ => show 0 + 1 * (y 0).val = (y 0).val; omega
  | ⟨1, _⟩ => show 0 + 1 * (y 1).val = (y 1).val; omega

/-- The second weights, loaded. -/
theorem load_w (inb : ∀ a, (![0, 0] : Fin 2 → ℕ) a + S2816x1024.size a ≤ S2816x1024.size a) :
    View.readAt (Elt Ideal) arg4.view (Rect.unit (s := S2816x1024) ![0, 0] S2816x1024.size inb).toLoadRect (harg4.unread x3) = x3 := by
  funext y
  refine (harg4.readAt_unread x3 _ y).trans (congrArg x3 ?_)
  funext a; apply Fin.ext
  match a with
  | ⟨0, _⟩ => show 0 + 1 * (y 0).val = (y 0).val; omega
  | ⟨1, _⟩ => show 0 + 1 * (y 1).val = (y 1).val; omega

/-- 256 columns of the first weights, loaded. -/
theorem load_cols (o : ℕ) (inb : ∀ a, (![0, o] : Fin 2 → ℕ) a + S1024x256.size a ≤ S1024x5632.size a) (d : Fin 1024) (k : Fin 256) (h : o + k.val < 5632) :
    View.readAt (Elt Ideal) arg3.view (Rect.unit (s := S1024x5632) ![0, o] S1024x256.size inb).toLoadRect (harg3.unread x2) (Idealize.ShloMosaic.ix2 d k)
      = x2 (Idealize.ShloMosaic.ix2 d ⟨o + k.val, h⟩) := by
  refine (harg3.readAt_unread x2 _ _).trans (congrArg x2 ?_)
  funext a; apply Fin.ext
  match a with
  | ⟨0, _⟩ => show 0 + 1 * d.val = d.val; omega
  | ⟨1, _⟩ => show o + 1 * k.val = o + k.val; omega

/-- 256 columns of the gated products, as they are stored. -/
theorem piece_at (o o' : ℕ) (ho : o' = 2816 + o) (inbx : ∀ a, (![0, 0] : Fin 2 → ℕ) a + S512x1024.size a ≤ S512x1024.size a)
    (inbn : ∀ a, (![0, 0] : Fin 2 → ℕ) a + S1x1024.size a ≤ S1x1024.size a)
    (inbg : ∀ a, (![0, o] : Fin 2 → ℕ) a + S1024x256.size a ≤ S1024x5632.size a)
    (inbu : ∀ a, (![0, o'] : Fin 2 → ℕ) a + S1024x256.size a ≤ S1024x5632.size a)
    (inb : ∀ a, (![0, o] : Fin 2 → ℕ) a + S512x256.size a ≤ S512x2816.size a) (y : S512x256.Idx) :
    k0_pay7 (F := Ideal) (k0_pay3 (F := Ideal) (View.readAt (Elt Ideal) arg1.view (Rect.unit (s := S512x1024) ![0, 0] S512x1024.size inbx).toLoadRect (harg1.unread x0))
          (View.readAt (Elt Ideal) arg2.view (Rect.unit (s := S1x1024) ![0, 0] S1x1024.size inbn).toLoadRect (harg2.unread x1)))
        (View.readAt (Elt Ideal) arg3.view (Rect.unit (s := S1024x5632) ![0, o] S1024x256.size inbg).toLoadRect (harg3.unread x2))
        (View.readAt (Elt Ideal) arg3.view (Rect.unit (s := S1024x5632) ![0, o'] S1024x256.size inbu).toLoadRect (harg3.unread x2)) y
      = hidden x0 x1 x2 ((Rect.unit (s := S512x2816) ![0, o] S512x256.size inb).emb y) := by
  subst ho
  have h1 : o + 256 ≤ 2816 := inb 1
  obtain ⟨r, k, rfl⟩ : ∃ (r : Fin 512) (k : Fin 256), y = Idealize.ShloMosaic.ix2 r k := ⟨y 0, y 1, by
    funext a; match a with | ⟨0, _⟩ => rfl | ⟨1, _⟩ => rfl⟩
  have e : (Rect.unit (s := S512x2816) ![0, o] S512x256.size inb).emb (Idealize.ShloMosaic.ix2 r k) = (Idealize.ShloMosaic.ix2 r ⟨o + k.val, by omega⟩ : S512x2816.Idx) := by
    funext a; apply Fin.ext
    match a with
    | ⟨0, _⟩ => show 0 + 1 * r.val = r.val; omega
    | ⟨1, _⟩ => show o + 1 * k.val = o + k.val; omega
  rw [e, load_x, load_g, pay7_at]
  have eg : ∀ d : Fin 1024, _ = _ := fun d => load_cols arg3 harg3 x2 o inbg d k (by omega)
  have eu : ∀ d : Fin 1024, _ = _ := fun d => load_cols arg3 harg3 x2 (2816 + o) inbu d k (by omega)
  simp only [eg, eu, pay3_at]
  unfold hidden normDot
  show _ = silu (∑ d : Fin 1024, rowNorm (rowOf x0 r) (rowOf x1 0) d * x2 (Idealize.ShloMosaic.ix2 d ⟨o + k.val, _⟩)) * ∑ d : Fin 1024, rowNorm (rowOf x0 r) (rowOf x1 0) d * x2 (Idealize.ShloMosaic.ix2 d ⟨2816 + (o + k.val), _⟩)
  simp only [Nat.add_assoc]

/-- The scratch, filled by eleven stores, read whole. -/
theorem scratch_eq (c : Dev nD) (arg6 : Memref sig .tc .vmem S512x2816 .bf16) :
    kernelRun0_A.sl.v225 (F := Ideal) c arg1 harg1 arg2 harg2 arg3 harg3 arg6 x0 x1 x2 = hidden x0 x1 x2 := by
  unfold kernelRun0_A.sl.v225
  rw [View.readCov_eq_canon']
  funext y
  have hy : (Rect.unit (s := S512x2816) ![0, 0] ![512, 2816] inb_S512x2816_S512x2816_0_0).toLoadRect.idx y = y := by
    funext a; apply Fin.ext
    match a with
    | ⟨0, _⟩ => show 0 + 1 * (y 0).val = (y 0).val; omega
    | ⟨1, _⟩ => show 0 + 1 * (y 1).val = (y 1).val; omega
  refine Eq.trans (congrArg _ hy) ?_
  refine View.canon_apply_of_pieces (S := S512x2816) (hidden x0 x1 x2) (kernelRun0_A.sl.HS0_11 (F := Ideal) c arg1 harg1 arg2 harg2 arg3 harg3 x0 x1 x2) ?_ y ?_
  · unfold kernelRun0_A.sl.HS0_11
    refine List.forall_mem_cons.2 ⟨fun x => piece_at arg1 harg1 arg2 harg2 arg3 harg3 x0 x1 x2 2560 5376 rfl inb_S512x1024_S512x1024_0_0 inb_S1x1024_S1x1024_0_0 inb_S1024x5632_S1024x256_0_2560 inb_S1024x5632_S1024x256_0_5376 inb_S512x2816_S512x256_0_2560 x, ?_⟩
    refine List.forall_mem_cons.2 ⟨fun x => piece_at arg1 harg1 arg2 harg2 arg3 harg3 x0 x1 x2 2304 5120 rfl inb_S512x1024_S512x1024_0_0 inb_S1x1024_S1x1024_0_0 inb_S1024x5632_S1024x256_0_2304 inb_S1024x5632_S1024x256_0_5120 inb_S512x2816_S512x256_0_2304 x, ?_⟩
    refine List.forall_mem_cons.2 ⟨fun x => piece_at arg1 harg1 arg2 harg2 arg3 harg3 x0 x1 x2 2048 4864 rfl inb_S512x1024_S512x1024_0_0 inb_S1x1024_S1x1024_0_0 inb_S1024x5632_S1024x256_0_2048 inb_S1024x5632_S1024x256_0_4864 inb_S512x2816_S512x256_0_2048 x, ?_⟩
    refine List.forall_mem_cons.2 ⟨fun x => piece_at arg1 harg1 arg2 harg2 arg3 harg3 x0 x1 x2 1792 4608 rfl inb_S512x1024_S512x1024_0_0 inb_S1x1024_S1x1024_0_0 inb_S1024x5632_S1024x256_0_1792 inb_S1024x5632_S1024x256_0_4608 inb_S512x2816_S512x256_0_1792 x, ?_⟩
    refine List.forall_mem_cons.2 ⟨fun x => piece_at arg1 harg1 arg2 harg2 arg3 harg3 x0 x1 x2 1536 4352 rfl inb_S512x1024_S512x1024_0_0 inb_S1x1024_S1x1024_0_0 inb_S1024x5632_S1024x256_0_1536 inb_S1024x5632_S1024x256_0_4352 inb_S512x2816_S512x256_0_1536 x, ?_⟩
    refine List.forall_mem_cons.2 ⟨fun x => piece_at arg1 harg1 arg2 harg2 arg3 harg3 x0 x1 x2 1280 4096 rfl inb_S512x1024_S512x1024_0_0 inb_S1x1024_S1x1024_0_0 inb_S1024x5632_S1024x256_0_1280 inb_S1024x5632_S1024x256_0_4096 inb_S512x2816_S512x256_0_1280 x, ?_⟩
    refine List.forall_mem_cons.2 ⟨fun x => piece_at arg1 harg1 arg2 harg2 arg3 harg3 x0 x1 x2 1024 3840 rfl inb_S512x1024_S512x1024_0_0 inb_S1x1024_S1x1024_0_0 inb_S1024x5632_S1024x256_0_1024 inb_S1024x5632_S1024x256_0_3840 inb_S512x2816_S512x256_0_1024 x, ?_⟩
    refine List.forall_mem_cons.2 ⟨fun x => piece_at arg1 harg1 arg2 harg2 arg3 harg3 x0 x1 x2 768 3584 rfl inb_S512x1024_S512x1024_0_0 inb_S1x1024_S1x1024_0_0 inb_S1024x5632_S1024x256_0_768 inb_S1024x5632_S1024x256_0_3584 inb_S512x2816_S512x256_0_768 x, ?_⟩
    refine List.forall_mem_cons.2 ⟨fun x => piece_at arg1 harg1 arg2 harg2 arg3 harg3 x0 x1 x2 512 3328 rfl inb_S512x1024_S512x1024_0_0 inb_S1x1024_S1x1024_0_0 inb_S1024x5632_S1024x256_0_512 inb_S1024x5632_S1024x256_0_3328 inb_S512x2816_S512x256_0_512 x, ?_⟩
    refine List.forall_mem_cons.2 ⟨fun x => piece_at arg1 harg1 arg2 harg2 arg3 harg3 x0 x1 x2 256 3072 rfl inb_S512x1024_S512x1024_0_0 inb_S1x1024_S1x1024_0_0 inb_S1024x5632_S1024x256_0_256 inb_S1024x5632_S1024x256_0_3072 inb_S512x2816_S512x256_0_256 x, ?_⟩
    refine List.forall_mem_cons.2 ⟨fun x => piece_at arg1 harg1 arg2 harg2 arg3 harg3 x0 x1 x2 0 2816 rfl inb_S512x1024_S512x1024_0_0 inb_S1x1024_S1x1024_0_0 inb_S1024x5632_S1024x256_0_0 inb_S1024x5632_S1024x256_0_2816 inb_S512x2816_S512x256_0_0 x, ?_⟩
    intro p hp
    exact absurd hp (List.not_mem_nil)
  · exact View.cover_of_tiledL (kernelRun0_A.sl.HS0_11 (F := Ideal) c arg1 harg1 arg2 harg2 arg3 harg3 x0 x1 x2) S512x256.size (by sl_kernel_rfl) y

/-- WHAT A STEP WRITES: each row of its tile and its feed-forward part. -/
theorem out_at (c : Dev nD) (i : grid0.Coords) (arg5 : Memref sig .tc .vmem S512x1024 .f32) (harg5 : arg5.IsWhole) (arg6 : Memref sig .tc .vmem S512x2816 .bf16) (harg6 : arg6.IsWhole)
    (r : Fin 512) (k : Fin 1024) :
    out0_A_4 (F := Ideal) c i arg1 harg1 arg2 harg2 arg3 harg3 arg4 harg4 arg5 harg5 arg6 harg6 x0 x1 x2 x3 (Idealize.ShloMosaic.ix2 r k)
      = ffnRow (rowOf x0 r) (rowOf x1 0) (fun d => rowOf x2 d) (fun f => rowOf x3 f) k := by
  have e : out0_A_4 (F := Ideal) c i arg1 harg1 arg2 harg2 arg3 harg3 arg4 harg4 arg5 harg5 arg6 harg6 x0 x1 x2 x3
      = k0_pay2 (F := Ideal) (View.readAt (Elt Ideal) arg1.view (Rect.unit (s := S512x1024) ![0, 0] S512x1024.size inb_S512x1024_S512x1024_0_0).toLoadRect (harg1.unread x0))
          (kernelRun0_A.sl.v225 (F := Ideal) c arg1 harg1 arg2 harg2 arg3 harg3 arg6 x0 x1 x2)
          (View.readAt (Elt Ideal) arg4.view (Rect.unit (s := S2816x1024) ![0, 0] S2816x1024.size inb_S2816x1024_S2816x1024_0_0).toLoadRect (harg4.unread x3)) := by
    unfold out0_A_4
    rw [View.read_writes_eq_canon _ _ _ (cover0_A_4 c i arg1 harg1 arg2 harg2 arg3 harg3 arg4 harg4 arg5 harg5 arg6 harg6 x0 x1 x2 x3)]
    exact View.canon_unit_zero (by decide) _ _
  rw [e, scratch_eq, load_x, load_w, pay2_at]
  rfl

end Cert.Ffn

end
-- ==== Proof.FfnArray.lean ====
/-
  The dense feed-forward part's result array, at an index, from the arguments.
-/
module

public import proofs.«01_k».proof.Proof.FfnPoint
public import Idealize.ShloMosaic.Lib.KernelVsHost
public import Idealize.ShloMosaic.Lib.StableHlo.Run

@[expose] public section

noncomputable section

namespace Cert.Ffn

open Cert.Dense
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The arguments that a device holds. -/
abbrev argX : FVec Ideal S32768x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argD : FVec Ideal S2816x1024 .f32 := m ((c : Thread nD τ).loc main_arg3)

/-- Row `r` and its feed-forward part, at column `k`. -/
def ffnAt (X : S32768x1024.Idx → EReal) (G : S1024.Idx → EReal) (W : S1024x5632.Idx → EReal) (D : S2816x1024.Idx → EReal) (r : Fin 32768) (k : Fin 1024) : EReal :=
  ffnRow (fun e => X (Idealize.ShloMosaic.ix2 r e)) (fun e => G (Idealize.ShloMosaic.ix1 e)) (fun d j => W (Idealize.ShloMosaic.ix2 d j)) (fun f j => D (Idealize.ShloMosaic.ix2 f j)) k

/-- The rows are the argument. -/
theorem V_x : (V m c main_arg0 : S32768x1024.Idx → EReal) = argX m c := by
  simp only [V, hostOps0]
  after_results_simp
  try rfl

/-- The gains, as one row. -/
theorem V_g (k : Fin 1024) : (V m c main_v0 : S1x1024.Idx → EReal) (Idealize.ShloMosaic.ix2 0 k) = argG m c (Idealize.ShloMosaic.ix1 k) := by
  have e : (V m c main_v0 : S1x1024.Idx → EReal) = shapeCast S1x1024 (argG m c) shapeCasts_S1024_S1x1024 := by
    simp only [V, hostOps0]
    after_results_simp
    rfl
  rw [e]
  exact shapeCast_apply _ _ _ _ (by rw [Shape.rowMajor_val_one, Shape.rowMajor_val_two]; show k.val = 0 * 1024 + k.val; omega)

/-- The weights are the arguments. -/
theorem V_w : (V m c main_v1 : S1024x5632.Idx → EReal) = argW m c := by
  simp only [V, hostOps0]
  after_results_simp
  rfl

theorem V_d : (V m c main_v2 : S2816x1024.Idx → EReal) = argD m c := by
  simp only [V, hostOps0]
  after_results_simp
  rfl

/-- Which block each window holds at a step: the step's tile of rows, and the whole of the weights. -/
theorem idx_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- Row `r` of step `t`'s tile. -/
def tileRow (t : Fin cfg0.N) (r : Fin 512) : Fin 32768 :=
  ⟨t.val * 512 + r.val, by
    have hN : cfg0.N = 64 := by decide
    have := t.isLt
    omega⟩

/-- A step's block of an array, at a place of the block, is the array at the place that the block puts it. -/
theorem blk0 (t : Fin cfg0.N) (d : Fin 512) (k : Fin 1024) : (iblk m c 0 t : S512x1024.Idx → EReal) (Idealize.ShloMosaic.ix2 d k) = (V m c main_arg0 : S32768x1024.Idx → EReal) (Idealize.ShloMosaic.ix2 (tileRow t d) k) := by
  have h : ((cfg0.win 0).blk t).view.emb (Idealize.ShloMosaic.ix2 d k : S512x1024.Idx) = (Idealize.ShloMosaic.ix2 (tileRow t d) k : S32768x1024.Idx) := by
    obtain ⟨⟨e0, e1⟩, _⟩ := idx_facts t
    funext a; apply Fin.ext
    match a with
    | ⟨0, _⟩ => show win0_0.index t (0 : Fin 2) * 512 + 1 * d.val = t.val * 512 + d.val; omega
    | ⟨1, _⟩ => show win0_0.index t (1 : Fin 2) * 1024 + 1 * k.val = k.val; omega
  unfold iblk
  exact ((View.read_apply (Val := Elt Ideal) _ _).trans (cast_eq _ _)).trans (congrArg (V m c main_arg0) h)

theorem blk1 (t : Fin cfg0.N) (d : Fin 1) (k : Fin 1024) : (iblk m c 1 t : S1x1024.Idx → EReal) (Idealize.ShloMosaic.ix2 d k) = (V m c main_v0 : S1x1024.Idx → EReal) (Idealize.ShloMosaic.ix2 d k) := by
  have h : ((cfg0.win 1).blk t).view.emb (Idealize.ShloMosaic.ix2 d k : S1x1024.Idx) = (Idealize.ShloMosaic.ix2 d k : S1x1024.Idx) := by
    obtain ⟨_, ⟨e0, e1⟩, _⟩ := idx_facts t
    funext a; apply Fin.ext
    match a with
    | ⟨0, _⟩ => show win0_1.index t (0 : Fin 2) * 1 + 1 * d.val = d.val; omega
    | ⟨1, _⟩ => show win0_1.index t (1 : Fin 2) * 1024 + 1 * k.val = k.val; omega
  unfold iblk
  exact ((View.read_apply (Val := Elt Ideal) _ _).trans (cast_eq _ _)).trans (congrArg (V m c main_v0) h)

theorem blk2 (t : Fin cfg0.N) (d : Fin 1024) (k : Fin 5632) : (iblk m c 2 t : S1024x5632.Idx → EReal) (Idealize.ShloMosaic.ix2 d k) = (V m c main_v1 : S1024x5632.Idx → EReal) (Idealize.ShloMosaic.ix2 d k) := by
  have h : ((cfg0.win 2).blk t).view.emb (Idealize.ShloMosaic.ix2 d k : S1024x5632.Idx) = (Idealize.ShloMosaic.ix2 d k : S1024x5632.Idx) := by
    obtain ⟨_, _, ⟨e0, e1⟩, _⟩ := idx_facts t
    funext a; apply Fin.ext
    match a with
    | ⟨0, _⟩ => show win0_2.index t (0 : Fin 2) * 1024 + 1 * d.val = d.val; omega
    | ⟨1, _⟩ => show win0_2.index t (1 : Fin 2) * 5632 + 1 * k.val = k.val; omega
  unfold iblk
  exact ((View.read_apply (Val := Elt Ideal) _ _).trans (cast_eq _ _)).trans (congrArg (V m c main_v1) h)

theorem blk3 (t : Fin cfg0.N) (d : Fin 2816) (k : Fin 1024) : (iblk m c 3 t : S2816x1024.Idx → EReal) (Idealize.ShloMosaic.ix2 d k) = (V m c main_v2 : S2816x1024.Idx → EReal) (Idealize.ShloMosaic.ix2 d k) := by
  have h : ((cfg0.win 3).blk t).view.emb (Idealize.ShloMosaic.ix2 d k : S2816x1024.Idx) = (Idealize.ShloMosaic.ix2 d k : S2816x1024.Idx) := by
    obtain ⟨_, _, _, ⟨e0, e1⟩, _⟩ := idx_facts t
    funext a; apply Fin.ext
    match a with
    | ⟨0, _⟩ => show win0_3.index t (0 : Fin 2) * 2816 + 1 * d.val = d.val; omega
    | ⟨1, _⟩ => show win0_3.index t (1 : Fin 2) * 1024 + 1 * k.val = k.val; omega
  unfold iblk
  exact ((View.read_apply (Val := Elt Ideal) _ _).trans (cast_eq _ _)).trans (congrArg (V m c main_v2) h)

theorem emb4 (t : Fin cfg0.N) (r : Fin 512) (k : Fin 1024) :
    ((cfg0.win 4).blk t).view.emb (Idealize.ShloMosaic.ix2 r k : S512x1024.Idx) = (Idealize.ShloMosaic.ix2 (tileRow t r) k : S32768x1024.Idx) := by
  obtain ⟨_, _, _, _, ⟨e0, e1⟩⟩ := idx_facts t
  funext a; apply Fin.ext
  match a with
  | ⟨0, _⟩ => show win0_4.index t (0 : Fin 2) * 512 + 1 * r.val = t.val * 512 + r.val; omega
  | ⟨1, _⟩ => show win0_4.index t (1 : Fin 2) * 1024 + 1 * k.val = k.val; omega

/-- THE RESULT ARRAY AFTER THE RUN, at a row of a step's tile. -/
theorem final_tile (t : Fin cfg0.N) (r : Fin 512) (k : Fin 1024) :
    (dats m 0 c).arrAt 4 cfg0.N (Idealize.ShloMosaic.ix2 (tileRow t r) k : S32768x1024.Idx) = ffnAt (argX m c) (argG m c) (argW m c) (argD m c) (tileRow t r) k := by
  have h := congrFun (Cert.Kernel3Ideal.Value.blocks4 m c t (flush0_4 t)) (Idealize.ShloMosaic.ix2 r k : S512x1024.Idx)
  rw [Cert.Kernel3Ideal.Value.flushed4_A, View.read_apply, emb4] at h
  refine (cast_eq _ _).symm.trans (h.trans ?_)
  refine (out_at _ _ _ _ _ _ _ _ _ _ _ _ _ _ _ _ _ _ r k).trans ?_
  have h0 : rowOf (iblk m c 0 t : S512x1024.Idx → EReal) r = fun e => argX m c (Idealize.ShloMosaic.ix2 (tileRow t r) e) :=
    funext fun e => (blk0 m c t r e).trans (congrFun (V_x m c) _)
  have h1 : rowOf (iblk m c 1 t : S1x1024.Idx → EReal) 0 = fun e => argG m c (Idealize.ShloMosaic.ix1 e) := funext fun e => (blk1 m c t 0 e).trans (V_g m c e)
  have h2 : (fun d => rowOf (iblk m c 2 t : S1024x5632.Idx → EReal) d) = fun d j => argW m c (Idealize.ShloMosaic.ix2 d j) :=
    funext fun d => funext fun j => (blk2 m c t d j).trans (congrFun (V_w m c) _)
  have h3 : (fun d => rowOf (iblk m c 3 t : S2816x1024.Idx → EReal) d) = fun d j => argD m c (Idealize.ShloMosaic.ix2 d j) :=
    funext fun d => funext fun j => (blk3 m c t d j).trans (congrFun (V_d m c) _)
  unfold ffnAt
  rw [← h0, ← h1, ← h2, ← h3]

/-- THE RESULT ARRAY AFTER THE RUN, at any row and column. -/
theorem final_at (r : Fin 32768) (k : Fin 1024) :
    (dats m 0 c).arrAt 4 cfg0.N (Idealize.ShloMosaic.ix2 r k : S32768x1024.Idx) = ffnAt (argX m c) (argG m c) (argW m c) (argD m c) r k := by
  have hN : cfg0.N = 64 := by decide
  have h := final_tile m c ⟨r.val / 512, by rw [hN]; omega⟩ ⟨r.val % 512, by omega⟩ k
  have e : tileRow ⟨r.val / 512, by rw [hN]; omega⟩ ⟨r.val % 512, by omega⟩ = r := Fin.ext (by show r.val / 512 * 512 + r.val % 512 = r.val; omega)
  rw [e] at h
  exact h

end Cert.Ffn

end
-- ==== Proof.FfnRef.lean ====
/-
  The dense feed-forward part's reference, at an index; the claim of values; the reference's frame.
-/
module

public import proofs.«01_k».proof.Defs
public import proofs.«01_k».proof.Proof.FfnArray
public import proofs.«01_k».proof.Proof.Gen.Reference3Ideal.Run
public import proofs.«01_k».proof.Proof.Gen.Reference3Ideal.Read

@[expose] public section

noncomputable section

namespace Cert.Ffn

open Cert.Dense
open Idealize.ShloMosaic Idealize.ShloMosaic.TcCoe Idealize.SL.Sem

section reference

open Cert.Reference3Ideal Cert.Reference3Ideal.Gen Cert.Reference3Ideal.Read

variable (X : FVec Ideal S32768x1024 .f32) (G : FVec Ideal S1024 .f32) (W : FVec Ideal S1024x5632 .f32) (D : FVec Ideal S2816x1024 .f32)

/-- The reciprocal of a row's norm. -/
theorem ref_scale (r : Fin 32768) : val_main_v7 (F := Ideal) X (Idealize.ShloMosaic.ix2 r 0) = scaleOf (fun e => X (Idealize.ShloMosaic.ix2 r e)) := by
  rw [val_main_v7_apply, val_main_v6_apply, val_main_v4_apply, val_main_v5_apply, val_main_v3_apply, val_main_cst_0_apply, val_main_cst_1_apply, val_main_v2_apply, val_main_v1_apply,
    val_main_cst_apply]
  have e : ∀ k : Fin 1024, val_main_v0 (F := Ideal) X (idx_main_v1 (idx_main_v2 (Idealize.ShloMosaic.ix2 r 0)) k) = X (Idealize.ShloMosaic.ix2 r k) * X (Idealize.ShloMosaic.ix2 r k) := by
    intro k
    have i : idx_main_v1 (idx_main_v2 (Idealize.ShloMosaic.ix2 r 0)) k = Idealize.ShloMosaic.ix2 r k := by
      funext a; apply Fin.ext
      match a with | ⟨0, _⟩ => rfl | ⟨1, _⟩ => rfl
    rw [i, val_main_v0_apply]
    rfl
  rw [Finset.sum_congr rfl fun k _ => e k]
  unfold scaleOf
  generalize (∑ k : Fin 1024, (X (Idealize.ShloMosaic.ix2 r k) * X (Idealize.ShloMosaic.ix2 r k) : EReal)) = q
  show Ideal.rsqrt (Ideal.div (Ideal.ofBits .f32 0x00000000#32 + q) (Ideal.ofBits .f32 0x44800000#32) + Ideal.ofBits .f32 0x358637BD#32) = _
  rw [Ideal.ofBits_zero_f32, zero_add]

/-- A row, normalised. -/
theorem ref_norm (r : Fin 32768) (d : Fin 1024) :
    val_main_v12 (F := Ideal) X G (Idealize.ShloMosaic.ix2 r d) = rowNorm (fun e => X (Idealize.ShloMosaic.ix2 r e)) (fun e => G (Idealize.ShloMosaic.ix1 e)) d := by
  have i8 : idx_main_v8 (Idealize.ShloMosaic.ix2 r d) = Idealize.ShloMosaic.ix2 r 0 := by
    funext a; apply Fin.ext
    match a with | ⟨0, _⟩ => rfl | ⟨1, _⟩ => rfl
  have i10 : idx_main_v10 (idx_main_v11 (Idealize.ShloMosaic.ix2 r d)) = Idealize.ShloMosaic.ix1 d := by
    funext a; apply Fin.ext
    match a with | ⟨0, _⟩ => rfl
  rw [val_main_v12_apply, val_main_v9_apply, val_main_v8_apply, val_main_v11_apply, val_main_v10_apply, i8, i10, ref_scale]
  rfl

/-- The first product. -/
theorem ref_first (r : Fin 32768) (j : Fin 5632) :
    val_main_v13 (F := Ideal) X G W (Idealize.ShloMosaic.ix2 r j) = normDot (fun e => X (Idealize.ShloMosaic.ix2 r e)) (fun e => G (Idealize.ShloMosaic.ix1 e)) (fun d (j : Fin 5632) => W (Idealize.ShloMosaic.ix2 d j)) j := by
  rw [val_main_v13_apply]
  unfold normDot
  refine Finset.sum_congr rfl fun d _ => ?_
  have il : lidx_main_v13 (Idealize.ShloMosaic.ix2 r j) d = Idealize.ShloMosaic.ix2 r d := by
    funext a; apply Fin.ext
    match a with | ⟨0, _⟩ => rfl | ⟨1, _⟩ => rfl
  have ir : ridx_main_v13 (Idealize.ShloMosaic.ix2 r j) d = Idealize.ShloMosaic.ix2 d j := by
    funext a; apply Fin.ext
    match a with | ⟨0, _⟩ => rfl | ⟨1, _⟩ => rfl
  rw [il, ir, ref_norm]

/-- The gated product. -/
theorem ref_hidden (r : Fin 32768) (f : Fin 2816) :
    val_main_v17 (F := Ideal) X G W (Idealize.ShloMosaic.ix2 r f)
      = silu (normDot (fun e => X (Idealize.ShloMosaic.ix2 r e)) (fun e => G (Idealize.ShloMosaic.ix1 e)) (fun d (j : Fin 5632) => W (Idealize.ShloMosaic.ix2 d j)) ⟨f.val, by omega⟩)
        * normDot (fun e => X (Idealize.ShloMosaic.ix2 r e)) (fun e => G (Idealize.ShloMosaic.ix1 e)) (fun d (j : Fin 5632) => W (Idealize.ShloMosaic.ix2 d j)) ⟨2816 + f.val, by omega⟩ := by
  have i14 : idx_main_v14 (Idealize.ShloMosaic.ix2 r f) = Idealize.ShloMosaic.ix2 r ⟨f.val, by omega⟩ := by
    funext a; apply Fin.ext
    match a with | ⟨0, _⟩ => rfl | ⟨1, _⟩ => rfl
  have i15 : idx_main_v15 (Idealize.ShloMosaic.ix2 r f) = Idealize.ShloMosaic.ix2 r ⟨2816 + f.val, by omega⟩ := by
    funext a; apply Fin.ext
    match a with | ⟨0, _⟩ => rfl | ⟨1, _⟩ => rfl
  rw [val_main_v17_apply, val_main_v16_apply, val_main_call0_v5_apply, val_main_call0_v4_apply, val_main_call0_cst_0_apply, val_main_call0_v3_apply,
    val_main_call0_v2_apply, val_main_call0_cst_apply, val_main_call0_v1_apply, val_main_call0_v0_apply, val_main_v14_apply, val_main_v15_apply, i14, i15,
    ref_first, ref_first]
  generalize normDot (fun e => X (Idealize.ShloMosaic.ix2 r e)) (fun e => G (Idealize.ShloMosaic.ix1 e)) (fun d (j : Fin 5632) => W (Idealize.ShloMosaic.ix2 d j)) (⟨f.val, by omega⟩ : Fin 5632) = g
  generalize normDot (fun e => X (Idealize.ShloMosaic.ix2 r e)) (fun e => G (Idealize.ShloMosaic.ix1 e)) (fun d (j : Fin 5632) => W (Idealize.ShloMosaic.ix2 d j)) (⟨2816 + f.val, by omega⟩ : Fin 5632) = u
  show g * Ideal.div (Ideal.ofBits .f32 0x3F800000#32) (Ideal.ofBits .f32 0x3F800000#32 + Ideal.exp (-g)) * u = silu g * u
  unfold silu Dense.logistic
  rw [Ideal.ofBits_one_f32, zero_sub]

/-- THE REFERENCE, at a row and a column. -/
theorem ref_at (r : Fin 32768) (k : Fin 1024) : val_main_v19 (F := Ideal) X G W D (Idealize.ShloMosaic.ix2 r k) = ffnAt X G W D r k := by
  rw [val_main_v19_apply, val_main_v18_apply]
  unfold ffnAt ffnRow
  refine congrArg (fun z : EReal => X (Idealize.ShloMosaic.ix2 r k) + z) (Finset.sum_congr rfl fun f _ => ?_)
  have il : lidx_main_v18 (Idealize.ShloMosaic.ix2 r k) f = Idealize.ShloMosaic.ix2 r f := by
    funext a; apply Fin.ext
    match a with | ⟨0, _⟩ => rfl | ⟨1, _⟩ => rfl
  have ir : ridx_main_v18 (Idealize.ShloMosaic.ix2 r k) f = Idealize.ShloMosaic.ix2 f k := by
    funext a; apply Fin.ext
    match a with | ⟨0, _⟩ => rfl | ⟨1, _⟩ => rfl
  rw [il, ir, ref_hidden]

end reference

/-- The claim of values: from the same arguments the kernel and the reference end with equal results. -/
theorem algebraic : Cert.algebraic_Kernel3Ideal_Reference3Ideal := by
  intro m g m' g' hp hagree
  refine ⟨fun c => (Kernel3Ideal.Gen.dats m 0 c).arrAt 4 Kernel3Ideal.cfg0.N, Kernel3Ideal.Value.run_blocks m g, ?_⟩
  refine (θ_run Reference3Ideal.defs _ _).mono (fun r h c => ⟨(h c).1.trans ?_, (h c).2⟩) (Reference3Ideal.Value.run m' g')
  obtain ⟨h0, h1, h2, h3⟩ := hagree c
  refine (Reference3Ideal.Read.val_main_v19_eq _ _ _ _).trans ?_
  rw [h0, h1, h2, h3]
  funext i
  obtain ⟨r, k, rfl⟩ : ∃ (r : Fin 32768) (k : Fin 1024), i = Idealize.ShloMosaic.ix2 r k := by
    refine ⟨i 0, i 1, funext fun a => Fin.ext ?_⟩
    match a with | ⟨0, _⟩ => rfl | ⟨1, _⟩ => rfl
  exact (ref_at _ _ _ _ r k).trans (final_at m c r k).symm

/-- The reference's frame: its run read at the arguments; it declares no semaphore. -/
theorem frame_reference : Cert.quiescent_Reference3Ideal :=
  fun m g _ => (θ_run Reference3Ideal.defs _ _).mono (fun r h => ⟨fun c => (h c).2, sem_eq_zero_of_no_sems (by decide) r.2⟩) (Reference3Ideal.Value.run m g)

end Cert.Ffn

end
-- ==== Proof.MergePoint.lean ====
/-
  What one step of the merge writes, at a row and a column.
-/
module

public import proofs.«01_k».proof.Proof.Dense
public import proofs.«01_k».proof.Proof.Gen.Kernel4Ideal.Value
public import Idealize.ShloMosaic.Lib.Pipeline.ValueKit.Tiles

@[expose] public section

noncomputable section

namespace Cert.Merge

open Cert.Dense
open Cert.Kernel4Ideal Cert.Kernel4Ideal.Gen
open Idealize.ShloMosaic Idealize.ShloMosaic.TcCoe Idealize.ShloMosaic.Tactic

/-- A row of an array of two axes. -/
abbrev rowOf {M N : ℕ} (X : (⟨2, ![M, N]⟩ : Shape).Idx → EReal) (r : Fin M) : Fin N → EReal := fun e => X (Idealize.ShloMosaic.ix2 r e)

/-- The gates before the logistic function. -/
theorem pay3_at (x : Vec Ideal S512x1024 .f32) (g : Vec Ideal S1x1024 .f32) (w : Vec Ideal S1024x2048 .bf16) (r : Fin 512) (k : Fin 2048) :
    k0_pay3 (F := Ideal) x g w (Idealize.ShloMosaic.ix2 r k) = normDot (rowOf x r) (rowOf g 0) (fun d => rowOf w d) k := by
  unfold_payloads
  pointwise [dot_S512x1024_S1024x2048_S512x2048_1_0_0_1_n_n]
  rfl

/-- The first branch's projection. -/
theorem pay4_at (y : Vec Ideal S512x512 .bf16) (w : Vec Ideal S512x1024 .bf16) (r : Fin 512) (k : Fin 1024) :
    k0_pay4 (F := Ideal) y w (Idealize.ShloMosaic.ix2 r k) = ∑ d : Fin 512, y (Idealize.ShloMosaic.ix2 r d) * w (Idealize.ShloMosaic.ix2 d k) := by
  unfold_payloads
  pointwise [dot_S512x512_S512x1024_S512x1024_1_0_0_1_n_n]

/-- The second branch's projection. -/
theorem pay5_at (y : Vec Ideal S512x512 .bf16) (w : Vec Ideal S512x1024 .bf16) (r : Fin 512) (k : Fin 1024) :
    k0_pay5 (F := Ideal) y w (Idealize.ShloMosaic.ix2 r k) = ∑ d : Fin 512, y (Idealize.ShloMosaic.ix2 r d) * w (Idealize.ShloMosaic.ix2 d k) := by
  unfold_payloads
  pointwise [dot_S512x512_S512x1024_S512x1024_1_0_0_1_n_n]

/-- The first gate's denominator. -/
theorem pay6_at (x : Vec Ideal S512x1024 .f32) (g : Vec Ideal S1x1024 .f32) (w : Vec Ideal S1024x2048 .bf16) (r : Fin 512) (k : Fin 1024) :
    k0_pay6 (F := Ideal) x g w (Idealize.ShloMosaic.ix2 r k) = 1 + Ideal.exp (0 - normDot (rowOf x r) (rowOf g 0) (fun d => rowOf w d) ⟨k.val, by omega⟩) := by
  have h := pay3_at x g w r ⟨k.val, by omega⟩
  unfold k0_pay6
  generalize k0_pay3 (F := Ideal) x g w = P at h ⊢
  pointwise
  rw [h]

/-- The merge from the gates and the projections. -/
theorem pay1_at (x p q b : Vec Ideal S512x1024 .f32) (gt : Vec Ideal S512x2048 .f32) (w : Vec Ideal S1024x1024 .bf16) (r : Fin 512) (k : Fin 1024) :
    k0_pay1 (F := Ideal) x gt p q b (Scalar.ofBits .f32 0x3F800000#32) w (Idealize.ShloMosaic.ix2 r k)
      = x (Idealize.ShloMosaic.ix2 r k) + ∑ d : Fin 1024, (Ideal.div 1 (b (Idealize.ShloMosaic.ix2 r d)) * p (Idealize.ShloMosaic.ix2 r d)
          + logistic (gt (Idealize.ShloMosaic.ix2 r ⟨1024 + d.val, by omega⟩)) * q (Idealize.ShloMosaic.ix2 r d)) * w (Idealize.ShloMosaic.ix2 d k) := by
  unfold_payloads
  pointwise [dot_S512x1024_S1024x1024_S512x1024_1_0_0_1_n_n]
  rfl

/-- The tile itself. -/
theorem pay2_at (x : Vec Ideal S512x1024 .f32) (r : Fin 512) (k : Fin 1024) : k0_pay2 (F := Ideal) x (Idealize.ShloMosaic.ix2 r k) = x (Idealize.ShloMosaic.ix2 r k) := by
  unfold_payloads
  pointwise

theorem zeros2 : (![0, 0] : Fin 2 → ℕ) = fun _ => 0 := by
  funext a; match a with | ⟨0, _⟩ => rfl | ⟨1, _⟩ => rfl

/-- WHAT A STEP WRITES: each row of its tile, merged. -/
theorem out_at (x : Vec Ideal S512x1024 .f32) (g : Vec Ideal S1x1024 .f32) (ya yb : Vec Ideal S512x512 .bf16) (wg : Vec Ideal S1024x2048 .bf16)
    (wa wb : Vec Ideal S512x1024 .bf16) (wo : Vec Ideal S1024x1024 .bf16) (r : Fin 512) (k : Fin 1024) :
    out0_8 (F := Ideal) x g ya yb wg wa wb wo (Idealize.ShloMosaic.ix2 r k)
      = mergeRow (rowOf x r) (rowOf ya r) (rowOf yb r) (rowOf g 0) (fun d => rowOf wg d) (fun d => rowOf wa d) (fun d => rowOf wb d) (fun d => rowOf wo d) k := by
  unfold out0_8
  rw [View.canon_unit_zero zeros2]
  rw [show View.ld x r0_0 = x from View.ld_unit_zero zeros2 _ _, show View.ld g r0_1 = g from View.ld_unit_zero zeros2 _ _,
    show View.ld ya r0_3 = ya from View.ld_unit_zero zeros2 _ _, show View.ld yb r0_3 = yb from View.ld_unit_zero zeros2 _ _,
    show View.ld wg r0_2 = wg from View.ld_unit_zero zeros2 _ _, show View.ld wa r0_0 = wa from View.ld_unit_zero zeros2 _ _,
    show View.ld wb r0_0 = wb from View.ld_unit_zero zeros2 _ _, show View.ld wo r0_4 = wo from View.ld_unit_zero zeros2 _ _]
  rw [pay1_at, pay2_at]
  unfold mergeRow
  refine congrArg (fun z => x (Idealize.ShloMosaic.ix2 r k) + z) (Finset.sum_congr rfl fun d _ => ?_)
  rw [pay3_at, pay4_at, pay5_at, pay6_at]
  rfl

end Cert.Merge

end
-- ==== Proof.MergeArray.lean ====
/-
  The merge's result array, at an index, from the arguments.
-/
module

public import proofs.«01_k».proof.Proof.MergePoint
public import Idealize.ShloMosaic.Lib.KernelVsHost
public import Idealize.ShloMosaic.Lib.StableHlo.Run

@[expose] public section

noncomputable section

namespace Cert.Merge

open Cert.Dense
open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The arguments that a device holds. -/
abbrev argX : FVec Ideal S8x4096x1024 .f32 := m ((c : Thread nD τ).loc main_arg0)
abbrev argA : FVec Ideal S8x4096x512 .bf16 := m ((c : Thread nD τ).loc main_arg1)
abbrev argB : FVec Ideal S8x4096x512 .bf16 := m ((c : Thread nD τ).loc main_arg2)
abbrev argG : FVec Ideal S1024 .f32 := m ((c : Thread nD τ).loc main_arg3)
abbrev argIn : FVec Ideal S1024x4256 .f32 := m ((c : Thread nD τ).loc main_arg4)
abbrev argWa : FVec Ideal S512x1024 .f32 := m ((c : Thread nD τ).loc main_arg5)
abbrev argWb : FVec Ideal S512x1024 .f32 := m ((c : Thread nD τ).loc main_arg6)
abbrev argWo : FVec Ideal S1024x1024 .f32 := m ((c : Thread nD τ).loc main_arg7)

/-- The merge of row `s` of batch `b`, at column `k`. -/
def mergeAt (X : S8x4096x1024.Idx → EReal) (A B : S8x4096x512.Idx → EReal) (G : S1024.Idx → EReal) (W : S1024x4256.Idx → EReal)
    (Wa Wb : S512x1024.Idx → EReal) (Wo : S1024x1024.Idx → EReal) (b : Fin 8) (s : Fin 4096) (k : Fin 1024) : EReal :=
  mergeRow (fun e => X (Idealize.ShloMosaic.ix3 b s e)) (fun e => A (Idealize.ShloMosaic.ix3 b s e)) (fun e => B (Idealize.ShloMosaic.ix3 b s e)) (fun e => G (Idealize.ShloMosaic.ix1 e))
    (fun d j => W (Idealize.ShloMosaic.ix2 d ⟨2208 + j.val, by omega⟩)) (fun d j => Wa (Idealize.ShloMosaic.ix2 d j)) (fun d j => Wb (Idealize.ShloMosaic.ix2 d j)) (fun d j => Wo (Idealize.ShloMosaic.ix2 d j)) k

/-- The rows, flattened. -/
theorem V_x (r : Fin 32768) (k : Fin 1024) :
    (V m c main_v6 : S32768x1024.Idx → EReal) (Idealize.ShloMosaic.ix2 r k) = argX m c (Idealize.ShloMosaic.ix3 ⟨r.val / 4096, by omega⟩ ⟨r.val % 4096, by omega⟩ k) := by
  have e : (V m c main_v6 : S32768x1024.Idx → EReal) = shapeCast S32768x1024 (argX m c) shapeCasts_S8x4096x1024_S32768x1024 := by
    simp only [V, hostOps0]
    after_results_simp
    rfl
  rw [e]
  exact shapeCast_apply _ _ _ _ (by rw [Shape.rowMajor_val_three, Shape.rowMajor_val_two]; show (r.val / 4096 * 4096 + r.val % 4096) * 1024 + k.val = r.val * 1024 + k.val; omega)

theorem V_a (r : Fin 32768) (k : Fin 512) :
    (V m c main_v7 : S32768x512.Idx → EReal) (Idealize.ShloMosaic.ix2 r k) = argA m c (Idealize.ShloMosaic.ix3 ⟨r.val / 4096, by omega⟩ ⟨r.val % 4096, by omega⟩ k) := by
  have e : (V m c main_v7 : S32768x512.Idx → EReal) = shapeCast S32768x512 (argA m c) shapeCasts_S8x4096x512_S32768x512 := by
    simp only [V, hostOps0]
    after_results_simp
    rfl
  rw [e]
  exact shapeCast_apply _ _ _ _ (by rw [Shape.rowMajor_val_three, Shape.rowMajor_val_two]; show (r.val / 4096 * 4096 + r.val % 4096) * 512 + k.val = r.val * 512 + k.val; omega)

theorem V_b (r : Fin 32768) (k : Fin 512) :
    (V m c main_v8 : S32768x512.Idx → EReal) (Idealize.ShloMosaic.ix2 r k) = argB m c (Idealize.ShloMosaic.ix3 ⟨r.val / 4096, by omega⟩ ⟨r.val % 4096, by omega⟩ k) := by
  have e : (V m c main_v8 : S32768x512.Idx → EReal) = shapeCast S32768x512 (argB m c) shapeCasts_S8x4096x512_S32768x512 := by
    simp only [V, hostOps0]
    after_results_simp
    rfl
  rw [e]
  exact shapeCast_apply _ _ _ _ (by rw [Shape.rowMajor_val_three, Shape.rowMajor_val_two]; show (r.val / 4096 * 4096 + r.val % 4096) * 512 + k.val = r.val * 512 + k.val; omega)

/-- The gains, as one row. -/
theorem V_g (k : Fin 1024) : (V m c main_v0 : S1x1024.Idx → EReal) (Idealize.ShloMosaic.ix2 0 k) = argG m c (Idealize.ShloMosaic.ix1 k) := by
  have e : (V m c main_v0 : S1x1024.Idx → EReal) = shapeCast S1x1024 (argG m c) shapeCasts_S1024_S1x1024 := by
    simp only [V, hostOps0]
    after_results_simp
    rfl
  rw [e]
  exact shapeCast_apply _ _ _ _ (by rw [Shape.rowMajor_val_one, Shape.rowMajor_val_two]; show k.val = 0 * 1024 + k.val; omega)

/-- The gates' weights: the last 2048 columns. -/
theorem V_wg (d : Fin 1024) (j : Fin 2048) : (V m c main_v2 : S1024x2048.Idx → EReal) (Idealize.ShloMosaic.ix2 d j) = argIn m c (Idealize.ShloMosaic.ix2 d ⟨2208 + j.val, by omega⟩) := by
  have e : (V m c main_v2 : S1024x2048.Idx → EReal) = extractStridedSlice S1024x2048 ![0, 2208] (argIn m c) slices_S1024x4256_S1024x2048_0_2208 := by
    simp only [V, hostOps0]
    after_results_simp
    rfl
  rw [e]
  exact extractStridedSlice_apply _ _ _ _ _ (fun a => by
    match a with
    | ⟨0, _⟩ => show d.val = 0 + d.val; omega
    | ⟨1, _⟩ => rfl)

/-- The other weights are the arguments. -/
theorem V_wa : (V m c main_v3 : S512x1024.Idx → EReal) = argWa m c := by
  simp only [V, hostOps0]
  after_results_simp
  rfl

theorem V_wb : (V m c main_v4 : S512x1024.Idx → EReal) = argWb m c := by
  simp only [V, hostOps0]
  after_results_simp
  rfl

theorem V_wo : (V m c main_v5 : S1024x1024.Idx → EReal) = argWo m c := by
  simp only [V, hostOps0]
  after_results_simp
  rfl

/-- Which block each window holds at a step: the step's tile of rows, and the whole of the weights. -/
theorem idx_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row `r` of step `t`'s tile. -/
def tileRow (t : Fin cfg0.N) (r : Fin 512) : Fin 32768 :=
  ⟨t.val * 512 + r.val, by
    have hN : cfg0.N = 64 := by decide
    have := t.isLt
    omega⟩

/-- A step's block of an array, at a place of the block, is the array at the place that the block puts it. -/
theorem blk0 (t : Fin cfg0.N) (r : Fin 512) (k : Fin 1024) : (iblk m c 0 t : S512x1024.Idx → EReal) (Idealize.ShloMosaic.ix2 r k) = (V m c main_v6 : S32768x1024.Idx → EReal) (Idealize.ShloMosaic.ix2 (tileRow t r) k) := by
  have h : ((cfg0.win 0).blk t).view.emb (Idealize.ShloMosaic.ix2 r k : S512x1024.Idx) = (Idealize.ShloMosaic.ix2 (tileRow t r) k : S32768x1024.Idx) := by
    obtain ⟨⟨e0, e1⟩, _⟩ := idx_facts t
    funext a; apply Fin.ext
    match a with
    | ⟨0, _⟩ => show win0_0.index t (0 : Fin 2) * 512 + 1 * r.val = t.val * 512 + r.val; omega
    | ⟨1, _⟩ => show win0_0.index t (1 : Fin 2) * 1024 + 1 * k.val = k.val; omega
  unfold iblk
  exact ((View.read_apply (Val := Elt Ideal) _ _).trans (cast_eq _ _)).trans (congrArg (V m c main_v6) h)

theorem blk1 (t : Fin cfg0.N) (k : Fin 1024) : (iblk m c 1 t : S1x1024.Idx → EReal) (Idealize.ShloMosaic.ix2 0 k) = (V m c main_v0 : S1x1024.Idx → EReal) (Idealize.ShloMosaic.ix2 0 k) := by
  have h : ((cfg0.win 1).blk t).view.emb (Idealize.ShloMosaic.ix2 0 k : S1x1024.Idx) = (Idealize.ShloMosaic.ix2 0 k : S1x1024.Idx) := by
    obtain ⟨_, ⟨e0, e1⟩, _⟩ := idx_facts t
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  unfold iblk
  exact ((View.read_apply (Val := Elt Ideal) _ _).trans (cast_eq _ _)).trans (congrArg (V m c main_v0) h)

theorem blk2 (t : Fin cfg0.N) (r : Fin 512) (k : Fin 512) : (iblk m c 2 t : S512x512.Idx → EReal) (Idealize.ShloMosaic.ix2 r k) = (V m c main_v7 : S32768x512.Idx → EReal) (Idealize.ShloMosaic.ix2 (tileRow t r) k) := by
  have h : ((cfg0.win 2).blk t).view.emb (Idealize.ShloMosaic.ix2 r k : S512x512.Idx) = (Idealize.ShloMosaic.ix2 (tileRow t r) k : S32768x512.Idx) := by
    obtain ⟨_, _, ⟨e0, e1⟩, _⟩ := idx_facts t
    funext a; apply Fin.ext
    match a with
    | ⟨0, _⟩ => show win0_2.index t (0 : Fin 2) * 512 + 1 * r.val = t.val * 512 + r.val; omega
    | ⟨1, _⟩ => show win0_2.index t (1 : Fin 2) * 512 + 1 * k.val = k.val; omega
  unfold iblk
  exact ((View.read_apply (Val := Elt Ideal) _ _).trans (cast_eq _ _)).trans (congrArg (V m c main_v7) h)

theorem blk3 (t : Fin cfg0.N) (r : Fin 512) (k : Fin 512) : (iblk m c 3 t : S512x512.Idx → EReal) (Idealize.ShloMosaic.ix2 r k) = (V m c main_v8 : S32768x512.Idx → EReal) (Idealize.ShloMosaic.ix2 (tileRow t r) k) := by
  have h : ((cfg0.win 3).blk t).view.emb (Idealize.ShloMosaic.ix2 r k : S512x512.Idx) = (Idealize.ShloMosaic.ix2 (tileRow t r) k : S32768x512.Idx) := by
    obtain ⟨_, _, _, ⟨e0, e1⟩, _⟩ := idx_facts t
    funext a; apply Fin.ext
    match a with
    | ⟨0, _⟩ => show win0_3.index t (0 : Fin 2) * 512 + 1 * r.val = t.val * 512 + r.val; omega
    | ⟨1, _⟩ => show win0_3.index t (1 : Fin 2) * 512 + 1 * k.val = k.val; omega
  unfold iblk
  exact ((View.read_apply (Val := Elt Ideal) _ _).trans (cast_eq _ _)).trans (congrArg (V m c main_v8) h)

theorem blk4 (t : Fin cfg0.N) (d : Fin 1024) (k : Fin 2048) : (iblk m c 4 t : S1024x2048.Idx → EReal) (Idealize.ShloMosaic.ix2 d k) = (V m c main_v2 : S1024x2048.Idx → EReal) (Idealize.ShloMosaic.ix2 d k) := by
  have h : ((cfg0.win 4).blk t).view.emb (Idealize.ShloMosaic.ix2 d k : S1024x2048.Idx) = (Idealize.ShloMosaic.ix2 d k : S1024x2048.Idx) := by
    obtain ⟨_, _, _, _, ⟨e0, e1⟩, _⟩ := idx_facts t
    funext a; apply Fin.ext
    match a with
    | ⟨0, _⟩ => show win0_4.index t (0 : Fin 2) * 1024 + 1 * d.val = d.val; omega
    | ⟨1, _⟩ => show win0_4.index t (1 : Fin 2) * 2048 + 1 * k.val = k.val; omega
  unfold iblk
  exact ((View.read_apply (Val := Elt Ideal) _ _).trans (cast_eq _ _)).trans (congrArg (V m c main_v2) h)

theorem blk5 (t : Fin cfg0.N) (d : Fin 512) (k : Fin 1024) : (iblk m c 5 t : S512x1024.Idx → EReal) (Idealize.ShloMosaic.ix2 d k) = (V m c main_v3 : S512x1024.Idx → EReal) (Idealize.ShloMosaic.ix2 d k) := by
  have h : ((cfg0.win 5).blk t).view.emb (Idealize.ShloMosaic.ix2 d k : S512x1024.Idx) = (Idealize.ShloMosaic.ix2 d k : S512x1024.Idx) := by
    obtain ⟨_, _, _, _, _, ⟨e0, e1⟩, _⟩ := idx_facts t
    funext a; apply Fin.ext
    match a with
    | ⟨0, _⟩ => show win0_5.index t (0 : Fin 2) * 512 + 1 * d.val = d.val; omega
    | ⟨1, _⟩ => show win0_5.index t (1 : Fin 2) * 1024 + 1 * k.val = k.val; omega
  unfold iblk
  exact ((View.read_apply (Val := Elt Ideal) _ _).trans (cast_eq _ _)).trans (congrArg (V m c main_v3) h)

theorem blk6 (t : Fin cfg0.N) (d : Fin 512) (k : Fin 1024) : (iblk m c 6 t : S512x1024.Idx → EReal) (Idealize.ShloMosaic.ix2 d k) = (V m c main_v4 : S512x1024.Idx → EReal) (Idealize.ShloMosaic.ix2 d k) := by
  have h : ((cfg0.win 6).blk t).view.emb (Idealize.ShloMosaic.ix2 d k : S512x1024.Idx) = (Idealize.ShloMosaic.ix2 d k : S512x1024.Idx) := by
    obtain ⟨_, _, _, _, _, _, ⟨e0, e1⟩, _⟩ := idx_facts t
    funext a; apply Fin.ext
    match a with
    | ⟨0, _⟩ => show win0_6.index t (0 : Fin 2) * 512 + 1 * d.val = d.val; omega
    | ⟨1, _⟩ => show win0_6.index t (1 : Fin 2) * 1024 + 1 * k.val = k.val; omega
  unfold iblk
  exact ((View.read_apply (Val := Elt Ideal) _ _).trans (cast_eq _ _)).trans (congrArg (V m c main_v4) h)

theorem blk7 (t : Fin cfg0.N) (d : Fin 1024) (k : Fin 1024) : (iblk m c 7 t : S1024x1024.Idx → EReal) (Idealize.ShloMosaic.ix2 d k) = (V m c main_v5 : S1024x1024.Idx → EReal) (Idealize.ShloMosaic.ix2 d k) := by
  have h : ((cfg0.win 7).blk t).view.emb (Idealize.ShloMosaic.ix2 d k : S1024x1024.Idx) = (Idealize.ShloMosaic.ix2 d k : S1024x1024.Idx) := by
    obtain ⟨_, _, _, _, _, _, _, ⟨e0, e1⟩, _⟩ := idx_facts t
    funext a; apply Fin.ext
    match a with
    | ⟨0, _⟩ => show win0_7.index t (0 : Fin 2) * 1024 + 1 * d.val = d.val; omega
    | ⟨1, _⟩ => show win0_7.index t (1 : Fin 2) * 1024 + 1 * k.val = k.val; omega
  unfold iblk
  exact ((View.read_apply (Val := Elt Ideal) _ _).trans (cast_eq _ _)).trans (congrArg (V m c main_v5) h)

theorem emb8 (t : Fin cfg0.N) (r : Fin 512) (k : Fin 1024) :
    ((cfg0.win 8).blk t).view.emb (Idealize.ShloMosaic.ix2 r k : S512x1024.Idx) = (Idealize.ShloMosaic.ix2 (tileRow t r) k : S32768x1024.Idx) := by
  obtain ⟨_, _, _, _, _, _, _, _, ⟨e0, e1⟩⟩ := idx_facts t
  funext a; apply Fin.ext
  match a with
  | ⟨0, _⟩ => show win0_8.index t (0 : Fin 2) * 512 + 1 * r.val = t.val * 512 + r.val; omega
  | ⟨1, _⟩ => show win0_8.index t (1 : Fin 2) * 1024 + 1 * k.val = k.val; omega

/-- The merge of the flattened rows' row `r`. -/
def mergeOf (r : Fin 32768) (k : Fin 1024) : EReal :=
  mergeAt (argX m c) (argA m c) (argB m c) (argG m c) (argIn m c) (argWa m c) (argWb m c) (argWo m c) ⟨r.val / 4096, by omega⟩ ⟨r.val % 4096, by omega⟩ k

/-- THE RESULT ARRAY AFTER THE RUN, at a row of a step's tile. -/
theorem final_tile (t : Fin cfg0.N) (r : Fin 512) (k : Fin 1024) :
    (dats m 0 c).arrAt 8 cfg0.N (Idealize.ShloMosaic.ix2 (tileRow t r) k : S32768x1024.Idx) = mergeOf m c (tileRow t r) k := by
  have h := congrFun (Cert.Kernel4Ideal.Value.blocks8 m c t (flush0_8 t)) (Idealize.ShloMosaic.ix2 r k : S512x1024.Idx)
  rw [Cert.Kernel4Ideal.Value.flushed8, View.read_apply, emb8] at h
  refine (cast_eq _ _).symm.trans (h.trans ?_)
  refine (out_at _ _ _ _ _ _ _ _ r k).trans ?_
  have h0 : rowOf (iblk m c 0 t : S512x1024.Idx → EReal) r = fun e => argX m c (Idealize.ShloMosaic.ix3 ⟨(tileRow t r).val / 4096, by have := (tileRow t r).isLt; omega⟩ ⟨(tileRow t r).val % 4096, by omega⟩ e) :=
    funext fun e => (blk0 m c t r e).trans (V_x m c _ e)
  have h1 : rowOf (iblk m c 1 t : S1x1024.Idx → EReal) 0 = fun e => argG m c (Idealize.ShloMosaic.ix1 e) := funext fun e => (blk1 m c t e).trans (V_g m c e)
  have h2 : rowOf (iblk m c 2 t : S512x512.Idx → EReal) r = fun e => argA m c (Idealize.ShloMosaic.ix3 ⟨(tileRow t r).val / 4096, by have := (tileRow t r).isLt; omega⟩ ⟨(tileRow t r).val % 4096, by omega⟩ e) :=
    funext fun e => (blk2 m c t r e).trans (V_a m c _ e)
  have h3 : rowOf (iblk m c 3 t : S512x512.Idx → EReal) r = fun e => argB m c (Idealize.ShloMosaic.ix3 ⟨(tileRow t r).val / 4096, by have := (tileRow t r).isLt; omega⟩ ⟨(tileRow t r).val % 4096, by omega⟩ e) :=
    funext fun e => (blk3 m c t r e).trans (V_b m c _ e)
  have h4 : (fun d => rowOf (iblk m c 4 t : S1024x2048.Idx → EReal) d) = fun d j => argIn m c (Idealize.ShloMosaic.ix2 d ⟨2208 + j.val, by omega⟩) :=
    funext fun d => funext fun j => (blk4 m c t d j).trans (V_wg m c d j)
  have h5 : (fun d => rowOf (iblk m c 5 t : S512x1024.Idx → EReal) d) = fun d j => argWa m c (Idealize.ShloMosaic.ix2 d j) :=
    funext fun d => funext fun j => (blk5 m c t d j).trans (congrFun (V_wa m c) _)
  have h6 : (fun d => rowOf (iblk m c 6 t : S512x1024.Idx → EReal) d) = fun d j => argWb m c (Idealize.ShloMosaic.ix2 d j) :=
    funext fun d => funext fun j => (blk6 m c t d j).trans (congrFun (V_wb m c) _)
  have h7 : (fun d => rowOf (iblk m c 7 t : S1024x1024.Idx → EReal) d) = fun d j => argWo m c (Idealize.ShloMosaic.ix2 d j) :=
    funext fun d => funext fun j => (blk7 m c t d j).trans (congrFun (V_wo m c) _)
  unfold mergeOf mergeAt
  rw [← h0, ← h1, ← h2, ← h3, ← h4, ← h5, ← h6, ← h7]

/-- THE RESULT ARRAY AFTER THE RUN, at any row and column. -/
theorem final_at (r : Fin 32768) (k : Fin 1024) :
    (dats m 0 c).arrAt 8 cfg0.N (Idealize.ShloMosaic.ix2 r k : S32768x1024.Idx) = mergeOf m c r k := by
  have hN : cfg0.N = 64 := by decide
  have h := final_tile m c ⟨r.val / 512, by rw [hN]; omega⟩ ⟨r.val % 512, by omega⟩ k
  have e : tileRow ⟨r.val / 512, by rw [hN]; omega⟩ ⟨r.val % 512, by omega⟩ = r := Fin.ext (by show r.val / 512 * 512 + r.val % 512 = r.val; omega)
  rw [e] at h
  exact h

end Cert.Merge

end
-- ==== Proof.MergeRef.lean ====
/-
  The merge's reference, at an index; the claim of values; the reference's frame.
-/
module

public import proofs.«01_k».proof.Defs
public import proofs.«01_k».proof.Proof.MergeArray
public import proofs.«01_k».proof.Proof.Gen.Reference4Ideal.Run
public import proofs.«01_k».proof.Proof.Gen.Reference4Ideal.Read

@[expose] public section

noncomputable section

namespace Cert.Merge

open Cert.Dense
open Idealize.ShloMosaic Idealize.ShloMosaic.TcCoe Idealize.SL.Sem

section reference

open Cert.Reference4Ideal Cert.Reference4Ideal.Gen Cert.Reference4Ideal.Read

variable (X : FVec Ideal S8x4096x1024 .f32) (A B : FVec Ideal S8x4096x512 .bf16) (G : FVec Ideal S1024 .f32) (W : FVec Ideal S1024x4256 .f32)
  (Wa Wb : FVec Ideal S512x1024 .f32) (Wo : FVec Ideal S1024x1024 .f32)

/-- The reciprocal of a row's norm. -/
theorem ref_scale (b : Fin 8) (s : Fin 4096) : val_main_v7 (F := Ideal) X (Idealize.ShloMosaic.ix3 b s 0) = scaleOf (fun e => X (Idealize.ShloMosaic.ix3 b s e)) := by
  rw [val_main_v7_apply, val_main_v6_apply, val_main_v4_apply, val_main_v5_apply, val_main_v3_apply, val_main_cst_0_apply, val_main_cst_1_apply, val_main_v2_apply, val_main_v1_apply,
    val_main_cst_apply]
  have e : ∀ k : Fin 1024, val_main_v0 (F := Ideal) X (idx_main_v1 (idx_main_v2 (Idealize.ShloMosaic.ix3 b s 0)) k) = X (Idealize.ShloMosaic.ix3 b s k) * X (Idealize.ShloMosaic.ix3 b s k) := by
    intro k
    have i : idx_main_v1 (idx_main_v2 (Idealize.ShloMosaic.ix3 b s 0)) k = Idealize.ShloMosaic.ix3 b s k := by
      funext a; apply Fin.ext
      match a with | ⟨0, _⟩ => rfl | ⟨1, _⟩ => rfl | ⟨2, _⟩ => rfl
    rw [i, val_main_v0_apply]
    rfl
  rw [Finset.sum_congr rfl fun k _ => e k]
  unfold scaleOf
  generalize (∑ k : Fin 1024, (X (Idealize.ShloMosaic.ix3 b s k) * X (Idealize.ShloMosaic.ix3 b s k) : EReal)) = q
  show Ideal.rsqrt (Ideal.div (Ideal.ofBits .f32 0x00000000#32 + q) (Ideal.ofBits .f32 0x44800000#32) + Ideal.ofBits .f32 0x358637BD#32) = _
  rw [Ideal.ofBits_zero_f32, zero_add]

/-- A row, normalised. -/
theorem ref_norm (b : Fin 8) (s : Fin 4096) (d : Fin 1024) :
    val_main_v12 (F := Ideal) X G (Idealize.ShloMosaic.ix3 b s d) = rowNorm (fun e => X (Idealize.ShloMosaic.ix3 b s e)) (fun e => G (Idealize.ShloMosaic.ix1 e)) d := by
  have i8 : idx_main_v8 (Idealize.ShloMosaic.ix3 b s d) = Idealize.ShloMosaic.ix3 b s 0 := by
    funext a; apply Fin.ext
    match a with | ⟨0, _⟩ => rfl | ⟨1, _⟩ => rfl | ⟨2, _⟩ => rfl
  have i10 : idx_main_v10 (idx_main_v11 (Idealize.ShloMosaic.ix3 b s d)) = Idealize.ShloMosaic.ix1 d := by
    funext a; apply Fin.ext
    match a with | ⟨0, _⟩ => rfl
  rw [val_main_v12_apply, val_main_v9_apply, val_main_v8_apply, val_main_v11_apply, val_main_v10_apply, i8, i10, ref_scale]
  rfl

/-- A gate before the logistic function. -/
theorem ref_gate (b : Fin 8) (s : Fin 4096) (j : Fin 2048) :
    val_main_v14 (F := Ideal) X G W (Idealize.ShloMosaic.ix3 b s j)
      = normDot (fun e => X (Idealize.ShloMosaic.ix3 b s e)) (fun e => G (Idealize.ShloMosaic.ix1 e)) (fun d (j : Fin 2048) => W (Idealize.ShloMosaic.ix2 d ⟨2208 + j.val, by omega⟩)) j := by
  rw [val_main_v14_apply, val_main_v13_apply]
  unfold normDot
  refine Finset.sum_congr rfl fun d _ => ?_
  have il : lidx_main_v13 (idx_main_v14 (Idealize.ShloMosaic.ix3 b s j)) d = Idealize.ShloMosaic.ix3 b s d := by
    funext a; apply Fin.ext
    match a with | ⟨0, _⟩ => rfl | ⟨1, _⟩ => rfl | ⟨2, _⟩ => rfl
  have ir : ridx_main_v13 (idx_main_v14 (Idealize.ShloMosaic.ix3 b s j)) d = Idealize.ShloMosaic.ix2 d ⟨2208 + j.val, by omega⟩ := by
    funext a; apply Fin.ext
    match a with | ⟨0, _⟩ => rfl | ⟨1, _⟩ => rfl
  rw [il, ir, ref_norm]

/-- The first gate. -/
theorem ref_left (b : Fin 8) (s : Fin 4096) (d : Fin 1024) :
    val_main_v22 (F := Ideal) X G W (Idealize.ShloMosaic.ix3 b s d)
      = Dense.logistic (normDot (fun e => X (Idealize.ShloMosaic.ix3 b s e)) (fun e => G (Idealize.ShloMosaic.ix1 e)) (fun d (j : Fin 2048) => W (Idealize.ShloMosaic.ix2 d ⟨2208 + j.val, by omega⟩)) ⟨d.val, by omega⟩) := by
  have i : idx_main_v15 (Idealize.ShloMosaic.ix3 b s d) = Idealize.ShloMosaic.ix3 b s ⟨d.val, by omega⟩ := by
    funext a; apply Fin.ext
    match a with | ⟨0, _⟩ => rfl | ⟨1, _⟩ => rfl | ⟨2, _⟩ => rfl
  rw [val_main_v22_apply, val_main_v21_apply, val_main_cst_3_apply, val_main_v20_apply, val_main_v19_apply, val_main_cst_2_apply, val_main_v18_apply, val_main_v17_apply, val_main_v15_apply, i, ref_gate]
  generalize normDot (fun e => X (Idealize.ShloMosaic.ix3 b s e)) (fun e => G (Idealize.ShloMosaic.ix1 e)) (fun d (j : Fin 2048) => W (Idealize.ShloMosaic.ix2 d ⟨2208 + j.val, by omega⟩)) (⟨d.val, by omega⟩ : Fin 2048) = z
  show Ideal.div (Ideal.ofBits .f32 0x3F800000#32) (Ideal.ofBits .f32 0x3F800000#32 + Ideal.exp (-z)) = Dense.logistic z
  unfold Dense.logistic
  rw [Ideal.ofBits_one_f32, zero_sub]

/-- The second gate. -/
theorem ref_right (b : Fin 8) (s : Fin 4096) (d : Fin 1024) :
    val_main_v31 (F := Ideal) X G W (Idealize.ShloMosaic.ix3 b s d)
      = Dense.logistic (normDot (fun e => X (Idealize.ShloMosaic.ix3 b s e)) (fun e => G (Idealize.ShloMosaic.ix1 e)) (fun d (j : Fin 2048) => W (Idealize.ShloMosaic.ix2 d ⟨2208 + j.val, by omega⟩)) ⟨1024 + d.val, by omega⟩) := by
  have i : idx_main_v16 (Idealize.ShloMosaic.ix3 b s d) = Idealize.ShloMosaic.ix3 b s ⟨1024 + d.val, by omega⟩ := by
    funext a; apply Fin.ext
    match a with | ⟨0, _⟩ => rfl | ⟨1, _⟩ => rfl | ⟨2, _⟩ => rfl
  rw [val_main_v31_apply, val_main_v30_apply, val_main_cst_5_apply, val_main_v29_apply, val_main_v28_apply, val_main_cst_4_apply, val_main_v27_apply, val_main_v26_apply, val_main_v16_apply, i, ref_gate]
  generalize normDot (fun e => X (Idealize.ShloMosaic.ix3 b s e)) (fun e => G (Idealize.ShloMosaic.ix1 e)) (fun d (j : Fin 2048) => W (Idealize.ShloMosaic.ix2 d ⟨2208 + j.val, by omega⟩)) (⟨1024 + d.val, by omega⟩ : Fin 2048) = z
  show Ideal.div (Ideal.ofBits .f32 0x3F800000#32) (Ideal.ofBits .f32 0x3F800000#32 + Ideal.exp (-z)) = Dense.logistic z
  unfold Dense.logistic
  rw [Ideal.ofBits_one_f32, zero_sub]

/-- The first branch's projection. -/
theorem ref_first (b : Fin 8) (s : Fin 4096) (d : Fin 1024) :
    val_main_v24 (F := Ideal) A Wa (Idealize.ShloMosaic.ix3 b s d) = ∑ e : Fin 512, (A (Idealize.ShloMosaic.ix3 b s e) : EReal) * Wa (Idealize.ShloMosaic.ix2 e d) := by
  rw [val_main_v24_apply]
  refine Finset.sum_congr rfl fun e _ => ?_
  have il : lidx_main_v24 (Idealize.ShloMosaic.ix3 b s d) e = Idealize.ShloMosaic.ix3 b s e := by
    funext a; apply Fin.ext
    match a with | ⟨0, _⟩ => rfl | ⟨1, _⟩ => rfl | ⟨2, _⟩ => rfl
  have ir : ridx_main_v24 (Idealize.ShloMosaic.ix3 b s d) e = Idealize.ShloMosaic.ix2 e d := by
    funext a; apply Fin.ext
    match a with | ⟨0, _⟩ => rfl | ⟨1, _⟩ => rfl
  rw [il, ir, val_main_v23_apply]
  rfl

/-- The second branch's projection. -/
theorem ref_second (b : Fin 8) (s : Fin 4096) (d : Fin 1024) :
    val_main_v33 (F := Ideal) B Wb (Idealize.ShloMosaic.ix3 b s d) = ∑ e : Fin 512, (B (Idealize.ShloMosaic.ix3 b s e) : EReal) * Wb (Idealize.ShloMosaic.ix2 e d) := by
  rw [val_main_v33_apply]
  refine Finset.sum_congr rfl fun e _ => ?_
  have il : lidx_main_v33 (Idealize.ShloMosaic.ix3 b s d) e = Idealize.ShloMosaic.ix3 b s e := by
    funext a; apply Fin.ext
    match a with | ⟨0, _⟩ => rfl | ⟨1, _⟩ => rfl | ⟨2, _⟩ => rfl
  have ir : ridx_main_v33 (Idealize.ShloMosaic.ix3 b s d) e = Idealize.ShloMosaic.ix2 e d := by
    funext a; apply Fin.ext
    match a with | ⟨0, _⟩ => rfl | ⟨1, _⟩ => rfl
  rw [il, ir, val_main_v32_apply]
  rfl

/-- THE REFERENCE, at a flattened row and a column. -/
theorem ref_at (r : Fin 32768) (k : Fin 1024) :
    val_main_v38 (F := Ideal) X A B G W Wa Wb Wo (Idealize.ShloMosaic.ix2 r k) = mergeAt X A B G W Wa Wb Wo ⟨r.val / 4096, by omega⟩ ⟨r.val % 4096, by omega⟩ k := by
  have i : idx_main_v38 (Idealize.ShloMosaic.ix2 r k) = Idealize.ShloMosaic.ix3 (⟨r.val / 4096, by omega⟩ : Fin 8) (⟨r.val % 4096, by omega⟩ : Fin 4096) k := by
    have hk := k.isLt
    funext a; apply Fin.ext
    match a with
    | ⟨0, _⟩ => show (r.val * 1024 + k.val) / 4194304 = r.val / 4096; omega
    | ⟨1, _⟩ => show (r.val * 1024 + k.val) / 1024 % 4096 = r.val % 4096; omega
    | ⟨2, _⟩ => show (r.val * 1024 + k.val) % 1024 = k.val; omega
  rw [val_main_v38_apply, i]
  generalize (⟨r.val / 4096, by omega⟩ : Fin 8) = b
  generalize (⟨r.val % 4096, by omega⟩ : Fin 4096) = s
  rw [val_main_v37_apply, val_main_v36_apply]
  unfold mergeAt mergeRow
  refine congrArg (fun z : EReal => X (Idealize.ShloMosaic.ix3 b s k) + z) (Finset.sum_congr rfl fun d _ => ?_)
  have il : lidx_main_v36 (Idealize.ShloMosaic.ix3 b s k) d = Idealize.ShloMosaic.ix3 b s d := by
    funext a; apply Fin.ext
    match a with | ⟨0, _⟩ => rfl | ⟨1, _⟩ => rfl | ⟨2, _⟩ => rfl
  have ir : ridx_main_v36 (Idealize.ShloMosaic.ix3 b s k) d = Idealize.ShloMosaic.ix2 d k := by
    funext a; apply Fin.ext
    match a with | ⟨0, _⟩ => rfl | ⟨1, _⟩ => rfl
  rw [il, ir, val_main_v35_apply, val_main_v25_apply, val_main_v34_apply, ref_left, ref_right, ref_first, ref_second]
  rfl

end reference

/-- The claim of values: from the same arguments the kernel and the reference end with equal results. -/
theorem algebraic : Cert.algebraic_Kernel4Ideal_Reference4Ideal := by
  intro m g m' g' hp hagree
  refine ⟨fun c => (Kernel4Ideal.Gen.dats m 0 c).arrAt 8 Kernel4Ideal.cfg0.N, Kernel4Ideal.Value.run_blocks m g, ?_⟩
  refine (θ_run Reference4Ideal.defs _ _).mono (fun r h c => ⟨(h c).1.trans ?_, (h c).2⟩) (Reference4Ideal.Value.run m' g')
  obtain ⟨h0, h1, h2, h3, h4, h5, h6, h7⟩ := hagree c
  rw [Reference4Ideal.Read.val_main_v38_eq, h0, h1, h2, h3, h4, h5, h6, h7]
  funext i
  obtain ⟨r, k, rfl⟩ : ∃ (r : Fin 32768) (k : Fin 1024), i = Idealize.ShloMosaic.ix2 r k := by
    refine ⟨i 0, i 1, funext fun a => Fin.ext ?_⟩
    match a with | ⟨0, _⟩ => rfl | ⟨1, _⟩ => rfl
  exact (ref_at _ _ _ _ _ _ _ _ r k).trans (final_at m c r k).symm

/-- The reference's frame: its run read at the arguments; it declares no semaphore. -/
theorem frame_reference : Cert.quiescent_Reference4Ideal :=
  fun m g _ => (θ_run Reference4Ideal.defs _ _).mono (fun r h => ⟨fun c => (h c).2, sem_eq_zero_of_no_sems (by decide) r.2⟩) (Reference4Ideal.Value.run m g)

end Cert.Merge

end
-- ==== Proof.SparseWords.lean ====
/- One grid point of the block-sparse attention call. The body is the attention call's; its words are the same, and so the
   block it writes is that of Online.lean. -/
module

public import proofs.«01_k».proof.Proof.Online
public import proofs.«01_k».proof.Proof.Gen.Kernel5Ideal.Frame

@[expose] public section

noncomputable section

namespace Cert.Sparse

open Cert.Kernel5Ideal Cert.Kernel5Ideal.Gen Idealize.ShloMosaic Idealize.ShloMosaic.TcCoe Idealize.ShloMosaic.Tactic
open Cert.Attn (tl ld_tl piece pieces rows headSt diagM diagA tup St pairsBlock)

/-- The row the diagonal tile starts at, with the lanes' offset. -/
theorem diag_off (i : grid0.Coords) (b : ℕ) :
    (![0, (Scalar.indexCast (Scalar.muli (BitVec.ofNat 32 (i 2).val) 1024#32)).toNat, b] : Fin 3 → ℕ) = ![0, 1024 * (i 2).val, b] :=
  congrArg (fun o => ![0, o, b])
    ((by decide : ∀ n : Fin 4, (Scalar.indexCast (Scalar.muli (BitVec.ofNat 32 n.val) 1024#32)).toNat = 1024 * n.val) (i 2))

/-- The loop over the tiles before the diagonal runs once for each of them. -/
theorem trips1_eq (i : grid0.Coords) : (k0_t1_loop i).trips = (i 2).val :=
  (by decide : ∀ n : Fin 4, Scf.trips 0#32 (Scalar.addi 0#32 (Scalar.muli (Scalar.divsi (Scalar.subi (BitVec.ofNat 32 n.val) 0#32) 1#32) 1#32)) 1#32 = n.val) (i 2)

/-- The remainder loop has nothing to do. -/
theorem trips2_eq (i : grid0.Coords) : (k0_t2_loop i).trips = 0 :=
  (by decide : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0) (i 2)

/-- The row a past tile starts at, as the kernel computes it. -/
theorem iv_eq (i : grid0.Coords) (k : Fin (k0_t1_loop i).trips) :
    (Scalar.indexCast (Scalar.muli (Scf.iv 0#32 1#32 k.val) 1024#32)).toNat = 1024 * k.val := by
  have hk : k.val < 4 := by
    have h1 := lt_of_lt_of_eq k.isLt (trips1_eq i)
    have h2 : (i 2).val < 4 := (i 2).isLt
    omega
  exact (by decide : ∀ n : Fin 4, (Scalar.indexCast (Scalar.muli (Scf.iv 0#32 1#32 n.val) 1024#32)).toNat = 1024 * n.val) ⟨k.val, hk⟩

theorem past_off (i : grid0.Coords) (k : Fin (k0_t1_loop i).trips) (b : ℕ) :
    (![0, (Scalar.indexCast (Scalar.muli (Scf.iv 0#32 1#32 k.val) 1024#32)).toNat, b] : Fin 3 → ℕ) = ![0, 1024 * k.val, b] := by
  rw [iv_eq]

/-! ## One trip of the loop over the past tiles -/

/-- ONE TRIP: each head's maximum and sum take the head's tile of keys and values. -/
theorem trip_eq (𝒱 : Variants) (c : Dev nD) (bd : Option 𝒱.V) (i : grid0.Coords) (a3) (h3) (a4) (h4) (a5) (h5) (a6) (h6) (a7) (h7) (a8) (h8)
    (w v239 v241 v245) (x0 : Vec Ideal S1x1024x512 .bf16) (x1 x2 : Vec Ideal S1x4096x512 .bf16) (k : Fin (k0_t1_loop i).trips) (st) :
    tripR_k0_t1 (F := Ideal) 𝒱 c bd i a3 h3 a4 h4 a5 h5 a6 h6 a7 h7 a8 h8 w v239 v241 v245 (h3.unread x0) (h4.unread x1) (h5.unread x2) k st
      = (KernelIdeal.Gen.k0_pay4 st.1 (tl 1024 x0 0 0) (tl 1024 x1 0 (1024 * k.val)),
         KernelIdeal.Gen.k0_pay5 st.1 st.2.1 (tl 1024 x0 0 0) (tl 1024 x1 0 (1024 * k.val)) (tl 1024 x2 0 (1024 * k.val)),
         KernelIdeal.Gen.k0_pay4 st.2.2.1 (tl 1024 x0 1 0) (tl 1024 x1 1 (1024 * k.val)),
         KernelIdeal.Gen.k0_pay5 st.2.2.1 st.2.2.2.1 (tl 1024 x0 1 0) (tl 1024 x1 1 (1024 * k.val)) (tl 1024 x2 1 (1024 * k.val)),
         KernelIdeal.Gen.k0_pay4 st.2.2.2.2.1 (tl 1024 x0 2 0) (tl 1024 x1 2 (1024 * k.val)),
         KernelIdeal.Gen.k0_pay5 st.2.2.2.2.1 st.2.2.2.2.2.1 (tl 1024 x0 2 0) (tl 1024 x1 2 (1024 * k.val)) (tl 1024 x2 2 (1024 * k.val)),
         KernelIdeal.Gen.k0_pay4 st.2.2.2.2.2.2.1 (tl 1024 x0 3 0) (tl 1024 x1 3 (1024 * k.val)),
         KernelIdeal.Gen.k0_pay5 st.2.2.2.2.2.2.1 st.2.2.2.2.2.2.2 (tl 1024 x0 3 0) (tl 1024 x1 3 (1024 * k.val)) (tl 1024 x2 3 (1024 * k.val))) := by
  unfold tripR_k0_t1 trip_k0_t1
  dsimp only
  sl_unfold_words
  simp only [View.readAt_eq_ld, h3.read_unread, h4.read_unread, h5.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl
]
  erw [ld_tl x1 _ _ 0 _ (past_off i k 0), ld_tl x1 _ _ 1 _ (past_off i k 128), ld_tl x1 _ _ 2 _ (past_off i k 256), ld_tl x1 _ _ 3 _ (past_off i k 384),
    ld_tl x2 _ _ 0 _ (past_off i k 0), ld_tl x2 _ _ 1 _ (past_off i k 128), ld_tl x2 _ _ 2 _ (past_off i k 256), ld_tl x2 _ _ 3 _ (past_off i k 384)]
  rfl

theorem storedM_eq (c : Dev nD) (i : grid0.Coords) (a3) (h3 : a3.IsWhole) (a4) (h4 : a4.IsWhole)
    (x0 : Vec Ideal S1x1024x512 .bf16) (x1 : Vec Ideal S1x4096x512 .bf16) :
    kernelRun0_A.sl.HS0_8 (F := Ideal) c i a3 h3 a4 h4 x0 x1 = pieces (diagM x0 x1 (1024 * (i 2).val)) := by
  sl_unfold_words
  simp only [View.readAt_eq_ld, h3.read_unread, h4.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl,
    ld_tl x0 ![0, 512, 0] _ 0 512 rfl, ld_tl x0 ![0, 512, 128] _ 1 512 rfl, ld_tl x0 ![0, 512, 256] _ 2 512 rfl, ld_tl x0 ![0, 512, 384] _ 3 512 rfl]
  erw [ld_tl (n := 512) x1 _ _ 0 _ (diag_off i 0), ld_tl (n := 512) x1 _ _ 1 _ (diag_off i 128), ld_tl (n := 512) x1 _ _ 2 _ (diag_off i 256), ld_tl (n := 512) x1 _ _ 3 _ (diag_off i 384),
    ld_tl (n := 1024) x1 _ _ 0 _ (diag_off i 0), ld_tl (n := 1024) x1 _ _ 1 _ (diag_off i 128), ld_tl (n := 1024) x1 _ _ 2 _ (diag_off i 256), ld_tl (n := 1024) x1 _ _ 3 _ (diag_off i 384)]
  rfl

theorem storedA_eq (c : Dev nD) (i : grid0.Coords) (a3) (h3 : a3.IsWhole) (a4) (h4 : a4.IsWhole) (a5) (h5 : a5.IsWhole)
    (x0 : Vec Ideal S1x1024x512 .bf16) (x1 x2 : Vec Ideal S1x4096x512 .bf16) :
    kernelRun0_A.sl.HS1_8 (F := Ideal) c i a3 h3 a4 h4 a5 h5 x0 x1 x2 = pieces (diagA x0 x1 x2 (1024 * (i 2).val)) := by
  sl_unfold_words
  simp only [View.readAt_eq_ld, h3.read_unread, h4.read_unread, h5.read_unread]
  rw [ld_tl x0 ![0, 0, 0] _ 0 0 rfl, ld_tl x0 ![0, 0, 128] _ 1 0 rfl, ld_tl x0 ![0, 0, 256] _ 2 0 rfl, ld_tl x0 ![0, 0, 384] _ 3 0 rfl,
    ld_tl x0 ![0, 512, 0] _ 0 512 rfl, ld_tl x0 ![0, 512, 128] _ 1 512 rfl, ld_tl x0 ![0, 512, 256] _ 2 512 rfl, ld_tl x0 ![0, 512, 384] _ 3 512 rfl]
  erw [ld_tl (n := 512) x1 _ _ 0 _ (diag_off i 0), ld_tl (n := 512) x1 _ _ 1 _ (diag_off i 128), ld_tl (n := 512) x1 _ _ 2 _ (diag_off i 256), ld_tl (n := 512) x1 _ _ 3 _ (diag_off i 384),
    ld_tl (n := 1024) x1 _ _ 0 _ (diag_off i 0), ld_tl (n := 1024) x1 _ _ 1 _ (diag_off i 128), ld_tl (n := 1024) x1 _ _ 2 _ (diag_off i 256), ld_tl (n := 1024) x1 _ _ 3 _ (diag_off i 384),
    ld_tl (n := 512) x2 _ _ 0 _ (diag_off i 0), ld_tl (n := 512) x2 _ _ 1 _ (diag_off i 128), ld_tl (n := 512) x2 _ _ 2 _ (diag_off i 256), ld_tl (n := 512) x2 _ _ 3 _ (diag_off i 384),
    ld_tl (n := 1024) x2 _ _ 0 _ (diag_off i 0), ld_tl (n := 1024) x2 _ _ 1 _ (diag_off i 128), ld_tl (n := 1024) x2 _ _ 2 _ (diag_off i 256), ld_tl (n := 1024) x2 _ _ 3 _ (diag_off i 384)]
  rfl

/-- The loop's carried value before trip `n` is the four heads' states. -/
theorem st_eq (𝒱 : Variants) (c : Dev nD) (bd : Option 𝒱.V) (i : grid0.Coords) (a3) (h3) (a4) (h4) (a5) (h5) (a6) (h6) (a7) (h7) (a8) (h8)
    (w v239 v241 v245) (x0 : Vec Ideal S1x1024x512 .bf16) (x1 x2 : Vec Ideal S1x4096x512 .bf16) (n : ℕ) (hn : n ≤ (k0_t1_loop i).trips)
    (init) (hi : init = tup fun hh => headSt x0 x1 x2 (1024 * (i 2).val) hh 0) :
    st_k0_t1 (F := Ideal) 𝒱 c bd i a3 h3 a4 h4 a5 h5 a6 h6 a7 h7 a8 h8 w v239 v241 v245 (h3.unread x0) (h4.unread x1) (h5.unread x2) init n
      = tup fun hh => headSt x0 x1 x2 (1024 * (i 2).val) hh n := by
  induction n with
  | zero => rw [st_k0_t1_zero, hi]
  | succ n ih =>
    rw [st_k0_t1_succ 𝒱 c bd i a3 h3 a4 h4 a5 h5 a6 h6 a7 h7 a8 h8 w v239 v241 v245 _ _ _ init ⟨n, hn⟩, trip_eq, ih (Nat.le_of_succ_le hn)]
    rfl

/-- Head `hh`'s rows of the stored maxima (or sums), loaded. -/
theorem load_head {L : ℕ} (v : View sig .tc .vmem ⟨3, ![4, 1024, L]⟩ .f32) (w : Fin 4 → Fin 2 → (⟨3, ![1, 512, L]⟩ : Shape).Idx → EReal)
    (hh : Fin 4) (off : Fin 3 → ℕ) (h : off = ![hh.val, 0, 0])
    (inb : ∀ a, off a + (![1, 1024, L] : Fin 3 → ℕ) a ≤ (⟨3, ![4, 1024, L]⟩ : Shape).size a) :
    v.readCov (pieces w) (Rect.unit (s := ⟨3, ![4, 1024, L]⟩) off ![1, 1024, L] inb).toLoadRect
      = rows w hh := by
  subst h
  rw [View.readCov_eq_canon']
  funext y
  congr 1
  funext a
  refine Fin.ext ?_
  have y0 : (y 0).val < 1 := (y 0).isLt
  fin_cases a
  · show hh.val + 1 * (y 0).val = hh.val; omega
  · show 0 + 1 * (y 1).val = (y 1).val; omega
  · show 0 + 1 * (y 2).val = (y 2).val; omega

/-- THE BLOCK a grid point writes: two pairs of heads, each head's sum divided by its lane of ones. -/
theorem out_eq (c : Dev nD) (i : grid0.Coords) (a3) (h3 : a3.IsWhole) (a4) (h4 : a4.IsWhole) (a5) (h5 : a5.IsWhole)
    (a6) (h6 : a6.IsWhole) (a7) (h7 : a7.IsWhole) (a8) (h8 : a8.IsWhole)
    (x0 : Vec Ideal S1x1024x512 .bf16) (x1 x2 : Vec Ideal S1x4096x512 .bf16) :
    out0_A_3 (F := Ideal) c i a3 h3 a4 h4 a5 h5 a6 h6 a7 h7 a8 h8 x0 x1 x2
      = pairsBlock x0 x1 x2 (1024 * (i 2).val) (i 2).val := by
  have hinit : (kernelRun0_A.sl.r_7 (F := Ideal) c i a3 h3 a4 h4 a7 x0 x1,
      kernelRun0_A.sl.r_8 (F := Ideal) c i a3 h3 a4 h4 a5 h5 a8 x0 x1 x2,
      k0_pay68 (kernelRun0_A.sl.r_9 (F := Ideal) c i a3 h3 a4 h4 a7 x0 x1),
      k0_pay69 (kernelRun0_A.sl.v248 (F := Ideal) c i a3 h3 a4 h4 a5 h5 a8 x0 x1 x2),
      k0_pay70 (kernelRun0_A.sl.v250 (F := Ideal) c i a3 h3 a4 h4 a7 x0 x1),
      k0_pay71 (kernelRun0_A.sl.v256 (F := Ideal) c i a3 h3 a4 h4 a5 h5 a8 x0 x1 x2),
      k0_pay72 (kernelRun0_A.sl.v258 (F := Ideal) c i a3 h3 a4 h4 a7 x0 x1),
      k0_pay73 (kernelRun0_A.sl.v264 (F := Ideal) c i a3 h3 a4 h4 a5 h5 a8 x0 x1 x2))
      = tup fun hh => headSt x0 x1 x2 (1024 * (i 2).val) hh 0 := by
    have ev234 : kernelRun0_A.sl.v234 (F := Ideal) c i a3 h3 a4 h4 a7 x0 x1 = rows (diagM x0 x1 (1024 * (i 2).val)) 0 := by
      unfold kernelRun0_A.sl.v234; rw [storedM_eq]; exact load_head (L := 1) a7.view _ 0 _ rfl _
    have ev242 : kernelRun0_A.sl.v242 (F := Ideal) c i a3 h3 a4 h4 a7 x0 x1 = rows (diagM x0 x1 (1024 * (i 2).val)) 1 := by
      unfold kernelRun0_A.sl.v242; rw [storedM_eq]; exact load_head (L := 1) a7.view _ 1 _ rfl _
    have ev250 : kernelRun0_A.sl.v250 (F := Ideal) c i a3 h3 a4 h4 a7 x0 x1 = rows (diagM x0 x1 (1024 * (i 2).val)) 2 := by
      unfold kernelRun0_A.sl.v250; rw [storedM_eq]; exact load_head (L := 1) a7.view _ 2 _ rfl _
    have ev258 : kernelRun0_A.sl.v258 (F := Ideal) c i a3 h3 a4 h4 a7 x0 x1 = rows (diagM x0 x1 (1024 * (i 2).val)) 3 := by
      unfold kernelRun0_A.sl.v258; rw [storedM_eq]; exact load_head (L := 1) a7.view _ 3 _ rfl _
    have ev240 : kernelRun0_A.sl.v240 (F := Ideal) c i a3 h3 a4 h4 a5 h5 a8 x0 x1 x2 = rows (diagA x0 x1 x2 (1024 * (i 2).val)) 0 := by
      unfold kernelRun0_A.sl.v240; rw [storedA_eq]; exact load_head (L := 128) a8.view _ 0 _ rfl _
    have ev248 : kernelRun0_A.sl.v248 (F := Ideal) c i a3 h3 a4 h4 a5 h5 a8 x0 x1 x2 = rows (diagA x0 x1 x2 (1024 * (i 2).val)) 1 := by
      unfold kernelRun0_A.sl.v248; rw [storedA_eq]; exact load_head (L := 128) a8.view _ 1 _ rfl _
    have ev256 : kernelRun0_A.sl.v256 (F := Ideal) c i a3 h3 a4 h4 a5 h5 a8 x0 x1 x2 = rows (diagA x0 x1 x2 (1024 * (i 2).val)) 2 := by
      unfold kernelRun0_A.sl.v256; rw [storedA_eq]; exact load_head (L := 128) a8.view _ 2 _ rfl _
    have ev264 : kernelRun0_A.sl.v264 (F := Ideal) c i a3 h3 a4 h4 a5 h5 a8 x0 x1 x2 = rows (diagA x0 x1 x2 (1024 * (i 2).val)) 3 := by
      unfold kernelRun0_A.sl.v264; rw [storedA_eq]; exact load_head (L := 128) a8.view _ 3 _ rfl _
    unfold kernelRun0_A.sl.r_7 kernelRun0_A.sl.r_8 kernelRun0_A.sl.r_9
    rw [ev234, ev242, ev250, ev258, ev240, ev248, ev256, ev264]
    refine Prod.ext ?_ (Prod.ext ?_ (Prod.ext ?_ (Prod.ext ?_ (Prod.ext ?_ (Prod.ext ?_ (Prod.ext ?_ ?_))))))
    · simp only [tup, headSt]; rfl
    · simp only [tup, headSt]; rfl
    · simp only [tup, headSt]; rfl
    · simp only [tup, headSt]; rfl
    · simp only [tup, headSt]; rfl
    · simp only [tup, headSt]; rfl
    · simp only [tup, headSt]; rfl
    · simp only [tup, headSt]; rfl
  have ht2 : Scf.trips (k0_t2_loop i).lb (k0_t2_loop i).ub (k0_t2_loop i).st = 0 := trips2_eq i
  have ht1 : Scf.trips (k0_t1_loop i).lb (k0_t1_loop i).ub (k0_t1_loop i).st = (i 2).val := trips1_eq i
  unfold out0_A_3
  rw [View.read_writes_eq_canon _ _ _ (fun y => cover0_A_3 (y := y) ..)]
  unfold kernelRun0_A
  dsimp only
  unfold kernelRun0_A.sl.r_10 kernelRun0_A.sl.r_11 kernelRun0_A.sl.r_12 kernelRun0_A.sl.r_13 kernelRun0_A.sl.r_14
  rw [hinit]
  simp only [ht2, ht1, st_k0_t2_zero]
  simp only [st_eq Variants.none c none i a3 h3 a4 h4 a5 h5 a6 h6 a7 h7 a8 h8 _ _ _ _ x0 x1 x2 (i 2).val (le_of_eq (trips1_eq i).symm) _ rfl]
  rfl

end Cert.Sparse

end
-- ==== Proof.SparseHost.lean ====
/- What the host computes before the block-sparse attention call, at an index: a query's slot holds the scaled query and
   then its biases, a key's slot holds the key and a one in the lane of its block, and so their product is the product of
   the query and the key plus the query's bias for the key's block. -/
module

public import proofs.«01_k».proof.Proof.Host
public import proofs.«01_k».proof.Proof.Gen.Kernel5Ideal.Frame

@[expose] public section

noncomputable section

namespace Cert.Sparse

open Cert.Kernel5Ideal Cert.Kernel5Ideal.Gen Idealize.ShloMosaic Idealize.ShloMosaic.TcCoe Idealize.SL.Sem
open Cert.Attn (zeroS evenV slotsOf slotV slotsOf_at slotV_at evenV_at oddV_at zeroS_at glane)

/-- The scaled queries. -/
def scaledQ (q : FVec Ideal S8x8x4096x64 .f32) : FVec Ideal S8x8x4096x64 .f32 :=
  mulf q (broadcastInDim S8x8x4096x64 ![] bcast_S_S8x8x4096x64
    (Host.divf (constant S_ .f32 0x3F800000#32) (mulf (Host.log (constant S_ .f32 0x40000000#32)) (Host.sqrt (constant S_ .f32 0x42800000#32)))))

/-- The biases, in powers of two. -/
def scaledB (u : FVec Ideal S8x8x4096x16 .f32) : FVec Ideal S8x8x4096x16 .f32 :=
  Host.divf u (broadcastInDim S8x8x4096x16 ![] bcast_S_S8x8x4096x16 (Host.log (constant S_ .f32 0x40000000#32)))

/-- Queries and biases side by side. -/
def joined (q : FVec Ideal S8x8x4096x64 .f32) (u : FVec Ideal S8x8x4096x16 .f32) : FVec Ideal S8x8x4096x80 .f32 :=
  concatenate S8x8x4096x80 3 [⟨S8x8x4096x64, scaledQ q⟩, ⟨S8x8x4096x16, scaledB u⟩] concatenates_S8x8x4096x64_S8x8x4096x16_S8x8x4096x80_d3

/-- The queries' slots: lanes 0 to 63 the query, lanes 64 to 79 the biases. -/
def slotQ (q : FVec Ideal S8x8x4096x64 .f32) (u : FVec Ideal S8x8x4096x16 .f32) : FVec Ideal S8x8x4096x128 .f32 :=
  pad S8x8x4096x128 ![0, 0, 0, 0] ![0, 0, 0, 48] ![0, 0, 0, 0] (joined q u) zeroS pads_S8x8x4096x80_S8x8x4096x128_000_000_000_0480 h_S_

/-- The keys' slots: lanes 0 to 63 the key, and a one in the lane of the key's block. -/
def slotK (k : FVec Ideal S8x8x4096x64 .f32) : FVec Ideal S8x8x4096x128 .f32 :=
  select (cmpi .eq (iotaInDim S8x8x4096x128 32 3)
      (addi (broadcastInDim S8x8x4096x128 ![] bcast_S_S8x8x4096x128 (constantI S_ 32 64#32))
        (Host.shrsi (iotaInDim S8x8x4096x128 32 2) (broadcastInDim S8x8x4096x128 ![] bcast_S_S8x8x4096x128 (constantI S_ 32 8#32)))))
    (broadcastInDim S8x8x4096x128 ![] bcast_S_S8x8x4096x128 (constant S_ .f32 0x3F800000#32))
    (evenV k)

section
variable (m : (ℓ : Loc nD τ sig) → Buf (Elt Ideal) ℓ) (c : Dev nD)

theorem V_q : V m c main_v13 = slotsOf (slotQ (m ((c : Thread nD τ).loc main_arg0)) (m ((c : Thread nD τ).loc main_arg3))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

theorem V_k : V m c main_v25 = slotsOf (slotK (m ((c : Thread nD τ).loc main_arg1))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

theorem V_v : V m c main_v43 = slotsOf (slotV (m ((c : Thread nD τ).loc main_arg2))) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

end

/-! ## At an index -/

/-- The factor on the queries: one over the logarithm of two and the root of 64. -/
def qFactor : ℝ := 1 / (Real.log 2 * Real.sqrt 64)
/-- The factor on the biases: one over the logarithm of two. -/
def bFactor : ℝ := 1 / Real.log 2

theorem two_word : Ideal.ofBits .f32 0x40000000#32 = ((2 : ℝ) : EReal) := by
  simp [Ideal.ofBits, Ideal.ieee, -EReal.coe_mul]; norm_num

theorem width_word : Ideal.ofBits .f32 0x42800000#32 = ((64 : ℝ) : EReal) := by
  simp [Ideal.ofBits, Ideal.ieee, -EReal.coe_mul]; norm_num

theorem scaledQ_at (q : FVec Ideal S8x8x4096x64 .f32) (i : S8x8x4096x64.Idx) : scaledQ q i = q i * (qFactor : EReal) := by
  show q i * Ideal.div (Ideal.ofBits .f32 0x3F800000#32) (Ideal.log (Ideal.ofBits .f32 0x40000000#32) * Ideal.sqrt (Ideal.ofBits .f32 0x42800000#32)) = _
  have hl : 0 < Real.log 2 := Real.log_pos one_lt_two
  have hs : 0 < Real.sqrt 64 := Real.sqrt_pos.2 (by norm_num)
  rw [two_word, width_word, Ideal.ofBits_one_f32, Ideal.log_coe, Ideal.sqrt_coe, if_neg (by norm_num), if_neg (by norm_num), ← EReal.coe_mul,
    Ideal.div_coe (mul_pos hl hs).ne', one_mul]
  rfl

theorem scaledB_at (u : FVec Ideal S8x8x4096x16 .f32) (i : S8x8x4096x16.Idx) : scaledB u i = u i * (bFactor : EReal) := by
  show Ideal.div (u i) (Ideal.log (Ideal.ofBits .f32 0x40000000#32)) = _
  rw [two_word, Ideal.log_coe, if_neg (by norm_num), Ideal.div_coe (Real.log_pos one_lt_two).ne']
  rfl

theorem slotQ_query (q : FVec Ideal S8x8x4096x64 .f32) (u : FVec Ideal S8x8x4096x16 .f32) (b h : Fin 8) (s : Fin 4096) (l : Fin 64) :
    slotQ q u (Idealize.ShloMosaic.ix4 b h s ⟨l.val, by omega⟩) = q (Idealize.ShloMosaic.ix4 b h s l) * (qFactor : EReal) := by
  unfold slotQ
  refine (pad_apply_of_inside _ _ _ (joined q u) _ _ _ _ (Idealize.ShloMosaic.ix4 b h s (⟨l.val, by omega⟩ : Fin 80)) (fun a => match a with
      | ⟨0, _⟩ => by show b.val = 0 + b.val * 1; omega
      | ⟨1, _⟩ => by show h.val = 0 + h.val * 1; omega
      | ⟨2, _⟩ => by show s.val = 0 + s.val * 1; omega
      | ⟨3, _⟩ => by show l.val = 0 + l.val * 1; omega)).trans ?_
  unfold joined
  refine (concatenate_pair_apply_left (s₁ := S8x8x4096x64) (s₂ := S8x8x4096x16) (t := S8x8x4096x80) 3 _ _ _ (Idealize.ShloMosaic.ix4 b h s (⟨l.val, by omega⟩ : Fin 80)) rfl
    (Idealize.ShloMosaic.ix4 b h s l : S8x8x4096x64.Idx) (fun a => by
      match a with | ⟨0, _⟩ => rfl | ⟨1, _⟩ => rfl | ⟨2, _⟩ => rfl | ⟨3, _⟩ => rfl)).trans ?_
  exact scaledQ_at q _

theorem slotQ_bias (q : FVec Ideal S8x8x4096x64 .f32) (u : FVec Ideal S8x8x4096x16 .f32) (b h : Fin 8) (s : Fin 4096) (n : Fin 16) :
    slotQ q u (Idealize.ShloMosaic.ix4 b h s ⟨64 + n.val, by omega⟩) = u (Idealize.ShloMosaic.ix4 b h s n) * (bFactor : EReal) := by
  unfold slotQ
  refine (pad_apply_of_inside _ _ _ (joined q u) _ _ _ _ (Idealize.ShloMosaic.ix4 b h s (⟨64 + n.val, by omega⟩ : Fin 80)) (fun a => match a with
      | ⟨0, _⟩ => by show b.val = 0 + b.val * 1; omega
      | ⟨1, _⟩ => by show h.val = 0 + h.val * 1; omega
      | ⟨2, _⟩ => by show s.val = 0 + s.val * 1; omega
      | ⟨3, _⟩ => by show 64 + n.val = 0 + (64 + n.val) * 1; omega)).trans ?_
  unfold joined
  refine (concatenate_pair_apply_right (s₁ := S8x8x4096x64) (s₂ := S8x8x4096x16) (t := S8x8x4096x80) 3 _ _ _ (Idealize.ShloMosaic.ix4 b h s (⟨64 + n.val, by omega⟩ : Fin 80)) rfl rfl
    (Idealize.ShloMosaic.ix4 b h s n : S8x8x4096x16.Idx) (fun a ha => by
      match a with | ⟨0, _⟩ => rfl | ⟨1, _⟩ => rfl | ⟨2, _⟩ => rfl | ⟨3, _⟩ => exact absurd rfl ha) (by show n.val + 64 = 64 + n.val; omega)).trans ?_
  exact scaledB_at u _

/-- A key's block, as the host computes it. -/
theorem block_word : ∀ s : Fin 4096, IntOp.shrsi .host (BitVec.ofNat 32 s.val) 8#32 = BitVec.ofNat 32 (s.val / 256) := by decide +kernel

theorem lane_word : ∀ (l : Fin 128) (n : Fin 16), IntOp.cmpi .eq (BitVec.ofNat 32 l.val) (IntOp.addi 64#32 (BitVec.ofNat 32 n.val)) = if l.val = 64 + n.val then 1#1 else 0#1 := by decide +kernel

theorem slotK_at (k : FVec Ideal S8x8x4096x64 .f32) (b h : Fin 8) (s : Fin 4096) (l : Fin 128) :
    slotK k (Idealize.ShloMosaic.ix4 b h s l) = if l.val = 64 + s.val / 256 then 1 else evenV k (Idealize.ShloMosaic.ix4 b h s l) := by
  show Scalar.select (IntOp.cmpi .eq (BitVec.ofNat 32 l.val) (IntOp.addi 64#32 (IntOp.shrsi .host (BitVec.ofNat 32 s.val) 8#32))) (Ideal.ofBits .f32 0x3F800000#32)
    (evenV k (Idealize.ShloMosaic.ix4 b h s l)) = _
  rw [block_word, lane_word l ⟨s.val / 256, by omega⟩, Ideal.ofBits_one_f32]
  by_cases h1 : l.val = 64 + s.val / 256
  · rw [if_pos h1, if_pos h1]; rfl
  · rw [if_neg h1, if_neg h1]; rfl

/-- A padded lane is zero. -/
theorem evenV_pad (k : FVec Ideal S8x8x4096x64 .f32) (b h : Fin 8) (s : Fin 4096) (l : Fin 64) :
    evenV k (Idealize.ShloMosaic.ix4 b h s ⟨64 + l.val, by omega⟩) = 0 := by
  unfold evenV
  refine (pad_apply_of_not_inside _ _ _ k _ _ _ _ 3 ?_).trans (zeroS_at _)
  rintro ⟨-, -, h3⟩
  have h3' : (64 + l.val - 0) / 1 < 64 := h3
  omega

/-- A query row against a key row, the queries scaled to powers of two. -/
def dotQK (q k : S8x8x4096x64.Idx → EReal) (b h : Fin 8) (s j : Fin 4096) : EReal :=
  ∑ l : Fin 64, (q (Idealize.ShloMosaic.ix4 b h s l) * (qFactor : EReal)) * k (Idealize.ShloMosaic.ix4 b h j l)

/-- THE SLOTS' PRODUCT: the product of the query and the key, plus the query's bias for the key's block. -/
theorem slots_dot (q k : FVec Ideal S8x8x4096x64 .f32) (u : FVec Ideal S8x8x4096x16 .f32) (b h : Fin 8) (s j : Fin 4096) :
    (∑ l : Fin 128, slotQ q u (Idealize.ShloMosaic.ix4 b h s l) * slotK k (Idealize.ShloMosaic.ix4 b h j l) : EReal)
      = dotQK q k b h s j + u (Idealize.ShloMosaic.ix4 b h s (⟨j.val / 256, by omega⟩ : Fin 16)) * (bFactor : EReal) := by
  have split : ∀ f : Fin 128 → EReal, ∑ l : Fin 128, f l = (∑ l : Fin 64, f ⟨l.val, by omega⟩) + ∑ l : Fin 64, f ⟨64 + l.val, by omega⟩ :=
    fun f => Fin.sum_univ_add (a := 64) (b := 64) f
  refine (split fun l => slotQ q u (Idealize.ShloMosaic.ix4 b h s l) * slotK k (Idealize.ShloMosaic.ix4 b h j l)).trans ?_
  refine congrArg₂ (fun x y : EReal => x + y) ?_ ?_
  · refine Finset.sum_congr rfl fun l _ => congrArg₂ (fun x y : EReal => x * y) (slotQ_query q u b h s l) ?_
    rw [slotK_at, if_neg (by show ¬ l.val = 64 + j.val / 256; omega)]
    exact evenV_at k b h j l
  · refine (Finset.sum_eq_single (⟨j.val / 256, by omega⟩ : Fin 64) (fun l _ hl => ?_) (fun hn => absurd (Finset.mem_univ _) hn)).trans ?_
    · have hne : l.val ≠ j.val / 256 := fun e => hl (Fin.ext e)
      rw [slotK_at, if_neg (by show ¬ 64 + l.val = 64 + j.val / 256; omega), evenV_pad]
      exact mul_zero _
    · rw [slotK_at, if_pos rfl]
      refine (mul_one _).trans ?_
      exact slotQ_bias q u b h s ⟨j.val / 256, by omega⟩

end Cert.Sparse

end
-- ==== Proof.SparseArray.lean ====
/- The block-sparse attention call's result array, at an index, from the queries, keys, values and biases. -/
module

public import proofs.«01_k».proof.Proof.SparseWords
public import proofs.«01_k».proof.Proof.SparseHost
public import proofs.«01_k».proof.Proof.Array
public import proofs.«01_k».proof.Proof.Gen.Kernel5Ideal.Value

@[expose] public section

noncomputable section

namespace Cert.Sparse

open Cert.Kernel5Ideal Cert.Kernel5Ideal.Gen Idealize.ShloMosaic Idealize.ShloMosaic.TcCoe Idealize.SL.Sem
open Cert.Attn (head tileRow column lane glane atRow raw score vals oneLane headOf slotLane slotV slotsOf_at slotV_at evenV_at oddV_at soft soft_congr keyVal block_at)

/-- Which block each window holds at a grid point: the batch, the query tile and the pair of pairs of heads. -/
theorem idx_facts : ∀ t : Fin cfg0.N,
    (win0_0.index t (0 : Fin 3) = t.val / 8 ∧ win0_0.index t (1 : Fin 3) = t.val % 4 ∧ win0_0.index t (2 : Fin 3) = t.val / 4 % 2)
    ∧ (win0_1.index t (0 : Fin 3) = t.val / 8 ∧ win0_1.index t (1 : Fin 3) = 0 ∧ win0_1.index t (2 : Fin 3) = t.val / 4 % 2)
    ∧ (win0_2.index t (0 : Fin 3) = t.val / 8 ∧ win0_2.index t (1 : Fin 3) = 0 ∧ win0_2.index t (2 : Fin 3) = t.val / 4 % 2)
    ∧ (win0_3.index t (0 : Fin 3) = t.val / 8 ∧ win0_3.index t (1 : Fin 3) = t.val % 4 ∧ win0_3.index t (2 : Fin 3) = t.val / 4 % 2)
    ∧ (grid0.coords t (2 : Fin 3)).val = t.val % 4 :=
  (by decide +kernel : ∀ t : Fin grid0.N, _)

/-- The grid point of a batch, a half of the heads and a query tile. -/
def point (b : Fin 8) (p : Fin 2) (i : Fin 4) : Fin cfg0.N := ⟨b.val * 8 + p.val * 4 + i.val, by
  show _ < grid0.N
  rw [N_0]; omega⟩

variable (m : (ℓ : Loc nD τ sig) → Buf (Elt Ideal) ℓ) (c : Dev nD) (b : Fin 8) (p : Fin 2) (i : Fin 4)

theorem emb0 (r : Fin 1024) (hh : Fin 4) (l : Fin 128) :
    ((cfg0.win 0).blk (point b p i)).view.emb (Idealize.ShloMosaic.ix3 (0 : Fin 1) r (lane hh l)) = Idealize.ShloMosaic.ix3 b (tileRow i r) (glane (head p hh) l) := by
  obtain ⟨⟨e0, e1, e2⟩, _⟩ := idx_facts (point b p i)
  have hv : (point b p i).val = b.val * 8 + p.val * 4 + i.val := rfl
  funext a; apply Fin.ext
  match a with
  | ⟨0, _⟩ => show win0_0.index (point b p i) (0 : Fin 3) * 1 + 1 * 0 = b.val; omega
  | ⟨1, _⟩ => show win0_0.index (point b p i) (1 : Fin 3) * 1024 + 1 * r.val = 1024 * i.val + r.val; omega
  | ⟨2, _⟩ => show win0_0.index (point b p i) (2 : Fin 3) * 512 + 1 * (128 * hh.val + l.val) = 128 * (4 * p.val + hh.val) + l.val; omega

theorem emb1 (j : Fin 4096) (hh : Fin 4) (l : Fin 128) :
    ((cfg0.win 1).blk (point b p i)).view.emb (Idealize.ShloMosaic.ix3 (0 : Fin 1) j (lane hh l)) = Idealize.ShloMosaic.ix3 b j (glane (head p hh) l) := by
  obtain ⟨_, ⟨e0, e1, e2⟩, _⟩ := idx_facts (point b p i)
  have hv : (point b p i).val = b.val * 8 + p.val * 4 + i.val := rfl
  funext a; apply Fin.ext
  match a with
  | ⟨0, _⟩ => show win0_1.index (point b p i) (0 : Fin 3) * 1 + 1 * 0 = b.val; omega
  | ⟨1, _⟩ => show win0_1.index (point b p i) (1 : Fin 3) * 4096 + 1 * j.val = j.val; omega
  | ⟨2, _⟩ => show win0_1.index (point b p i) (2 : Fin 3) * 512 + 1 * (128 * hh.val + l.val) = 128 * (4 * p.val + hh.val) + l.val; omega

theorem emb2 (j : Fin 4096) (hh : Fin 4) (l : Fin 128) :
    ((cfg0.win 2).blk (point b p i)).view.emb (Idealize.ShloMosaic.ix3 (0 : Fin 1) j (lane hh l)) = Idealize.ShloMosaic.ix3 b j (glane (head p hh) l) := by
  obtain ⟨_, _, ⟨e0, e1, e2⟩, _⟩ := idx_facts (point b p i)
  have hv : (point b p i).val = b.val * 8 + p.val * 4 + i.val := rfl
  funext a; apply Fin.ext
  match a with
  | ⟨0, _⟩ => show win0_2.index (point b p i) (0 : Fin 3) * 1 + 1 * 0 = b.val; omega
  | ⟨1, _⟩ => show win0_2.index (point b p i) (1 : Fin 3) * 4096 + 1 * j.val = j.val; omega
  | ⟨2, _⟩ => show win0_2.index (point b p i) (2 : Fin 3) * 512 + 1 * (128 * hh.val + l.val) = 128 * (4 * p.val + hh.val) + l.val; omega

theorem emb3 (r : Fin 1024) (cc : Fin 256) :
    ((cfg0.win 3).blk (point b p i)).view.emb (Idealize.ShloMosaic.ix3 (0 : Fin 1) r cc) = Idealize.ShloMosaic.ix3 b (tileRow i r) (column p cc) := by
  obtain ⟨_, _, _, ⟨e0, e1, e2⟩, _⟩ := idx_facts (point b p i)
  have hv : (point b p i).val = b.val * 8 + p.val * 4 + i.val := rfl
  funext a; apply Fin.ext
  match a with
  | ⟨0, _⟩ => show win0_3.index (point b p i) (0 : Fin 3) * 1 + 1 * 0 = b.val; omega
  | ⟨1, _⟩ => show win0_3.index (point b p i) (1 : Fin 3) * 1024 + 1 * r.val = 1024 * i.val + r.val; omega
  | ⟨2, _⟩ => show win0_3.index (point b p i) (2 : Fin 3) * 256 + 1 * cc.val = 256 * p.val + cc.val; omega

/-- The queries, keys, values and biases that a device holds. -/
abbrev qs : FVec Ideal S8x8x4096x64 .f32 := m ((c : Thread nD τ).loc main_arg0)
abbrev ks : FVec Ideal S8x8x4096x64 .f32 := m ((c : Thread nD τ).loc main_arg1)
abbrev vs : FVec Ideal S8x8x4096x64 .f32 := m ((c : Thread nD τ).loc main_arg2)
abbrev us : FVec Ideal S8x8x4096x16 .f32 := m ((c : Thread nD τ).loc main_arg3)

/-- A point's block is its array read at the block's places. -/
theorem iblk0_emb (t : Fin cfg0.N) (y : S1x1024x512.Idx) (z : S8x4096x1024.Idx) (h : ((cfg0.win 0).blk t).view.emb y = z) :
    iblk m c 0 t y = V m c main_v13 z := by
  unfold iblk
  rw [View.read_apply, h]
  exact cast_eq _ _

theorem iblk1_emb (t : Fin cfg0.N) (y : S1x4096x512.Idx) (z : S8x4096x1024.Idx) (h : ((cfg0.win 1).blk t).view.emb y = z) :
    iblk m c 1 t y = V m c main_v25 z := by
  unfold iblk
  rw [View.read_apply, h]
  exact cast_eq _ _

theorem iblk2_emb (t : Fin cfg0.N) (y : S1x4096x512.Idx) (z : S8x4096x1024.Idx) (h : ((cfg0.win 2).blk t).view.emb y = z) :
    iblk m c 2 t y = V m c main_v43 z := by
  unfold iblk
  rw [View.read_apply, h]
  exact cast_eq _ _

/-- A point's block of queries, at a row and a lane. -/
theorem iblk0_at (r : Fin 1024) (hh : Fin 4) (l : Fin 128) :
    (iblk m c 0 (point b p i) (Idealize.ShloMosaic.ix3 (0 : Fin 1) r (lane hh l)) : EReal) = slotQ (qs m c) (us m c) (Idealize.ShloMosaic.ix4 b (head p hh) (tileRow i r) l) := by
  refine (iblk0_emb m c _ _ _ (emb0 ..)).trans ?_
  rw [V_q, slotsOf_at]

theorem iblk1_at (j : Fin 4096) (hh : Fin 4) (l : Fin 128) :
    (iblk m c 1 (point b p i) (Idealize.ShloMosaic.ix3 (0 : Fin 1) j (lane hh l)) : EReal) = slotK (ks m c) (Idealize.ShloMosaic.ix4 b (head p hh) j l) := by
  refine (iblk1_emb m c _ _ _ (emb1 ..)).trans ?_
  rw [V_k, slotsOf_at]

theorem iblk2_at (j : Fin 4096) (hh : Fin 4) (l : Fin 128) :
    (iblk m c 2 (point b p i) (Idealize.ShloMosaic.ix3 (0 : Fin 1) j (lane hh l)) : EReal) = slotV (vs m c) (Idealize.ShloMosaic.ix4 b (head p hh) j l) := by
  refine (iblk2_emb m c _ _ _ (emb2 ..)).trans ?_
  rw [V_v, slotsOf_at]

/-- A query row against a key row, with the row's bias for the key's block: the score, in powers of two. -/
def biased (q k : S8x8x4096x64.Idx → EReal) (u : S8x8x4096x16.Idx → EReal) (b h : Fin 8) (s j : Fin 4096) : EReal :=
  dotQK q k b h s j + u (Idealize.ShloMosaic.ix4 b h s (⟨j.val / 256, by omega⟩ : Fin 16)) * (bFactor : EReal)

/-- The block's products are the argument arrays' products and biases. -/
theorem raw_eq (hh : Fin 4) (r : Fin 1024) (j : Fin 4096) :
    raw (iblk m c 0 (point b p i)) (iblk m c 1 (point b p i)) hh r.val j.val = biased (qs m c) (ks m c) (us m c) b (head p hh) (tileRow i r) j := by
  unfold raw biased
  refine Eq.trans (Finset.sum_congr rfl fun l _ => ?_) (slots_dot (qs m c) (ks m c) (us m c) b (head p hh) (tileRow i r) j)
  unfold atRow
  rw [dif_pos r.isLt, dif_pos j.isLt]
  exact congrArg₂ (fun x y : EReal => x * y) (iblk0_at m c b p i r hh l) (iblk1_at m c b p i j hh l)

/-- A product over finite rows is a real number. -/
theorem dotQK_real (q k : S8x8x4096x64.Idx → EReal) (hq : ∀ i, ∃ x : ℝ, q i = x) (hk : ∀ i, ∃ x : ℝ, k i = x) (b h : Fin 8) (s j : Fin 4096) :
    ∃ x : ℝ, dotQK q k b h s j = x := by
  choose fq hfq using hq
  choose fk hfk using hk
  refine ⟨∑ l : Fin 64, (fq (Idealize.ShloMosaic.ix4 b h s l) * qFactor) * fk (Idealize.ShloMosaic.ix4 b h j l), ?_⟩
  unfold dotQK
  refine Eq.trans ?_ (map_sum (⟨⟨Real.toEReal, rfl⟩, EReal.coe_add⟩ : ℝ →+ EReal) _ Finset.univ).symm
  refine Finset.sum_congr rfl fun l _ => ?_
  rw [hfq, hfk, ← EReal.coe_mul, ← EReal.coe_mul]
  rfl

theorem bFactor_pos : 0 < bFactor := one_div_pos.2 (Real.log_pos one_lt_two)

/-- What the biases are to be: none is infinity, and a row's bias for its own block is a number. -/
structure Biases (u : S8x8x4096x16.Idx → EReal) : Prop where
  ne_top : ∀ i, u i ≠ ⊤
  own : ∀ (b h : Fin 8) (s : Fin 4096), u (Idealize.ShloMosaic.ix4 b h s (⟨s.val / 256, by omega⟩ : Fin 16)) ≠ ⊥

section
variable (q k : S8x8x4096x64.Idx → EReal) (u : S8x8x4096x16.Idx → EReal)
  (hq : ∀ i, ∃ x : ℝ, q i = x) (hk : ∀ i, ∃ x : ℝ, k i = x) (hu : Biases u) (h : Fin 8)
include hq hk hu

/-- No score is infinity. -/
theorem biased_ne_top (s j : Fin 4096) : biased q k u b h s j ≠ ⊤ := by
  unfold biased
  obtain ⟨x, hx⟩ := dotQK_real q k hq hk b h s j
  rw [hx]
  have ht := hu.ne_top (Idealize.ShloMosaic.ix4 b h s (⟨j.val / 256, by omega⟩ : Fin 16))
  generalize u (Idealize.ShloMosaic.ix4 b h s (⟨j.val / 256, by omega⟩ : Fin 16)) = y at ht ⊢
  induction y with
  | bot => rw [EReal.bot_mul_coe_of_pos bFactor_pos, EReal.add_bot]; exact bot_ne_top
  | coe y => rw [← EReal.coe_mul, ← EReal.coe_add]; exact EReal.coe_ne_top _
  | top => exact absurd rfl ht

/-- A row's own score is a number. -/
theorem biased_own (s : Fin 4096) : biased q k u b h s s ≠ ⊥ := by
  unfold biased
  obtain ⟨x, hx⟩ := dotQK_real q k hq hk b h s s
  rw [hx]
  have ht := hu.ne_top (Idealize.ShloMosaic.ix4 b h s (⟨s.val / 256, by omega⟩ : Fin 16))
  have hb := hu.own b h s
  generalize u (Idealize.ShloMosaic.ix4 b h s (⟨s.val / 256, by omega⟩ : Fin 16)) = y at ht hb ⊢
  induction y with
  | bot => exact absurd rfl hb
  | coe y => rw [← EReal.coe_mul, ← EReal.coe_add]; exact EReal.coe_ne_bot _
  | top => exact absurd rfl ht

end

/-- The score of key `j` for query row `s`, in powers of two: keys after the row are masked. -/
def rowScore (q k : S8x8x4096x64.Idx → EReal) (u : S8x8x4096x16.Idx → EReal) (b h : Fin 8) (s : Fin 4096) (j : ℕ) : EReal :=
  if j ≤ s.val then (if hj : j < 4096 then biased q k u b h s ⟨j, hj⟩ else 0) else ⊥

/-- The lane of ones is one. -/
theorem vals_one (hh : Fin 4) (j : ℕ) (hj : j < 4096) : vals (iblk m c 2 (point b p i)) hh (oneLane hh) j = 1 := by
  unfold vals atRow
  rw [dif_pos hj]
  refine (iblk2_at m c b p i ⟨j, hj⟩ hh (oneLane hh)).trans ?_
  rw [slotV_at, if_pos]
  have : (head p hh).val % 2 = hh.val % 2 := by show (4 * p.val + hh.val) % 2 = _; omega
  rw [this]
  rfl

/-- The lanes that the kernel keeps are the values. -/
theorem vals_eq (cc : Fin 256) (j : ℕ) (hj : j < 4096) :
    vals (iblk m c 2 (point b p i)) (headOf cc) (slotLane cc) j = keyVal (vs m c) b (head p (headOf cc)) ⟨cc.val % 64, by omega⟩ j := by
  unfold vals atRow keyVal
  rw [dif_pos hj, dif_pos hj]
  refine (iblk2_at m c b p i ⟨j, hj⟩ (headOf cc) (slotLane cc)).trans ?_
  have hpar : (head p (headOf cc)).val % 2 = cc.val / 64 % 2 := by show (4 * p.val + cc.val / 64) % 2 = _; omega
  have hsl : (slotLane cc).val = cc.val % 128 := rfl
  rw [slotV_at, hpar, hsl]
  by_cases h : cc.val / 64 % 2 = 0
  · rw [if_pos h, if_neg (by omega), if_pos h]
    have e : slotLane cc = ⟨(⟨cc.val % 64, by omega⟩ : Fin 64).val, by omega⟩ := Fin.ext (by show cc.val % 128 = cc.val % 64; omega)
    rw [e]
    exact evenV_at _ _ _ _ _
  · rw [if_neg h, if_neg (by omega), if_neg h]
    have e : slotLane cc = ⟨64 + (⟨cc.val % 64, by omega⟩ : Fin 64).val, by show 64 + cc.val % 64 < 128; omega⟩ := Fin.ext (by show cc.val % 128 = 64 + cc.val % 64; omega)
    rw [e]
    exact oddV_at _ _ _ _ _

section
variable (hq : ∀ i, ∃ x : ℝ, qs m c i = x) (hk : ∀ i, ∃ x : ℝ, ks m c i = x) (hu : Biases (us m c))
include hq hk hu

/-- Rows and keys past the block are zero, so no product is infinity. -/
theorem raw_ne_top (hh : Fin 4) (r j : ℕ) : raw (iblk m c 0 (point b p i)) (iblk m c 1 (point b p i)) hh r j ≠ ⊤ := by
  by_cases hr : r < 1024
  · by_cases hj : j < 4096
    · rw [raw_eq m c b p i hh ⟨r, hr⟩ ⟨j, hj⟩]
      exact biased_ne_top b _ _ _ hq hk hu _ _ _
    · rw [show raw (iblk m c 0 (point b p i)) (iblk m c 1 (point b p i)) hh r j = 0 from
        Finset.sum_eq_zero fun l _ => by unfold atRow; rw [dif_neg hj, mul_zero]]
      exact EReal.zero_ne_top
  · rw [show raw (iblk m c 0 (point b p i)) (iblk m c 1 (point b p i)) hh r j = 0 from
      Finset.sum_eq_zero fun l _ => by unfold atRow; rw [dif_neg hr, zero_mul]]
    exact EReal.zero_ne_top

/-- A row's own key has a number for its product. -/
theorem raw_own (hh : Fin 4) (r : ℕ) (hr : r < 1024) : raw (iblk m c 0 (point b p i)) (iblk m c 1 (point b p i)) hh r (1024 * i.val + r) ≠ ⊥ := by
  rw [raw_eq m c b p i hh ⟨r, hr⟩ ⟨1024 * i.val + r, by omega⟩]
  exact biased_own b _ _ _ hq hk hu _ (tileRow i ⟨r, hr⟩)

/-- THE RESULT ARRAY AFTER THE RUN, in a point's block. -/
theorem final_block (r : Fin 1024) (cc : Fin 256) :
    (dats m 0 c).arrAt 3 cfg0.N (Idealize.ShloMosaic.ix3 b (tileRow i r) (column p cc))
      = soft (rowScore (qs m c) (ks m c) (us m c) b (head p (headOf cc)) (tileRow i r)) (keyVal (vs m c) b (head p (headOf cc)) ⟨cc.val % 64, by omega⟩) (Finset.range 4096) := by
  have h := congrFun (Cert.Kernel5Ideal.Value.blocks3 m c (point b p i) (flush0_3 _)) (Idealize.ShloMosaic.ix3 (0 : Fin 1) r cc)
  rw [Cert.Kernel5Ideal.Value.flushed3_A, View.read_apply, emb3] at h
  refine (cast_eq _ _).symm.trans (h.trans ?_)
  obtain ⟨_, _, _, _, e⟩ := idx_facts (point b p i)
  have hv : (point b p i).val = b.val * 8 + p.val * 4 + i.val := rfl
  have hi : (grid0.coords (point b p i) (2 : Fin 3)).val = i.val := by omega
  refine (congrFun (out_eq c (grid0.coords (point b p i)) _ _ _ _ _ _ _ _ _ _ _ _ _ _ _) _).trans ?_
  rw [hi]
  refine (block_at _ _ _ i.val i.isLt (raw_ne_top m c b p i hq hk hu) (raw_own m c b p i hq hk hu) (vals_one m c b p i) r cc).trans ?_
  refine soft_congr (fun j hj => ?_) (fun j hj => vals_eq m c b p i cc j (Finset.mem_range.1 hj))
  unfold score rowScore
  rw [dif_pos (Finset.mem_range.1 hj), raw_eq m c b p i (headOf cc) r ⟨j, Finset.mem_range.1 hj⟩]
  rfl

/-- THE RESULT ARRAY AFTER THE RUN, at a batch, a row and a column: column `64 h + d` is component `d` of head `h`. -/
theorem final_at (s : Fin 4096) (x : Fin 512) :
    (dats m 0 c).arrAt 3 cfg0.N (Idealize.ShloMosaic.ix3 b s x)
      = soft (rowScore (qs m c) (ks m c) (us m c) b ⟨x.val / 64, by omega⟩ s) (keyVal (vs m c) b ⟨x.val / 64, by omega⟩ ⟨x.val % 64, by omega⟩) (Finset.range 4096) := by
  have h := final_block m c b ⟨x.val / 256, by omega⟩ ⟨s.val / 1024, by omega⟩ hq hk hu ⟨s.val % 1024, by omega⟩ ⟨x.val % 256, by omega⟩
  have e1 : tileRow ⟨s.val / 1024, by omega⟩ ⟨s.val % 1024, by omega⟩ = s := Fin.ext (by show 1024 * (s.val / 1024) + s.val % 1024 = s.val; omega)
  have e2 : column ⟨x.val / 256, by omega⟩ ⟨x.val % 256, by omega⟩ = x := Fin.ext (by show 256 * (x.val / 256) + x.val % 256 = x.val; omega)
  have e3 : head ⟨x.val / 256, by omega⟩ (headOf ⟨x.val % 256, by omega⟩) = ⟨x.val / 64, by omega⟩ :=
    Fin.ext (by show 4 * (x.val / 256) + x.val % 256 / 64 = x.val / 64; omega)
  have e4 : (⟨(⟨x.val % 256, by omega⟩ : Fin 256).val % 64, by omega⟩ : Fin 64) = ⟨x.val % 64, by omega⟩ := Fin.ext (by show x.val % 256 % 64 = x.val % 64; omega)
  rw [e1, e2, e3, e4] at h
  exact h

end

end Cert.Sparse

end
-- ==== Proof.SparseRef.lean ====
/- The reference's result for the block-sparse attention, at an index: the softmax of a row's scores, the scores in powers of two. -/
module

public import proofs.«01_k».proof.Proof.SparseArray
public import proofs.«01_k».proof.Proof.Gen.Reference5Ideal.Read

@[expose] public section

noncomputable section

namespace Cert.Sparse

open Cert.Reference5Ideal Cert.Reference5Ideal.Gen Cert.Reference5Ideal.Read Idealize.ShloMosaic Idealize.ShloMosaic.TcCoe Idealize.SL.Sem
open Cert.Attn (wt top top_real soft keyVal low_bot exp_scaled sup_scaled sup_tile fold_max_eq_sup)

/-- One over the square root of the keys' width, as a number. -/
def refScale : ℝ := 1 / Real.sqrt 64

theorem refScale_at (i : S_.Idx) : val_main_v1 (F := Ideal) i = (refScale : EReal) := by
  show Ideal.div (Ideal.ofBits .f32 0x3F800000#32) (Ideal.sqrt (Ideal.ofBits .f32 0x42800000#32)) = _
  have hne : Real.sqrt 64 ≠ 0 := (Real.sqrt_pos.2 (by norm_num)).ne'
  rw [Ideal.ofBits_one_f32, width_word, Ideal.sqrt_coe, if_neg (by norm_num), Ideal.div_coe hne, one_mul]
  rfl

/-- The reference's scale is the kernel's times the logarithm of two. -/
theorem refScale_eq : refScale = Real.log 2 * qFactor := by
  unfold refScale qFactor
  have hl : Real.log 2 ≠ 0 := (Real.log_pos one_lt_two).ne'
  have hne : Real.sqrt 64 ≠ 0 := (Real.sqrt_pos.2 (by norm_num)).ne'
  field_simp

variable (q k : S8x8x4096x64.Idx → EReal) (u : S8x8x4096x16.Idx → EReal) (v : S8x8x4096x64.Idx → EReal)

/-- The reference's scaled product is the logarithm of two times the kernel's. -/
theorem refDot_at (hq : ∀ i, ∃ x : ℝ, q i = x) (hk : ∀ i, ∃ x : ℝ, k i = x) (b h : Fin 8) (s j : Fin 4096) :
    val_main_v4 (F := Ideal) q k (Idealize.ShloMosaic.ix4 b h s j) = ((Real.log 2 : ℝ) : EReal) * dotQK q k b h s j := by
  rw [val_main_v4_apply, val_main_v2_apply, val_main_v3_apply, refScale_at]
  choose fq hfq using hq
  choose fk hfk using hk
  have e : (∑ x : Fin 64, q (lidx_main_v2 (Idealize.ShloMosaic.ix4 b h s j) x) * k (ridx_main_v2 (Idealize.ShloMosaic.ix4 b h s j) x))
      = ((∑ x : Fin 64, fq (Idealize.ShloMosaic.ix4 b h s x) * fk (Idealize.ShloMosaic.ix4 b h j x) : ℝ) : EReal) := by
    refine Eq.trans ?_ (map_sum (⟨⟨Real.toEReal, rfl⟩, EReal.coe_add⟩ : ℝ →+ EReal) _ Finset.univ).symm
    refine Finset.sum_congr rfl fun l _ => ?_
    rw [hfq, hfk, ← EReal.coe_mul]
    have e1 : lidx_main_v2 (Idealize.ShloMosaic.ix4 b h s j) l = Idealize.ShloMosaic.ix4 b h s l := by
      funext a; apply Fin.ext
      match a with | ⟨0, _⟩ => rfl | ⟨1, _⟩ => rfl | ⟨2, _⟩ => rfl | ⟨3, _⟩ => rfl
    have e2 : ridx_main_v2 (Idealize.ShloMosaic.ix4 b h s j) l = Idealize.ShloMosaic.ix4 b h j l := by
      funext a; apply Fin.ext
      match a with | ⟨0, _⟩ => rfl | ⟨1, _⟩ => rfl | ⟨2, _⟩ => rfl | ⟨3, _⟩ => rfl
    rw [e1, e2]
    rfl
  have e' : dotQK q k b h s j
      = ((∑ x : Fin 64, (fq (Idealize.ShloMosaic.ix4 b h s x) * qFactor) * fk (Idealize.ShloMosaic.ix4 b h j x) : ℝ) : EReal) := by
    refine Eq.trans ?_ (map_sum (⟨⟨Real.toEReal, rfl⟩, EReal.coe_add⟩ : ℝ →+ EReal) _ Finset.univ).symm
    refine Finset.sum_congr rfl fun l _ => ?_
    rw [hfq, hfk, ← EReal.coe_mul, ← EReal.coe_mul]
    rfl
  rw [e, e']
  show ((_ : ℝ) : EReal) * ((_ : ℝ) : EReal) = _
  rw [← EReal.coe_mul, ← EReal.coe_mul, refScale_eq, Finset.sum_mul, Finset.mul_sum]
  refine congrArg _ (Finset.sum_congr rfl fun l _ => ?_)
  ring

/-- The repeated bias of a key is its block's. -/
theorem refBias_at (b h : Fin 8) (s j : Fin 4096) :
    val_main_v6 (F := Ideal) u (Idealize.ShloMosaic.ix4 b h s j) = u (Idealize.ShloMosaic.ix4 b h s (⟨j.val / 256, by omega⟩ : Fin 16)) := by
  rw [val_main_v6_apply, val_main_v5_apply]
  refine congrArg u ?_
  funext a; apply Fin.ext
  match a with
  | ⟨0, _⟩ => show (((b.val * 8 + h.val) * 4096 + s.val) * 4096 + j.val) / 134217728 = b.val; omega
  | ⟨1, _⟩ => show (((b.val * 8 + h.val) * 4096 + s.val) * 4096 + j.val) / 16777216 % 8 = h.val; omega
  | ⟨2, _⟩ => show (((b.val * 8 + h.val) * 4096 + s.val) * 4096 + j.val) / 4096 % 4096 = s.val; omega
  | ⟨3, _⟩ => show (((b.val * 8 + h.val) * 4096 + s.val) * 4096 + j.val) / 256 % 16 = j.val / 256; omega

/-- The logarithm of two times a score and a bias in powers of two is the score and the bias in powers of e. -/
theorem log_mul_biased (x : ℝ) (y : EReal) (hy : y ≠ ⊤) :
    ((Real.log 2 : ℝ) : EReal) * (x : EReal) + y = ((Real.log 2 : ℝ) : EReal) * ((x : EReal) + y * (bFactor : EReal)) := by
  have hl : 0 < Real.log 2 := Real.log_pos one_lt_two
  induction y with
  | bot => rw [EReal.bot_mul_coe_of_pos bFactor_pos, EReal.add_bot, EReal.add_bot, EReal.coe_mul_bot_of_pos hl]
  | coe y =>
    rw [← EReal.coe_mul, ← EReal.coe_mul, ← EReal.coe_add, ← EReal.coe_add, ← EReal.coe_mul]
    congr 1
    unfold bFactor
    field_simp
  | top => exact absurd rfl hy

/-- The reference's score of a key is the logarithm of two times the kernel's. -/
theorem refScore_at (hq : ∀ i, ∃ x : ℝ, q i = x) (hk : ∀ i, ∃ x : ℝ, k i = x) (hu : Biases u) (b h : Fin 8) (s j : Fin 4096) :
    val_main_v14 (F := Ideal) q k u (Idealize.ShloMosaic.ix4 b h s j) = ((Real.log 2 : ℝ) : EReal) * rowScore q k u b h s j.val := by
  have hm : val_main_call0_v1 (F := Ideal) (Idealize.ShloMosaic.ix4 b h s j) = if j.val ≤ s.val then 1#1 else 0#1 := by
    rw [val_main_call0_v1_apply, val_main_v13_apply, val_main_v11_apply, val_main_v12_apply, val_main_v9_apply, val_main_v10_apply,
      val_main_v8_apply, val_main_v8_apply]
    show IntOp.cmpi .sle (BitVec.ofNat 32 j.val) (BitVec.ofNat 32 s.val) = _
    rw [WordCmp.cmpi_sle_ofNat (by omega) (by omega)]
    by_cases hj : j.val ≤ s.val <;> simp [hj]
  rw [val_main_v14_apply, hm, rowScore]
  by_cases hj : j.val ≤ s.val
  · rw [if_pos hj, if_pos hj, dif_pos j.isLt]
    refine Eq.trans (b := val_main_v7 (F := Ideal) q k u (Idealize.ShloMosaic.ix4 b h s j)) rfl ?_
    rw [val_main_v7_apply, refDot_at q k hq hk, refBias_at]
    obtain ⟨x, hx⟩ := dotQK_real q k hq hk b h s j
    unfold biased
    rw [hx]
    exact log_mul_biased x _ (hu.ne_top _)
  · rw [if_neg hj, if_neg hj]
    refine Eq.trans (b := val_main_call0_v2 (F := Ideal) (Idealize.ShloMosaic.ix4 b h s j)) rfl ?_
    rw [val_main_call0_v2_apply, val_main_call0_v0_apply, val_main_cst_1_apply, EReal.coe_mul_bot_of_pos (Real.log_pos one_lt_two)]
    exact low_bot

/-- The row's maximum in the reference is the logarithm of two times the kernel's. -/
theorem refTop_at (hq : ∀ i, ∃ x : ℝ, q i = x) (hk : ∀ i, ∃ x : ℝ, k i = x) (hu : Biases u) (b h : Fin 8) (s : Fin 4096) :
    val_main_v17 (F := Ideal) q k u (Idealize.ShloMosaic.ix3 b h s)
      = ((Real.log 2 : ℝ) : EReal) * top (rowScore q k u b h s) (Finset.range 4096) := by
  have h12 : val_main_v15 (F := Ideal) q k u (Idealize.ShloMosaic.ix3 b h s)
      = ((Real.log 2 : ℝ) : EReal) * top (rowScore q k u b h s) (Finset.range 4096) := by
    unfold val_main_v15
    rw [Host.reduce_eq_fold_single FloatOps.maximumf _ _ _ (by decide : S8x8x4096x4096.Reduces [3] S8x8x4096)]
    have hb : val_main_cst_2 (F := Ideal) (Shape.Idx.first h_S_) = (⊥ : EReal) := low_bot
    rw [hb]
    have e := sup_tile 4096 0 (fun j => ((Real.log 2 : ℝ) : EReal) * rowScore q k u b h s j)
    refine Eq.trans ?_ (e.trans ?_)
    · refine (congrArg (fun f => Finset.fold max (⊥ : EReal) f (Finset.univ : Finset (Fin 4096))) (funext fun (j : Fin 4096) => ?_)).trans (fold_max_eq_sup _)
      rw [Nat.zero_add]
      refine Eq.trans ?_ (refScore_at q k u hq hk hu b h s j)
      refine congrArg (val_main_v14 (F := Ideal) q k u) ?_
      funext a; apply Fin.ext
      match a with | ⟨0, _⟩ => rfl | ⟨1, _⟩ => rfl | ⟨2, _⟩ => rfl | ⟨3, _⟩ => rfl
    · rw [Nat.zero_add, ← Finset.range_eq_Ico]
      exact sup_scaled (rowScore q k u b h s) (Finset.range 4096)
  rw [val_main_v17_apply, h12, val_main_v16_apply]
  show max (val_main_cst_3 (F := Ideal) _) _ = _
  rw [show val_main_cst_3 (F := Ideal) (idx_main_v16 (Idealize.ShloMosaic.ix3 b h s)) = (⊥ : EReal) from low_bot]
  exact max_bot_left _

theorem rowScore_ne_top (hq : ∀ i, ∃ x : ℝ, q i = x) (hk : ∀ i, ∃ x : ℝ, k i = x) (hu : Biases u) (b h : Fin 8) (s : Fin 4096) (j : ℕ) :
    rowScore q k u b h s j ≠ ⊤ := by
  unfold rowScore
  split
  · split
    · exact biased_ne_top b q k u hq hk hu h s _
    · exact EReal.zero_ne_top
  · exact bot_ne_top

theorem rowScore_seen (hq : ∀ i, ∃ x : ℝ, q i = x) (hk : ∀ i, ∃ x : ℝ, k i = x) (hu : Biases u) (b h : Fin 8) (s : Fin 4096) :
    ∃ j ∈ Finset.range 4096, rowScore q k u b h s j ≠ ⊥ := by
  refine ⟨s.val, Finset.mem_range.2 s.isLt, ?_⟩
  unfold rowScore
  rw [if_pos le_rfl, dif_pos s.isLt]
  exact biased_own b q k u hq hk hu h s

/-- A key's weight in the reference is its weight in powers of two. -/
theorem refWt_at (hq : ∀ i, ∃ x : ℝ, q i = x) (hk : ∀ i, ∃ x : ℝ, k i = x) (hu : Biases u) (b h : Fin 8) (s j : Fin 4096) :
    val_main_v21 (F := Ideal) q k u (Idealize.ShloMosaic.ix4 b h s j)
      = wt (rowScore q k u b h s j.val) (top (rowScore q k u b h s) (Finset.range 4096)) := by
  obtain ⟨m, hm⟩ := top_real (rowScore q k u b h s) (Finset.range 4096) (rowScore_ne_top q k u hq hk hu b h s) (rowScore_seen q k u hq hk hu b h s)
  rw [val_main_v21_apply, val_main_v20_apply, val_main_v19_apply, val_main_v18_apply, refScore_at q k u hq hk hu]
  have e : idx_main_v18 (idx_main_v19 (Idealize.ShloMosaic.ix4 b h s j)) = Idealize.ShloMosaic.ix3 b h s := by
    funext a; apply Fin.ext
    match a with | ⟨0, _⟩ => rfl | ⟨1, _⟩ => rfl | ⟨2, _⟩ => rfl
  rw [e, refTop_at q k u hq hk hu, hm]
  exact exp_scaled _ m (rowScore_ne_top q k u hq hk hu b h s j.val)

/-- THE REFERENCE AT AN INDEX. -/
theorem ref_at (hq : ∀ i, ∃ x : ℝ, q i = x) (hk : ∀ i, ∃ x : ℝ, k i = x) (hu : Biases u) (b : Fin 8) (s : Fin 4096) (x : Fin 512) :
    val_main_v29 (F := Ideal) q k v u (Idealize.ShloMosaic.ix3 b s x)
      = soft (rowScore q k u b ⟨x.val / 64, by omega⟩ s) (keyVal v b ⟨x.val / 64, by omega⟩ ⟨x.val % 64, by omega⟩) (Finset.range 4096) := by
  rw [val_main_v29_apply, val_main_v28_apply, val_main_v27_apply]
  show val_main_v26 (F := Ideal) q k v u _ = _
  have e : idx_main_v27 (idx_main_v28 (Idealize.ShloMosaic.ix3 b s x)) = Idealize.ShloMosaic.ix4 b (⟨x.val / 64, by omega⟩ : Fin 8) s (⟨x.val % 64, by omega⟩ : Fin 64) := by
    funext a; apply Fin.ext
    match a with
    | ⟨0, _⟩ => show ((b.val * 4096 + s.val) * 512 + x.val) / 2097152 = b.val; omega
    | ⟨1, _⟩ => show ((b.val * 4096 + s.val) * 512 + x.val) / 64 % 8 = x.val / 64; omega
    | ⟨2, _⟩ => show ((b.val * 4096 + s.val) * 512 + x.val) / 512 % 4096 = s.val; omega
    | ⟨3, _⟩ => show ((b.val * 4096 + s.val) * 512 + x.val) % 64 = x.val % 64; omega
  rw [e, val_main_v26_apply]
  generalize (⟨x.val / 64, by omega⟩ : Fin 8) = h
  generalize (⟨x.val % 64, by omega⟩ : Fin 64) = d
  unfold soft
  have hsum : val_main_v22 (F := Ideal) q k u (Idealize.ShloMosaic.ix3 b h s)
      = ∑ j ∈ Finset.range 4096, wt (rowScore q k u b h s j) (top (rowScore q k u b h s) (Finset.range 4096)) := by
    rw [val_main_v22_apply, show val_main_cst_4 (F := Ideal) (Shape.Idx.first h_S_) = (0 : EReal) from Ideal.ofBits_zero_f32, zero_add,
      ← Fin.sum_univ_eq_sum_range (fun j => wt (rowScore q k u b h s j) (top (rowScore q k u b h s) (Finset.range 4096)))]
    refine Finset.sum_congr rfl fun j _ => ?_
    have e : idx_main_v22 (Idealize.ShloMosaic.ix3 b h s) j = Idealize.ShloMosaic.ix4 b h s j := by
      funext a; apply Fin.ext
      match a with | ⟨0, _⟩ => rfl | ⟨1, _⟩ => rfl | ⟨2, _⟩ => rfl | ⟨3, _⟩ => rfl
    rw [e, refWt_at q k u hq hk hu]
  rw [← hsum, ← Fin.sum_univ_eq_sum_range (fun j => Ideal.div (wt (rowScore q k u b h s j) (top (rowScore q k u b h s) (Finset.range 4096)))
    (val_main_v22 (F := Ideal) q k u (Idealize.ShloMosaic.ix3 b h s)) * keyVal v b h d j)]
  refine Finset.sum_congr rfl fun j _ => ?_
  have e1 : lidx_main_v26 (Idealize.ShloMosaic.ix4 b h s d) j = Idealize.ShloMosaic.ix4 b h s j := by
    funext a; apply Fin.ext
    match a with | ⟨0, _⟩ => rfl | ⟨1, _⟩ => rfl | ⟨2, _⟩ => rfl | ⟨3, _⟩ => rfl
  have e2 : ridx_main_v26 (Idealize.ShloMosaic.ix4 b h s d) j = Idealize.ShloMosaic.ix4 b h j d := by
    funext a; apply Fin.ext
    match a with | ⟨0, _⟩ => rfl | ⟨1, _⟩ => rfl | ⟨2, _⟩ => rfl | ⟨3, _⟩ => rfl
  have e3 : idx_main_v23 (idx_main_v24 (Idealize.ShloMosaic.ix4 b h s j)) = Idealize.ShloMosaic.ix3 b h s := by
    funext a; apply Fin.ext
    match a with | ⟨0, _⟩ => rfl | ⟨1, _⟩ => rfl | ⟨2, _⟩ => rfl
  rw [e1, e2, val_main_v25_apply, val_main_v24_apply, val_main_v23_apply, e3, refWt_at q k u hq hk hu]
  unfold keyVal
  rw [dif_pos j.isLt]
  rfl

end Cert.Sparse
-- ==== Proof.SparseAlgebraic.lean ====
/- The block-sparse attention's result is the reference's, from finite queries and keys and biases that leave every row its own block. -/
module

public import proofs.«01_k».proof.Defs
public import proofs.«01_k».proof.Proof.SparseRef
public import proofs.«01_k».proof.Proof.Algebraic
public import proofs.«01_k».proof.Proof.Gen.Pre_own_block

@[expose] public section

noncomputable section

namespace Cert.Sparse

open Idealize.ShloMosaic Idealize.ShloMosaic.TcCoe Idealize.SL.Sem
open Cert.Attn (real_of_abs_lt)

/-- The precondition's first part: every entry of the queries and of the keys is a real number. -/
theorem finite_entries (q k v : FVec Ideal Cert.Pre_own_block.S8x8x4096x64 .f32) (u : FVec Ideal Cert.Pre_own_block.S8x8x4096x16 .f32)
    (h : (Cert.Pre_own_block.fn (F := Ideal) q k v u).1 = fun _ => 1#1) : (∀ i, ∃ x : ℝ, q i = x) ∧ (∀ i, ∃ x : ℝ, k i = x) := by
  have both : ∀ i, Ideal.cmp .olt (max (q i) (-q i)) (Ideal.ofBits .f32 0x7F800000#32) &&& Ideal.cmp .olt (max (k i) (-k i)) (Ideal.ofBits .f32 0x7F800000#32) = 1#1 :=
    fun i => congrFun h i
  have split : ∀ a b : BitVec 1, a &&& b = 1#1 → a = 1#1 ∧ b = 1#1 := by decide
  exact ⟨fun i => real_of_abs_lt (q i) (split _ _ (both i)).1, fun i => real_of_abs_lt (k i) (split _ _ (both i)).2⟩

/-- The precondition's second part: no bias is infinity, and a row's bias for its own block is a number. -/
theorem biases_of_pre (q k v : FVec Ideal Cert.Pre_own_block.S8x8x4096x64 .f32) (u : FVec Ideal Cert.Pre_own_block.S8x8x4096x16 .f32)
    (h : (Cert.Pre_own_block.fn (F := Ideal) q k v u).2 = fun _ => 1#1) : Biases u := by
  have split : ∀ a b : BitVec 1, a &&& b = 1#1 → a = 1#1 ∧ b = 1#1 := by decide
  have either : ∀ a : BitVec 1, 0#1 ||| a = 1#1 → a = 1#1 := by decide
  have ht : Ideal.ofBits .f32 0x7F800000#32 = ⊤ := by simp [Ideal.ofBits, Ideal.ieee]
  have hb : Ideal.ofBits .f32 0xFF800000#32 = ⊥ := by simp [Ideal.ofBits, Ideal.ieee]
  refine ⟨fun i e => ?_, fun b h' s e => ?_⟩
  · have hi : Ideal.cmp .olt (u i) (Ideal.ofBits .f32 0x7F800000#32) &&& _ = 1#1 := congrFun h i
    have h1 := (split _ _ hi).1
    rw [e, ht] at h1
    exact absurd h1 (by simp [Ideal.cmp])
  · have hi : _ &&& (IntOp.cmpi .ne (BitVec.ofNat 32 (s.val / 256)) (IntOp.shrsi .host (BitVec.ofNat 32 s.val) 8#32)
        ||| Ideal.cmp .ogt (u (Idealize.ShloMosaic.ix4 b h' s (⟨s.val / 256, by omega⟩ : Fin 16))) (Ideal.ofBits .f32 0xFF800000#32)) = 1#1 :=
      congrFun h (Idealize.ShloMosaic.ix4 b h' s (⟨s.val / 256, by omega⟩ : Fin 16))
    have h1 := (split _ _ hi).2
    rw [block_word, show IntOp.cmpi .ne (BitVec.ofNat 32 (s.val / 256)) (BitVec.ofNat 32 (s.val / 256)) = 0#1 by simp [IntOp.cmpi]] at h1
    have h2 := either _ h1
    rw [e, hb] at h2
    exact absurd h2 (by simp [Ideal.cmp])

/-- THE KERNEL'S RESULT ARRAY IS THE REFERENCE'S. -/
theorem result_eq (m : (ℓ : Loc Kernel5Ideal.nD Kernel5Ideal.τ Kernel5Ideal.sig) → Buf (Elt Ideal) ℓ) (c : Dev Kernel5Ideal.nD)
    (hq : ∀ i, ∃ x : ℝ, qs m c i = x) (hk : ∀ i, ∃ x : ℝ, ks m c i = x) (hu : Biases (us m c)) :
    Reference5Ideal.Read.val_main_v29 (F := Ideal) (qs m c) (ks m c) (vs m c) (us m c) = (Kernel5Ideal.Gen.dats m 0 c).arrAt 3 Kernel5Ideal.cfg0.N := by
  funext i
  obtain ⟨b, s, x, rfl⟩ : ∃ (b : Fin 8) (s : Fin 4096) (x : Fin 512), i = Idealize.ShloMosaic.ix3 b s x := by
    refine ⟨i 0, i 1, i 2, funext fun a => Fin.ext ?_⟩
    match a with | ⟨0, _⟩ => rfl | ⟨1, _⟩ => rfl | ⟨2, _⟩ => rfl
  exact (ref_at _ _ _ _ hq hk hu b s x).trans (final_at m c b hq hk hu s x).symm

/-- The claim of values: from the same arguments the kernel and the reference end with equal results. -/
theorem algebraic : Cert.algebraic_Kernel5Ideal_Reference5Ideal_pre_own_block := by
  intro m g m' g' hp hagree
  refine ⟨fun c => (Kernel5Ideal.Gen.dats m 0 c).arrAt 3 Kernel5Ideal.cfg0.N, Kernel5Ideal.Value.run_blocks m g, ?_⟩
  refine (θ_run Reference5Ideal.defs _ _).mono (fun r h c => ⟨(h c).1.trans ?_, (h c).2⟩) (Reference5Ideal.Value.run m' g')
  rw [Reference5Ideal.Read.val_main_v29_eq, (hagree c).1, (hagree c).2.1, (hagree c).2.2.1, (hagree c).2.2.2]
  obtain ⟨hq, hk⟩ := finite_entries _ _ _ _ (hp c).1
  exact result_eq m c hq hk (biases_of_pre _ _ _ _ (hp c).2)

/-- The reference's frame: its run read at the arguments; it declares no semaphore. -/
theorem frame_reference (m : (ℓ : Loc Reference5Ideal.nD Reference5Ideal.τ Reference5Ideal.sig) → Buf (Elt Ideal) ℓ) (g : Dev Reference5Ideal.nD → PrngReg) :
    θ_run (Reference5Ideal.defs (F := Ideal)) (onTc (τ := Reference5Ideal.τ) (Reference5Ideal.main (F := Ideal))) ⟨m, fun _ => 0, g⟩ (fun r => (∀ c : Dev Reference5Ideal.nD,
      r.2.mem ((c.tc : Thread Reference5Ideal.nD Reference5Ideal.τ).loc Reference5Ideal.main_arg0) = m ((c.tc : Thread Reference5Ideal.nD Reference5Ideal.τ).loc Reference5Ideal.main_arg0)
      ∧ r.2.mem ((c.tc : Thread Reference5Ideal.nD Reference5Ideal.τ).loc Reference5Ideal.main_arg1) = m ((c.tc : Thread Reference5Ideal.nD Reference5Ideal.τ).loc Reference5Ideal.main_arg1)
      ∧ r.2.mem ((c.tc : Thread Reference5Ideal.nD Reference5Ideal.τ).loc Reference5Ideal.main_arg2) = m ((c.tc : Thread Reference5Ideal.nD Reference5Ideal.τ).loc Reference5Ideal.main_arg2)
      ∧ r.2.mem ((c.tc : Thread Reference5Ideal.nD Reference5Ideal.τ).loc Reference5Ideal.main_arg3) = m ((c.tc : Thread Reference5Ideal.nD Reference5Ideal.τ).loc Reference5Ideal.main_arg3))
      ∧ r.2.sem = fun _ => 0) :=
  (θ_run Reference5Ideal.defs _ _).mono (fun r h => ⟨fun c => (h c).2, sem_eq_zero_of_no_sems (by decide) r.2⟩) (Reference5Ideal.Value.run m g)

end Cert.Sparse

end
-- ==== Proof.ProloguePoint.lean ====
/-
  What the prologue computes of 256 rows of the tile, at a row and a column: the rows' projections, the latent keys and
  values of the second branch, and a head's values in their slot of 128 lanes.
-/
module

public import proofs.«01_k».proof.Proof.Dense
public import proofs.«01_k».proof.Proof.Gen.Kernel6Ideal.Skeleton
public import Idealize.ShloMosaic.Lib.Pipeline.ValueKit.Tiles
public import Idealize.ShloMosaic.Lib.Pipeline.Value

@[expose] public section

noncomputable section

namespace Cert.Prologue

open Cert.Dense
open Cert.Kernel6Ideal Cert.Kernel6Ideal.Gen
open Idealize.ShloMosaic Idealize.ShloMosaic.TcCoe Idealize.ShloMosaic.Tactic

/-- A row of an array of two axes. -/
abbrev rowOf {M N : ℕ} (X : (⟨2, ![M, N]⟩ : Shape).Idx → EReal) (r : Fin M) : Fin N → EReal := fun e => X (Idealize.ShloMosaic.ix2 r e)

/-- A latent row divided by the root of the mean of its squares, times the gains. -/
def latentNorm (x g : Fin 256 → EReal) (d : Fin 256) : EReal :=
  x d * Ideal.rsqrt (Ideal.div (∑ e : Fin 256, x e * x e) (Ideal.ofBits .f32 0x43800000#32) + Ideal.ofBits .f32 0x358637BD#32) * g d

/-- The normalised latent row against a column of weights. -/
def latentDot {n : ℕ} (x g : Fin 256 → EReal) (w : Fin 256 → Fin n → EReal) (j : Fin n) : EReal := ∑ d : Fin 256, latentNorm x g d * w d j

/-- The rows' projections. -/
theorem pay5_at (x : Vec Ideal S1x256x1024 .f32) (g : Vec Ideal S1x1024 .f32) (w : Vec Ideal S1024x3840 .bf16) (r : Fin 256) (k : Fin 3840) :
    k0_pay5 (F := Ideal) x g w (Idealize.ShloMosaic.ix2 r k) = normDot (fun e => x (Idealize.ShloMosaic.ix3 0 r e)) (rowOf g 0) (fun d => rowOf w d) k := by
  unfold_payloads
  pointwise [dot_S256x1024_S1024x3840_S256x3840_1_0_0_1_n_n]
  rfl

/-- The latent keys and values. -/
theorem pay121_at (p : FVec Ideal S256x3840 .f32) (g : Vec Ideal S1x256 .f32) (w : Vec Ideal S256x2048 .bf16) (r : Fin 256) (k : Fin 2048) :
    k0_pay121 (F := Ideal) p g w (Idealize.ShloMosaic.ix2 r k)
      = latentDot (fun e => p (Idealize.ShloMosaic.ix2 r ⟨3456 + e.val, by omega⟩)) (rowOf g 0) (fun d => rowOf w d) k := by
  unfold_payloads
  pointwise [dot_S256x256_S256x2048_S256x2048_1_0_0_1_n_n]
  rfl

/-- The lane of each entry of 128 columns. -/
abbrev lanes : IVec S256x128 32 := iota .tc S256x128 32 [1] iota_S256x128_d1_w32

/-- A head's 128 columns of a table of rows, with a one in the lane `a`. -/
def slot {N : ℕ} (a : BitVec 32) (o : ℕ) (h : (⟨2, ![256, N]⟩ : Shape).Slices ![0, o] S256x128) (P : (⟨2, ![256, N]⟩ : Shape).Idx → EReal) : FVec Ideal S1x256x128 .bf16 :=
  shapeCast S1x256x128 (truncf (F := Ideal) .bf16 (select (cmpi .eq lanes (broadcast S256x128 a)) (broadcast S256x128 (Scalar.ofBits (F := Ideal) .f32 0x3F800000#32))
    (extractStridedSlice S256x128 ![0, o] P h : FVec Ideal S256x128 .f32)) bitsLt_bf16_f32) shapeCasts_S256x128_S1x256x128

theorem lane_word (a : Fin 128) (k : Fin 128) : BitVec.ofNat 32 k.val = BitVec.ofNat 32 a.val ↔ k = a := by
  constructor
  · intro h
    have := congrArg BitVec.toNat h
    simp only [BitVec.toNat_ofNat] at this
    exact Fin.ext (by omega)
  · rintro rfl; rfl

theorem slot_at {N : ℕ} (a : Fin 128) (o : ℕ) (h : (⟨2, ![256, N]⟩ : Shape).Slices ![0, o] S256x128) (P : (⟨2, ![256, N]⟩ : Shape).Idx → EReal)
    (r : Fin 256) (k : Fin 128) (hb : o + k.val < N) :
    slot (BitVec.ofNat 32 a.val) o h P (Idealize.ShloMosaic.ix3 0 r k) = if k = a then 1 else P (Idealize.ShloMosaic.ix2 r ⟨o + k.val, hb⟩) := by
  unfold slot
  have e : extractStridedSlice S256x128 ![0, o] P h (Idealize.ShloMosaic.ix2 r k) = P (Idealize.ShloMosaic.ix2 r ⟨o + k.val, hb⟩) :=
    extractStridedSlice_apply _ _ _ _ _ (fun a => by
      match a with
      | ⟨0, _⟩ => show r.val = 0 + r.val; omega
      | ⟨1, _⟩ => rfl)
  refine (shapeCast_apply _ _ _ (Idealize.ShloMosaic.ix2 r k : S256x128.Idx) (by rw [Shape.rowMajor_val_three, Shape.rowMajor_val_two]; show r.val * 128 + k.val = (0 * 256 + r.val) * 128 + k.val; omega)).trans ?_
  show Scalar.select (Scalar.cmpi .eq (lanes (Idealize.ShloMosaic.ix2 r k)) (BitVec.ofNat 32 a.val)) (Ideal.ofBits .f32 0x3F800000#32) (extractStridedSlice S256x128 ![0, o] P h (Idealize.ShloMosaic.ix2 r k)) = _
  rw [e, Ideal.ofBits_one_f32]
  have hl : lanes (Idealize.ShloMosaic.ix2 r k) = BitVec.ofNat 32 k.val := by
    unfold lanes
    pointwise
  rw [hl]
  by_cases hk : k = a
  · subst hk
    simp [Scalar.select, Scalar.cmpi, IntOp.cmpi]
  · have : ¬ BitVec.ofNat 32 k.val = BitVec.ofNat 32 a.val := fun q => hk ((lane_word a k).1 q)
    have hb0 : (BitVec.ofNat 32 k.val == BitVec.ofNat 32 a.val) = false := beq_eq_false_iff_ne.2 this
    simp [Scalar.select, Scalar.cmpi, IntOp.cmpi, hb0, hk]

end Cert.Prologue

end
-- ==== Proof.ProloguePiece.lean ====
/-
  A result's block of 512 rows and 1024 columns: eight heads' slots of 128 lanes, stored by rows of 256.
-/
module

public import proofs.«01_k».proof.Proof.ProloguePoint
public import Idealize.ShloMosaic.Lib.Ring

@[expose] public section

set_option maxRecDepth 4000

noncomputable section

namespace Cert.Prologue

open Cert.Dense
open Cert.Kernel6Ideal Cert.Kernel6Ideal.Gen
open Idealize.ShloMosaic Idealize.ShloMosaic.TcCoe Idealize.ShloMosaic.Tactic

/-- 128 columns of a wider table are a block of it. -/
theorem slices_cols {N o : ℕ} (h : o + 128 ≤ N) : (⟨2, ![256, N]⟩ : Shape).Slices ![0, o] S256x128 :=
  ⟨rfl, fun a => by
    match a with
    | ⟨0, _⟩ => exact (by decide : 0 + 256 ≤ 256)
    | ⟨1, _⟩ => exact h⟩

/-- The heads' values from column `o` of a table, each head's slot with a one in its spare lane: lane 64 of an even head, lane 0 of an odd one. -/
def heads {N : ℕ} (o : ℕ) (ho : o + 1024 ≤ N) (P : Fin 512 → Fin N → EReal) : S1x512x1024.Idx → EReal := fun y =>
  if (y 2).val % 128 = (if (y 2).val / 128 % 2 = 0 then 64 else 0) then 1
  else P (y 1) ⟨o + (y 2).val, by have h : (y 2).val < 1024 := (y 2).isLt; omega⟩

/-- One stored slot is its place of the block. -/
theorem slot_tile {N : ℕ} (a : Fin 128) (o col ro : ℕ) (ho : o + 1024 ≤ N) (hc : col + 128 ≤ 1024) (hm : col % 128 = 0) (ha : a.val = if col / 128 % 2 = 0 then 64 else 0)
    (hr : ro + 256 ≤ 512) (P : Fin 512 → Fin N → EReal) (Q : (⟨2, ![256, N]⟩ : Shape).Idx → EReal)
    (hQ : ∀ (r : Fin 256) (k : Fin N), Q (Idealize.ShloMosaic.ix2 r k) = P ⟨ro + r.val, by omega⟩ k)
    (hs : (⟨2, ![256, N]⟩ : Shape).Slices ![0, o + col] S256x128) (inb : ∀ a, (![0, ro, col] : Fin 3 → ℕ) a + S1x256x128.size a ≤ S1x512x1024.size a) (x : S1x256x128.Idx) :
    slot (BitVec.ofNat 32 a.val) (o + col) hs Q x = heads o ho P ((Rect.unit (s := S1x512x1024) ![0, ro, col] S1x256x128.size inb).emb x) := by
  obtain ⟨r, k, rfl⟩ : ∃ (r : Fin 256) (k : Fin 128), x = Idealize.ShloMosaic.ix3 0 r k := ⟨x 1, x 2, by
    funext a
    match a with
    | ⟨0, _⟩ => exact Fin.ext (by have h : (x 0).val < 1 := (x 0).isLt; show (x 0).val = 0; omega)
    | ⟨1, _⟩ => rfl
    | ⟨2, _⟩ => rfl⟩
  have e : (Rect.unit (s := S1x512x1024) ![0, ro, col] S1x256x128.size inb).emb (Idealize.ShloMosaic.ix3 0 r k : S1x256x128.Idx)
      = (Idealize.ShloMosaic.ix3 0 ⟨ro + r.val, by omega⟩ ⟨col + k.val, by omega⟩ : S1x512x1024.Idx) := by
    funext a; apply Fin.ext
    match a with
    | ⟨0, _⟩ => rfl
    | ⟨1, _⟩ => show ro + 1 * r.val = ro + r.val; omega
    | ⟨2, _⟩ => show col + 1 * k.val = col + k.val; omega
  rw [e, slot_at a (o + col) hs Q r k (by omega), hQ]
  show _ = if (col + k.val) % 128 = (if (col + k.val) / 128 % 2 = 0 then 64 else 0) then 1 else P ⟨ro + r.val, _⟩ ⟨o + (col + k.val), _⟩
  have h1 : (col + k.val) % 128 = k.val := by omega
  have h2 : (col + k.val) / 128 = col / 128 := by omega
  rw [h1, h2, ← ha]
  by_cases hk : k = a
  · rw [if_pos hk, if_pos (congrArg Fin.val hk)]
  · rw [if_neg hk, if_neg (fun q => hk (Fin.ext q))]
    exact congrArg (P _) (Fin.ext (Nat.add_assoc _ _ _))

/-- The sixteen stores of a result's block, the latest first. -/
def slotPieces {N : ℕ} (o : ℕ) (ho : o + 1024 ≤ N) (P0 P1 : (⟨2, ![256, N]⟩ : Shape).Idx → EReal) : List (View.Piece (Elt Ideal) S1x512x1024 .bf16) :=
  [ ⟨Rect.unit (s := S1x512x1024) ![0, 256, 896] S1x256x128.size inb_S1x512x1024_S1x256x128_0_256_896, slot 0#32 (o + 896) (slices_cols (by omega)) P1⟩,
    ⟨Rect.unit (s := S1x512x1024) ![0, 256, 768] S1x256x128.size inb_S1x512x1024_S1x256x128_0_256_768, slot 64#32 (o + 768) (slices_cols (by omega)) P1⟩,
    ⟨Rect.unit (s := S1x512x1024) ![0, 256, 640] S1x256x128.size inb_S1x512x1024_S1x256x128_0_256_640, slot 0#32 (o + 640) (slices_cols (by omega)) P1⟩,
    ⟨Rect.unit (s := S1x512x1024) ![0, 256, 512] S1x256x128.size inb_S1x512x1024_S1x256x128_0_256_512, slot 64#32 (o + 512) (slices_cols (by omega)) P1⟩,
    ⟨Rect.unit (s := S1x512x1024) ![0, 256, 384] S1x256x128.size inb_S1x512x1024_S1x256x128_0_256_384, slot 0#32 (o + 384) (slices_cols (by omega)) P1⟩,
    ⟨Rect.unit (s := S1x512x1024) ![0, 256, 256] S1x256x128.size inb_S1x512x1024_S1x256x128_0_256_256, slot 64#32 (o + 256) (slices_cols (by omega)) P1⟩,
    ⟨Rect.unit (s := S1x512x1024) ![0, 256, 128] S1x256x128.size inb_S1x512x1024_S1x256x128_0_256_128, slot 0#32 (o + 128) (slices_cols (by omega)) P1⟩,
    ⟨Rect.unit (s := S1x512x1024) ![0, 256, 0] S1x256x128.size inb_S1x512x1024_S1x256x128_0_256_0, slot 64#32 (o + 0) (slices_cols (by omega)) P1⟩,
    ⟨Rect.unit (s := S1x512x1024) ![0, 0, 896] S1x256x128.size inb_S1x512x1024_S1x256x128_0_0_896, slot 0#32 (o + 896) (slices_cols (by omega)) P0⟩,
    ⟨Rect.unit (s := S1x512x1024) ![0, 0, 768] S1x256x128.size inb_S1x512x1024_S1x256x128_0_0_768, slot 64#32 (o + 768) (slices_cols (by omega)) P0⟩,
    ⟨Rect.unit (s := S1x512x1024) ![0, 0, 640] S1x256x128.size inb_S1x512x1024_S1x256x128_0_0_640, slot 0#32 (o + 640) (slices_cols (by omega)) P0⟩,
    ⟨Rect.unit (s := S1x512x1024) ![0, 0, 512] S1x256x128.size inb_S1x512x1024_S1x256x128_0_0_512, slot 64#32 (o + 512) (slices_cols (by omega)) P0⟩,
    ⟨Rect.unit (s := S1x512x1024) ![0, 0, 384] S1x256x128.size inb_S1x512x1024_S1x256x128_0_0_384, slot 0#32 (o + 384) (slices_cols (by omega)) P0⟩,
    ⟨Rect.unit (s := S1x512x1024) ![0, 0, 256] S1x256x128.size inb_S1x512x1024_S1x256x128_0_0_256, slot 64#32 (o + 256) (slices_cols (by omega)) P0⟩,
    ⟨Rect.unit (s := S1x512x1024) ![0, 0, 128] S1x256x128.size inb_S1x512x1024_S1x256x128_0_0_128, slot 0#32 (o + 128) (slices_cols (by omega)) P0⟩,
    ⟨Rect.unit (s := S1x512x1024) ![0, 0, 0] S1x256x128.size inb_S1x512x1024_S1x256x128_0_0_0, slot 64#32 (o + 0) (slices_cols (by omega)) P0⟩ ]

/-- They fill the block with the heads' values. -/
theorem slotPieces_canon {N : ℕ} (o : ℕ) (ho : o + 1024 ≤ N) (P : Fin 512 → Fin N → EReal) (P0 P1 : (⟨2, ![256, N]⟩ : Shape).Idx → EReal)
    (h0 : ∀ (r : Fin 256) (k : Fin N), P0 (Idealize.ShloMosaic.ix2 r k) = P ⟨0 + r.val, by omega⟩ k)
    (h1 : ∀ (r : Fin 256) (k : Fin N), P1 (Idealize.ShloMosaic.ix2 r k) = P ⟨256 + r.val, by omega⟩ k) :
    View.canon (slotPieces o ho P0 P1) = heads o ho P := by
  funext y
  refine View.canon_apply_of_pieces (S := S1x512x1024) (heads o ho P) (slotPieces o ho P0 P1) ?_ y ?_
  · unfold slotPieces
    refine List.forall_mem_cons.2 ⟨fun x => slot_tile ⟨0, by decide⟩ o 896 256 ho (by decide) (by decide) (by decide) (by decide) P P1 h1 (slices_cols (by omega)) inb_S1x512x1024_S1x256x128_0_256_896 x, ?_⟩
    refine List.forall_mem_cons.2 ⟨fun x => slot_tile ⟨64, by decide⟩ o 768 256 ho (by decide) (by decide) (by decide) (by decide) P P1 h1 (slices_cols (by omega)) inb_S1x512x1024_S1x256x128_0_256_768 x, ?_⟩
    refine List.forall_mem_cons.2 ⟨fun x => slot_tile ⟨0, by decide⟩ o 640 256 ho (by decide) (by decide) (by decide) (by decide) P P1 h1 (slices_cols (by omega)) inb_S1x512x1024_S1x256x128_0_256_640 x, ?_⟩
    refine List.forall_mem_cons.2 ⟨fun x => slot_tile ⟨64, by decide⟩ o 512 256 ho (by decide) (by decide) (by decide) (by decide) P P1 h1 (slices_cols (by omega)) inb_S1x512x1024_S1x256x128_0_256_512 x, ?_⟩
    refine List.forall_mem_cons.2 ⟨fun x => slot_tile ⟨0, by decide⟩ o 384 256 ho (by decide) (by decide) (by decide) (by decide) P P1 h1 (slices_cols (by omega)) inb_S1x512x1024_S1x256x128_0_256_384 x, ?_⟩
    refine List.forall_mem_cons.2 ⟨fun x => slot_tile ⟨64, by decide⟩ o 256 256 ho (by decide) (by decide) (by decide) (by decide) P P1 h1 (slices_cols (by omega)) inb_S1x512x1024_S1x256x128_0_256_256 x, ?_⟩
    refine List.forall_mem_cons.2 ⟨fun x => slot_tile ⟨0, by decide⟩ o 128 256 ho (by decide) (by decide) (by decide) (by decide) P P1 h1 (slices_cols (by omega)) inb_S1x512x1024_S1x256x128_0_256_128 x, ?_⟩
    refine List.forall_mem_cons.2 ⟨fun x => slot_tile ⟨64, by decide⟩ o 0 256 ho (by decide) (by decide) (by decide) (by decide) P P1 h1 (slices_cols (by omega)) inb_S1x512x1024_S1x256x128_0_256_0 x, ?_⟩
    refine List.forall_mem_cons.2 ⟨fun x => slot_tile ⟨0, by decide⟩ o 896 0 ho (by decide) (by decide) (by decide) (by decide) P P0 h0 (slices_cols (by omega)) inb_S1x512x1024_S1x256x128_0_0_896 x, ?_⟩
    refine List.forall_mem_cons.2 ⟨fun x => slot_tile ⟨64, by decide⟩ o 768 0 ho (by decide) (by decide) (by decide) (by decide) P P0 h0 (slices_cols (by omega)) inb_S1x512x1024_S1x256x128_0_0_768 x, ?_⟩
    refine List.forall_mem_cons.2 ⟨fun x => slot_tile ⟨0, by decide⟩ o 640 0 ho (by decide) (by decide) (by decide) (by decide) P P0 h0 (slices_cols (by omega)) inb_S1x512x1024_S1x256x128_0_0_640 x, ?_⟩
    refine List.forall_mem_cons.2 ⟨fun x => slot_tile ⟨64, by decide⟩ o 512 0 ho (by decide) (by decide) (by decide) (by decide) P P0 h0 (slices_cols (by omega)) inb_S1x512x1024_S1x256x128_0_0_512 x, ?_⟩
    refine List.forall_mem_cons.2 ⟨fun x => slot_tile ⟨0, by decide⟩ o 384 0 ho (by decide) (by decide) (by decide) (by decide) P P0 h0 (slices_cols (by omega)) inb_S1x512x1024_S1x256x128_0_0_384 x, ?_⟩
    refine List.forall_mem_cons.2 ⟨fun x => slot_tile ⟨64, by decide⟩ o 256 0 ho (by decide) (by decide) (by decide) (by decide) P P0 h0 (slices_cols (by omega)) inb_S1x512x1024_S1x256x128_0_0_256 x, ?_⟩
    refine List.forall_mem_cons.2 ⟨fun x => slot_tile ⟨0, by decide⟩ o 128 0 ho (by decide) (by decide) (by decide) (by decide) P P0 h0 (slices_cols (by omega)) inb_S1x512x1024_S1x256x128_0_0_128 x, ?_⟩
    refine List.forall_mem_cons.2 ⟨fun x => slot_tile ⟨64, by decide⟩ o 0 0 ho (by decide) (by decide) (by decide) (by decide) P P0 h0 (slices_cols (by omega)) inb_S1x512x1024_S1x256x128_0_0_0 x, ?_⟩
    intro p hp
    exact absurd hp (List.not_mem_nil)
  · exact View.cover_of_tiledL (slotPieces o ho P0 P1) S1x256x128.size (by sl_kernel_rfl) y

end Cert.Prologue

end
-- ==== Proof.PrologueBlock.lean ====
/-
  What a step of the prologue writes of the two branches' values, from the step's blocks.
-/
module

public import proofs.«01_k».proof.Proof.ProloguePiece
public import proofs.«01_k».proof.Proof.Gen.Kernel6Ideal.Frame
public import Idealize.ShloMosaic.Lib.WholeRead

@[expose] public section

set_option maxRecDepth 4000

noncomputable section

namespace Cert.Prologue

open Cert.Dense
open Cert.Kernel6Ideal Cert.Kernel6Ideal.Gen
open Idealize.ShloMosaic Idealize.ShloMosaic.TcCoe Idealize.ShloMosaic.Tactic Idealize.SL.Sem

/-- The projection of a row of the step's block, at a column. -/
def projRow (x0 : S1x512x1024.Idx → EReal) (x1 : S1x1024.Idx → EReal) (x2 : S1024x3840.Idx → EReal) (s : Fin 512) (k : Fin 3840) : EReal :=
  normDot (fun e => x0 (Idealize.ShloMosaic.ix3 0 s e)) (rowOf x1 0) (fun d => rowOf x2 d) k

/-- The latent keys and values of a row of the step's block, at a column. -/
def latRow (x0 : S1x512x1024.Idx → EReal) (x1 : S1x1024.Idx → EReal) (x2 : S1024x3840.Idx → EReal) (x4 : S256x2048.Idx → EReal) (x6 : S1x256.Idx → EReal)
    (s : Fin 512) (k : Fin 2048) : EReal :=
  latentDot (fun e => projRow x0 x1 x2 s ⟨3456 + e.val, by omega⟩) (rowOf x6 0) (fun d => rowOf x4 d) k

section Loads

variable (arg2 : Memref sig .tc .vmem S1x512x1024 .f32) (harg2 : arg2.IsWhole) (arg3 : Memref sig .tc .vmem S1x1024 .f32) (harg3 : arg3.IsWhole)
  (arg4 : Memref sig .tc .vmem S1024x3840 .bf16) (harg4 : arg4.IsWhole) (arg6 : Memref sig .tc .vmem S256x2048 .bf16) (harg6 : arg6.IsWhole)
  (arg8 : Memref sig .tc .vmem S1x256 .f32) (harg8 : arg8.IsWhole)
  (x0 : Vec Ideal S1x512x1024 .f32) (x1 : Vec Ideal S1x1024 .f32) (x2 : Vec Ideal S1024x3840 .bf16) (x4 : Vec Ideal S256x2048 .bf16) (x6 : Vec Ideal S1x256 .f32)

/-- The gains, loaded. -/
theorem load_gain : View.readAt (Elt Ideal) arg3.view (Rect.unit (s := S1x1024) ![0, 0] S1x1024.size inb_S1x1024_S1x1024_0_0).toLoadRect (harg3.unread x1) = x1 := by
  funext y
  refine (harg3.readAt_unread x1 _ y).trans (congrArg x1 ?_)
  funext a; apply Fin.ext
  match a with
  | ⟨0, _⟩ => show 0 + 1 * (y 0).val = (y 0).val; omega
  | ⟨1, _⟩ => show 0 + 1 * (y 1).val = (y 1).val; omega

/-- The projection's weights, loaded. -/
theorem load_proj : View.readAt (Elt Ideal) arg4.view (Rect.unit (s := S1024x3840) ![0, 0] S1024x3840.size inb_S1024x3840_S1024x3840_0_0).toLoadRect (harg4.unread x2) = x2 := by
  funext y
  refine (harg4.readAt_unread x2 _ y).trans (congrArg x2 ?_)
  funext a; apply Fin.ext
  match a with
  | ⟨0, _⟩ => show 0 + 1 * (y 0).val = (y 0).val; omega
  | ⟨1, _⟩ => show 0 + 1 * (y 1).val = (y 1).val; omega

/-- The latent keys' and values' weights, loaded. -/
theorem load_up : View.readAt (Elt Ideal) arg6.view (Rect.unit (s := S256x2048) ![0, 0] S256x2048.size inb_S256x2048_S256x2048_0_0).toLoadRect (harg6.unread x4) = x4 := by
  funext y
  refine (harg6.readAt_unread x4 _ y).trans (congrArg x4 ?_)
  funext a; apply Fin.ext
  match a with
  | ⟨0, _⟩ => show 0 + 1 * (y 0).val = (y 0).val; omega
  | ⟨1, _⟩ => show 0 + 1 * (y 1).val = (y 1).val; omega

/-- The latent gains, loaded. -/
theorem load_latgain : View.readAt (Elt Ideal) arg8.view (Rect.unit (s := S1x256) ![0, 0] S1x256.size inb_S1x256_S1x256_0_0).toLoadRect (harg8.unread x6) = x6 := by
  funext y
  refine (harg8.readAt_unread x6 _ y).trans (congrArg x6 ?_)
  funext a; apply Fin.ext
  match a with
  | ⟨0, _⟩ => show 0 + 1 * (y 0).val = (y 0).val; omega
  | ⟨1, _⟩ => show 0 + 1 * (y 1).val = (y 1).val; omega

/-- 256 rows of the block, loaded. -/
theorem load_rows (ro : ℕ) (inb : ∀ a, (![0, ro, 0] : Fin 3 → ℕ) a + S1x256x1024.size a ≤ S1x512x1024.size a) (r : Fin 256) (e : Fin 1024) (h : ro + r.val < 512) :
    View.readAt (Elt Ideal) arg2.view (Rect.unit (s := S1x512x1024) ![0, ro, 0] S1x256x1024.size inb).toLoadRect (harg2.unread x0) (Idealize.ShloMosaic.ix3 0 r e)
      = x0 (Idealize.ShloMosaic.ix3 0 ⟨ro + r.val, h⟩ e) := by
  refine (harg2.readAt_unread x0 _ _).trans (congrArg x0 ?_)
  funext a; apply Fin.ext
  match a with
  | ⟨0, _⟩ => rfl
  | ⟨1, _⟩ => show ro + 1 * r.val = ro + r.val; omega
  | ⟨2, _⟩ => show 0 + 1 * e.val = e.val; omega

/-- The projections of 256 rows of the block. -/
def projTab (ro : ℕ) (inb : ∀ a, (![0, ro, 0] : Fin 3 → ℕ) a + S1x256x1024.size a ≤ S1x512x1024.size a) : FVec Ideal S256x3840 .f32 :=
  k0_pay5 (F := Ideal) (View.readAt (Elt Ideal) arg2.view (Rect.unit (s := S1x512x1024) ![0, ro, 0] S1x256x1024.size inb).toLoadRect (harg2.unread x0))
    (View.readAt (Elt Ideal) arg3.view (Rect.unit (s := S1x1024) ![0, 0] S1x1024.size inb_S1x1024_S1x1024_0_0).toLoadRect (harg3.unread x1))
    (View.readAt (Elt Ideal) arg4.view (Rect.unit (s := S1024x3840) ![0, 0] S1024x3840.size inb_S1024x3840_S1024x3840_0_0).toLoadRect (harg4.unread x2))

theorem projTab_at (ro : ℕ) (inb : ∀ a, (![0, ro, 0] : Fin 3 → ℕ) a + S1x256x1024.size a ≤ S1x512x1024.size a) (hr : ro + 256 ≤ 512) (r : Fin 256) (k : Fin 3840) :
    projTab arg2 harg2 arg3 harg3 arg4 harg4 x0 x1 x2 ro inb (Idealize.ShloMosaic.ix2 r k) = projRow x0 x1 x2 ⟨ro + r.val, by omega⟩ k := by
  unfold projTab projRow
  rw [load_gain, load_proj, pay5_at]
  have e : ∀ d : Fin 1024, _ = _ := fun d => load_rows arg2 harg2 x0 ro inb r d (by omega)
  simp only [e]

/-- The latent keys and values of 256 rows of the block. -/
def latTab (ro : ℕ) (inb : ∀ a, (![0, ro, 0] : Fin 3 → ℕ) a + S1x256x1024.size a ≤ S1x512x1024.size a) : FVec Ideal S256x2048 .f32 :=
  k0_pay121 (F := Ideal) (projTab arg2 harg2 arg3 harg3 arg4 harg4 x0 x1 x2 ro inb)
    (View.readAt (Elt Ideal) arg8.view (Rect.unit (s := S1x256) ![0, 0] S1x256.size inb_S1x256_S1x256_0_0).toLoadRect (harg8.unread x6))
    (View.readAt (Elt Ideal) arg6.view (Rect.unit (s := S256x2048) ![0, 0] S256x2048.size inb_S256x2048_S256x2048_0_0).toLoadRect (harg6.unread x4))

theorem latTab_at (ro : ℕ) (inb : ∀ a, (![0, ro, 0] : Fin 3 → ℕ) a + S1x256x1024.size a ≤ S1x512x1024.size a) (hr : ro + 256 ≤ 512) (r : Fin 256) (k : Fin 2048) :
    latTab arg2 harg2 arg3 harg3 arg4 harg4 arg6 harg6 arg8 harg8 x0 x1 x2 x4 x6 ro inb (Idealize.ShloMosaic.ix2 r k) = latRow x0 x1 x2 x4 x6 ⟨ro + r.val, by omega⟩ k := by
  unfold latTab latRow
  rw [load_latgain, load_up, pay121_at]
  simp only [projTab_at arg2 harg2 arg3 harg3 arg4 harg4 x0 x1 x2 ro inb hr]

end Loads

/-- What a batch's first step writes of the first branch's values. -/
theorem out_va_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S384x1024 .bf16) (harg5 : arg5.IsWhole) (arg6 : Memref sig .tc .vmem S256x2048 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x256 .bf16) (harg13 : arg13.IsWhole) (arg14 : Memref sig .tc .vmem S128x1024 .bf16) (harg14 : arg14.IsWhole) (arg15 : Memref sig .tc .vmem S3x512x128 .f32) (harg15 : arg15.IsWhole) (arg16 : Memref sig .tc .vmem S3x512x128 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x512x1024 .bf16) (harg20 : arg20.IsWhole) (arg21 : Memref sig .tc .vmem S1x512x1024 .bf16) (harg21 : arg21.IsWhole) (arg22 : Memref sig .tc .vmem S1x512x1024 .bf16) (harg22 : arg22.IsWhole) (arg23 : Memref sig .tc .vmem S16x1024 .f32) (harg23 : arg23.IsWhole) (hc0 : cond0_0 i)
    (x0 : Vec Ideal S1x512x1024 .f32) (x1 : Vec Ideal S1x1024 .f32) (x2 : Vec Ideal S1024x3840 .bf16) (x3 : Vec Ideal S384x1024 .bf16) (x4 : Vec Ideal S256x2048 .bf16) (x5 : Vec Ideal S1x384 .f32) (x6 : Vec Ideal S1x256 .f32) (x7 : Vec Ideal S1x1024 .f32) (x8 : Vec Ideal S1x1024 .f32) (x9 : Vec Ideal S1x1024 .f32) (x10 : Vec Ideal S1x1024 .f32) (x11 : Vec Ideal S256x256 .bf16) (x12 : Vec Ideal S128x1024 .bf16) (x13 : Vec Ideal S3x512x128 .f32) (x14 : Vec Ideal S3x512x128 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 = heads 2048 (by decide) (fun s k => projRow x0 x1 x2 s k) := by
  unfold out0_A_17
  rw [View.read_writes_eq_canon _ _ _ (cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14)]
  refine Eq.trans (congrArg View.canon (?_ : _ = slotPieces 2048 (by decide) (projTab arg2 harg2 arg3 harg3 arg4 harg4 x0 x1 x2 0 inb_S1x512x1024_S1x256x1024_0_0_0) (projTab arg2 harg2 arg3 harg3 arg4 harg4 x0 x1 x2 256 inb_S1x512x1024_S1x256x1024_0_256_0))) (slotPieces_canon 2048 (by decide) _ _ _ (fun r k => projTab_at arg2 harg2 arg3 harg3 arg4 harg4 x0 x1 x2 0 _ (by decide) r k) (fun r k => projTab_at arg2 harg2 arg3 harg3 arg4 harg4 x0 x1 x2 256 _ (by decide) r k))
  rfl

/-- What a later step writes of the first branch's values. -/
theorem out_va_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S384x1024 .bf16) (harg5 : arg5.IsWhole) (arg6 : Memref sig .tc .vmem S256x2048 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x256 .bf16) (harg13 : arg13.IsWhole) (arg14 : Memref sig .tc .vmem S128x1024 .bf16) (harg14 : arg14.IsWhole) (arg15 : Memref sig .tc .vmem S3x512x128 .f32) (harg15 : arg15.IsWhole) (arg16 : Memref sig .tc .vmem S3x512x128 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x512x1024 .bf16) (harg20 : arg20.IsWhole) (arg21 : Memref sig .tc .vmem S1x512x1024 .bf16) (harg21 : arg21.IsWhole) (arg22 : Memref sig .tc .vmem S1x512x1024 .bf16) (harg22 : arg22.IsWhole) (arg23 : Memref sig .tc .vmem S16x1024 .f32) (harg23 : arg23.IsWhole) (hc0 : ¬cond0_0 i)
    (x0 : Vec Ideal S1x512x1024 .f32) (x1 : Vec Ideal S1x1024 .f32) (x2 : Vec Ideal S1024x3840 .bf16) (x3 : Vec Ideal S384x1024 .bf16) (x4 : Vec Ideal S256x2048 .bf16) (x5 : Vec Ideal S1x384 .f32) (x6 : Vec Ideal S1x256 .f32) (x7 : Vec Ideal S1x1024 .f32) (x8 : Vec Ideal S1x1024 .f32) (x9 : Vec Ideal S1x1024 .f32) (x10 : Vec Ideal S1x1024 .f32) (x11 : Vec Ideal S256x256 .bf16) (x12 : Vec Ideal S128x1024 .bf16) (x13 : Vec Ideal S3x512x128 .f32) (x14 : Vec Ideal S3x512x128 .f32) (xs0 : Vec Ideal S16x1024 .f32) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0 = heads 2048 (by decide) (fun s k => projRow x0 x1 x2 s k) := by
  unfold out0_B_17
  rw [View.read_writes_eq_canon _ _ _ (cover0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0)]
  refine Eq.trans (congrArg View.canon (?_ : _ = slotPieces 2048 (by decide) (projTab arg2 harg2 arg3 harg3 arg4 harg4 x0 x1 x2 0 inb_S1x512x1024_S1x256x1024_0_0_0) (projTab arg2 harg2 arg3 harg3 arg4 harg4 x0 x1 x2 256 inb_S1x512x1024_S1x256x1024_0_256_0))) (slotPieces_canon 2048 (by decide) _ _ _ (fun r k => projTab_at arg2 harg2 arg3 harg3 arg4 harg4 x0 x1 x2 0 _ (by decide) r k) (fun r k => projTab_at arg2 harg2 arg3 harg3 arg4 harg4 x0 x1 x2 256 _ (by decide) r k))
  rfl

/-- What a batch's first step writes of the second branch's values. -/
theorem out_vb_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S384x1024 .bf16) (harg5 : arg5.IsWhole) (arg6 : Memref sig .tc .vmem S256x2048 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x256 .bf16) (harg13 : arg13.IsWhole) (arg14 : Memref sig .tc .vmem S128x1024 .bf16) (harg14 : arg14.IsWhole) (arg15 : Memref sig .tc .vmem S3x512x128 .f32) (harg15 : arg15.IsWhole) (arg16 : Memref sig .tc .vmem S3x512x128 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x512x1024 .bf16) (harg20 : arg20.IsWhole) (arg21 : Memref sig .tc .vmem S1x512x1024 .bf16) (harg21 : arg21.IsWhole) (arg22 : Memref sig .tc .vmem S1x512x1024 .bf16) (harg22 : arg22.IsWhole) (arg23 : Memref sig .tc .vmem S16x1024 .f32) (harg23 : arg23.IsWhole) (hc0 : cond0_0 i)
    (x0 : Vec Ideal S1x512x1024 .f32) (x1 : Vec Ideal S1x1024 .f32) (x2 : Vec Ideal S1024x3840 .bf16) (x3 : Vec Ideal S384x1024 .bf16) (x4 : Vec Ideal S256x2048 .bf16) (x5 : Vec Ideal S1x384 .f32) (x6 : Vec Ideal S1x256 .f32) (x7 : Vec Ideal S1x1024 .f32) (x8 : Vec Ideal S1x1024 .f32) (x9 : Vec Ideal S1x1024 .f32) (x10 : Vec Ideal S1x1024 .f32) (x11 : Vec Ideal S256x256 .bf16) (x12 : Vec Ideal S128x1024 .bf16) (x13 : Vec Ideal S3x512x128 .f32) (x14 : Vec Ideal S3x512x128 .f32) :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 = heads 1024 (by decide) (fun s k => latRow x0 x1 x2 x4 x6 s k) := by
  unfold out0_A_20
  rw [View.read_writes_eq_canon _ _ _ (cover0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14)]
  refine Eq.trans (congrArg View.canon (?_ : _ = slotPieces 1024 (by decide) (latTab arg2 harg2 arg3 harg3 arg4 harg4 arg6 harg6 arg8 harg8 x0 x1 x2 x4 x6 0 inb_S1x512x1024_S1x256x1024_0_0_0) (latTab arg2 harg2 arg3 harg3 arg4 harg4 arg6 harg6 arg8 harg8 x0 x1 x2 x4 x6 256 inb_S1x512x1024_S1x256x1024_0_256_0))) (slotPieces_canon 1024 (by decide) _ _ _ (fun r k => latTab_at arg2 harg2 arg3 harg3 arg4 harg4 arg6 harg6 arg8 harg8 x0 x1 x2 x4 x6 0 _ (by decide) r k) (fun r k => latTab_at arg2 harg2 arg3 harg3 arg4 harg4 arg6 harg6 arg8 harg8 x0 x1 x2 x4 x6 256 _ (by decide) r k))
  rfl

/-- What a later step writes of the second branch's values. -/
theorem out_vb_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3840 .bf16) (harg4 : arg4.IsWhole) (arg5 : Memref sig .tc .vmem S384x1024 .bf16) (harg5 : arg5.IsWhole) (arg6 : Memref sig .tc .vmem S256x2048 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x256 .bf16) (harg13 : arg13.IsWhole) (arg14 : Memref sig .tc .vmem S128x1024 .bf16) (harg14 : arg14.IsWhole) (arg15 : Memref sig .tc .vmem S3x512x128 .f32) (harg15 : arg15.IsWhole) (arg16 : Memref sig .tc .vmem S3x512x128 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x512x1024 .bf16) (harg20 : arg20.IsWhole) (arg21 : Memref sig .tc .vmem S1x512x1024 .bf16) (harg21 : arg21.IsWhole) (arg22 : Memref sig .tc .vmem S1x512x1024 .bf16) (harg22 : arg22.IsWhole) (arg23 : Memref sig .tc .vmem S16x1024 .f32) (harg23 : arg23.IsWhole) (hc0 : ¬cond0_0 i)
    (x0 : Vec Ideal S1x512x1024 .f32) (x1 : Vec Ideal S1x1024 .f32) (x2 : Vec Ideal S1024x3840 .bf16) (x3 : Vec Ideal S384x1024 .bf16) (x4 : Vec Ideal S256x2048 .bf16) (x5 : Vec Ideal S1x384 .f32) (x6 : Vec Ideal S1x256 .f32) (x7 : Vec Ideal S1x1024 .f32) (x8 : Vec Ideal S1x1024 .f32) (x9 : Vec Ideal S1x1024 .f32) (x10 : Vec Ideal S1x1024 .f32) (x11 : Vec Ideal S256x256 .bf16) (x12 : Vec Ideal S128x1024 .bf16) (x13 : Vec Ideal S3x512x128 .f32) (x14 : Vec Ideal S3x512x128 .f32) (xs0 : Vec Ideal S16x1024 .f32) :
    out0_B_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0 = heads 1024 (by decide) (fun s k => latRow x0 x1 x2 x4 x6 s k) := by
  unfold out0_B_20
  rw [View.read_writes_eq_canon _ _ _ (cover0_B_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0)]
  refine Eq.trans (congrArg View.canon (?_ : _ = slotPieces 1024 (by decide) (latTab arg2 harg2 arg3 harg3 arg4 harg4 arg6 harg6 arg8 harg8 x0 x1 x2 x4 x6 0 inb_S1x512x1024_S1x256x1024_0_0_0) (latTab arg2 harg2 arg3 harg3 arg4 harg4 arg6 harg6 arg8 harg8 x0 x1 x2 x4 x6 256 inb_S1x512x1024_S1x256x1024_0_256_0))) (slotPieces_canon 1024 (by decide) _ _ _ (fun r k => latTab_at arg2 harg2 arg3 harg3 arg4 harg4 arg6 harg6 arg8 harg8 x0 x1 x2 x4 x6 0 _ (by decide) r k) (fun r k => latTab_at arg2 harg2 arg3 harg3 arg4 harg4 arg6 harg6 arg8 harg8 x0 x1 x2 x4 x6 256 _ (by decide) r k))
  rfl

end Cert.Prologue

end
-- ==== Proof.PrologueSteps.lean ====
/-
  What a step of the prologue's grid leaves in its two blocks of values, whether it is a batch's first step or a later one.
-/
module

public import proofs.«01_k».proof.Proof.PrologueBlock
public import proofs.«01_k».proof.Proof.Gen.Kernel6Ideal.Frame

@[expose] public section

noncomputable section

namespace Cert.Prologue

open Cert.Dense
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The first branch's values. -/
theorem step_va (t : Fin cfg0.N) : (outsAt0 m c t.val t.isLt).2.2.1 = heads 2048 (by decide) (fun s k => projRow (iblk m c 0 t) (iblk m c 1 t) (iblk m c 2 t) s k) := by
  by_cases h0 : t.val % 8 = 0
  · rw [outsAt0_A m c t h0]
    dsimp only
    exact out_va_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  · rw [outsAt0_B m c t h0]
    dsimp only
    exact out_va_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2

/-- The second branch's values. -/
theorem step_vb (t : Fin cfg0.N) : (outsAt0 m c t.val t.isLt).2.2.2.2.2.1 = heads 1024 (by decide) (fun s k => latRow (iblk m c 0 t) (iblk m c 1 t) (iblk m c 2 t) (iblk m c 4 t) (iblk m c 6 t) s k) := by
  by_cases h0 : t.val % 8 = 0
  · rw [outsAt0_A m c t h0]
    dsimp only
    exact out_vb_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  · rw [outsAt0_B m c t h0]
    dsimp only
    exact out_vb_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.2.2.2

end Cert.Prologue

end
-- ==== Proof.PrologueHost.lean ====
/-
  What the host computes before the prologue's call, at an index: the norms' gains as rows, and the columns of the two
  weights that the values read — a value head's columns at the head's place of its slot of 128, and the latent columns.
-/
module

public import proofs.«01_k».proof.Proof.ProloguePoint
public import proofs.«01_k».proof.Proof.Gen.Kernel6Ideal.Frame.Runs
public import Idealize.ShloMosaic.Lib.KernelVsHost
public import Idealize.ShloMosaic.Lib.StableHlo.Run

@[expose] public section

noncomputable section

namespace Cert.Prologue

open Cert.Kernel6Ideal Cert.Kernel6Ideal.Gen Idealize.ShloMosaic Idealize.ShloMosaic.TcCoe Idealize.SL.Sem

/-- Zeros. -/
def zeros1024 : FVec Ideal S1024x4x64 .f32 := broadcastInDim S1024x4x64 ![] bcast_S_S1024x4x64 (constant (F := Ideal) S_ .f32 0x00000000#32)
def zeros256 : FVec Ideal S256x4x64 .f32 := broadcastInDim S256x4x64 ![] bcast_S_S256x4x64 (constant (F := Ideal) S_ .f32 0x00000000#32)

/-- The weights of the value columns of `W`, each head's 64 columns at the head's place of its slot of 128. -/
def slotted (W : FVec Ideal S1024x512 .f32) (Z : FVec Ideal S1024x4x64 .f32) : FVec Ideal S1024x1024 .f32 :=
  shapeCast S1024x1024 (concatenate S1024x4x2x128 2
    [⟨S1024x4x1x128, broadcastInDim S1024x4x1x128 ![0, 1, 3] bcast_S1024x4x128_S1024x4x1x128_0_1_3 (concatenate S1024x4x128 2 [⟨S1024x4x64, shapeCast S1024x4x64 (extractStridedSlice S1024x4x1x64 ![0, 0, 0, 0] (shapeCast S1024x4x2x64 W shapeCasts_S1024x512_S1024x4x2x64) slices_S1024x4x2x64_S1024x4x1x64_0_0_0_0) shapeCasts_S1024x4x1x64_S1024x4x64⟩, ⟨S1024x4x64, Z⟩] concatenates_S1024x4x64_S1024x4x64_S1024x4x128_d2)⟩,
     ⟨S1024x4x1x128, broadcastInDim S1024x4x1x128 ![0, 1, 3] bcast_S1024x4x128_S1024x4x1x128_0_1_3 (concatenate S1024x4x128 2 [⟨S1024x4x64, Z⟩, ⟨S1024x4x64, shapeCast S1024x4x64 (extractStridedSlice S1024x4x1x64 ![0, 0, 1, 0] (shapeCast S1024x4x2x64 W shapeCasts_S1024x512_S1024x4x2x64) slices_S1024x4x2x64_S1024x4x1x64_0_0_1_0) shapeCasts_S1024x4x1x64_S1024x4x64⟩] concatenates_S1024x4x64_S1024x4x64_S1024x4x128_d2)⟩]
    concatenates_S1024x4x1x128_S1024x4x1x128_S1024x4x2x128_d2) shapeCasts_S1024x4x2x128_S1024x1024

/-- A head's column of the slotted weights is the head's column of the weights. -/
theorem slotted_at (W : FVec Ideal S1024x512 .f32) (Z : FVec Ideal S1024x4x64 .f32) (d : Fin 1024) (h : Fin 8) (j : Fin 64) :
    slotted W Z (Idealize.ShloMosaic.ix2 d ⟨128 * h.val + 64 * (h.val % 2) + j.val, by omega⟩) = W (Idealize.ShloMosaic.ix2 d ⟨64 * h.val + j.val, by omega⟩) := by
  have hh := h.isLt
  have hj := j.isLt
  unfold slotted
  refine (shapeCast_apply _ _ _ (Idealize.ShloMosaic.ix4 d ⟨h.val / 2, by omega⟩ ⟨h.val % 2, by omega⟩ ⟨64 * (h.val % 2) + j.val, by omega⟩ : S1024x4x2x128.Idx)
    (by rw [Shape.rowMajor_val_four, Shape.rowMajor_val_two]; show ((d.val * 4 + h.val / 2) * 2 + h.val % 2) * 128 + (64 * (h.val % 2) + j.val) = d.val * 1024 + (128 * h.val + 64 * (h.val % 2) + j.val); omega)).trans ?_
  have key : ∀ (p : Fin 2) (hp : p.val = h.val % 2) (hs : S1024x4x2x64.Slices ![0, 0, p.val, 0] S1024x4x1x64),
      shapeCast S1024x4x64 (extractStridedSlice S1024x4x1x64 ![0, 0, p.val, 0] (shapeCast S1024x4x2x64 W shapeCasts_S1024x512_S1024x4x2x64) hs) shapeCasts_S1024x4x1x64_S1024x4x64 (Idealize.ShloMosaic.ix3 d ⟨h.val / 2, by omega⟩ j)
        = W (Idealize.ShloMosaic.ix2 d ⟨64 * h.val + j.val, by omega⟩) := by
    intro p hp hs
    refine (shapeCast_apply _ _ _ (Idealize.ShloMosaic.ix4 d ⟨h.val / 2, by omega⟩ 0 j : S1024x4x1x64.Idx)
      (by rw [Shape.rowMajor_val_four, Shape.rowMajor_val_three]; show ((d.val * 4 + h.val / 2) * 1 + 0) * 64 + j.val = (d.val * 4 + h.val / 2) * 64 + j.val; omega)).trans ?_
    refine (extractStridedSlice_apply _ _ _ _ (Idealize.ShloMosaic.ix4 d ⟨h.val / 2, by omega⟩ p j : S1024x4x2x64.Idx) (fun a => by
      match a with
      | ⟨0, _⟩ => show d.val = 0 + d.val; omega
      | ⟨1, _⟩ => show h.val / 2 = 0 + h.val / 2; omega
      | ⟨2, _⟩ => show p.val = p.val + 0; omega
      | ⟨3, _⟩ => show j.val = 0 + j.val; omega)).trans ?_
    exact shapeCast_apply _ _ _ _ (by
      rw [Shape.rowMajor_val_two, Shape.rowMajor_val_four]
      show d.val * 512 + (64 * h.val + j.val) = ((d.val * 4 + h.val / 2) * 2 + p.val) * 64 + j.val; omega)
  rcases Nat.mod_two_eq_zero_or_one h.val with e | e
  · refine (concatenate_pair_apply_left (s₁ := S1024x4x1x128) (s₂ := S1024x4x1x128) (t := S1024x4x2x128) 2 _ _ _ _ rfl (Idealize.ShloMosaic.ix4 d ⟨h.val / 2, by omega⟩ 0 ⟨j.val, by omega⟩ : S1024x4x1x128.Idx) (fun a => by
      match a with
      | ⟨0, _⟩ => rfl
      | ⟨1, _⟩ => rfl
      | ⟨2, _⟩ => show 0 = h.val % 2; omega
      | ⟨3, _⟩ => show j.val = 64 * (h.val % 2) + j.val; omega)).trans ?_
    refine (broadcastInDim_apply _ _ _ _ (Idealize.ShloMosaic.ix3 d ⟨h.val / 2, by omega⟩ ⟨j.val, by omega⟩ : S1024x4x128.Idx) (fun a => by
      match a with
      | ⟨0, _⟩ => rfl
      | ⟨1, _⟩ => rfl
      | ⟨2, _⟩ => rfl)).trans ?_
    refine (concatenate_pair_apply_left (s₁ := S1024x4x64) (s₂ := S1024x4x64) (t := S1024x4x128) 2 _ _ _ _ rfl (Idealize.ShloMosaic.ix3 d ⟨h.val / 2, by omega⟩ j : S1024x4x64.Idx) (fun a => by
      match a with
      | ⟨0, _⟩ => rfl
      | ⟨1, _⟩ => rfl
      | ⟨2, _⟩ => rfl)).trans ?_
    exact key 0 e.symm _
  · refine (concatenate_pair_apply_right (s₁ := S1024x4x1x128) (s₂ := S1024x4x1x128) (t := S1024x4x2x128) 2 _ _ _ _ rfl rfl (Idealize.ShloMosaic.ix4 d ⟨h.val / 2, by omega⟩ 0 ⟨64 + j.val, by omega⟩ : S1024x4x1x128.Idx) (fun a ha => by
      match a with
      | ⟨0, _⟩ => rfl
      | ⟨1, _⟩ => rfl
      | ⟨2, _⟩ => exact absurd rfl ha
      | ⟨3, _⟩ => show 64 + j.val = 64 * (h.val % 2) + j.val; omega) (by show 0 + 1 = h.val % 2; omega)).trans ?_
    refine (broadcastInDim_apply _ _ _ _ (Idealize.ShloMosaic.ix3 d ⟨h.val / 2, by omega⟩ ⟨64 + j.val, by omega⟩ : S1024x4x128.Idx) (fun a => by
      match a with
      | ⟨0, _⟩ => rfl
      | ⟨1, _⟩ => rfl
      | ⟨2, _⟩ => rfl)).trans ?_
    refine (concatenate_pair_apply_right (s₁ := S1024x4x64) (s₂ := S1024x4x64) (t := S1024x4x128) 2 _ _ _ _ rfl rfl (Idealize.ShloMosaic.ix3 d ⟨h.val / 2, by omega⟩ j : S1024x4x64.Idx) (fun a ha => by
      match a with
      | ⟨0, _⟩ => rfl
      | ⟨1, _⟩ => rfl
      | ⟨2, _⟩ => exact absurd rfl ha) (by show j.val + 64 = 64 + j.val; omega)).trans ?_
    exact key 1 e.symm _

/-- The weights of the value columns of `W`, each head's 64 columns at the head's place of its slot of 128. -/
def slottedUp (W : FVec Ideal S256x512 .f32) (Z : FVec Ideal S256x4x64 .f32) : FVec Ideal S256x1024 .f32 :=
  shapeCast S256x1024 (concatenate S256x4x2x128 2
    [⟨S256x4x1x128, broadcastInDim S256x4x1x128 ![0, 1, 3] bcast_S256x4x128_S256x4x1x128_0_1_3 (concatenate S256x4x128 2 [⟨S256x4x64, shapeCast S256x4x64 (extractStridedSlice S256x4x1x64 ![0, 0, 0, 0] (shapeCast S256x4x2x64 W shapeCasts_S256x512_S256x4x2x64) slices_S256x4x2x64_S256x4x1x64_0_0_0_0) shapeCasts_S256x4x1x64_S256x4x64⟩, ⟨S256x4x64, Z⟩] concatenates_S256x4x64_S256x4x64_S256x4x128_d2)⟩,
     ⟨S256x4x1x128, broadcastInDim S256x4x1x128 ![0, 1, 3] bcast_S256x4x128_S256x4x1x128_0_1_3 (concatenate S256x4x128 2 [⟨S256x4x64, Z⟩, ⟨S256x4x64, shapeCast S256x4x64 (extractStridedSlice S256x4x1x64 ![0, 0, 1, 0] (shapeCast S256x4x2x64 W shapeCasts_S256x512_S256x4x2x64) slices_S256x4x2x64_S256x4x1x64_0_0_1_0) shapeCasts_S256x4x1x64_S256x4x64⟩] concatenates_S256x4x64_S256x4x64_S256x4x128_d2)⟩]
    concatenates_S256x4x1x128_S256x4x1x128_S256x4x2x128_d2) shapeCasts_S256x4x2x128_S256x1024

/-- A head's column of the slotted weights is the head's column of the weights. -/
theorem slottedUp_at (W : FVec Ideal S256x512 .f32) (Z : FVec Ideal S256x4x64 .f32) (d : Fin 256) (h : Fin 8) (j : Fin 64) :
    slottedUp W Z (Idealize.ShloMosaic.ix2 d ⟨128 * h.val + 64 * (h.val % 2) + j.val, by omega⟩) = W (Idealize.ShloMosaic.ix2 d ⟨64 * h.val + j.val, by omega⟩) := by
  have hh := h.isLt
  have hj := j.isLt
  unfold slottedUp
  refine (shapeCast_apply _ _ _ (Idealize.ShloMosaic.ix4 d ⟨h.val / 2, by omega⟩ ⟨h.val % 2, by omega⟩ ⟨64 * (h.val % 2) + j.val, by omega⟩ : S256x4x2x128.Idx)
    (by rw [Shape.rowMajor_val_four, Shape.rowMajor_val_two]; show ((d.val * 4 + h.val / 2) * 2 + h.val % 2) * 128 + (64 * (h.val % 2) + j.val) = d.val * 1024 + (128 * h.val + 64 * (h.val % 2) + j.val); omega)).trans ?_
  have key : ∀ (p : Fin 2) (hp : p.val = h.val % 2) (hs : S256x4x2x64.Slices ![0, 0, p.val, 0] S256x4x1x64),
      shapeCast S256x4x64 (extractStridedSlice S256x4x1x64 ![0, 0, p.val, 0] (shapeCast S256x4x2x64 W shapeCasts_S256x512_S256x4x2x64) hs) shapeCasts_S256x4x1x64_S256x4x64 (Idealize.ShloMosaic.ix3 d ⟨h.val / 2, by omega⟩ j)
        = W (Idealize.ShloMosaic.ix2 d ⟨64 * h.val + j.val, by omega⟩) := by
    intro p hp hs
    refine (shapeCast_apply _ _ _ (Idealize.ShloMosaic.ix4 d ⟨h.val / 2, by omega⟩ 0 j : S256x4x1x64.Idx)
      (by rw [Shape.rowMajor_val_four, Shape.rowMajor_val_three]; show ((d.val * 4 + h.val / 2) * 1 + 0) * 64 + j.val = (d.val * 4 + h.val / 2) * 64 + j.val; omega)).trans ?_
    refine (extractStridedSlice_apply _ _ _ _ (Idealize.ShloMosaic.ix4 d ⟨h.val / 2, by omega⟩ p j : S256x4x2x64.Idx) (fun a => by
      match a with
      | ⟨0, _⟩ => show d.val = 0 + d.val; omega
      | ⟨1, _⟩ => show h.val / 2 = 0 + h.val / 2; omega
      | ⟨2, _⟩ => show p.val = p.val + 0; omega
      | ⟨3, _⟩ => show j.val = 0 + j.val; omega)).trans ?_
    exact shapeCast_apply _ _ _ _ (by
      rw [Shape.rowMajor_val_two, Shape.rowMajor_val_four]
      show d.val * 512 + (64 * h.val + j.val) = ((d.val * 4 + h.val / 2) * 2 + p.val) * 64 + j.val; omega)
  rcases Nat.mod_two_eq_zero_or_one h.val with e | e
  · refine (concatenate_pair_apply_left (s₁ := S256x4x1x128) (s₂ := S256x4x1x128) (t := S256x4x2x128) 2 _ _ _ _ rfl (Idealize.ShloMosaic.ix4 d ⟨h.val / 2, by omega⟩ 0 ⟨j.val, by omega⟩ : S256x4x1x128.Idx) (fun a => by
      match a with
      | ⟨0, _⟩ => rfl
      | ⟨1, _⟩ => rfl
      | ⟨2, _⟩ => show 0 = h.val % 2; omega
      | ⟨3, _⟩ => show j.val = 64 * (h.val % 2) + j.val; omega)).trans ?_
    refine (broadcastInDim_apply _ _ _ _ (Idealize.ShloMosaic.ix3 d ⟨h.val / 2, by omega⟩ ⟨j.val, by omega⟩ : S256x4x128.Idx) (fun a => by
      match a with
      | ⟨0, _⟩ => rfl
      | ⟨1, _⟩ => rfl
      | ⟨2, _⟩ => rfl)).trans ?_
    refine (concatenate_pair_apply_left (s₁ := S256x4x64) (s₂ := S256x4x64) (t := S256x4x128) 2 _ _ _ _ rfl (Idealize.ShloMosaic.ix3 d ⟨h.val / 2, by omega⟩ j : S256x4x64.Idx) (fun a => by
      match a with
      | ⟨0, _⟩ => rfl
      | ⟨1, _⟩ => rfl
      | ⟨2, _⟩ => rfl)).trans ?_
    exact key 0 e.symm _
  · refine (concatenate_pair_apply_right (s₁ := S256x4x1x128) (s₂ := S256x4x1x128) (t := S256x4x2x128) 2 _ _ _ _ rfl rfl (Idealize.ShloMosaic.ix4 d ⟨h.val / 2, by omega⟩ 0 ⟨64 + j.val, by omega⟩ : S256x4x1x128.Idx) (fun a ha => by
      match a with
      | ⟨0, _⟩ => rfl
      | ⟨1, _⟩ => rfl
      | ⟨2, _⟩ => exact absurd rfl ha
      | ⟨3, _⟩ => show 64 + j.val = 64 * (h.val % 2) + j.val; omega) (by show 0 + 1 = h.val % 2; omega)).trans ?_
    refine (broadcastInDim_apply _ _ _ _ (Idealize.ShloMosaic.ix3 d ⟨h.val / 2, by omega⟩ ⟨64 + j.val, by omega⟩ : S256x4x128.Idx) (fun a => by
      match a with
      | ⟨0, _⟩ => rfl
      | ⟨1, _⟩ => rfl
      | ⟨2, _⟩ => rfl)).trans ?_
    refine (concatenate_pair_apply_right (s₁ := S256x4x64) (s₂ := S256x4x64) (t := S256x4x128) 2 _ _ _ _ rfl rfl (Idealize.ShloMosaic.ix3 d ⟨h.val / 2, by omega⟩ j : S256x4x64.Idx) (fun a ha => by
      match a with
      | ⟨0, _⟩ => rfl
      | ⟨1, _⟩ => rfl
      | ⟨2, _⟩ => exact absurd rfl ha) (by show j.val + 64 = 64 + j.val; omega)).trans ?_
    exact key 1 e.symm _

variable (m : (ℓ : Loc nD τ sig) → Buf (Elt Ideal) ℓ) (c : Dev nD)

/-- The arguments that a device holds. -/
abbrev argX : FVec Ideal S8x4096x1024 .f32 := m ((c : Thread nD τ).loc main_arg0)
abbrev argG : FVec Ideal S1024 .f32 := m ((c : Thread nD τ).loc main_arg1)
abbrev argIn : FVec Ideal S1024x4256 .f32 := m ((c : Thread nD τ).loc main_arg2)
abbrev argL : FVec Ideal S256 .f32 := m ((c : Thread nD τ).loc main_arg7)
abbrev argUp : FVec Ideal S256x1024 .f32 := m ((c : Thread nD τ).loc main_arg8)

set_option maxHeartbeats 1600000 in
/-- The gains, as one row. -/
theorem V_g (k : Fin 1024) : (V m c main_v47 : S1x1024.Idx → EReal) (Idealize.ShloMosaic.ix2 0 k) = argG m c (Idealize.ShloMosaic.ix1 k) := by
  have e : (V m c main_v47 : S1x1024.Idx → EReal) = shapeCast S1x1024 (argG m c) shapeCasts_S1024_S1x1024 := by
    simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append,
      StableHlo.TRef.ternary, StableHlo.TRef.binary, StableHlo.TRef.unary, StableHlo.TRef.toBuf, StableHlo.TRef.ofBuf, cast_eq]
    after_results_simp
    rfl
  rw [e]
  exact shapeCast_apply _ _ _ _ (by rw [Shape.rowMajor_val_one, Shape.rowMajor_val_two]; show k.val = 0 * 1024 + k.val; omega)

set_option maxHeartbeats 1600000 in
/-- The latent gains, as one row. -/
theorem V_l (k : Fin 256) : (V m c main_v55 : S1x256.Idx → EReal) (Idealize.ShloMosaic.ix2 0 k) = argL m c (Idealize.ShloMosaic.ix1 k) := by
  have e : (V m c main_v55 : S1x256.Idx → EReal) = shapeCast S1x256 (argL m c) shapeCasts_S256_S1x256 := by
    simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append,
      StableHlo.TRef.ternary, StableHlo.TRef.binary, StableHlo.TRef.unary, StableHlo.TRef.toBuf, StableHlo.TRef.ofBuf, cast_eq]
    after_results_simp
    rfl
  rw [e]
  exact shapeCast_apply _ _ _ _ (by rw [Shape.rowMajor_val_one, Shape.rowMajor_val_two]; show k.val = 0 * 256 + k.val; omega)

set_option maxHeartbeats 3200000 in
/-- The projection's weights: six groups of columns, the third the slotted values, the fifth the latent columns. -/
theorem V_proj : ∃ (A B : FVec Ideal S1024x1024 .f32) (C : FVec Ideal S1024x384 .f32) (D : FVec Ideal S1024x128 .f32),
    (V m c main_v48 : S1024x3840.Idx → EReal) = concatenate S1024x3840 1 [⟨S1024x1024, A⟩, ⟨S1024x1024, B⟩, ⟨S1024x1024, slotted (extractStridedSlice S1024x512 ![0, 1024] (argIn m c) slices_S1024x4256_S1024x512_0_1024) zeros1024⟩, ⟨S1024x384, C⟩,
      ⟨S1024x256, extractStridedSlice S1024x256 ![0, 1920] (argIn m c) slices_S1024x4256_S1024x256_0_1920⟩, ⟨S1024x128, D⟩] concatenates_S1024x1024_S1024x1024_S1024x1024_S1024x384_S1024x256_S1024x128_S1024x3840_d1 := by
  refine ⟨?_, ?_, ?_, ?_, ?_⟩
  rotate_left 4
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

/-- A value head's column of the projection's weights. -/
theorem V_proj_value (d : Fin 1024) (h : Fin 8) (j : Fin 64) :
    (V m c main_v48 : S1024x3840.Idx → EReal) (Idealize.ShloMosaic.ix2 d ⟨2048 + (128 * h.val + 64 * (h.val % 2) + j.val), by omega⟩) = argIn m c (Idealize.ShloMosaic.ix2 d ⟨1024 + (64 * h.val + j.val), by omega⟩) := by
  obtain ⟨A, B, C, D, e⟩ := V_proj m c
  rw [e]
  refine (concatenate_apply_piece (1 : Fin S1024x3840.rank) _ _ _ 2 (by show 2 < 6; decide) S1024x1024 _ rfl rfl 2048 rfl (Idealize.ShloMosaic.ix2 d ⟨128 * h.val + 64 * (h.val % 2) + j.val, by omega⟩ : S1024x1024.Idx) (fun a ha => by
    match a with
    | ⟨0, _⟩ => rfl
    | ⟨1, _⟩ => exact absurd rfl ha) rfl).trans ?_
  rw [slotted_at]
  exact extractStridedSlice_apply _ _ _ _ _ (fun a => by
    match a with
    | ⟨0, _⟩ => show d.val = 0 + d.val; omega
    | ⟨1, _⟩ => rfl)

/-- A latent column of the projection's weights. -/
theorem V_proj_latent (d : Fin 1024) (e : Fin 256) :
    (V m c main_v48 : S1024x3840.Idx → EReal) (Idealize.ShloMosaic.ix2 d ⟨3456 + e.val, by omega⟩) = argIn m c (Idealize.ShloMosaic.ix2 d ⟨1920 + e.val, by omega⟩) := by
  obtain ⟨A, B, C, D, h⟩ := V_proj m c
  rw [h]
  refine (concatenate_apply_piece (1 : Fin S1024x3840.rank) _ _ _ 4 (by show 4 < 6; decide) S1024x256 _ rfl rfl 3456 rfl (Idealize.ShloMosaic.ix2 d e : S1024x256.Idx) (fun a ha => by
    match a with
    | ⟨0, _⟩ => rfl
    | ⟨1, _⟩ => exact absurd rfl ha) rfl).trans ?_
  exact extractStridedSlice_apply _ _ _ _ _ (fun a => by
    match a with
    | ⟨0, _⟩ => show d.val = 0 + d.val; omega
    | ⟨1, _⟩ => rfl)

set_option maxHeartbeats 3200000 in
/-- The latent rows' weights: the keys' columns, then the slotted values. -/
theorem V_up : ∃ (A : FVec Ideal S256x1024 .f32),
    (V m c main_v53 : S256x2048.Idx → EReal) = concatenate S256x2048 1 [⟨S256x1024, A⟩, ⟨S256x1024, slottedUp (shapeCast S256x512 (extractStridedSlice S256x8x64 ![0, 0, 64] (shapeCast S256x8x128 (argUp m c) shapeCasts_S256x1024_S256x8x128) slices_S256x8x128_S256x8x64_0_0_64) shapeCasts_S256x8x64_S256x512) zeros256⟩]
      concatenates_S256x1024_S256x1024_S256x2048_d1 := by
  refine ⟨?_, ?_⟩
  rotate_left
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp
  rfl

/-- A value head's column of the latent rows' weights. -/
theorem V_up_value (d : Fin 256) (h : Fin 8) (j : Fin 64) :
    (V m c main_v53 : S256x2048.Idx → EReal) (Idealize.ShloMosaic.ix2 d ⟨1024 + (128 * h.val + 64 * (h.val % 2) + j.val), by omega⟩) = argUp m c (Idealize.ShloMosaic.ix2 d ⟨128 * h.val + (64 + j.val), by omega⟩) := by
  obtain ⟨A, e⟩ := V_up m c
  have hh := h.isLt
  have hj := j.isLt
  rw [e]
  refine (concatenate_pair_apply_right (s₁ := S256x1024) (s₂ := S256x1024) (t := S256x2048) 1 _ _ _ _ rfl rfl (Idealize.ShloMosaic.ix2 d ⟨128 * h.val + 64 * (h.val % 2) + j.val, by omega⟩ : S256x1024.Idx) (fun a ha => by
    match a with
    | ⟨0, _⟩ => rfl
    | ⟨1, _⟩ => exact absurd rfl ha) (by show (128 * h.val + 64 * (h.val % 2) + j.val) + 1024 = 1024 + (128 * h.val + 64 * (h.val % 2) + j.val); omega)).trans ?_
  rw [slottedUp_at]
  refine (shapeCast_apply _ _ _ (Idealize.ShloMosaic.ix3 d h j : S256x8x64.Idx) (by rw [Shape.rowMajor_val_three, Shape.rowMajor_val_two]; show (d.val * 8 + h.val) * 64 + j.val = d.val * 512 + (64 * h.val + j.val); omega)).trans ?_
  refine (extractStridedSlice_apply _ _ _ _ (Idealize.ShloMosaic.ix3 d h ⟨64 + j.val, by omega⟩ : S256x8x128.Idx) (fun a => by
    match a with
    | ⟨0, _⟩ => show d.val = 0 + d.val; omega
    | ⟨1, _⟩ => show h.val = 0 + h.val; omega
    | ⟨2, _⟩ => rfl)).trans ?_
  exact shapeCast_apply _ _ _ _ (by rw [Shape.rowMajor_val_three, Shape.rowMajor_val_two]; show d.val * 1024 + (128 * h.val + (64 + j.val)) = (d.val * 8 + h.val) * 128 + (64 + j.val); omega)

end Cert.Prologue

end
-- ==== Proof.PrologueArray.lean ====
/-
  The prologue's two arrays of values after the run, at a value's column of its slot, and the two results that the host
  reads from them, from the arguments.
-/
module

public import proofs.«01_k».proof.Proof.PrologueSteps
public import proofs.«01_k».proof.Proof.PrologueHost

@[expose] public section

noncomputable section

namespace Cert.Prologue

open Cert.Dense
open Cert.Kernel6Ideal Cert.Kernel6Ideal.Gen Idealize.ShloMosaic Idealize.ShloMosaic.TcCoe Idealize.SL.Sem

/-- The projection of row `s` of batch `b`, at column `k`. -/
def projAt (X : S8x4096x1024.Idx → EReal) (G : S1024.Idx → EReal) (W : S1024x4256.Idx → EReal) (b : Fin 8) (s : Fin 4096) (k : Fin 4256) : EReal :=
  normDot (fun e => X (Idealize.ShloMosaic.ix3 b s e)) (fun e => G (Idealize.ShloMosaic.ix1 e)) (fun d j => W (Idealize.ShloMosaic.ix2 d j)) k

/-- The latent keys and values of row `s` of batch `b`, at column `k`. -/
def latAt (X : S8x4096x1024.Idx → EReal) (G : S1024.Idx → EReal) (W : S1024x4256.Idx → EReal) (L : S256.Idx → EReal) (U : S256x1024.Idx → EReal)
    (b : Fin 8) (s : Fin 4096) (k : Fin 1024) : EReal :=
  latentDot (fun e => projAt X G W b s ⟨1920 + e.val, by omega⟩) (fun e => L (Idealize.ShloMosaic.ix1 e)) (fun d j => U (Idealize.ShloMosaic.ix2 d j)) k

/-! ## The host's reading of the values after the call -/

/-- The heads' values, out of their slots of 128 columns: the first 64 of an even head's slot, the last 64 of an odd head's. -/
def values (y : FVec Ideal S8x4096x1024 .bf16) : FVec Ideal S8x8x4096x64 .f32 :=
  extf .f32 (transpose S8x8x4096x64 [0, 2, 1, 3] (shapeCast S8x4096x8x64 (concatenate S8x4096x4x2x64 3
    [⟨S8x4096x4x1x64, extractStridedSlice S8x4096x4x1x64 ![0, 0, 0, 0, 0] (shapeCast S8x4096x4x2x128 y shapeCasts_S8x4096x1024_S8x4096x4x2x128) slices_S8x4096x4x2x128_S8x4096x4x1x64_0_0_0_0_0⟩,
     ⟨S8x4096x4x1x64, extractStridedSlice S8x4096x4x1x64 ![0, 0, 0, 1, 64] (shapeCast S8x4096x4x2x128 y shapeCasts_S8x4096x1024_S8x4096x4x2x128) slices_S8x4096x4x2x128_S8x4096x4x1x64_0_0_0_1_64⟩]
    concatenates_S8x4096x4x1x64_S8x4096x4x1x64_S8x4096x4x2x64_d3) shapeCasts_S8x4096x4x2x64_S8x4096x8x64) transposes_S8x4096x8x64_S8x8x4096x64_0_2_1_3) bitsLt_bf16_f32

theorem values_at (y : FVec Ideal S8x4096x1024 .bf16) (b h : Fin 8) (s : Fin 4096) (j : Fin 64) :
    values y (Idealize.ShloMosaic.ix4 b h s j) = y (Idealize.ShloMosaic.ix3 b s ⟨128 * h.val + 64 * (h.val % 2) + j.val, by omega⟩) := by
  have hh := h.isLt
  have hj := j.isLt
  have w : ∀ (z : FVec Ideal S8x8x4096x64 .bf16) (i : S8x8x4096x64.Idx), extf .f32 z bitsLt_bf16_f32 i = z i := fun _ _ => rfl
  unfold values
  rw [w]
  refine (transpose_apply (s := S8x4096x8x64) (t := S8x8x4096x64) [0, 2, 1, 3] _ transposes_S8x4096x8x64_S8x8x4096x64_0_2_1_3 (Idealize.ShloMosaic.ix4 b h s j) (Idealize.ShloMosaic.ix4 b s h j) (fun a => match a with
    | ⟨0, _⟩ => rfl
    | ⟨1, _⟩ => rfl
    | ⟨2, _⟩ => rfl
    | ⟨3, _⟩ => rfl)).trans ?_
  refine (shapeCast_apply _ _ _ (Idealize.ShloMosaic.ix5 b s ⟨h.val / 2, by omega⟩ ⟨h.val % 2, by omega⟩ j : S8x4096x4x2x64.Idx) (by
    rw [Shape.rowMajor_val_five, Shape.rowMajor_val_four]
    show (((b.val * 4096 + s.val) * 4 + h.val / 2) * 2 + h.val % 2) * 64 + j.val = ((b.val * 4096 + s.val) * 8 + h.val) * 64 + j.val; omega)).trans ?_
  rcases Nat.mod_two_eq_zero_or_one h.val with e | e
  · refine (concatenate_pair_apply_left (s₁ := S8x4096x4x1x64) (s₂ := S8x4096x4x1x64) (t := S8x4096x4x2x64) 3 _ _ _ _ rfl (Idealize.ShloMosaic.ix5 b s ⟨h.val / 2, by omega⟩ 0 j : S8x4096x4x1x64.Idx) (fun a => by
      match a with
      | ⟨0, _⟩ => rfl
      | ⟨1, _⟩ => rfl
      | ⟨2, _⟩ => rfl
      | ⟨3, _⟩ => show 0 = h.val % 2; omega
      | ⟨4, _⟩ => rfl)).trans ?_
    refine (extractStridedSlice_apply _ _ _ _ (Idealize.ShloMosaic.ix5 b s ⟨h.val / 2, by omega⟩ 0 ⟨j.val, by omega⟩ : S8x4096x4x2x128.Idx) (fun a => by
      match a with
      | ⟨0, _⟩ => show b.val = 0 + b.val; omega
      | ⟨1, _⟩ => show s.val = 0 + s.val; omega
      | ⟨2, _⟩ => show h.val / 2 = 0 + h.val / 2; omega
      | ⟨3, _⟩ => rfl
      | ⟨4, _⟩ => show j.val = 0 + j.val; omega)).trans ?_
    exact shapeCast_apply _ _ _ _ (by
      rw [Shape.rowMajor_val_five, Shape.rowMajor_val_three]
      show (b.val * 4096 + s.val) * 1024 + (128 * h.val + 64 * (h.val % 2) + j.val) = (((b.val * 4096 + s.val) * 4 + h.val / 2) * 2 + 0) * 128 + j.val; omega)
  · refine (concatenate_pair_apply_right (s₁ := S8x4096x4x1x64) (s₂ := S8x4096x4x1x64) (t := S8x4096x4x2x64) 3 _ _ _ _ rfl rfl (Idealize.ShloMosaic.ix5 b s ⟨h.val / 2, by omega⟩ 0 j : S8x4096x4x1x64.Idx) (fun a ha => by
      match a with
      | ⟨0, _⟩ => rfl
      | ⟨1, _⟩ => rfl
      | ⟨2, _⟩ => rfl
      | ⟨3, _⟩ => exact absurd rfl ha
      | ⟨4, _⟩ => rfl) (by show 0 + 1 = h.val % 2; omega)).trans ?_
    refine (extractStridedSlice_apply _ _ _ _ (Idealize.ShloMosaic.ix5 b s ⟨h.val / 2, by omega⟩ 1 ⟨64 + j.val, by omega⟩ : S8x4096x4x2x128.Idx) (fun a => by
      match a with
      | ⟨0, _⟩ => show b.val = 0 + b.val; omega
      | ⟨1, _⟩ => show s.val = 0 + s.val; omega
      | ⟨2, _⟩ => show h.val / 2 = 0 + h.val / 2; omega
      | ⟨3, _⟩ => rfl
      | ⟨4, _⟩ => rfl)).trans ?_
    exact shapeCast_apply _ _ _ _ (by
      rw [Shape.rowMajor_val_five, Shape.rowMajor_val_three]
      show (b.val * 4096 + s.val) * 1024 + (128 * h.val + 64 * (h.val % 2) + j.val) = (((b.val * 4096 + s.val) * 4 + h.val / 2) * 2 + 1) * 128 + (64 + j.val); omega)

/-- The operations after the call leave the two results as the values read from the call's arrays. -/
theorem after_va (W : Valuation τ sig (Elt Ideal)) :
    StableHlo.after (List.flatten [hostOps1]) W (Proc.devRef .tc main_v153) = values (W (Proc.devRef .tc main_v146_2)) := by
  simp only [hostOps1, List.flatten_cons, List.flatten_nil, List.append_nil, List.cons_append, List.nil_append]
  after_results_simp
  rfl

theorem after_vb (W : Valuation τ sig (Elt Ideal)) :
    StableHlo.after (List.flatten [hostOps1]) W (Proc.devRef .tc main_v160) = values (W (Proc.devRef .tc main_v146_5)) := by
  simp only [hostOps1, List.flatten_cons, List.flatten_nil, List.append_nil, List.cons_append, List.nil_append]
  after_results_simp
  rfl

/-! ## The call's arrays -/

variable (m : (ℓ : Loc nD τ sig) → Buf (Elt Ideal) ℓ) (c : Dev nD)

/-- Which block each window holds at a step: the step's tile of rows of a batch, and the whole of the weights. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0) ∧ (win0_2.index t (0 : Fin 2) = 0 ∧ win0_2.index t (1 : Fin 2) = 0)
    ∧ (win0_4.index t (0 : Fin 2) = 0 ∧ win0_4.index t (1 : Fin 2) = 0) ∧ (win0_6.index t (0 : Fin 2) = 0 ∧ win0_6.index t (1 : Fin 2) = 0)
    ∧ (win0_17.index t (0 : Fin 3) = t.val / 8 ∧ win0_17.index t (1 : Fin 3) = t.val % 8 ∧ win0_17.index t (2 : Fin 3) = 0)
    ∧ (win0_20.index t (0 : Fin 3) = t.val / 8 ∧ win0_20.index t (1 : Fin 3) = t.val % 8 ∧ win0_20.index t (2 : Fin 3) = 0) :=
  (by decide +kernel : ∀ t : Fin grid0.N, _)

/-- Step `t`'s batch, and row `r` of its tile. -/
def batchOf (t : Fin cfg0.N) : Fin 8 :=
  ⟨t.val / 8, by
    have hN : cfg0.N = 64 := by decide
    have := t.isLt
    omega⟩
def tileRow (t : Fin cfg0.N) (r : Fin 512) : Fin 4096 := ⟨t.val % 8 * 512 + r.val, by omega⟩

theorem blk0 (t : Fin cfg0.N) (r : Fin 512) (e : Fin 1024) : (iblk m c 0 t : S1x512x1024.Idx → EReal) (Idealize.ShloMosaic.ix3 0 r e) = argX m c (Idealize.ShloMosaic.ix3 (batchOf t) (tileRow t r) e) := by
  have h : ((cfg0.win 0).blk t).view.emb (Idealize.ShloMosaic.ix3 0 r e : S1x512x1024.Idx) = (Idealize.ShloMosaic.ix3 (batchOf t) (tileRow t r) e : S8x4096x1024.Idx) := by
    obtain ⟨⟨e0, e1, e2⟩, _⟩ := idx_facts t
    funext a; apply Fin.ext
    match a with
    | ⟨0, _⟩ => show win0_0.index t (0 : Fin 3) * 1 + 1 * 0 = t.val / 8; omega
    | ⟨1, _⟩ => show win0_0.index t (1 : Fin 3) * 512 + 1 * r.val = t.val % 8 * 512 + r.val; omega
    | ⟨2, _⟩ => show win0_0.index t (2 : Fin 3) * 1024 + 1 * e.val = e.val; omega
  unfold iblk
  exact (((View.read_apply (Val := Elt Ideal) _ _).trans (cast_eq _ _)).trans (congrArg (V m c main_arg0) h)).trans (congrFun (V_main_arg0 m c) _)

theorem blk1 (t : Fin cfg0.N) (k : Fin 1024) : (iblk m c 1 t : S1x1024.Idx → EReal) (Idealize.ShloMosaic.ix2 0 k) = (V m c main_v47 : S1x1024.Idx → EReal) (Idealize.ShloMosaic.ix2 0 k) := by
  have h : ((cfg0.win 1).blk t).view.emb (Idealize.ShloMosaic.ix2 0 k : S1x1024.Idx) = (Idealize.ShloMosaic.ix2 0 k : S1x1024.Idx) := by
    obtain ⟨_, ⟨e0, e1⟩, _⟩ := idx_facts t
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  unfold iblk
  exact ((View.read_apply (Val := Elt Ideal) _ _).trans (cast_eq _ _)).trans (congrArg (V m c main_v47) h)

theorem blk2 (t : Fin cfg0.N) (d : Fin 1024) (k : Fin 3840) : (iblk m c 2 t : S1024x3840.Idx → EReal) (Idealize.ShloMosaic.ix2 d k) = (V m c main_v48 : S1024x3840.Idx → EReal) (Idealize.ShloMosaic.ix2 d k) := by
  have h : ((cfg0.win 2).blk t).view.emb (Idealize.ShloMosaic.ix2 d k : S1024x3840.Idx) = (Idealize.ShloMosaic.ix2 d k : S1024x3840.Idx) := by
    obtain ⟨_, _, ⟨e0, e1⟩, _⟩ := idx_facts t
    funext a; apply Fin.ext
    match a with
    | ⟨0, _⟩ => show win0_2.index t (0 : Fin 2) * 1024 + 1 * d.val = d.val; omega
    | ⟨1, _⟩ => show win0_2.index t (1 : Fin 2) * 3840 + 1 * k.val = k.val; omega
  unfold iblk
  exact ((View.read_apply (Val := Elt Ideal) _ _).trans (cast_eq _ _)).trans (congrArg (V m c main_v48) h)

theorem blk4 (t : Fin cfg0.N) (d : Fin 256) (k : Fin 2048) : (iblk m c 4 t : S256x2048.Idx → EReal) (Idealize.ShloMosaic.ix2 d k) = (V m c main_v53 : S256x2048.Idx → EReal) (Idealize.ShloMosaic.ix2 d k) := by
  have h : ((cfg0.win 4).blk t).view.emb (Idealize.ShloMosaic.ix2 d k : S256x2048.Idx) = (Idealize.ShloMosaic.ix2 d k : S256x2048.Idx) := by
    obtain ⟨_, _, _, ⟨e0, e1⟩, _⟩ := idx_facts t
    funext a; apply Fin.ext
    match a with
    | ⟨0, _⟩ => show win0_4.index t (0 : Fin 2) * 256 + 1 * d.val = d.val; omega
    | ⟨1, _⟩ => show win0_4.index t (1 : Fin 2) * 2048 + 1 * k.val = k.val; omega
  unfold iblk
  exact ((View.read_apply (Val := Elt Ideal) _ _).trans (cast_eq _ _)).trans (congrArg (V m c main_v53) h)

theorem blk6 (t : Fin cfg0.N) (k : Fin 256) : (iblk m c 6 t : S1x256.Idx → EReal) (Idealize.ShloMosaic.ix2 0 k) = (V m c main_v55 : S1x256.Idx → EReal) (Idealize.ShloMosaic.ix2 0 k) := by
  have h : ((cfg0.win 6).blk t).view.emb (Idealize.ShloMosaic.ix2 0 k : S1x256.Idx) = (Idealize.ShloMosaic.ix2 0 k : S1x256.Idx) := by
    obtain ⟨_, _, _, _, ⟨e0, e1⟩, _⟩ := idx_facts t
    funext a; apply Fin.ext
    match a with
    | ⟨0, _⟩ => show win0_6.index t (0 : Fin 2) * 1 + 1 * 0 = 0; omega
    | ⟨1, _⟩ => show win0_6.index t (1 : Fin 2) * 256 + 1 * k.val = k.val; omega
  unfold iblk
  exact ((View.read_apply (Val := Elt Ideal) _ _).trans (cast_eq _ _)).trans (congrArg (V m c main_v55) h)

theorem emb17 (t : Fin cfg0.N) (r : Fin 512) (k : Fin 1024) :
    ((cfg0.win 17).blk t).view.emb (Idealize.ShloMosaic.ix3 0 r k : S1x512x1024.Idx) = (Idealize.ShloMosaic.ix3 (batchOf t) (tileRow t r) k : S8x4096x1024.Idx) := by
  obtain ⟨_, _, _, _, _, ⟨e0, e1, e2⟩, _⟩ := idx_facts t
  funext a; apply Fin.ext
  match a with
  | ⟨0, _⟩ => show win0_17.index t (0 : Fin 3) * 1 + 1 * 0 = t.val / 8; omega
  | ⟨1, _⟩ => show win0_17.index t (1 : Fin 3) * 512 + 1 * r.val = t.val % 8 * 512 + r.val; omega
  | ⟨2, _⟩ => show win0_17.index t (2 : Fin 3) * 1024 + 1 * k.val = k.val; omega

theorem emb20 (t : Fin cfg0.N) (r : Fin 512) (k : Fin 1024) :
    ((cfg0.win 20).blk t).view.emb (Idealize.ShloMosaic.ix3 0 r k : S1x512x1024.Idx) = (Idealize.ShloMosaic.ix3 (batchOf t) (tileRow t r) k : S8x4096x1024.Idx) := by
  obtain ⟨_, _, _, _, _, _, ⟨e0, e1, e2⟩⟩ := idx_facts t
  funext a; apply Fin.ext
  match a with
  | ⟨0, _⟩ => show win0_20.index t (0 : Fin 3) * 1 + 1 * 0 = t.val / 8; omega
  | ⟨1, _⟩ => show win0_20.index t (1 : Fin 3) * 512 + 1 * r.val = t.val % 8 * 512 + r.val; omega
  | ⟨2, _⟩ => show win0_20.index t (2 : Fin 3) * 1024 + 1 * k.val = k.val; omega

/-- A row of the step's block, projected: the row of the batch against the argument's column that the column is. -/
theorem projRow_block (t : Fin cfg0.N) (r : Fin 512) (k : Fin 3840) (k' : Fin 4256)
    (hw : ∀ d : Fin 1024, (V m c main_v48 : S1024x3840.Idx → EReal) (Idealize.ShloMosaic.ix2 d k) = argIn m c (Idealize.ShloMosaic.ix2 d k')) :
    projRow (iblk m c 0 t) (iblk m c 1 t) (iblk m c 2 t) r k = projAt (argX m c) (argG m c) (argIn m c) (batchOf t) (tileRow t r) k' := by
  unfold projRow projAt normDot
  have h0 : (fun e => (iblk m c 0 t : S1x512x1024.Idx → EReal) (Idealize.ShloMosaic.ix3 0 r e)) = fun e => argX m c (Idealize.ShloMosaic.ix3 (batchOf t) (tileRow t r) e) :=
    funext fun e => blk0 m c t r e
  have h1 : rowOf (iblk m c 1 t : S1x1024.Idx → EReal) 0 = fun e => argG m c (Idealize.ShloMosaic.ix1 e) := funext fun e => (blk1 m c t e).trans (V_g m c e)
  rw [h0, h1]
  exact Finset.sum_congr rfl fun d _ => congrArg (_ * ·) ((blk2 m c t d k).trans (hw d))

/-- A row of the step's block, through the latent rows. -/
theorem latRow_block (t : Fin cfg0.N) (r : Fin 512) (k : Fin 2048) (k' : Fin 1024)
    (hw : ∀ d : Fin 256, (V m c main_v53 : S256x2048.Idx → EReal) (Idealize.ShloMosaic.ix2 d k) = argUp m c (Idealize.ShloMosaic.ix2 d k')) :
    latRow (iblk m c 0 t) (iblk m c 1 t) (iblk m c 2 t) (iblk m c 4 t) (iblk m c 6 t) r k
      = latAt (argX m c) (argG m c) (argIn m c) (argL m c) (argUp m c) (batchOf t) (tileRow t r) k' := by
  unfold latRow latAt latentDot
  have h0 : (fun e : Fin 256 => projRow (iblk m c 0 t) (iblk m c 1 t) (iblk m c 2 t) r ⟨3456 + e.val, by omega⟩)
      = fun e : Fin 256 => projAt (argX m c) (argG m c) (argIn m c) (batchOf t) (tileRow t r) ⟨1920 + e.val, by omega⟩ :=
    funext fun e => projRow_block m c t r _ _ fun d => V_proj_latent m c d e
  have h1 : rowOf (iblk m c 6 t : S1x256.Idx → EReal) 0 = fun e => argL m c (Idealize.ShloMosaic.ix1 e) := funext fun e => (blk6 m c t e).trans (V_l m c e)
  rw [h0, h1]
  exact Finset.sum_congr rfl fun d _ => congrArg (_ * ·) ((blk4 m c t d k).trans (hw d))

/-- A value's column of its slot holds the value, not a one. -/
theorem heads_at {N : ℕ} (o : ℕ) (ho : o + 1024 ≤ N) (P : Fin 512 → Fin N → EReal) (r : Fin 512) (h : Fin 8) (j : Fin 64) :
    heads o ho P (Idealize.ShloMosaic.ix3 0 r ⟨128 * h.val + 64 * (h.val % 2) + j.val, by omega⟩) = P r ⟨o + (128 * h.val + 64 * (h.val % 2) + j.val), by omega⟩ := by
  have hh := h.isLt
  have hj := j.isLt
  refine if_neg ?_
  show ¬ ((128 * h.val + 64 * (h.val % 2) + j.val) % 128 = if (128 * h.val + 64 * (h.val % 2) + j.val) / 128 % 2 = 0 then 64 else 0)
  split <;> omega

/-- What a step writes back of the first branch's values. -/
theorem flushed_va (t : Fin cfg0.N) : (dats m 0 c).flushed 17 t = (cfg0.win 17).cut (grid0.coords t) (heads 2048 (by decide) fun s k => projRow (iblk m c 0 t) (iblk m c 1 t) (iblk m c 2 t) s k) := by
  show (cfg0.win 17).cut (grid0.coords t) ((dats m 0 c).after 17 t) = _
  rw [after0_17, step_va]

theorem idx_inj17 : ∀ t t' : Fin cfg0.N, win0_17.index t = win0_17.index t' → t = t' := (by decide +kernel : ∀ t t' : Fin grid0.N, _)

/-- The steps' blocks of the array are disjoint: the array holds each as its step wrote it. -/
theorem block_va (t : Fin cfg0.N) : ((cfg0.win 17).blk t).view.read (Elt Ideal) ((dats m 0 c).arrAt 17 cfg0.N) = (dats m 0 c).flushed 17 t :=
  (dats m 0 c).read_blk_arrAt_eq_flushed 17 (fun t t' _ _ hne => (cfg0.win 17).disjoint_blk fun h => hne (idx_inj17 t t' h)) cfg0.N t t.isLt (flush0_17 t)

/-- What a step writes back of the second branch's values. -/
theorem flushed_vb (t : Fin cfg0.N) : (dats m 0 c).flushed 20 t = (cfg0.win 20).cut (grid0.coords t) (heads 1024 (by decide) fun s k => latRow (iblk m c 0 t) (iblk m c 1 t) (iblk m c 2 t) (iblk m c 4 t) (iblk m c 6 t) s k) := by
  show (cfg0.win 20).cut (grid0.coords t) ((dats m 0 c).after 20 t) = _
  rw [after0_20, step_vb]

theorem idx_inj20 : ∀ t t' : Fin cfg0.N, win0_20.index t = win0_20.index t' → t = t' := (by decide +kernel : ∀ t t' : Fin grid0.N, _)

/-- The steps' blocks of the array are disjoint: the array holds each as its step wrote it. -/
theorem block_vb (t : Fin cfg0.N) : ((cfg0.win 20).blk t).view.read (Elt Ideal) ((dats m 0 c).arrAt 20 cfg0.N) = (dats m 0 c).flushed 20 t :=
  (dats m 0 c).read_blk_arrAt_eq_flushed 20 (fun t t' _ _ hne => (cfg0.win 20).disjoint_blk fun h => hne (idx_inj20 t t' h)) cfg0.N t t.isLt (flush0_20 t)

theorem tile_va (t : Fin cfg0.N) (r : Fin 512) (h : Fin 8) (j : Fin 64) :
    (dats m 0 c).arrAt 17 cfg0.N (Idealize.ShloMosaic.ix3 (batchOf t) (tileRow t r) ⟨128 * h.val + 64 * (h.val % 2) + j.val, by omega⟩ : S8x4096x1024.Idx)
      = projAt (argX m c) (argG m c) (argIn m c) (batchOf t) (tileRow t r) ⟨1024 + (64 * h.val + j.val), by omega⟩ := by
  have e := congrFun (block_va m c t) (Idealize.ShloMosaic.ix3 0 r ⟨128 * h.val + 64 * (h.val % 2) + j.val, by omega⟩ : S1x512x1024.Idx)
  rw [flushed_va, View.read_apply, emb17] at e
  refine (cast_eq _ _).symm.trans (e.trans ?_)
  refine (heads_at _ _ _ r h j).trans ?_
  exact projRow_block m c t r _ _ fun d => V_proj_value m c d h j

/-- THE ARRAY AFTER THE RUN, at a value's column of its slot. -/
theorem final_va (b : Fin 8) (s : Fin 4096) (h : Fin 8) (j : Fin 64) :
    (dats m 0 c).arrAt 17 cfg0.N (Idealize.ShloMosaic.ix3 b s ⟨128 * h.val + 64 * (h.val % 2) + j.val, by omega⟩ : S8x4096x1024.Idx)
      = projAt (argX m c) (argG m c) (argIn m c) b s ⟨1024 + (64 * h.val + j.val), by omega⟩ := by
  have hN : cfg0.N = 64 := by decide
  have hb := b.isLt
  have hs := s.isLt
  have e := tile_va m c ⟨b.val * 8 + s.val / 512, by rw [hN]; omega⟩ ⟨s.val % 512, by omega⟩ h j
  have eb : batchOf ⟨b.val * 8 + s.val / 512, by rw [hN]; omega⟩ = b := Fin.ext (by show (b.val * 8 + s.val / 512) / 8 = b.val; omega)
  have er : tileRow ⟨b.val * 8 + s.val / 512, by rw [hN]; omega⟩ ⟨s.val % 512, by omega⟩ = s := Fin.ext (by show (b.val * 8 + s.val / 512) % 8 * 512 + s.val % 512 = s.val; omega)
  rw [eb, er] at e
  exact e

theorem tile_vb (t : Fin cfg0.N) (r : Fin 512) (h : Fin 8) (j : Fin 64) :
    (dats m 0 c).arrAt 20 cfg0.N (Idealize.ShloMosaic.ix3 (batchOf t) (tileRow t r) ⟨128 * h.val + 64 * (h.val % 2) + j.val, by omega⟩ : S8x4096x1024.Idx)
      = latAt (argX m c) (argG m c) (argIn m c) (argL m c) (argUp m c) (batchOf t) (tileRow t r) ⟨128 * h.val + (64 + j.val), by omega⟩ := by
  have e := congrFun (block_vb m c t) (Idealize.ShloMosaic.ix3 0 r ⟨128 * h.val + 64 * (h.val % 2) + j.val, by omega⟩ : S1x512x1024.Idx)
  rw [flushed_vb, View.read_apply, emb20] at e
  refine (cast_eq _ _).symm.trans (e.trans ?_)
  refine (heads_at _ _ _ r h j).trans ?_
  exact latRow_block m c t r _ _ fun d => V_up_value m c d h j

/-- THE ARRAY AFTER THE RUN, at a value's column of its slot. -/
theorem final_vb (b : Fin 8) (s : Fin 4096) (h : Fin 8) (j : Fin 64) :
    (dats m 0 c).arrAt 20 cfg0.N (Idealize.ShloMosaic.ix3 b s ⟨128 * h.val + 64 * (h.val % 2) + j.val, by omega⟩ : S8x4096x1024.Idx)
      = latAt (argX m c) (argG m c) (argIn m c) (argL m c) (argUp m c) b s ⟨128 * h.val + (64 + j.val), by omega⟩ := by
  have hN : cfg0.N = 64 := by decide
  have hb := b.isLt
  have hs := s.isLt
  have e := tile_vb m c ⟨b.val * 8 + s.val / 512, by rw [hN]; omega⟩ ⟨s.val % 512, by omega⟩ h j
  have eb : batchOf ⟨b.val * 8 + s.val / 512, by rw [hN]; omega⟩ = b := Fin.ext (by show (b.val * 8 + s.val / 512) / 8 = b.val; omega)
  have er : tileRow ⟨b.val * 8 + s.val / 512, by rw [hN]; omega⟩ ⟨s.val % 512, by omega⟩ = s := Fin.ext (by show (b.val * 8 + s.val / 512) % 8 * 512 + s.val % 512 = s.val; omega)
  rw [eb, er] at e
  exact e

/-! ## The run -/

/-- The first result, as the operations after the call leave it. -/
theorem tail_va : Pipeline.afterTail₀ cfgs (dats m) 0 (V0 m) [hostOps1] c main_v153 = values ((dats m 0 c).arrAt 17 cfg0.N) := by
  unfold Pipeline.afterTail₀
  refine (after_va _).trans (congrArg values ?_)
  exact Pipeline.withArrays_arr spec0 winFacts0.arr_inj c (V0 m c) (fun w => (dats m 0 c).arrAt w cfg0.N) 17

/-- The second result, as the operations after the call leave it. -/
theorem tail_vb : Pipeline.afterTail₀ cfgs (dats m) 0 (V0 m) [hostOps1] c main_v160 = values ((dats m 0 c).arrAt 20 cfg0.N) := by
  unfold Pipeline.afterTail₀
  refine (after_vb _).trans (congrArg values ?_)
  exact Pipeline.withArrays_arr spec0 winFacts0.arr_inj c (V0 m c) (fun w => (dats m 0 c).arrAt w cfg0.N) 20

/-- THE RUN: it ends with the two results read from the call's arrays, and with the arguments unchanged. -/
theorem run_values (ρ : Dev nD → PrngReg) : θ_run defs (onTc (τ := τ) (main (F := Ideal))) ⟨m, fun _ => 0, ρ⟩ (fun r => ∀ c : Dev nD,
    r.2.mem ((c.tc : Thread nD τ).loc main_v153) = values ((dats m 0 c).arrAt 17 cfg0.N)
    ∧ r.2.mem ((c.tc : Thread nD τ).loc main_v160) = values ((dats m 0 c).arrAt 20 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ h c => ⟨((h c).2 main_v153 (Pipeline.mem_restRefs_of main_v153 (by decide) (by decide))).trans (tail_va m c),
      ((h c).2 main_v160 (Pipeline.mem_restRefs_of main_v160 (by decide) (by decide))).trans (tail_vb m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.Prologue

end
-- ==== Proof.PrologueRef.lean ====
/-
  The prologue's reference, at an index: the first branch's values, and the second branch's values from the latent rows;
  the claim of values; the reference's frame.
-/
module

public import proofs.«01_k».proof.Defs
public import proofs.«01_k».proof.Proof.PrologueArray
public import proofs.«01_k».proof.Proof.Gen.Reference6Ideal.Run
public import proofs.«01_k».proof.Proof.Gen.Reference6Ideal.Read

@[expose] public section

noncomputable section

namespace Cert.Prologue

open Cert.Dense
open Idealize.ShloMosaic Idealize.ShloMosaic.TcCoe Idealize.SL.Sem

section reference

open Cert.Reference6Ideal Cert.Reference6Ideal.Gen Cert.Reference6Ideal.Read

variable (X : FVec Ideal S8x4096x1024 .f32) (G : FVec Ideal S1024 .f32) (W : FVec Ideal S1024x4256 .f32) (L : FVec Ideal S256 .f32) (U : FVec Ideal S256x1024 .f32)

/-- The reciprocal of a row's norm. -/
theorem ref_scale (b : Fin 8) (s : Fin 4096) : val_main_v7 (F := Ideal) X (Idealize.ShloMosaic.ix3 b s 0) = scaleOf (fun e => X (Idealize.ShloMosaic.ix3 b s e)) := by
  rw [val_main_v7_apply, val_main_v6_apply, val_main_v4_apply, val_main_v5_apply, val_main_v3_apply, val_main_cst_0_apply, val_main_cst_1_apply, val_main_v2_apply, val_main_v1_apply,
    val_main_cst_apply]
  have e : ∀ k : Fin 1024, val_main_v0 (F := Ideal) X (idx_main_v1 (idx_main_v2 (Idealize.ShloMosaic.ix3 b s 0)) k) = X (Idealize.ShloMosaic.ix3 b s k) * X (Idealize.ShloMosaic.ix3 b s k) := by
    intro k
    have i : idx_main_v1 (idx_main_v2 (Idealize.ShloMosaic.ix3 b s 0)) k = Idealize.ShloMosaic.ix3 b s k := by
      funext a; apply Fin.ext
      match a with | ⟨0, _⟩ => rfl | ⟨1, _⟩ => rfl | ⟨2, _⟩ => rfl
    rw [i, val_main_v0_apply]
    rfl
  rw [Finset.sum_congr rfl fun k _ => e k]
  unfold scaleOf
  generalize (∑ k : Fin 1024, (X (Idealize.ShloMosaic.ix3 b s k) * X (Idealize.ShloMosaic.ix3 b s k) : EReal)) = q
  show Ideal.rsqrt (Ideal.div (Ideal.ofBits .f32 0x00000000#32 + q) (Ideal.ofBits .f32 0x44800000#32) + Ideal.ofBits .f32 0x358637BD#32) = _
  rw [Ideal.ofBits_zero_f32, zero_add]

/-- A row, normalised. -/
theorem ref_norm (b : Fin 8) (s : Fin 4096) (d : Fin 1024) :
    val_main_v12 (F := Ideal) X G (Idealize.ShloMosaic.ix3 b s d) = rowNorm (fun e => X (Idealize.ShloMosaic.ix3 b s e)) (fun e => G (Idealize.ShloMosaic.ix1 e)) d := by
  have i8 : idx_main_v8 (Idealize.ShloMosaic.ix3 b s d) = Idealize.ShloMosaic.ix3 b s 0 := by
    funext a; apply Fin.ext
    match a with | ⟨0, _⟩ => rfl | ⟨1, _⟩ => rfl | ⟨2, _⟩ => rfl
  have i10 : idx_main_v10 (idx_main_v11 (Idealize.ShloMosaic.ix3 b s d)) = Idealize.ShloMosaic.ix1 d := by
    funext a; apply Fin.ext
    match a with | ⟨0, _⟩ => rfl
  rw [val_main_v12_apply, val_main_v9_apply, val_main_v8_apply, val_main_v11_apply, val_main_v10_apply, i8, i10, ref_scale]
  rfl

/-- The projection. -/
theorem ref_proj (b : Fin 8) (s : Fin 4096) (k : Fin 4256) : val_main_v13 (F := Ideal) X G W (Idealize.ShloMosaic.ix3 b s k) = projAt X G W b s k := by
  rw [val_main_v13_apply]
  unfold projAt normDot
  refine Finset.sum_congr rfl fun d _ => ?_
  have il : lidx_main_v13 (Idealize.ShloMosaic.ix3 b s k) d = Idealize.ShloMosaic.ix3 b s d := by
    funext a; apply Fin.ext
    match a with | ⟨0, _⟩ => rfl | ⟨1, _⟩ => rfl | ⟨2, _⟩ => rfl
  have ir : ridx_main_v13 (Idealize.ShloMosaic.ix3 b s k) d = Idealize.ShloMosaic.ix2 d k := by
    funext a; apply Fin.ext
    match a with | ⟨0, _⟩ => rfl | ⟨1, _⟩ => rfl
  rw [il, ir, ref_norm]

/-- THE FIRST RESULT, at an index. -/
theorem ref_va (b h : Fin 8) (s : Fin 4096) (j : Fin 64) :
    val_main_v16 (F := Ideal) X G W (Idealize.ShloMosaic.ix4 b h s j) = projAt X G W b s ⟨1024 + (64 * h.val + j.val), by omega⟩ := by
  have hh := h.isLt
  have hj := j.isLt
  have hs := s.isLt
  have i : idx_main_v14 (idx_main_v15 (idx_main_v16 (Idealize.ShloMosaic.ix4 b h s j))) = Idealize.ShloMosaic.ix3 b s ⟨1024 + (64 * h.val + j.val), by omega⟩ := by
    funext a; apply Fin.ext
    match a with
    | ⟨0, _⟩ => show (((b.val * 4096 + s.val) * 8 + h.val) * 64 + j.val) / 2097152 = b.val; omega
    | ⟨1, _⟩ => show (((b.val * 4096 + s.val) * 8 + h.val) * 64 + j.val) / 512 % 4096 = s.val; omega
    | ⟨2, _⟩ => show 1024 + (((b.val * 4096 + s.val) * 8 + h.val) * 64 + j.val) % 512 = 1024 + (64 * h.val + j.val); omega
  rw [val_main_v16_apply, val_main_v15_apply, val_main_v14_apply, i, ref_proj]

/-- A latent row. -/
theorem ref_latent (b : Fin 8) (s : Fin 4096) (e : Fin 256) :
    val_main_v17 (F := Ideal) X G W (Idealize.ShloMosaic.ix3 b s e) = projAt X G W b s ⟨1920 + e.val, by omega⟩ := by
  have i : idx_main_v17 (Idealize.ShloMosaic.ix3 b s e) = Idealize.ShloMosaic.ix3 b s ⟨1920 + e.val, by omega⟩ := by
    funext a; apply Fin.ext
    match a with | ⟨0, _⟩ => rfl | ⟨1, _⟩ => rfl | ⟨2, _⟩ => rfl
  rw [val_main_v17_apply, i, ref_proj]

/-- The reciprocal of a latent row's norm. -/
theorem ref_latent_scale (b : Fin 8) (s : Fin 4096) : val_main_v25 (F := Ideal) X G W (Idealize.ShloMosaic.ix3 b s 0)
    = Ideal.rsqrt (Ideal.div (∑ e : Fin 256, projAt X G W b s ⟨1920 + e.val, by omega⟩ * projAt X G W b s ⟨1920 + e.val, by omega⟩) (Ideal.ofBits .f32 0x43800000#32) + Ideal.ofBits .f32 0x358637BD#32) := by
  rw [val_main_v25_apply, val_main_v24_apply, val_main_v22_apply, val_main_v23_apply, val_main_v21_apply, val_main_cst_3_apply, val_main_cst_4_apply, val_main_v20_apply, val_main_v19_apply,
    val_main_cst_2_apply]
  have e : ∀ k : Fin 256, val_main_v18 (F := Ideal) X G W (idx_main_v19 (idx_main_v20 (Idealize.ShloMosaic.ix3 b s 0)) k)
      = projAt X G W b s ⟨1920 + k.val, by omega⟩ * projAt X G W b s ⟨1920 + k.val, by omega⟩ := by
    intro k
    have i : idx_main_v19 (idx_main_v20 (Idealize.ShloMosaic.ix3 b s 0)) k = Idealize.ShloMosaic.ix3 b s k := by
      funext a; apply Fin.ext
      match a with | ⟨0, _⟩ => rfl | ⟨1, _⟩ => rfl | ⟨2, _⟩ => rfl
    rw [i, val_main_v18_apply, ref_latent]
    rfl
  rw [Finset.sum_congr rfl fun k _ => e k]
  generalize (∑ k : Fin 256, (projAt X G W b s ⟨1920 + k.val, by omega⟩ * projAt X G W b s ⟨1920 + k.val, by omega⟩ : EReal)) = q
  show Ideal.rsqrt (Ideal.div (Ideal.ofBits .f32 0x00000000#32 + q) (Ideal.ofBits .f32 0x43800000#32) + Ideal.ofBits .f32 0x358637BD#32) = _
  rw [Ideal.ofBits_zero_f32, zero_add]

/-- A latent row, normalised. -/
theorem ref_latent_norm (b : Fin 8) (s : Fin 4096) (d : Fin 256) :
    val_main_v30 (F := Ideal) X G W L (Idealize.ShloMosaic.ix3 b s d)
      = latentNorm (fun e => projAt X G W b s ⟨1920 + e.val, by omega⟩) (fun e => L (Idealize.ShloMosaic.ix1 e)) d := by
  have i26 : idx_main_v26 (Idealize.ShloMosaic.ix3 b s d) = Idealize.ShloMosaic.ix3 b s 0 := by
    funext a; apply Fin.ext
    match a with | ⟨0, _⟩ => rfl | ⟨1, _⟩ => rfl | ⟨2, _⟩ => rfl
  have i28 : idx_main_v28 (idx_main_v29 (Idealize.ShloMosaic.ix3 b s d)) = Idealize.ShloMosaic.ix1 d := by
    funext a; apply Fin.ext
    match a with | ⟨0, _⟩ => rfl
  rw [val_main_v30_apply, val_main_v27_apply, val_main_v26_apply, val_main_v29_apply, val_main_v28_apply, i26, i28, ref_latent_scale, ref_latent]
  rfl

/-- The latent keys and values. -/
theorem ref_up (b : Fin 8) (s : Fin 4096) (k : Fin 1024) : val_main_v31 (F := Ideal) X G W L U (Idealize.ShloMosaic.ix3 b s k) = latAt X G W L U b s k := by
  rw [val_main_v31_apply]
  unfold latAt latentDot
  refine Finset.sum_congr rfl fun d _ => ?_
  have il : lidx_main_v31 (Idealize.ShloMosaic.ix3 b s k) d = Idealize.ShloMosaic.ix3 b s d := by
    funext a; apply Fin.ext
    match a with | ⟨0, _⟩ => rfl | ⟨1, _⟩ => rfl | ⟨2, _⟩ => rfl
  have ir : ridx_main_v31 (Idealize.ShloMosaic.ix3 b s k) d = Idealize.ShloMosaic.ix2 d k := by
    funext a; apply Fin.ext
    match a with | ⟨0, _⟩ => rfl | ⟨1, _⟩ => rfl
  rw [il, ir, ref_latent_norm]

/-- THE SECOND RESULT, at an index. -/
theorem ref_vb (b h : Fin 8) (s : Fin 4096) (j : Fin 64) :
    val_main_v34 (F := Ideal) X G W L U (Idealize.ShloMosaic.ix4 b h s j) = latAt X G W L U b s ⟨128 * h.val + (64 + j.val), by omega⟩ := by
  have hh := h.isLt
  have hj := j.isLt
  have hs := s.isLt
  have i : idx_main_v32 (idx_main_v33 (idx_main_v34 (Idealize.ShloMosaic.ix4 b h s j))) = Idealize.ShloMosaic.ix3 b s ⟨128 * h.val + (64 + j.val), by omega⟩ := by
    funext a; apply Fin.ext
    match a with
    | ⟨0, _⟩ => show (((b.val * 4096 + s.val) * 8 + h.val) * 128 + (64 + j.val)) / 4194304 = b.val; omega
    | ⟨1, _⟩ => show (((b.val * 4096 + s.val) * 8 + h.val) * 128 + (64 + j.val)) / 1024 % 4096 = s.val; omega
    | ⟨2, _⟩ => show (((b.val * 4096 + s.val) * 8 + h.val) * 128 + (64 + j.val)) % 1024 = 128 * h.val + (64 + j.val); omega
  rw [val_main_v34_apply, val_main_v33_apply, val_main_v32_apply, i, ref_up]

end reference

theorem four_coords (i : Kernel6Ideal.S8x8x4096x64.Idx) : ∃ (b h : Fin 8) (s : Fin 4096) (j : Fin 64), i = Idealize.ShloMosaic.ix4 b h s j := by
  refine ⟨i 0, i 1, i 2, i 3, funext fun a => Fin.ext ?_⟩
  match a with | ⟨0, _⟩ => rfl | ⟨1, _⟩ => rfl | ⟨2, _⟩ => rfl | ⟨3, _⟩ => rfl

/-- The claim of values: from the same arguments the kernel and the reference end with equal results. -/
theorem algebraic : Cert.algebraic_Kernel6Ideal_Reference6Ideal := by
  intro m g m' g' hp hagree
  refine ⟨fun c => values ((Kernel6Ideal.Gen.dats m 0 c).arrAt 17 Kernel6Ideal.cfg0.N), fun c => values ((Kernel6Ideal.Gen.dats m 0 c).arrAt 20 Kernel6Ideal.cfg0.N), run_values m g, ?_⟩
  refine (θ_run Reference6Ideal.defs _ _).mono (fun r h c => ⟨(h c).1.trans ?_, (h c).2.1.trans ?_, (h c).2.2⟩) (Reference6Ideal.Value.run m' g')
  · obtain ⟨h0, h1, h2, h3, h4, h5, h6, h7, h8, h9, h10⟩ := hagree c
    refine (Reference6Ideal.Read.val_main_v16_eq _ _ _).trans ?_
    rw [h0, h1, h2]
    funext i
    obtain ⟨b, h, s, j, rfl⟩ := four_coords i
    exact (ref_va _ _ _ b h s j).trans ((values_at _ b h s j).trans (final_va m c b s h j)).symm
  · obtain ⟨h0, h1, h2, h3, h4, h5, h6, h7, h8, h9, h10⟩ := hagree c
    refine (Reference6Ideal.Read.val_main_v34_eq _ _ _ _ _).trans ?_
    rw [h0, h1, h2, h7, h8]
    funext i
    obtain ⟨b, h, s, j, rfl⟩ := four_coords i
    exact (ref_vb _ _ _ _ _ b h s j).trans ((values_at _ b h s j).trans (final_vb m c b s h j)).symm

/-- The reference's frame: its run read at the arguments; it declares no semaphore. -/
theorem frame_reference : Cert.quiescent_Reference6Ideal :=
  fun m g _ => (θ_run Reference6Ideal.defs _ _).mono (fun r h => ⟨fun c => (h c).2.2, sem_eq_zero_of_no_sems (by decide) r.2⟩) (Reference6Ideal.Value.run m g)

end Cert.Prologue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import proofs.«01_k».proof.Proof.ExpertsAlgebraic
public import proofs.«01_k».proof.Proof.FfnRef
public import proofs.«01_k».proof.Proof.MergeRef
public import proofs.«01_k».proof.Proof.SparseAlgebraic
public import proofs.«01_k».proof.Proof.PrologueRef
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference4Ideal.Read
public import proofs.«01_k».proof.Proof.Gen.Kernel3
public import proofs.«01_k».proof.Proof.Gen.Kernel4
public import proofs.«01_k».proof.Proof.Gen.Kernel3.Frame
public import proofs.«01_k».proof.Proof.Gen.Kernel4.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_own_block
public import proofs.«01_k».proof.Proof.Gen.Reference4Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.Gen.Reference2Ideal.Run
public import proofs.«01_k».proof.Proof.Gen.Kernel2.Launch
public import proofs.«01_k».proof.Proof.Gen.Kernel2Ideal.Launch
public import proofs.«01_k».proof.Proof.Gen.Kernel2Ideal.Skeleton
public import proofs.«01_k».proof.Proof.Gen.Kernel2Ideal
public import proofs.«01_k».proof.Proof.Gen.Kernel2
public import proofs.«01_k».proof.Proof.Gen.Reference2Ideal
public import proofs.«01_k».proof.Proof.Gen.Reference2Ideal.Read
public import proofs.«01_k».proof.Proof.Gen.Pre_tables
public import proofs.«01_k».proof.Proof.Gen.On_reached

@[expose] public section

noncomputable section

namespace Cert.Proof

open Idealize.ShloMosaic Idealize.SL.Sem

/-- The kernel's masking constant is minus infinity in the idealized program. -/
theorem preserves : Cert.preserves_Kernel_KernelIdeal :=
  IdealRules.named_const.statement Cert.KernelIdeal.κ "mask" .f32 0xF149F2CA#32 ⊥ rfl

theorem preserves_sparse : Cert.preserves_Kernel5_Kernel5Ideal :=
  IdealRules.named_const.statement Cert.Kernel5Ideal.κ "mask" .f32 0xF149F2CA#32 ⊥ rfl

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_tables.Gen.facts, Cert.Pre_own_block.Gen.facts, Cert.On_reached.Gen.facts,
  fun m g _ => Cert.Kernel.Gen.frame m g, fun m g _ => Cert.KernelIdeal.Gen.frame m g, fun m g _ => Cert.KernelIdeal.Gen.frame m g,
  fun m g _ => Cert.Attn.frame_reference m g, fun m g _ => Cert.Attn.frame_reference m g,
  Cert.Experts.frame_kernel, Cert.Experts.frame_ideal, Cert.Experts.frame_reference, Cert.Experts.frame_reference_pre,
  fun m g _ => Cert.Kernel3.Gen.frame m g, fun m g _ => Cert.Kernel3Ideal.Gen.frame m g, Cert.Ffn.frame_reference,
  fun m g _ => Cert.Kernel4.Gen.frame m g, fun m g _ => Cert.Kernel4Ideal.Gen.frame m g, Cert.Merge.frame_reference,
  fun m g _ => Cert.Kernel5.Gen.frame m g, fun m g _ => Cert.Kernel5Ideal.Gen.frame m g, fun m g _ => Cert.Kernel5Ideal.Gen.frame m g,
  fun m g _ => Cert.Sparse.frame_reference m g, fun m g _ => Cert.Sparse.frame_reference m g,
  fun m g _ => Cert.Kernel6.Gen.frame m g, fun m g _ => Cert.Kernel6Ideal.Gen.frame m g, Cert.Prologue.frame_reference,
  preserves, Cert.Attn.algebraic, trivial, Cert.Experts.algebraic, trivial, Cert.Ffn.algebraic, trivial, Cert.Merge.algebraic,
  preserves_sparse, Cert.Sparse.algebraic, trivial, Cert.Prologue.algebraic⟩

end Cert.Proof

end
